-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_scores [hPre_finite_scores : Cert.Pre_finite_scores.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_scores.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_scores [hPre_finite_scores : Cert.Pre_finite_scores.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_scores.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite_scores [hKernel3Ideal : Cert.Kernel3Ideal.Facts] [hPre_finite_scores : Cert.Pre_finite_scores.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_scores m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite_scores [hReference3Ideal : Cert.Reference3Ideal.Facts] [hPre_finite_scores : Cert.Pre_finite_scores.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_scores m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v47)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v47) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v94) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  IdealRules.named_const.Statement Cert.Kernel3Ideal.κ "mask" .f32 0xF149F2CA#32 ⊥

def algebraic_Kernel3Ideal_Reference3Ideal_pre_finite_scores [hKernel3Ideal : Cert.Kernel3Ideal.Facts] [hReference3Ideal : Cert.Reference3Ideal.Facts] [hPre_finite_scores : Cert.Pre_finite_scores.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_scores m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v21)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v21) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v37) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  IdealRules.named_const.Statement Cert.Kernel5Ideal.κ "log2e" .f32 0x3FB8AA3B#32 (((Real.log 2)⁻¹ : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v51_0)) (v1 : (c : Dev Cert.Kernel5Ideal.nD) → Buf (Elt Ideal) ((c.tc : Thread Cert.Kernel5Ideal.nD Cert.Kernel5Ideal.τ).loc Cert.Kernel5Ideal.main_v51_2)) (v2 : (c : Dev Cert.Kernel5Ideal.nD) → Buf (Elt Ideal) ((c.tc : Thread Cert.Kernel5Ideal.nD Cert.Kernel5Ideal.τ).loc Cert.Kernel5Ideal.main_v51_3)) (v3 : (c : Dev Cert.Kernel5Ideal.nD) → Buf (Elt Ideal) ((c.tc : Thread Cert.Kernel5Ideal.nD Cert.Kernel5Ideal.τ).loc Cert.Kernel5Ideal.main_v51_4)) (v4 : (c : Dev Cert.Kernel5Ideal.nD) → Buf (Elt Ideal) ((c.tc : Thread Cert.Kernel5Ideal.nD Cert.Kernel5Ideal.τ).loc Cert.Kernel5Ideal.main_v51_5)) (v5 : (c : Dev Cert.Kernel5Ideal.nD) → Buf (Elt Ideal) ((c.tc : Thread Cert.Kernel5Ideal.nD Cert.Kernel5Ideal.τ).loc Cert.Kernel5Ideal.main_v51_7)) (v6 : (c : Dev Cert.Kernel5Ideal.nD) → Buf (Elt Ideal) ((c.tc : Thread Cert.Kernel5Ideal.nD Cert.Kernel5Ideal.τ).loc Cert.Kernel5Ideal.main_v51_8)) (v7 : (c : Dev Cert.Kernel5Ideal.nD) → Buf (Elt Ideal) ((c.tc : Thread Cert.Kernel5Ideal.nD Cert.Kernel5Ideal.τ).loc Cert.Kernel5Ideal.main_v51_9)) (v8 : (c : Dev Cert.Kernel5Ideal.nD) → Buf (Elt Ideal) ((c.tc : Thread Cert.Kernel5Ideal.nD Cert.Kernel5Ideal.τ).loc Cert.Kernel5Ideal.main_v51_10)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v51_0) = v0 c
          ∧ r.2.mem ((c.tc : Thread Cert.Kernel5Ideal.nD Cert.Kernel5Ideal.τ).loc Cert.Kernel5Ideal.main_v51_2) = v1 c
          ∧ r.2.mem ((c.tc : Thread Cert.Kernel5Ideal.nD Cert.Kernel5Ideal.τ).loc Cert.Kernel5Ideal.main_v51_3) = v2 c
          ∧ r.2.mem ((c.tc : Thread Cert.Kernel5Ideal.nD Cert.Kernel5Ideal.τ).loc Cert.Kernel5Ideal.main_v51_4) = v3 c
          ∧ r.2.mem ((c.tc : Thread Cert.Kernel5Ideal.nD Cert.Kernel5Ideal.τ).loc Cert.Kernel5Ideal.main_v51_5) = v4 c
          ∧ r.2.mem ((c.tc : Thread Cert.Kernel5Ideal.nD Cert.Kernel5Ideal.τ).loc Cert.Kernel5Ideal.main_v51_7) = v5 c
          ∧ r.2.mem ((c.tc : Thread Cert.Kernel5Ideal.nD Cert.Kernel5Ideal.τ).loc Cert.Kernel5Ideal.main_v51_8) = v6 c
          ∧ r.2.mem ((c.tc : Thread Cert.Kernel5Ideal.nD Cert.Kernel5Ideal.τ).loc Cert.Kernel5Ideal.main_v51_9) = v7 c
          ∧ r.2.mem ((c.tc : Thread Cert.Kernel5Ideal.nD Cert.Kernel5Ideal.τ).loc Cert.Kernel5Ideal.main_v51_10) = v8 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v60) = v0 c
          ∧ r.2.mem ((c.tc : Thread Cert.Reference5Ideal.nD Cert.Reference5Ideal.τ).loc Cert.Reference5Ideal.main_v79) = v1 c
          ∧ r.2.mem ((c.tc : Thread Cert.Reference5Ideal.nD Cert.Reference5Ideal.τ).loc Cert.Reference5Ideal.main_v98) = v2 c
          ∧ r.2.mem ((c.tc : Thread Cert.Reference5Ideal.nD Cert.Reference5Ideal.τ).loc Cert.Reference5Ideal.main_v123) = v3 c
          ∧ r.2.mem ((c.tc : Thread Cert.Reference5Ideal.nD Cert.Reference5Ideal.τ).loc Cert.Reference5Ideal.main_v142) = v4 c
          ∧ r.2.mem ((c.tc : Thread Cert.Reference5Ideal.nD Cert.Reference5Ideal.τ).loc Cert.Reference5Ideal.main_v149) = v5 c
          ∧ r.2.mem ((c.tc : Thread Cert.Reference5Ideal.nD Cert.Reference5Ideal.τ).loc Cert.Reference5Ideal.main_v156) = v6 c
          ∧ r.2.mem ((c.tc : Thread Cert.Reference5Ideal.nD Cert.Reference5Ideal.τ).loc Cert.Reference5Ideal.main_v163) = v7 c
          ∧ r.2.mem ((c.tc : Thread Cert.Reference5Ideal.nD Cert.Reference5Ideal.τ).loc Cert.Reference5Ideal.main_v165) = v8 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite_scores : Cert.Pre_finite_scores.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_scores (hKernel3Ideal := hKernel3Ideal) (hPre_finite_scores := hPre_finite_scores)
    ∧ quiescent_Reference3Ideal (hReference3Ideal := hReference3Ideal)
    ∧ quiescent_Reference3Ideal_pre_finite_scores (hReference3Ideal := hReference3Ideal) (hPre_finite_scores := hPre_finite_scores)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_scores (hKernel3Ideal := hKernel3Ideal) (hReference3Ideal := hReference3Ideal) (hPre_finite_scores := hPre_finite_scores)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S16x2048x2x4x64 : Shape := ⟨5, ![16, 2048, 2, 4, 64]⟩
abbrev S16x2048x2x64 : Shape := ⟨4, ![16, 2048, 2, 64]⟩
abbrev S1x8 : Shape := ⟨2, ![1, 8]⟩
abbrev S_ : Shape := ⟨0, ![]⟩

class Facts : Prop where
  bcast_S_S16x2048x2x4x64 : S_.BroadcastsInDim S16x2048x2x4x64 (![] : Fin 0 → Fin S16x2048x2x4x64.rank)
  reducesTo_S16x2048x2x4x64_S_d0_1_2_3_4 : S16x2048x2x4x64.ReducesTo [0, 1, 2, 3, 4] S_
  h_S_ : 0 < S_.numel
  bcast_S_S16x2048x2x64 : S_.BroadcastsInDim S16x2048x2x64 (![] : Fin 0 → Fin S16x2048x2x64.rank)
  reducesTo_S16x2048x2x64_S_d0_1_2_3 : S16x2048x2x64.ReducesTo [0, 1, 2, 3] S_
  bcast_S_S1x8 : S_.BroadcastsInDim S1x8 (![] : Fin 0 → Fin S1x8.rank)
  reducesTo_S1x8_S_d0_1 : S1x8.ReducesTo [0, 1] S_

variable [Facts]

def fn_part1 {F : FTy → Type} [FloatOps F] (main_arg3 : FVec F S1x8 .f32) (main_v12 : IVec S_ 1) (main_v14 : IVec S1x8 1) (main_v15 : FVec F S1x8 .f32) : IVec S_ 1 :=
  let main_v16 : IVec S1x8 1 := cmpf .ogt main_arg3 main_v15
  let main_v17 : IVec S1x8 1 := andi main_v14 main_v16
  let main_c_6 : IVec S_ 1 := constantI S_ 1 1#1
  let main_v18 : IVec S_ 1 := (fun x v => Host.reduce IntOp.andi x v reducesTo_S1x8_S_d0_1 h_S_) main_v17 main_c_6
  let main_v19 : IVec S_ 1 := andi main_v12 main_v18
  main_v19

def fn {F : FTy → Type} [FloatOps F] (main_arg0 : FVec F S16x2048x2x4x64 .f32) (main_arg1 : FVec F S16x2048x2x64 .f32) (main_arg2 : FVec F S16x2048x2x64 .f32) (main_arg3 : FVec F S1x8 .f32) : IVec S_ 1 :=
  let main_cst : FVec F S_ .f32 := constant S_ .f32 0x7F800000#32
  let main_v0 : FVec F S16x2048x2x4x64 .f32 := broadcastInDim S16x2048x2x4x64 ![] bcast_S_S16x2048x2x4x64 main_cst
  let main_v1 : IVec S16x2048x2x4x64 1 := cmpf .olt main_arg0 main_v0
  let main_cst_0 : FVec F S_ .f32 := constant S_ .f32 0xFF800000#32
  let main_v2 : FVec F S16x2048x2x4x64 .f32 := broadcastInDim S16x2048x2x4x64 ![] bcast_S_S16x2048x2x4x64 main_cst_0
  let main_v3 : IVec S16x2048x2x4x64 1 := cmpf .ogt main_arg0 main_v2
  let main_v4 : IVec S16x2048x2x4x64 1 := andi main_v1 main_v3
  let main_c : IVec S_ 1 := constantI S_ 1 1#1
  let main_v5 : IVec S_ 1 := (fun x v => Host.reduce IntOp.andi x v reducesTo_S16x2048x2x4x64_S_d0_1_2_3_4 h_S_) main_v4 main_c
  let main_cst_1 : FVec F S_ .f32 := constant S_ .f32 0x7F800000#32
  let main_v6 : FVec F S16x2048x2x64 .f32 := broadcastInDim S16x2048x2x64 ![] bcast_S_S16x2048x2x64 main_cst_1
  let main_v7 : IVec S16x2048x2x64 1 := cmpf .olt main_arg1 main_v6
  let main_cst_2 : FVec F S_ .f32 := constant S_ .f32 0xFF800000#32
  let main_v8 : FVec F S16x2048x2x64 .f32 := broadcastInDim S16x2048x2x64 ![] bcast_S_S16x2048x2x64 main_cst_2
  let main_v9 : IVec S16x2048x2x64 1 := cmpf .ogt main_arg1 main_v8
  let main_v10 : IVec S16x2048x2x64 1 := andi main_v7 main_v9
  let main_c_3 : IVec S_ 1 := constantI S_ 1 1#1
  let main_v11 : IVec S_ 1 := (fun x v => Host.reduce IntOp.andi x v reducesTo_S16x2048x2x64_S_d0_1_2_3 h_S_) main_v10 main_c_3
  let main_v12 : IVec S_ 1 := andi main_v5 main_v11
  let main_cst_4 : FVec F S_ .f32 := constant S_ .f32 0x7F800000#32
  let main_v13 : FVec F S1x8 .f32 := broadcastInDim S1x8 ![] bcast_S_S1x8 main_cst_4
  let main_v14 : IVec S1x8 1 := cmpf .olt main_arg3 main_v13
  let main_cst_5 : FVec F S_ .f32 := constant S_ .f32 0xFF800000#32
  let main_v15 : FVec F S1x8 .f32 := broadcastInDim S1x8 ![] bcast_S_S1x8 main_cst_5
  fn_part1 (F := F) main_arg3 main_v12 main_v14 main_v15
-- ==== Pre_finite_scores.lean ====
abbrev S16x2048x2x4x64 : Shape := ⟨5, ![16, 2048, 2, 4, 64]⟩
abbrev S16x2048x2x64 : Shape := ⟨4, ![16, 2048, 2, 64]⟩
abbrev S16x2048x24 : Shape := ⟨3, ![16, 2048, 24]⟩
abbrev S_ : Shape := ⟨0, ![]⟩

class Facts : Prop where
  bcast_S_S16x2048x2x4x64 : S_.BroadcastsInDim S16x2048x2x4x64 (![] : Fin 0 → Fin S16x2048x2x4x64.rank)
  reducesTo_S16x2048x2x4x64_S_d0_1_2_3_4 : S16x2048x2x4x64.ReducesTo [0, 1, 2, 3, 4] S_
  h_S_ : 0 < S_.numel
  bcast_S_S16x2048x2x64 : S_.BroadcastsInDim S16x2048x2x64 (![] : Fin 0 → Fin S16x2048x2x64.rank)
  reducesTo_S16x2048x2x64_S_d0_1_2_3 : S16x2048x2x64.ReducesTo [0, 1, 2, 3] S_

variable [Facts]

def fn {F : FTy → Type} [FloatOps F] (main_arg0 : FVec F S16x2048x2x4x64 .f32) (main_arg1 : FVec F S16x2048x2x64 .f32) (main_arg2 : FVec F S16x2048x2x64 .f32) (main_arg3 : FVec F S16x2048x24 .f32) : IVec S_ 1 :=
  let main_cst : FVec F S_ .f32 := constant S_ .f32 0x7F800000#32
  let main_v0 : FVec F S16x2048x2x4x64 .f32 := broadcastInDim S16x2048x2x4x64 ![] bcast_S_S16x2048x2x4x64 main_cst
  let main_v1 : IVec S16x2048x2x4x64 1 := cmpf .olt main_arg0 main_v0
  let main_cst_0 : FVec F S_ .f32 := constant S_ .f32 0xFF800000#32
  let main_v2 : FVec F S16x2048x2x4x64 .f32 := broadcastInDim S16x2048x2x4x64 ![] bcast_S_S16x2048x2x4x64 main_cst_0
  let main_v3 : IVec S16x2048x2x4x64 1 := cmpf .ogt main_arg0 main_v2
  let main_v4 : IVec S16x2048x2x4x64 1 := andi main_v1 main_v3
  let main_c : IVec S_ 1 := constantI S_ 1 1#1
  let main_v5 : IVec S_ 1 := (fun x v => Host.reduce IntOp.andi x v reducesTo_S16x2048x2x4x64_S_d0_1_2_3_4 h_S_) main_v4 main_c
  let main_cst_1 : FVec F S_ .f32 := constant S_ .f32 0x7F800000#32
  let main_v6 : FVec F S16x2048x2x64 .f32 := broadcastInDim S16x2048x2x64 ![] bcast_S_S16x2048x2x64 main_cst_1
  let main_v7 : IVec S16x2048x2x64 1 := cmpf .olt main_arg1 main_v6
  let main_cst_2 : FVec F S_ .f32 := constant S_ .f32 0xFF800000#32
  let main_v8 : FVec F S16x2048x2x64 .f32 := broadcastInDim S16x2048x2x64 ![] bcast_S_S16x2048x2x64 main_cst_2
  let main_v9 : IVec S16x2048x2x64 1 := cmpf .ogt main_arg1 main_v8
  let main_v10 : IVec S16x2048x2x64 1 := andi main_v7 main_v9
  let main_c_3 : IVec S_ 1 := constantI S_ 1 1#1
  let main_v11 : IVec S_ 1 := (fun x v => Host.reduce IntOp.andi x v reducesTo_S16x2048x2x64_S_d0_1_2_3 h_S_) main_v10 main_c_3
  let main_v12 : IVec S_ 1 := andi main_v5 main_v11
  main_v12
-- ==== Kernel.lean ====
abbrev S16x2048x2x4x64 : Shape := ⟨5, ![16, 2048, 2, 4, 64]⟩
abbrev S16x2048x2x64 : Shape := ⟨4, ![16, 2048, 2, 64]⟩
abbrev S1x8 : Shape := ⟨2, ![1, 8]⟩
abbrev S_ : Shape := ⟨0, ![]⟩
abbrev S16x2048x2x4x2x32 : Shape := ⟨6, ![16, 2048, 2, 4, 2, 32]⟩
abbrev S16x2048x4x2x2x32 : Shape := ⟨6, ![16, 2048, 4, 2, 2, 32]⟩
abbrev S16x2048x2x2x32 : Shape := ⟨5, ![16, 2048, 2, 2, 32]⟩
abbrev S16x2x64x2048 : Shape := ⟨4, ![16, 2, 64, 2048]⟩
abbrev S16x2x16x2048 : Shape := ⟨4, ![16, 2, 16, 2048]⟩
abbrev S16x2x80x2048 : Shape := ⟨4, ![16, 2, 80, 2048]⟩
abbrev S16x2048x512 : Shape := ⟨3, ![16, 2048, 512]⟩
abbrev S16x2048x128 : Shape := ⟨3, ![16, 2048, 128]⟩
abbrev S16x160x2048 : Shape := ⟨3, ![16, 160, 2048]⟩
abbrev S8 : Shape := ⟨1, ![8]⟩
abbrev S1x2048x512 : Shape := ⟨3, ![1, 2048, 512]⟩
abbrev S1x2048x128 : Shape := ⟨3, ![1, 2048, 128]⟩
abbrev S1x160x2048 : Shape := ⟨3, ![1, 160, 2048]⟩
abbrev S256x128 : Shape := ⟨2, ![256, 128]⟩
abbrev S1x128x512 : Shape := ⟨3, ![1, 128, 512]⟩
abbrev S128x512 : Shape := ⟨2, ![128, 512]⟩
abbrev S1x128 : Shape := ⟨2, ![1, 128]⟩
abbrev S128x128 : Shape := ⟨2, ![128, 128]⟩
abbrev S1024x128 : Shape := ⟨2, ![1024, 128]⟩
abbrev S1x256x128 : Shape := ⟨3, ![1, 256, 128]⟩
abbrev S256x1024 : Shape := ⟨2, ![256, 1024]⟩
abbrev S128 : Shape := ⟨1, ![128]⟩
abbrev S1 : Shape := ⟨1, ![1]⟩
abbrev S1x80x256 : Shape := ⟨3, ![1, 80, 256]⟩
abbrev S80x256 : Shape := ⟨2, ![80, 256]⟩
abbrev S256x512 : Shape := ⟨2, ![256, 512]⟩
abbrev S80x512 : Shape := ⟨2, ![80, 512]⟩
abbrev S1x512 : Shape := ⟨2, ![1, 512]⟩
abbrev S64x128 : Shape := ⟨2, ![64, 128]⟩
abbrev S1x128x128 : Shape := ⟨3, ![1, 128, 128]⟩

abbrev nBuf : Space → Nat
  | .hbm => 28
  | .vmem => 8
  | .smem => 1
  | _ => 0

abbrev bufTy : (tb : Table) → Fin (tcTables nBuf tb) → BufTy
  | .hbm, ⟨0, _⟩ => ⟨S16x2048x2x4x64, .f32⟩
  | .hbm, ⟨1, _⟩ => ⟨S16x2048x2x64, .f32⟩
  | .hbm, ⟨2, _⟩ => ⟨S16x2048x2x64, .f32⟩
  | .hbm, ⟨3, _⟩ => ⟨S1x8, .f32⟩
  | .hbm, ⟨4, _⟩ => ⟨S_, .f32⟩
  | .hbm, ⟨5, _⟩ => ⟨S16x2048x2x4x64, .f32⟩
  | .hbm, ⟨6, _⟩ => ⟨S16x2048x2x4x64, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S16x2048x2x4x64, .f32⟩
  | .hbm, ⟨11, _⟩ => ⟨S16x2048x2x4x64, .f32⟩
  | .hbm, ⟨12, _⟩ => ⟨S16x2048x2x4x2x32, .f32⟩
  | .hbm, ⟨13, _⟩ => ⟨S16x2048x4x2x2x32, .f32⟩
  | .hbm, ⟨14, _⟩ => ⟨S16x2048x2x2x32, .f32⟩
  | .hbm, ⟨15, _⟩ => ⟨S16x2048x2x2x32, .f32⟩
  | .hbm, ⟨16, _⟩ => ⟨S16x2x64x2048, .f32⟩
  | .hbm, ⟨17, _⟩ => ⟨S_, .f32⟩
  | .hbm, ⟨18, _⟩ => ⟨S16x2x16x2048, .f32⟩
  | .hbm, ⟨19, _⟩ => ⟨S16x2x80x2048, .f32⟩
  | .hbm, ⟨20, _⟩ => ⟨S16x2048x512, .f32⟩
  | .hbm, ⟨21, _⟩ => ⟨S16x2048x512, .bf16⟩
  | .hbm, ⟨22, _⟩ => ⟨S16x2048x128, .f32⟩
  | .hbm, ⟨23, _⟩ => ⟨S16x2048x128, .bf16⟩
  | .hbm, ⟨24, _⟩ => ⟨S16x160x2048, .f32⟩
  | .hbm, ⟨25, _⟩ => ⟨S16x160x2048, .bf16⟩
  | .hbm, ⟨26, _⟩ => ⟨S8, .f32⟩
  | .hbm, ⟨27, _⟩ => ⟨S16x2048x512, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x160x2048, .bf16⟩
  | .local _ .vmem, ⟨5, _⟩ => ⟨S1x160x2048, .bf16⟩
  | .local _ .vmem, ⟨6, _⟩ => ⟨S1x2048x512, .bf16⟩
  | .local _ .vmem, ⟨7, _⟩ => ⟨S1x2048x512, .bf16⟩
  | .local _ .smem, ⟨0, _⟩ => ⟨S8, .f32⟩
  | _, _ => ⟨S16x2048x2x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 1], ![false, false]⟩

def k0_mult1 (i : grid0.Coords) : BitVec 32 :=
  let c1792_i32 : BitVec 32 := 1792#32
  let c0_i32_1 : BitVec 32 := 0#32
  let arg1 : BitVec 32 := BitVec.ofNat 32 (i 1).val
  let c16_i32 : BitVec 32 := 16#32
  let v3 : BitVec 32 := Scalar.muli arg1 c16_i32
  let c0_i32 : BitVec 32 := 0#32
  let v4 : BitVec 32 := Scalar.addi v3 c0_i32
  let c128_i32 : BitVec 32 := 128#32
  let v5 : BitVec 32 := Scalar.muli v4 c128_i32
  let c128_i32_0 : BitVec 32 := 128#32
  let v6 : BitVec 32 := Scalar.addi v5 c128_i32_0
  let c256_i32 : BitVec 32 := 256#32
  let v7 : BitVec 32 := Scalar.subi v6 c256_i32
  let v8 : BitVec 32 := Scalar.maxsi c0_i32_1 v7
  let v9 : BitVec 32 := Scalar.minsi c1792_i32 v8
  v9
def k0_off1 (i : grid0.Coords) (c0_i32 : BitVec 32) : Fin 3 → Nat :=
  let c0_15 : Index := 0#32
  let c1792_i32 : BitVec 32 := 1792#32
  let c0_i32_1 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32
  let c128_i32 : BitVec 32 := 128#32
  let v5 : BitVec 32 := Scalar.muli v4 c128_i32
  let c128_i32_0 : BitVec 32 := 128#32
  let v6 : BitVec 32 := Scalar.addi v5 c128_i32_0
  let c256_i32 : BitVec 32 := 256#32
  let v7 : BitVec 32 := Scalar.subi v6 c256_i32
  let v8 : BitVec 32 := Scalar.maxsi c0_i32_1 v7
  let v9 : BitVec 32 := Scalar.minsi c1792_i32 v8
  let v10 : BitVec 32 := v9
  let v66 : Index := Scalar.indexCast v10
  let c0_16 : Index := 0#32
  ![0, v66.toNat, 0]
def k0_mult2 (i : grid0.Coords) : BitVec 32 :=
  let c1792_i32_23 : BitVec 32 := 1792#32
  let c0_i32_22 : BitVec 32 := 0#32
  let arg1 : BitVec 32 := BitVec.ofNat 32 (i 1).val
  let c16_i32_18 : BitVec 32 := 16#32
  let v70 : BitVec 32 := Scalar.muli arg1 c16_i32_18
  let c1_i32 : BitVec 32 := 1#32
  let v71 : BitVec 32 := Scalar.addi v70 c1_i32
  let c128_i32_19 : BitVec 32 := 128#32
  let v72 : BitVec 32 := Scalar.muli v71 c128_i32_19
  let c128_i32_20 : BitVec 32 := 128#32
  let v73 : BitVec 32 := Scalar.addi v72 c128_i32_20
  let c256_i32_21 : BitVec 32 := 256#32
  let v74 : BitVec 32 := Scalar.subi v73 c256_i32_21
  let v75 : BitVec 32 := Scalar.maxsi c0_i32_22 v74
  let v76 : BitVec 32 := Scalar.minsi c1792_i32_23 v75
  v76
def k0_off2 (i : grid0.Coords) (c0_i32 : BitVec 32) : Fin 3 → Nat :=
  let c0_60 : Index := 0#32
  let c0_61 : Index := 0#32
  let c1792_i32 : BitVec 32 := 1792#32
  let c0_i32_1 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32
  let c128_i32 : BitVec 32 := 128#32
  let v5 : BitVec 32 := Scalar.muli v4 c128_i32
  let c128_i32_0 : BitVec 32 := 128#32
  let v6 : BitVec 32 := Scalar.addi v5 c128_i32_0
  let c256_i32 : BitVec 32 := 256#32
  let v7 : BitVec 32 := Scalar.subi v6 c256_i32
  let v8 : BitVec 32 := Scalar.maxsi c0_i32_1 v7
  let v9 : BitVec 32 := Scalar.minsi c1792_i32 v8
  let v10 : BitVec 32 := v9
  let v257 : Index := Scalar.indexCast v10
  ![0, 0, v257.toNat]
def k0_off3 (i : grid0.Coords) (c0_i32 : BitVec 32) : Fin 3 → Nat :=
  let c0_64 : Index := 0#32
  let c80 : Index := 80#32
  let c1792_i32 : BitVec 32 := 1792#32
  let c0_i32_1 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32
  let c128_i32 : BitVec 32 := 128#32
  let v5 : BitVec 32 := Scalar.muli v4 c128_i32
  let c128_i32_0 : BitVec 32 := 128#32
  let v6 : BitVec 32 := Scalar.addi v5 c128_i32_0
  let c256_i32 : BitVec 32 := 256#32
  let v7 : BitVec 32 := Scalar.subi v6 c256_i32
  let v8 : BitVec 32 := Scalar.maxsi c0_i32_1 v7
  let v9 : BitVec 32 := Scalar.minsi c1792_i32 v8
  let v10 : BitVec 32 := v9
  let v267 : Index := Scalar.indexCast v10
  ![0, 80, v267.toNat]
def k0_mult3 (i : grid0.Coords) : BitVec 32 :=
  let c1792_i32_82 : BitVec 32 := 1792#32
  let c0_i32_81 : BitVec 32 := 0#32
  let arg1 : BitVec 32 := BitVec.ofNat 32 (i 1).val
  let c16_i32_77 : BitVec 32 := 16#32
  let v333 : BitVec 32 := Scalar.muli arg1 c16_i32_77
  let c2_i32 : BitVec 32 := 2#32
  let v334 : BitVec 32 := Scalar.addi v333 c2_i32
  let c128_i32_78 : BitVec 32 := 128#32
  let v335 : BitVec 32 := Scalar.muli v334 c128_i32_78
  let c128_i32_79 : BitVec 32 := 128#32
  let v336 : BitVec 32 := Scalar.addi v335 c128_i32_79
  let c256_i32_80 : BitVec 32 := 256#32
  let v337 : BitVec 32 := Scalar.subi v336 c256_i32_80
  let v338 : BitVec 32 := Scalar.maxsi c0_i32_81 v337
  let v339 : BitVec 32 := Scalar.minsi c1792_i32_82 v338
  v339
def k0_mult4 (i : grid0.Coords) : BitVec 32 :=
  let c1792_i32_152 : BitVec 32 := 1792#32
  let c0_i32_151 : BitVec 32 := 0#32
  let arg1 : BitVec 32 := BitVec.ofNat 32 (i 1).val
  let c16_i32_147 : BitVec 32 := 16#32
  let v596 : BitVec 32 := Scalar.muli arg1 c16_i32_147
  let c3_i32 : BitVec 32 := 3#32
  let v597 : BitVec 32 := Scalar.addi v596 c3_i32
  let c128_i32_148 : BitVec 32 := 128#32
  let v598 : BitVec 32 := Scalar.muli v597 c128_i32_148
  let c128_i32_149 : BitVec 32 := 128#32
  let v599 : BitVec 32 := Scalar.addi v598 c128_i32_149
  let c256_i32_150 : BitVec 32 := 256#32
  let v600 : BitVec 32 := Scalar.subi v599 c256_i32_150
  let v601 : BitVec 32 := Scalar.maxsi c0_i32_151 v600
  let v602 : BitVec 32 := Scalar.minsi c1792_i32_152 v601
  v602
def k0_mult5 (i : grid0.Coords) : BitVec 32 :=
  let c1792_i32_222 : BitVec 32 := 1792#32
  let c0_i32_221 : BitVec 32 := 0#32
  let arg1 : BitVec 32 := BitVec.ofNat 32 (i 1).val
  let c16_i32_217 : BitVec 32 := 16#32
  let v859 : BitVec 32 := Scalar.muli arg1 c16_i32_217
  let c4_i32 : BitVec 32 := 4#32
  let v860 : BitVec 32 := Scalar.addi v859 c4_i32
  let c128_i32_218 : BitVec 32 := 128#32
  let v861 : BitVec 32 := Scalar.muli v860 c128_i32_218
  let c128_i32_219 : BitVec 32 := 128#32
  let v862 : BitVec 32 := Scalar.addi v861 c128_i32_219
  let c256_i32_220 : BitVec 32 := 256#32
  let v863 : BitVec 32 := Scalar.subi v862 c256_i32_220
  let v864 : BitVec 32 := Scalar.maxsi c0_i32_221 v863
  let v865 : BitVec 32 := Scalar.minsi c1792_i32_222 v864
  v865
def k0_mult6 (i : grid0.Coords) : BitVec 32 :=
  let c1792_i32_291 : BitVec 32 := 1792#32
  let c0_i32_290 : BitVec 32 := 0#32
  let arg1 : BitVec 32 := BitVec.ofNat 32 (i 1).val
  let c16_i32_286 : BitVec 32 := 16#32
  let v1122 : BitVec 32 := Scalar.muli arg1 c16_i32_286
  let c5_i32 : BitVec 32 := 5#32
  let v1123 : BitVec 32 := Scalar.addi v1122 c5_i32
  let c128_i32_287 : BitVec 32 := 128#32
  let v1124 : BitVec 32 := Scalar.muli v1123 c128_i32_287
  let c128_i32_288 : BitVec 32 := 128#32
  let v1125 : BitVec 32 := Scalar.addi v1124 c128_i32_288
  let c256_i32_289 : BitVec 32 := 256#32
  let v1126 : BitVec 32 := Scalar.subi v1125 c256_i32_289
  let v1127 : BitVec 32 := Scalar.maxsi c0_i32_290 v1126
  let v1128 : BitVec 32 := Scalar.minsi c1792_i32_291 v1127
  v1128
def k0_mult7 (i : grid0.Coords) : BitVec 32 :=
  let c1792_i32_360 : BitVec 32 := 1792#32
  let c0_i32_359 : BitVec 32 := 0#32
  let arg1 : BitVec 32 := BitVec.ofNat 32 (i 1).val
  let c16_i32_355 : BitVec 32 := 16#32
  let v1385 : BitVec 32 := Scalar.muli arg1 c16_i32_355
  let c6_i32 : BitVec 32 := 6#32
  let v1386 : BitVec 32 := Scalar.addi v1385 c6_i32
  let c128_i32_356 : BitVec 32 := 128#32
  let v1387 : BitVec 32 := Scalar.muli v1386 c128_i32_356
  let c128_i32_357 : BitVec 32 := 128#32
  let v1388 : BitVec 32 := Scalar.addi v1387 c128_i32_357
  let c256_i32_358 : BitVec 32 := 256#32
  let v1389 : BitVec 32 := Scalar.subi v1388 c256_i32_358
  let v1390 : BitVec 32 := Scalar.maxsi c0_i32_359 v1389
  let v1391 : BitVec 32 := Scalar.minsi c1792_i32_360 v1390
  v1391
def k0_mult8 (i : grid0.Coords) : BitVec 32 :=
  let c1792_i32_429 : BitVec 32 := 1792#32
  let c0_i32_428 : BitVec 32 := 0#32
  let arg1 : BitVec 32 := BitVec.ofNat 32 (i 1).val
  let c16_i32_424 : BitVec 32 := 16#32
  let v1648 : BitVec 32 := Scalar.muli arg1 c16_i32_424
  let c7_i32 : BitVec 32 := 7#32
  let v1649 : BitVec 32 := Scalar.addi v1648 c7_i32
  let c128_i32_425 : BitVec 32 := 128#32
  let v1650 : BitVec 32 := Scalar.muli v1649 c128_i32_425
  let c128_i32_426 : BitVec 32 := 128#32
  let v1651 : BitVec 32 := Scalar.addi v1650 c128_i32_426
  let c256_i32_427 : BitVec 32 := 256#32
  let v1652 : BitVec 32 := Scalar.subi v1651 c256_i32_427
  let v1653 : BitVec 32 := Scalar.maxsi c0_i32_428 v1652
  let v1654 : BitVec 32 := Scalar.minsi c1792_i32_429 v1653
  v1654
def k0_mult9 (i : grid0.Coords) : BitVec 32 :=
  let c1792_i32_498 : BitVec 32 := 1792#32
  let c0_i32_497 : BitVec 32 := 0#32
  let arg1 : BitVec 32 := BitVec.ofNat 32 (i 1).val
  let c16_i32_493 : BitVec 32 := 16#32
  let v1911 : BitVec 32 := Scalar.muli arg1 c16_i32_493
  let c8_i32 : BitVec 32 := 8#32
  let v1912 : BitVec 32 := Scalar.addi v1911 c8_i32
  let c128_i32_494 : BitVec 32 := 128#32
  let v1913 : BitVec 32 := Scalar.muli v1912 c128_i32_494
  let c128_i32_495 : BitVec 32 := 128#32
  let v1914 : BitVec 32 := Scalar.addi v1913 c128_i32_495
  let c256_i32_496 : BitVec 32 := 256#32
  let v1915 : BitVec 32 := Scalar.subi v1914 c256_i32_496
  let v1916 : BitVec 32 := Scalar.maxsi c0_i32_497 v1915
  let v1917 : BitVec 32 := Scalar.minsi c1792_i32_498 v1916
  v1917
def k0_mult10 (i : grid0.Coords) : BitVec 32 :=
  let c1792_i32_567 : BitVec 32 := 1792#32
  let c0_i32_566 : BitVec 32 := 0#32
  let arg1 : BitVec 32 := BitVec.ofNat 32 (i 1).val
  let c16_i32_562 : BitVec 32 := 16#32
  let v2174 : BitVec 32 := Scalar.muli arg1 c16_i32_562
  let c9_i32 : BitVec 32 := 9#32
  let v2175 : BitVec 32 := Scalar.addi v2174 c9_i32
  let c128_i32_563 : BitVec 32 := 128#32
  let v2176 : BitVec 32 := Scalar.muli v2175 c128_i32_563
  let c128_i32_564 : BitVec 32 := 128#32
  let v2177 : BitVec 32 := Scalar.addi v2176 c128_i32_564
  let c256_i32_565 : BitVec 32 := 256#32
  let v2178 : BitVec 32 := Scalar.subi v2177 c256_i32_565
  let v2179 : BitVec 32 := Scalar.maxsi c0_i32_566 v2178
  let v2180 : BitVec 32 := Scalar.minsi c1792_i32_567 v2179
  v2180
def k0_mult11 (i : grid0.Coords) : BitVec 32 :=
  let c1792_i32_636 : BitVec 32 := 1792#32
  let c0_i32_635 : BitVec 32 := 0#32
  let arg1 : BitVec 32 := BitVec.ofNat 32 (i 1).val
  let c16_i32_631 : BitVec 32 := 16#32
  let v2437 : BitVec 32 := Scalar.muli arg1 c16_i32_631
  let c10_i32 : BitVec 32 := 10#32
  let v2438 : BitVec 32 := Scalar.addi v2437 c10_i32
  let c128_i32_632 : BitVec 32 := 128#32
  let v2439 : BitVec 32 := Scalar.muli v2438 c128_i32_632
  let c128_i32_633 : BitVec 32 := 128#32
  let v2440 : BitVec 32 := Scalar.addi v2439 c128_i32_633
  let c256_i32_634 : BitVec 32 := 256#32
  let v2441 : BitVec 32 := Scalar.subi v2440 c256_i32_634
  let v2442 : BitVec 32 := Scalar.maxsi c0_i32_635 v2441
  let v2443 : BitVec 32 := Scalar.minsi c1792_i32_636 v2442
  v2443
def k0_mult12 (i : grid0.Coords) : BitVec 32 :=
  let c1792_i32_705 : BitVec 32 := 1792#32
  let c0_i32_704 : BitVec 32 := 0#32
  let arg1 : BitVec 32 := BitVec.ofNat 32 (i 1).val
  let c16_i32_700 : BitVec 32 := 16#32
  let v2700 : BitVec 32 := Scalar.muli arg1 c16_i32_700
  let c11_i32 : BitVec 32 := 11#32
  let v2701 : BitVec 32 := Scalar.addi v2700 c11_i32
  let c128_i32_701 : BitVec 32 := 128#32
  let v2702 : BitVec 32 := Scalar.muli v2701 c128_i32_701
  let c128_i32_702 : BitVec 32 := 128#32
  let v2703 : BitVec 32 := Scalar.addi v2702 c128_i32_702
  let c256_i32_703 : BitVec 32 := 256#32
  let v2704 : BitVec 32 := Scalar.subi v2703 c256_i32_703
  let v2705 : BitVec 32 := Scalar.maxsi c0_i32_704 v2704
  let v2706 : BitVec 32 := Scalar.minsi c1792_i32_705 v2705
  v2706
def k0_mult13 (i : grid0.Coords) : BitVec 32 :=
  let c1792_i32_774 : BitVec 32 := 1792#32
  let c0_i32_773 : BitVec 32 := 0#32
  let arg1 : BitVec 32 := BitVec.ofNat 32 (i 1).val
  let c16_i32_769 : BitVec 32 := 16#32
  let v2963 : BitVec 32 := Scalar.muli arg1 c16_i32_769
  let c12_i32 : BitVec 32 := 12#32
  let v2964 : BitVec 32 := Scalar.addi v2963 c12_i32
  let c128_i32_770 : BitVec 32 := 128#32
  let v2965 : BitVec 32 := Scalar.muli v2964 c128_i32_770
  let c128_i32_771 : BitVec 32 := 128#32
  let v2966 : BitVec 32 := Scalar.addi v2965 c128_i32_771
  let c256_i32_772 : BitVec 32 := 256#32
  let v2967 : BitVec 32 := Scalar.subi v2966 c256_i32_772
  let v2968 : BitVec 32 := Scalar.maxsi c0_i32_773 v2967
  let v2969 : BitVec 32 := Scalar.minsi c1792_i32_774 v2968
  v2969
def k0_mult14 (i : grid0.Coords) : BitVec 32 :=
  let c1792_i32_843 : BitVec 32 := 1792#32
  let c0_i32_842 : BitVec 32 := 0#32
  let arg1 : BitVec 32 := BitVec.ofNat 32 (i 1).val
  let c16_i32_838 : BitVec 32 := 16#32
  let v3226 : BitVec 32 := Scalar.muli arg1 c16_i32_838
  let c13_i32 : BitVec 32 := 13#32
  let v3227 : BitVec 32 := Scalar.addi v3226 c13_i32
  let c128_i32_839 : BitVec 32 := 128#32
  let v3228 : BitVec 32 := Scalar.muli v3227 c128_i32_839
  let c128_i32_840 : BitVec 32 := 128#32
  let v3229 : BitVec 32 := Scalar.addi v3228 c128_i32_840
  let c256_i32_841 : BitVec 32 := 256#32
  let v3230 : BitVec 32 := Scalar.subi v3229 c256_i32_841
  let v3231 : BitVec 32 := Scalar.maxsi c0_i32_842 v3230
  let v3232 : BitVec 32 := Scalar.minsi c1792_i32_843 v3231
  v3232
def k0_mult15 (i : grid0.Coords) : BitVec 32 :=
  let c1792_i32_912 : BitVec 32 := 1792#32
  let c0_i32_911 : BitVec 32 := 0#32
  let arg1 : BitVec 32 := BitVec.ofNat 32 (i 1).val
  let c16_i32_907 : BitVec 32 := 16#32
  let v3489 : BitVec 32 := Scalar.muli arg1 c16_i32_907
  let c14_i32 : BitVec 32 := 14#32
  let v3490 : BitVec 32 := Scalar.addi v3489 c14_i32
  let c128_i32_908 : BitVec 32 := 128#32
  let v3491 : BitVec 32 := Scalar.muli v3490 c128_i32_908
  let c128_i32_909 : BitVec 32 := 128#32
  let v3492 : BitVec 32 := Scalar.addi v3491 c128_i32_909
  let c256_i32_910 : BitVec 32 := 256#32
  let v3493 : BitVec 32 := Scalar.subi v3492 c256_i32_910
  let v3494 : BitVec 32 := Scalar.maxsi c0_i32_911 v3493
  let v3495 : BitVec 32 := Scalar.minsi c1792_i32_912 v3494
  v3495
def k0_mult16 (i : grid0.Coords) : BitVec 32 :=
  let c1792_i32_981 : BitVec 32 := 1792#32
  let c0_i32_980 : BitVec 32 := 0#32
  let arg1 : BitVec 32 := BitVec.ofNat 32 (i 1).val
  let c16_i32_976 : BitVec 32 := 16#32
  let v3752 : BitVec 32 := Scalar.muli arg1 c16_i32_976
  let c15_i32 : BitVec 32 := 15#32
  let v3753 : BitVec 32 := Scalar.addi v3752 c15_i32
  let c128_i32_977 : BitVec 32 := 128#32
  let v3754 : BitVec 32 := Scalar.muli v3753 c128_i32_977
  let c128_i32_978 : BitVec 32 := 128#32
  let v3755 : BitVec 32 := Scalar.addi v3754 c128_i32_978
  let c256_i32_979 : BitVec 32 := 256#32
  let v3756 : BitVec 32 := Scalar.subi v3755 c256_i32_979
  let v3757 : BitVec 32 := Scalar.maxsi c0_i32_980 v3756
  let v3758 : BitVec 32 := Scalar.minsi c1792_i32_981 v3757
  v3758
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x160x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .smem S8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S16x2048x2x4x64 : Shape := ⟨5, ![16, 2048, 2, 4, 64]⟩
abbrev S16x2048x2x64 : Shape := ⟨4, ![16, 2048, 2, 64]⟩
abbrev S1x8 : Shape := ⟨2, ![1, 8]⟩
abbrev S16x2x2048x2048x4 : Shape := ⟨5, ![16, 2, 2048, 2048, 4]⟩
abbrev S16x2x4x2048x2048 : Shape := ⟨5, ![16, 2, 4, 2048, 2048]⟩
abbrev S_ : Shape := ⟨0, ![]⟩
abbrev S2048x2048 : Shape := ⟨2, ![2048, 2048]⟩
abbrev S8 : Shape := ⟨1, ![8]⟩
abbrev S1x2x4x1x1 : Shape := ⟨5, ![1, 2, 4, 1, 1]⟩
abbrev S16x2x4x2048x1 : Shape := ⟨5, ![16, 2, 4, 2048, 1]⟩
abbrev S16x2x4x2048x2049 : Shape := ⟨5, ![16, 2, 4, 2048, 2049]⟩
abbrev S16x2x4x2048 : Shape := ⟨4, ![16, 2, 4, 2048]⟩
abbrev S16x2x64x4x2048 : Shape := ⟨5, ![16, 2, 64, 4, 2048]⟩
abbrev S16x2048x4x2x64 : Shape := ⟨5, ![16, 2048, 4, 2, 64]⟩
abbrev S16x2048x512 : Shape := ⟨3, ![16, 2048, 512]⟩

abbrev nBuf : Space → Nat
  | .hbm => 46
  | .vmem => 0
  | .smem => 0
  | _ => 0

abbrev bufTy : (tb : Table) → Fin (tcTables nBuf tb) → BufTy
  | .hbm, ⟨0, _⟩ => ⟨S16x2048x2x4x64, .f32⟩
  | .hbm, ⟨1, _⟩ => ⟨S16x2048x2x64, .f32⟩
  | .hbm, ⟨2, _⟩ => ⟨S16x2048x2x64, .f32⟩
  | .hbm, ⟨3, _⟩ => ⟨S1x8, .f32⟩
  | .hbm, ⟨4, _⟩ => ⟨S16x2x2048x2048x4, .f32⟩
  | .hbm, ⟨5, _⟩ => ⟨S16x2x4x2048x2048, .f32⟩
  | .hbm, ⟨6, _⟩ => ⟨S_, .f32⟩
  | .hbm, ⟨7, _⟩ => ⟨S16x2x4x2048x2048, .f32⟩
  | .hbm, ⟨8, _⟩ => ⟨S16x2x4x2048x2048, .f32⟩
  | .hbm, ⟨9, _⟩ => ⟨S2048x2048, .i32⟩
  | .hbm, ⟨10, _⟩ => ⟨S2048x2048, .i32⟩
  | .hbm, ⟨11, _⟩ => ⟨S_, .i32⟩
  | .hbm, ⟨12, _⟩ => ⟨S2048x2048, .i32⟩
  | .hbm, ⟨13, _⟩ => ⟨S2048x2048, .i32⟩
  | .hbm, ⟨14, _⟩ => ⟨S2048x2048, .i1⟩
  | .hbm, ⟨15, _⟩ => ⟨S2048x2048, .i1⟩
  | .hbm, ⟨16, _⟩ => ⟨S2048x2048, .i1⟩
  | .hbm, ⟨17, _⟩ => ⟨S_, .f32⟩
  | .hbm, ⟨18, _⟩ => ⟨S_, .f32⟩
  | .hbm, ⟨19, _⟩ => ⟨S16x2x4x2048x2048, .i1⟩
  | .hbm, ⟨20, _⟩ => ⟨S16x2x4x2048x2048, .f32⟩
  | .hbm, ⟨21, _⟩ => ⟨S16x2x4x2048x2048, .f32⟩
  | .hbm, ⟨22, _⟩ => ⟨S8, .f32⟩
  | .hbm, ⟨23, _⟩ => ⟨S1x2x4x1x1, .f32⟩
  | .hbm, ⟨24, _⟩ => ⟨S16x2x4x2048x1, .f32⟩
  | .hbm, ⟨25, _⟩ => ⟨S16x2x4x2048x2049, .f32⟩
  | .hbm, ⟨26, _⟩ => ⟨S_, .f32⟩
  | .hbm, ⟨27, _⟩ => ⟨S16x2x4x2048, .f32⟩
  | .hbm, ⟨28, _⟩ => ⟨S_, .f32⟩
  | .hbm, ⟨29, _⟩ => ⟨S16x2x4x2048, .f32⟩
  | .hbm, ⟨30, _⟩ => ⟨S16x2x4x2048, .f32⟩
  | .hbm, ⟨31, _⟩ => ⟨S16x2x4x2048x1, .f32⟩
  | .hbm, ⟨32, _⟩ => ⟨S16x2x4x2048x2049, .f32⟩
  | .hbm, ⟨33, _⟩ => ⟨S16x2x4x2048x2049, .f32⟩
  | .hbm, ⟨34, _⟩ => ⟨S16x2x4x2048x2049, .f32⟩
  | .hbm, ⟨35, _⟩ => ⟨S_, .f32⟩
  | .hbm, ⟨36, _⟩ => ⟨S16x2x4x2048, .f32⟩
  | .hbm, ⟨37, _⟩ => ⟨S16x2x4x2048x1, .f32⟩
  | .hbm, ⟨38, _⟩ => ⟨S16x2x4x2048x2049, .f32⟩
  | .hbm, ⟨39, _⟩ => ⟨S16x2x4x2048x2049, .f32⟩
  | .hbm, ⟨40, _⟩ => ⟨S16x2x4x2048x2048, .f32⟩
  | .hbm, ⟨41, _⟩ => ⟨S16x2x64x4x2048, .f32⟩
  | .hbm, ⟨42, _⟩ => ⟨S16x2048x2x4x64, .f32⟩
  | .hbm, ⟨43, _⟩ => ⟨S16x2048x4x2x64, .f32⟩
  | .hbm, ⟨44, _⟩ => ⟨S16x2048x512, .f32⟩
  | .hbm, ⟨45, _⟩ => ⟨S16x2048x512, .bf16⟩
  | _, _ => ⟨S16x2048x2x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Kernel2.lean ====
abbrev S16x2048x1024 : Shape := ⟨3, ![16, 2048, 1024]⟩
abbrev S16x3072 : Shape := ⟨2, ![16, 3072]⟩
abbrev S1x1024x5144 : Shape := ⟨3, ![1, 1024, 5144]⟩
abbrev S16x2048x512 : Shape := ⟨3, ![16, 2048, 512]⟩
abbrev S1x512x1024 : Shape := ⟨3, ![1, 512, 1024]⟩
abbrev S1x1024x1024 : Shape := ⟨3, ![1, 1024, 1024]⟩
abbrev S1x1024 : Shape := ⟨2, ![1, 1024]⟩
abbrev S16x3x1024 : Shape := ⟨3, ![16, 3, 1024]⟩
abbrev S1024x5144 : Shape := ⟨2, ![1024, 5144]⟩
abbrev S5144x1024 : Shape := ⟨2, ![5144, 1024]⟩
abbrev S512x1024 : Shape := ⟨2, ![512, 1024]⟩
abbrev S1024x512 : Shape := ⟨2, ![1024, 512]⟩
abbrev S1024x2x4x64 : Shape := ⟨4, ![1024, 2, 4, 64]⟩
abbrev S1024x4x2x64 : Shape := ⟨4, ![1024, 4, 2, 64]⟩
abbrev S2048x1024 : Shape := ⟨2, ![2048, 1024]⟩
abbrev S16x2048x2x4x64 : Shape := ⟨5, ![16, 2048, 2, 4, 64]⟩
abbrev S16x2048x4x2x64 : Shape := ⟨5, ![16, 2048, 4, 2, 64]⟩
abbrev S2x4x64x1024 : Shape := ⟨4, ![2, 4, 64, 1024]⟩
abbrev S4x2x64x1024 : Shape := ⟨4, ![4, 2, 64, 1024]⟩
abbrev S1024x1024 : Shape := ⟨2, ![1024, 1024]⟩
abbrev S1024 : Shape := ⟨1, ![1024]⟩
abbrev S1x3x1024 : Shape := ⟨3, ![1, 3, 1024]⟩
abbrev S1x1024x512 : Shape := ⟨3, ![1, 1024, 512]⟩
abbrev S1x1x1024 : Shape := ⟨3, ![1, 1, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩
abbrev S256x2048 : Shape := ⟨2, ![256, 2048]⟩
abbrev S1x256x512 : Shape := ⟨3, ![1, 256, 512]⟩

abbrev nBuf : Space → Nat
  | .hbm => 60
  | .vmem => 22
  | .smem => 0
  | _ => 0

abbrev bufTy : (tb : Table) → Fin (tcTables nBuf tb) → BufTy
  | .hbm, ⟨0, _⟩ => ⟨S16x2048x1024, .f32⟩
  | .hbm, ⟨1, _⟩ => ⟨S16x3072, .f32⟩
  | .hbm, ⟨2, _⟩ => ⟨S1x1024x5144, .f32⟩
  | .hbm, ⟨3, _⟩ => ⟨S16x2048x512, .f32⟩
  | .hbm, ⟨4, _⟩ => ⟨S16x2048x512, .f32⟩
  | .hbm, ⟨5, _⟩ => ⟨S16x2048x512, .f32⟩
  | .hbm, ⟨6, _⟩ => ⟨S16x2048x512, .f32⟩
  | .hbm, ⟨7, _⟩ => ⟨S1x512x1024, .f32⟩
  | .hbm, ⟨8, _⟩ => ⟨S1x512x1024, .f32⟩
  | .hbm, ⟨9, _⟩ => ⟨S1x1024x1024, .f32⟩
  | .hbm, ⟨10, _⟩ => ⟨S1x1024, .f32⟩
  | .hbm, ⟨11, _⟩ => ⟨S1x1024, .f32⟩
  | .hbm, ⟨12, _⟩ => ⟨S16x3x1024, .f32⟩
  | .hbm, ⟨13, _⟩ => ⟨S1024x5144, .f32⟩
  | .hbm, ⟨14, _⟩ => ⟨S5144x1024, .f32⟩
  | .hbm, ⟨15, _⟩ => ⟨S5144x1024, .bf16⟩
  | .hbm, ⟨16, _⟩ => ⟨S512x1024, .bf16⟩
  | .hbm, ⟨17, _⟩ => ⟨S1024x512, .bf16⟩
  | .hbm, ⟨18, _⟩ => ⟨S1024x2x4x64, .bf16⟩
  | .hbm, ⟨19, _⟩ => ⟨S1024x4x2x64, .bf16⟩
  | .hbm, ⟨20, _⟩ => ⟨S1024x512, .bf16⟩
  | .hbm, ⟨21, _⟩ => ⟨S512x1024, .bf16⟩
  | .hbm, ⟨22, _⟩ => ⟨S1024x512, .bf16⟩
  | .hbm, ⟨23, _⟩ => ⟨S1024x2x4x64, .bf16⟩
  | .hbm, ⟨24, _⟩ => ⟨S1024x4x2x64, .bf16⟩
  | .hbm, ⟨25, _⟩ => ⟨S1024x512, .bf16⟩
  | .hbm, ⟨26, _⟩ => ⟨S2048x1024, .bf16⟩
  | .hbm, ⟨27, _⟩ => ⟨S16x2048x2x4x64, .f32⟩
  | .hbm, ⟨28, _⟩ => ⟨S16x2048x4x2x64, .f32⟩
  | .hbm, ⟨29, _⟩ => ⟨S16x2048x512, .f32⟩
  | .hbm, ⟨30, _⟩ => ⟨S16x2048x512, .bf16⟩
  | .hbm, ⟨31, _⟩ => ⟨S16x2048x2x4x64, .f32⟩
  | .hbm, ⟨32, _⟩ => ⟨S16x2048x4x2x64, .f32⟩
  | .hbm, ⟨33, _⟩ => ⟨S16x2048x512, .f32⟩
  | .hbm, ⟨34, _⟩ => ⟨S16x2048x512, .bf16⟩
  | .hbm, ⟨35, _⟩ => ⟨S16x2048x2x4x64, .f32⟩
  | .hbm, ⟨36, _⟩ => ⟨S16x2048x4x2x64, .f32⟩
  | .hbm, ⟨37, _⟩ => ⟨S16x2048x512, .f32⟩
  | .hbm, ⟨38, _⟩ => ⟨S16x2048x512, .bf16⟩
  | .hbm, ⟨39, _⟩ => ⟨S16x2048x2x4x64, .f32⟩
  | .hbm, ⟨40, _⟩ => ⟨S16x2048x4x2x64, .f32⟩
  | .hbm, ⟨41, _⟩ => ⟨S16x2048x512, .f32⟩
  | .hbm, ⟨42, _⟩ => ⟨S16x2048x512, .bf16⟩
  | .hbm, ⟨43, _⟩ => ⟨S512x1024, .f32⟩
  | .hbm, ⟨44, _⟩ => ⟨S2x4x64x1024, .f32⟩
  | .hbm, ⟨45, _⟩ => ⟨S4x2x64x1024, .f32⟩
  | .hbm, ⟨46, _⟩ => ⟨S512x1024, .f32⟩
  | .hbm, ⟨47, _⟩ => ⟨S512x1024, .bf16⟩
  | .hbm, ⟨48, _⟩ => ⟨S512x1024, .f32⟩
  | .hbm, ⟨49, _⟩ => ⟨S2x4x64x1024, .f32⟩
  | .hbm, ⟨50, _⟩ => ⟨S4x2x64x1024, .f32⟩
  | .hbm, ⟨51, _⟩ => ⟨S512x1024, .f32⟩
  | .hbm, ⟨52, _⟩ => ⟨S512x1024, .bf16⟩
  | .hbm, ⟨53, _⟩ => ⟨S1024x1024, .f32⟩
  | .hbm, ⟨54, _⟩ => ⟨S1024x1024, .bf16⟩
  | .hbm, ⟨55, _⟩ => ⟨S1024, .f32⟩
  | .hbm, ⟨56, _⟩ => ⟨S1x1024, .f32⟩
  | .hbm, ⟨57, _⟩ => ⟨S1024, .f32⟩
  | .hbm, ⟨58, _⟩ => ⟨S1x1024, .f32⟩
  | .hbm, ⟨59, _⟩ => ⟨S16x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x3x1024, .f32⟩
  | .local _ .vmem, ⟨3, _⟩ => ⟨S1x3x1024, .f32⟩
  | .local _ .vmem, ⟨4, _⟩ => ⟨S1024x512, .bf16⟩
  | .local _ .vmem, ⟨5, _⟩ => ⟨S1024x512, .bf16⟩
  | .local _ .vmem, ⟨6, _⟩ => ⟨S2048x1024, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x1024x512, .bf16⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S1x1024, .f32⟩
  | .local _ .vmem, ⟨19, _⟩ => ⟨S1x1024, .f32⟩
  | .local _ .vmem, ⟨20, _⟩ => ⟨S1x1024x1024, .f32⟩
  | .local _ .vmem, ⟨21, _⟩ => ⟨S1x1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x1024x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference2Ideal.lean ====
abbrev S16x2048x1024 : Shape := ⟨3, ![16, 2048, 1024]⟩
abbrev S16x3072 : Shape := ⟨2, ![16, 3072]⟩
abbrev S1x1024x5144 : Shape := ⟨3, ![1, 1024, 5144]⟩
abbrev S16x2048x512 : Shape := ⟨3, ![16, 2048, 512]⟩
abbrev S1x512x1024 : Shape := ⟨3, ![1, 512, 1024]⟩
abbrev S1x1024x1024 : Shape := ⟨3, ![1, 1024, 1024]⟩
abbrev S1x1024 : Shape := ⟨2, ![1, 1024]⟩
abbrev S16x1024 : Shape := ⟨2, ![16, 1024]⟩
abbrev S_ : Shape := ⟨0, ![]⟩
abbrev S16x2048 : Shape := ⟨2, ![16, 2048]⟩
abbrev S16x2048x1 : Shape := ⟨3, ![16, 2048, 1]⟩
abbrev S16x1x1024 : Shape := ⟨3, ![16, 1, 1024]⟩
abbrev S1024x5144 : Shape := ⟨2, ![1024, 5144]⟩
abbrev S16x2048x5144 : Shape := ⟨3, ![16, 2048, 5144]⟩
abbrev S16x2048x2048 : Shape := ⟨3, ![16, 2048, 2048]⟩
abbrev S512x1024 : Shape := ⟨2, ![512, 1024]⟩
abbrev S1024x1024 : Shape := ⟨2, ![1024, 1024]⟩
abbrev S1024 : Shape := ⟨1, ![1024]⟩
abbrev S1x1x1024 : Shape := ⟨3, ![1, 1, 1024]⟩

abbrev nBuf : Space → Nat
  | .hbm => 139
  | .vmem => 0
  | .smem => 0
  | _ => 0

abbrev hbmTy0_0 (i : Nat) : BufTy := match i % 128 with
  | 0 => ⟨S16x2048x1024, .f32⟩
  | 1 => ⟨S16x3072, .f32⟩
  | 2 => ⟨S1x1024x5144, .f32⟩
  | 3 => ⟨S16x2048x512, .f32⟩
  | 4 => ⟨S16x2048x512, .f32⟩
  | 5 => ⟨S16x2048x512, .f32⟩
  | 6 => ⟨S16x2048x512, .f32⟩
  | 7 => ⟨S1x512x1024, .f32⟩
  | 8 => ⟨S1x512x1024, .f32⟩
  | 9 => ⟨S1x1024x1024, .f32⟩
  | 10 => ⟨S1x1024, .f32⟩
  | 11 => ⟨S1x1024, .f32⟩
  | 12 => ⟨S16x1024, .f32⟩
  | 13 => ⟨S16x1024, .f32⟩
  | 14 => ⟨S16x1024, .f32⟩
  | 15 => ⟨S_, .f32⟩
  | 16 => ⟨S16x2048, .f32⟩
  | 17 => ⟨S16x2048x1, .f32⟩
  | 18 => ⟨S_, .f32⟩
  | 19 => ⟨S16x2048x1, .f32⟩
  | 20 => ⟨S16x2048x1, .f32⟩
  | 21 => ⟨S16x2048x1024, .f32⟩
  | 22 => ⟨S16x2048x1024, .f32⟩
  | 23 => ⟨S16x2048x1024, .f32⟩
  | 24 => ⟨S_, .f32⟩
  | 25 => ⟨S16x2048, .f32⟩
  | 26 => ⟨S16x2048x1, .f32⟩
  | 27 => ⟨S_, .f32⟩
  | 28 => ⟨S16x2048x1, .f32⟩
  | 29 => ⟨S16x2048x1, .f32⟩
  | 30 => ⟨S16x2048x1024, .f32⟩
  | 31 => ⟨S16x2048x1024, .f32⟩
  | 32 => ⟨S_, .f32⟩
  | 33 => ⟨S16x2048x1, .f32⟩
  | 34 => ⟨S16x2048x1, .f32⟩
  | 35 => ⟨S16x2048x1, .f32⟩
  | 36 => ⟨S16x2048x1024, .f32⟩
  | 37 => ⟨S16x2048x1024, .f32⟩
  | 38 => ⟨S16x1x1024, .f32⟩
  | 39 => ⟨S_, .f32⟩
  | 40 => ⟨S16x1x1024, .f32⟩
  | 41 => ⟨S16x1x1024, .f32⟩
  | 42 => ⟨S16x2048x1024, .f32⟩
  | 43 => ⟨S16x2048x1024, .f32⟩
  | 44 => ⟨S16x1x1024, .f32⟩
  | 45 => ⟨S16x2048x1024, .f32⟩
  | 46 => ⟨S16x2048x1024, .f32⟩
  | 47 => ⟨S1024x5144, .f32⟩
  | 48 => ⟨S16x2048x5144, .f32⟩
  | 49 => ⟨S16x2048x512, .f32⟩
  | 50 => ⟨S16x2048x512, .f32⟩
  | 51 => ⟨S16x2048x2048, .f32⟩
  | 52 => ⟨S16x2048x512, .f32⟩
  | 53 => ⟨S16x2048x512, .f32⟩
  | 54 => ⟨S16x2048x512, .f32⟩
  | 55 => ⟨S16x2048x512, .f32⟩
  | 56 => ⟨S_, .f32⟩
  | 57 => ⟨S16x2048x512, .f32⟩
  | 58 => ⟨S16x2048x512, .f32⟩
  | 59 => ⟨S_, .f32⟩
  | 60 => ⟨S16x2048x512, .f32⟩
  | 61 => ⟨S16x2048x512, .f32⟩
  | 62 => ⟨S16x2048x512, .f32⟩
  | 63 => ⟨S16x2048x512, .f32⟩
  | 64 => ⟨S16x2048x512, .f32⟩
  | 65 => ⟨S16x2048x512, .f32⟩
  | 66 => ⟨S_, .f32⟩
  | 67 => ⟨S16x2048x512, .f32⟩
  | 68 => ⟨S16x2048x512, .f32⟩
  | 69 => ⟨S_, .f32⟩
  | 70 => ⟨S16x2048x512, .f32⟩
  | 71 => ⟨S16x2048x512, .f32⟩
  | 72 => ⟨S16x2048x512, .f32⟩
  | 73 => ⟨S16x2048x512, .f32⟩
  | 74 => ⟨S16x2048x1024, .f32⟩
  | 75 => ⟨S16x2048x1024, .f32⟩
  | 76 => ⟨S16x2048x1024, .f32⟩
  | 77 => ⟨S16x2048x1024, .f32⟩
  | 78 => ⟨S_, .f32⟩
  | 79 => ⟨S16x2048x1024, .f32⟩
  | 80 => ⟨S16x2048x1024, .f32⟩
  | 81 => ⟨S_, .f32⟩
  | 82 => ⟨S16x2048x1024, .f32⟩
  | 83 => ⟨S16x2048x1024, .f32⟩
  | 84 => ⟨S512x1024, .f32⟩
  | 85 => ⟨S16x2048x1024, .f32⟩
  | 86 => ⟨S16x2048x1024, .f32⟩
  | 87 => ⟨S16x2048x1024, .f32⟩
  | 88 => ⟨S16x2048x1024, .f32⟩
  | 89 => ⟨S_, .f32⟩
  | 90 => ⟨S16x2048x1024, .f32⟩
  | 91 => ⟨S16x2048x1024, .f32⟩
  | 92 => ⟨S_, .f32⟩
  | 93 => ⟨S16x2048x1024, .f32⟩
  | 94 => ⟨S16x2048x1024, .f32⟩
  | 95 => ⟨S512x1024, .f32⟩
  | 96 => ⟨S16x2048x1024, .f32⟩
  | 97 => ⟨S16x2048x1024, .f32⟩
  | 98 => ⟨S16x2048x1024, .f32⟩
  | 99 => ⟨S1024x1024, .f32⟩
  | 100 => ⟨S16x2048x1024, .f32⟩
  | 101 => ⟨S_, .f32⟩
  | 102 => ⟨S16x2048x1024, .f32⟩
  | 103 => ⟨S16x2048x1024, .f32⟩
  | 104 => ⟨S16x1x1024, .f32⟩
  | 105 => ⟨S16x2048x1024, .f32⟩
  | 106 => ⟨S16x2048x1024, .f32⟩
  | 107 => ⟨S16x2048x1024, .f32⟩
  | 108 => ⟨S_, .f32⟩
  | 109 => ⟨S16x2048, .f32⟩
  | 110 => ⟨S16x2048x1, .f32⟩
  | 111 => ⟨S_, .f32⟩
  | 112 => ⟨S16x2048x1, .f32⟩
  | 113 => ⟨S16x2048x1, .f32⟩
  | 114 => ⟨S16x2048x1024, .f32⟩
  | 115 => ⟨S16x2048x1024, .f32⟩
  | 116 => ⟨S16x2048x1024, .f32⟩
  | 117 => ⟨S_, .f32⟩
  | 118 => ⟨S16x2048, .f32⟩
  | 119 => ⟨S16x2048x1, .f32⟩
  | 120 => ⟨S_, .f32⟩
  | 121 => ⟨S16x2048x1, .f32⟩
  | 122 => ⟨S16x2048x1, .f32⟩
  | 123 => ⟨S16x2048x1024, .f32⟩
  | 124 => ⟨S16x2048x1024, .f32⟩
  | 125 => ⟨S_, .f32⟩
  | 126 => ⟨S16x2048x1, .f32⟩
  | 127 => ⟨S16x2048x1, .f32⟩
  | _ => ⟨S16x2048x1024, .f32⟩

abbrev hbmTy0_1 (i : Nat) : BufTy := match i % 128 with
  | 0 => ⟨S16x2048x1, .f32⟩
  | 1 => ⟨S16x2048x1024, .f32⟩
  | 2 => ⟨S16x2048x1024, .f32⟩
  | 3 => ⟨S1024, .f32⟩
  | 4 => ⟨S1x1x1024, .f32⟩
  | 5 => ⟨S16x2048x1024, .f32⟩
  | 6 => ⟨S16x2048x1024, .f32⟩
  | 7 => ⟨S1024, .f32⟩
  | 8 => ⟨S1x1x1024, .f32⟩
  | 9 => ⟨S16x2048x1024, .f32⟩
  | 10 => ⟨S16x2048x1024, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_call0_v5 : Ref sig .tc := ⟨.hbm, 61, rfl⟩
abbrev main_v36 : Ref sig .tc := ⟨.hbm, 62, rfl⟩
abbrev main_v37 : Ref sig .tc := ⟨.hbm, 63, rfl⟩
abbrev main_call1_v0 : Ref sig .tc := ⟨.hbm, 64, rfl⟩
abbrev main_call1_v1 : Ref sig .tc := ⟨.hbm, 65, rfl⟩
abbrev main_call1_cst : Ref sig .tc := ⟨.hbm, 66, rfl⟩
abbrev main_call1_v2 : Ref sig .tc := ⟨.hbm, 67, rfl⟩
abbrev main_call1_v3 : Ref sig .tc := ⟨.hbm, 68, rfl⟩
abbrev main_call1_cst_0 : Ref sig .tc := ⟨.hbm, 69, rfl⟩
abbrev main_call1_v4 : Ref sig .tc := ⟨.hbm, 70, rfl⟩
abbrev main_call1_v5 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst_5 : Ref sig .tc := ⟨.hbm, 78, rfl⟩
abbrev main_v44 : Ref sig .tc := ⟨.hbm, 79, rfl⟩
abbrev main_v45 : Ref sig .tc := ⟨.hbm, 80, rfl⟩
abbrev main_cst_6 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_7 : Ref sig .tc := ⟨.hbm, 89, rfl⟩
abbrev main_v53 : Ref sig .tc := ⟨.hbm, 90, rfl⟩
abbrev main_v54 : Ref sig .tc := ⟨.hbm, 91, rfl⟩
abbrev main_cst_8 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_9 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_cst_10 : Ref sig .tc := ⟨.hbm, 108, rfl⟩
abbrev main_v69 : Ref sig .tc := ⟨.hbm, 109, rfl⟩
abbrev main_v70 : Ref sig .tc := ⟨.hbm, 110, rfl⟩
abbrev main_cst_11 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_cst_12 : Ref sig .tc := ⟨.hbm, 117, rfl⟩
abbrev main_v76 : Ref sig .tc := ⟨.hbm, 118, rfl⟩
abbrev main_v77 : Ref sig .tc := ⟨.hbm, 119, rfl⟩
abbrev main_cst_13 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_cst_14 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩

abbrev nD : Nat := 1
abbrev τ : Topo := Topo.v7x

variable {F : FTy → Type} [FloatOps F]
-- ==== Kernel3.lean ====
abbrev S16x2048x2x4x64 : Shape := ⟨5, ![16, 2048, 2, 4, 64]⟩
abbrev S16x2048x2x64 : Shape := ⟨4, ![16, 2048, 2, 64]⟩
abbrev S16x2048x24 : Shape := ⟨3, ![16, 2048, 24]⟩
abbrev S_ : Shape := ⟨0, ![]⟩
abbrev S16x2048x2x4x2x32 : Shape := ⟨6, ![16, 2048, 2, 4, 2, 32]⟩
abbrev S16x2048x4x2x2x32 : Shape := ⟨6, ![16, 2048, 4, 2, 2, 32]⟩
abbrev S16x2048x2x2x32 : Shape := ⟨5, ![16, 2048, 2, 2, 32]⟩
abbrev S16x2x64x2048 : Shape := ⟨4, ![16, 2, 64, 2048]⟩
abbrev S16x2x16x2048 : Shape := ⟨4, ![16, 2, 16, 2048]⟩
abbrev S16x2x80x2048 : Shape := ⟨4, ![16, 2, 80, 2048]⟩
abbrev S16x2048x104 : Shape := ⟨3, ![16, 2048, 104]⟩
abbrev S16x2048x128 : Shape := ⟨3, ![16, 2048, 128]⟩
abbrev S16x2048x512 : Shape := ⟨3, ![16, 2048, 512]⟩
abbrev S16x160x2048 : Shape := ⟨3, ![16, 160, 2048]⟩
abbrev S1x2048x512 : Shape := ⟨3, ![1, 2048, 512]⟩
abbrev S1x2048x128 : Shape := ⟨3, ![1, 2048, 128]⟩
abbrev S1x160x2048 : Shape := ⟨3, ![1, 160, 2048]⟩
abbrev S640x128 : Shape := ⟨2, ![640, 128]⟩
abbrev S1x128x512 : Shape := ⟨3, ![1, 128, 512]⟩
abbrev S128x512 : Shape := ⟨2, ![128, 512]⟩
abbrev S1x128 : Shape := ⟨2, ![1, 128]⟩
abbrev S128x128 : Shape := ⟨2, ![128, 128]⟩
abbrev S1024x128 : Shape := ⟨2, ![1024, 128]⟩
abbrev S1x640x128 : Shape := ⟨3, ![1, 640, 128]⟩
abbrev S640x1024 : Shape := ⟨2, ![640, 1024]⟩
abbrev S128 : Shape := ⟨1, ![128]⟩
abbrev S1x80x640 : Shape := ⟨3, ![1, 80, 640]⟩
abbrev S80x640 : Shape := ⟨2, ![80, 640]⟩
abbrev S640x512 : Shape := ⟨2, ![640, 512]⟩
abbrev S80x512 : Shape := ⟨2, ![80, 512]⟩
abbrev S1x512 : Shape := ⟨2, ![1, 512]⟩
abbrev S1x128x128 : Shape := ⟨3, ![1, 128, 128]⟩
abbrev S24x128 : Shape := ⟨2, ![24, 128]⟩
abbrev S64x128 : Shape := ⟨2, ![64, 128]⟩

abbrev nBuf : Space → Nat
  | .hbm => 30
  | .vmem => 10
  | .smem => 0
  | _ => 0

abbrev bufTy : (tb : Table) → Fin (tcTables nBuf tb) → BufTy
  | .hbm, ⟨0, _⟩ => ⟨S16x2048x2x4x64, .f32⟩
  | .hbm, ⟨1, _⟩ => ⟨S16x2048x2x64, .f32⟩
  | .hbm, ⟨2, _⟩ => ⟨S16x2048x2x64, .f32⟩
  | .hbm, ⟨3, _⟩ => ⟨S16x2048x24, .f32⟩
  | .hbm, ⟨4, _⟩ => ⟨S_, .f32⟩
  | .hbm, ⟨5, _⟩ => ⟨S16x2048x2x4x64, .f32⟩
  | .hbm, ⟨6, _⟩ => ⟨S16x2048x2x4x64, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S16x2048x2x4x64, .f32⟩
  | .hbm, ⟨11, _⟩ => ⟨S16x2048x2x4x64, .f32⟩
  | .hbm, ⟨12, _⟩ => ⟨S16x2048x2x4x2x32, .f32⟩
  | .hbm, ⟨13, _⟩ => ⟨S16x2048x4x2x2x32, .f32⟩
  | .hbm, ⟨14, _⟩ => ⟨S16x2048x2x2x32, .f32⟩
  | .hbm, ⟨15, _⟩ => ⟨S16x2048x2x2x32, .f32⟩
  | .hbm, ⟨16, _⟩ => ⟨S16x2x64x2048, .f32⟩
  | .hbm, ⟨17, _⟩ => ⟨S_, .f32⟩
  | .hbm, ⟨18, _⟩ => ⟨S16x2x16x2048, .f32⟩
  | .hbm, ⟨19, _⟩ => ⟨S16x2x80x2048, .f32⟩
  | .hbm, ⟨20, _⟩ => ⟨S_, .f32⟩
  | .hbm, ⟨21, _⟩ => ⟨S16x2048x104, .f32⟩
  | .hbm, ⟨22, _⟩ => ⟨S16x2048x128, .f32⟩
  | .hbm, ⟨23, _⟩ => ⟨S16x2048x512, .f32⟩
  | .hbm, ⟨24, _⟩ => ⟨S16x2048x512, .bf16⟩
  | .hbm, ⟨25, _⟩ => ⟨S16x2048x128, .f32⟩
  | .hbm, ⟨26, _⟩ => ⟨S16x2048x128, .bf16⟩
  | .hbm, ⟨27, _⟩ => ⟨S16x160x2048, .f32⟩
  | .hbm, ⟨28, _⟩ => ⟨S16x160x2048, .bf16⟩
  | .hbm, ⟨29, _⟩ => ⟨S16x2048x512, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x160x2048, .bf16⟩
  | .local _ .vmem, ⟨5, _⟩ => ⟨S1x160x2048, .bf16⟩
  | .local _ .vmem, ⟨6, _⟩ => ⟨S1x2048x128, .f32⟩
  | .local _ .vmem, ⟨7, _⟩ => ⟨S1x2048x128, .f32⟩
  | .local _ .vmem, ⟨8, _⟩ => ⟨S1x2048x512, .bf16⟩
  | .local _ .vmem, ⟨9, _⟩ => ⟨S1x2048x512, .bf16⟩
  | _, _ => ⟨S16x2048x2x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 1], ![false, false]⟩

def k0_mult1 (i : grid0.Coords) : BitVec 32 :=
  let c1408_i32 : BitVec 32 := 1408#32
  let c0_i32_1 : BitVec 32 := 0#32
  let arg1 : BitVec 32 := BitVec.ofNat 32 (i 1).val
  let c16_i32 : BitVec 32 := 16#32
  let v3 : BitVec 32 := Scalar.muli arg1 c16_i32
  let c0_i32 : BitVec 32 := 0#32
  let v4 : BitVec 32 := Scalar.addi v3 c0_i32
  let c128_i32 : BitVec 32 := 128#32
  let v5 : BitVec 32 := Scalar.muli v4 c128_i32
  let c128_i32_0 : BitVec 32 := 128#32
  let v6 : BitVec 32 := Scalar.addi v5 c128_i32_0
  let c640_i32 : BitVec 32 := 640#32
  let v7 : BitVec 32 := Scalar.subi v6 c640_i32
  let v8 : BitVec 32 := Scalar.maxsi c0_i32_1 v7
  let v9 : BitVec 32 := Scalar.minsi c1408_i32 v8
  v9
def k0_off1 (i : grid0.Coords) (c0_i32 : BitVec 32) : Fin 3 → Nat :=
  let c0_14 : Index := 0#32
  let c1408_i32 : BitVec 32 := 1408#32
  let c0_i32_1 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32
  let c128_i32 : BitVec 32 := 128#32
  let v5 : BitVec 32 := Scalar.muli v4 c128_i32
  let c128_i32_0 : BitVec 32 := 128#32
  let v6 : BitVec 32 := Scalar.addi v5 c128_i32_0
  let c640_i32 : BitVec 32 := 640#32
  let v7 : BitVec 32 := Scalar.subi v6 c640_i32
  let v8 : BitVec 32 := Scalar.maxsi c0_i32_1 v7
  let v9 : BitVec 32 := Scalar.minsi c1408_i32 v8
  let v10 : BitVec 32 := v9
  let v66 : Index := Scalar.indexCast v10
  let c0_15 : Index := 0#32
  ![0, v66.toNat, 0]
def k0_mult2 (i : grid0.Coords) : BitVec 32 :=
  let c1408_i32_22 : BitVec 32 := 1408#32
  let c0_i32_21 : BitVec 32 := 0#32
  let arg1 : BitVec 32 := BitVec.ofNat 32 (i 1).val
  let c16_i32_17 : BitVec 32 := 16#32
  let v70 : BitVec 32 := Scalar.muli arg1 c16_i32_17
  let c1_i32 : BitVec 32 := 1#32
  let v71 : BitVec 32 := Scalar.addi v70 c1_i32
  let c128_i32_18 : BitVec 32 := 128#32
  let v72 : BitVec 32 := Scalar.muli v71 c128_i32_18
  let c128_i32_19 : BitVec 32 := 128#32
  let v73 : BitVec 32 := Scalar.addi v72 c128_i32_19
  let c640_i32_20 : BitVec 32 := 640#32
  let v74 : BitVec 32 := Scalar.subi v73 c640_i32_20
  let v75 : BitVec 32 := Scalar.maxsi c0_i32_21 v74
  let v76 : BitVec 32 := Scalar.minsi c1408_i32_22 v75
  v76
def k0_off2 (i : grid0.Coords) (c0_i32 : BitVec 32) : Fin 3 → Nat :=
  let c0_50 : Index := 0#32
  let c0_51 : Index := 0#32
  let c1408_i32 : BitVec 32 := 1408#32
  let c0_i32_1 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32
  let c128_i32 : BitVec 32 := 128#32
  let v5 : BitVec 32 := Scalar.muli v4 c128_i32
  let c128_i32_0 : BitVec 32 := 128#32
  let v6 : BitVec 32 := Scalar.addi v5 c128_i32_0
  let c640_i32 : BitVec 32 := 640#32
  let v7 : BitVec 32 := Scalar.subi v6 c640_i32
  let v8 : BitVec 32 := Scalar.maxsi c0_i32_1 v7
  let v9 : BitVec 32 := Scalar.minsi c1408_i32 v8
  let v10 : BitVec 32 := v9
  let v201 : Index := Scalar.indexCast v10
  ![0, 0, v201.toNat]
def k0_off3 (i : grid0.Coords) (c0_i32 : BitVec 32) : Fin 3 → Nat :=
  let c0_54 : Index := 0#32
  let c80 : Index := 80#32
  let c1408_i32 : BitVec 32 := 1408#32
  let c0_i32_1 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32
  let c128_i32 : BitVec 32 := 128#32
  let v5 : BitVec 32 := Scalar.muli v4 c128_i32
  let c128_i32_0 : BitVec 32 := 128#32
  let v6 : BitVec 32 := Scalar.addi v5 c128_i32_0
  let c640_i32 : BitVec 32 := 640#32
  let v7 : BitVec 32 := Scalar.subi v6 c640_i32
  let v8 : BitVec 32 := Scalar.maxsi c0_i32_1 v7
  let v9 : BitVec 32 := Scalar.minsi c1408_i32 v8
  let v10 : BitVec 32 := v9
  let v209 : Index := Scalar.indexCast v10
  ![0, 80, v209.toNat]
def k0_mult3 (i : grid0.Coords) : BitVec 32 :=
  let c1408_i32_78 : BitVec 32 := 1408#32
  let c0_i32_77 : BitVec 32 := 0#32
  let arg1 : BitVec 32 := BitVec.ofNat 32 (i 1).val
  let c16_i32_73 : BitVec 32 := 16#32
  let v296 : BitVec 32 := Scalar.muli arg1 c16_i32_73
  let c2_i32 : BitVec 32 := 2#32
  let v297 : BitVec 32 := Scalar.addi v296 c2_i32
  let c128_i32_74 : BitVec 32 := 128#32
  let v298 : BitVec 32 := Scalar.muli v297 c128_i32_74
  let c128_i32_75 : BitVec 32 := 128#32
  let v299 : BitVec 32 := Scalar.addi v298 c128_i32_75
  let c640_i32_76 : BitVec 32 := 640#32
  let v300 : BitVec 32 := Scalar.subi v299 c640_i32_76
  let v301 : BitVec 32 := Scalar.maxsi c0_i32_77 v300
  let v302 : BitVec 32 := Scalar.minsi c1408_i32_78 v301
  v302
def k0_mult4 (i : grid0.Coords) : BitVec 32 :=
  let c1408_i32_138 : BitVec 32 := 1408#32
  let c0_i32_137 : BitVec 32 := 0#32
  let arg1 : BitVec 32 := BitVec.ofNat 32 (i 1).val
  let c16_i32_133 : BitVec 32 := 16#32
  let v522 : BitVec 32 := Scalar.muli arg1 c16_i32_133
  let c3_i32 : BitVec 32 := 3#32
  let v523 : BitVec 32 := Scalar.addi v522 c3_i32
  let c128_i32_134 : BitVec 32 := 128#32
  let v524 : BitVec 32 := Scalar.muli v523 c128_i32_134
  let c128_i32_135 : BitVec 32 := 128#32
  let v525 : BitVec 32 := Scalar.addi v524 c128_i32_135
  let c640_i32_136 : BitVec 32 := 640#32
  let v526 : BitVec 32 := Scalar.subi v525 c640_i32_136
  let v527 : BitVec 32 := Scalar.maxsi c0_i32_137 v526
  let v528 : BitVec 32 := Scalar.minsi c1408_i32_138 v527
  v528
def k0_mult5 (i : grid0.Coords) : BitVec 32 :=
  let c1408_i32_198 : BitVec 32 := 1408#32
  let c0_i32_197 : BitVec 32 := 0#32
  let arg1 : BitVec 32 := BitVec.ofNat 32 (i 1).val
  let c16_i32_193 : BitVec 32 := 16#32
  let v748 : BitVec 32 := Scalar.muli arg1 c16_i32_193
  let c4_i32 : BitVec 32 := 4#32
  let v749 : BitVec 32 := Scalar.addi v748 c4_i32
  let c128_i32_194 : BitVec 32 := 128#32
  let v750 : BitVec 32 := Scalar.muli v749 c128_i32_194
  let c128_i32_195 : BitVec 32 := 128#32
  let v751 : BitVec 32 := Scalar.addi v750 c128_i32_195
  let c640_i32_196 : BitVec 32 := 640#32
  let v752 : BitVec 32 := Scalar.subi v751 c640_i32_196
  let v753 : BitVec 32 := Scalar.maxsi c0_i32_197 v752
  let v754 : BitVec 32 := Scalar.minsi c1408_i32_198 v753
  v754
def k0_mult6 (i : grid0.Coords) : BitVec 32 :=
  let c1408_i32_257 : BitVec 32 := 1408#32
  let c0_i32_256 : BitVec 32 := 0#32
  let arg1 : BitVec 32 := BitVec.ofNat 32 (i 1).val
  let c16_i32_252 : BitVec 32 := 16#32
  let v974 : BitVec 32 := Scalar.muli arg1 c16_i32_252
  let c5_i32 : BitVec 32 := 5#32
  let v975 : BitVec 32 := Scalar.addi v974 c5_i32
  let c128_i32_253 : BitVec 32 := 128#32
  let v976 : BitVec 32 := Scalar.muli v975 c128_i32_253
  let c128_i32_254 : BitVec 32 := 128#32
  let v977 : BitVec 32 := Scalar.addi v976 c128_i32_254
  let c640_i32_255 : BitVec 32 := 640#32
  let v978 : BitVec 32 := Scalar.subi v977 c640_i32_255
  let v979 : BitVec 32 := Scalar.maxsi c0_i32_256 v978
  let v980 : BitVec 32 := Scalar.minsi c1408_i32_257 v979
  v980
def k0_mult7 (i : grid0.Coords) : BitVec 32 :=
  let c1408_i32_316 : BitVec 32 := 1408#32
  let c0_i32_315 : BitVec 32 := 0#32
  let arg1 : BitVec 32 := BitVec.ofNat 32 (i 1).val
  let c16_i32_311 : BitVec 32 := 16#32
  let v1200 : BitVec 32 := Scalar.muli arg1 c16_i32_311
  let c6_i32 : BitVec 32 := 6#32
  let v1201 : BitVec 32 := Scalar.addi v1200 c6_i32
  let c128_i32_312 : BitVec 32 := 128#32
  let v1202 : BitVec 32 := Scalar.muli v1201 c128_i32_312
  let c128_i32_313 : BitVec 32 := 128#32
  let v1203 : BitVec 32 := Scalar.addi v1202 c128_i32_313
  let c640_i32_314 : BitVec 32 := 640#32
  let v1204 : BitVec 32 := Scalar.subi v1203 c640_i32_314
  let v1205 : BitVec 32 := Scalar.maxsi c0_i32_315 v1204
  let v1206 : BitVec 32 := Scalar.minsi c1408_i32_316 v1205
  v1206
def k0_mult8 (i : grid0.Coords) : BitVec 32 :=
  let c1408_i32_375 : BitVec 32 := 1408#32
  let c0_i32_374 : BitVec 32 := 0#32
  let arg1 : BitVec 32 := BitVec.ofNat 32 (i 1).val
  let c16_i32_370 : BitVec 32 := 16#32
  let v1426 : BitVec 32 := Scalar.muli arg1 c16_i32_370
  let c7_i32 : BitVec 32 := 7#32
  let v1427 : BitVec 32 := Scalar.addi v1426 c7_i32
  let c128_i32_371 : BitVec 32 := 128#32
  let v1428 : BitVec 32 := Scalar.muli v1427 c128_i32_371
  let c128_i32_372 : BitVec 32 := 128#32
  let v1429 : BitVec 32 := Scalar.addi v1428 c128_i32_372
  let c640_i32_373 : BitVec 32 := 640#32
  let v1430 : BitVec 32 := Scalar.subi v1429 c640_i32_373
  let v1431 : BitVec 32 := Scalar.maxsi c0_i32_374 v1430
  let v1432 : BitVec 32 := Scalar.minsi c1408_i32_375 v1431
  v1432
def k0_mult9 (i : grid0.Coords) : BitVec 32 :=
  let c1408_i32_434 : BitVec 32 := 1408#32
  let c0_i32_433 : BitVec 32 := 0#32
  let arg1 : BitVec 32 := BitVec.ofNat 32 (i 1).val
  let c16_i32_429 : BitVec 32 := 16#32
  let v1652 : BitVec 32 := Scalar.muli arg1 c16_i32_429
  let c8_i32 : BitVec 32 := 8#32
  let v1653 : BitVec 32 := Scalar.addi v1652 c8_i32
  let c128_i32_430 : BitVec 32 := 128#32
  let v1654 : BitVec 32 := Scalar.muli v1653 c128_i32_430
  let c128_i32_431 : BitVec 32 := 128#32
  let v1655 : BitVec 32 := Scalar.addi v1654 c128_i32_431
  let c640_i32_432 : BitVec 32 := 640#32
  let v1656 : BitVec 32 := Scalar.subi v1655 c640_i32_432
  let v1657 : BitVec 32 := Scalar.maxsi c0_i32_433 v1656
  let v1658 : BitVec 32 := Scalar.minsi c1408_i32_434 v1657
  v1658
def k0_mult10 (i : grid0.Coords) : BitVec 32 :=
  let c1408_i32_493 : BitVec 32 := 1408#32
  let c0_i32_492 : BitVec 32 := 0#32
  let arg1 : BitVec 32 := BitVec.ofNat 32 (i 1).val
  let c16_i32_488 : BitVec 32 := 16#32
  let v1878 : BitVec 32 := Scalar.muli arg1 c16_i32_488
  let c9_i32 : BitVec 32 := 9#32
  let v1879 : BitVec 32 := Scalar.addi v1878 c9_i32
  let c128_i32_489 : BitVec 32 := 128#32
  let v1880 : BitVec 32 := Scalar.muli v1879 c128_i32_489
  let c128_i32_490 : BitVec 32 := 128#32
  let v1881 : BitVec 32 := Scalar.addi v1880 c128_i32_490
  let c640_i32_491 : BitVec 32 := 640#32
  let v1882 : BitVec 32 := Scalar.subi v1881 c640_i32_491
  let v1883 : BitVec 32 := Scalar.maxsi c0_i32_492 v1882
  let v1884 : BitVec 32 := Scalar.minsi c1408_i32_493 v1883
  v1884
def k0_mult11 (i : grid0.Coords) : BitVec 32 :=
  let c1408_i32_552 : BitVec 32 := 1408#32
  let c0_i32_551 : BitVec 32 := 0#32
  let arg1 : BitVec 32 := BitVec.ofNat 32 (i 1).val
  let c16_i32_547 : BitVec 32 := 16#32
  let v2104 : BitVec 32 := Scalar.muli arg1 c16_i32_547
  let c10_i32 : BitVec 32 := 10#32
  let v2105 : BitVec 32 := Scalar.addi v2104 c10_i32
  let c128_i32_548 : BitVec 32 := 128#32
  let v2106 : BitVec 32 := Scalar.muli v2105 c128_i32_548
  let c128_i32_549 : BitVec 32 := 128#32
  let v2107 : BitVec 32 := Scalar.addi v2106 c128_i32_549
  let c640_i32_550 : BitVec 32 := 640#32
  let v2108 : BitVec 32 := Scalar.subi v2107 c640_i32_550
  let v2109 : BitVec 32 := Scalar.maxsi c0_i32_551 v2108
  let v2110 : BitVec 32 := Scalar.minsi c1408_i32_552 v2109
  v2110
def k0_mult12 (i : grid0.Coords) : BitVec 32 :=
  let c1408_i32_611 : BitVec 32 := 1408#32
  let c0_i32_610 : BitVec 32 := 0#32
  let arg1 : BitVec 32 := BitVec.ofNat 32 (i 1).val
  let c16_i32_606 : BitVec 32 := 16#32
  let v2330 : BitVec 32 := Scalar.muli arg1 c16_i32_606
  let c11_i32 : BitVec 32 := 11#32
  let v2331 : BitVec 32 := Scalar.addi v2330 c11_i32
  let c128_i32_607 : BitVec 32 := 128#32
  let v2332 : BitVec 32 := Scalar.muli v2331 c128_i32_607
  let c128_i32_608 : BitVec 32 := 128#32
  let v2333 : BitVec 32 := Scalar.addi v2332 c128_i32_608
  let c640_i32_609 : BitVec 32 := 640#32
  let v2334 : BitVec 32 := Scalar.subi v2333 c640_i32_609
  let v2335 : BitVec 32 := Scalar.maxsi c0_i32_610 v2334
  let v2336 : BitVec 32 := Scalar.minsi c1408_i32_611 v2335
  v2336
def k0_mult13 (i : grid0.Coords) : BitVec 32 :=
  let c1408_i32_670 : BitVec 32 := 1408#32
  let c0_i32_669 : BitVec 32 := 0#32
  let arg1 : BitVec 32 := BitVec.ofNat 32 (i 1).val
  let c16_i32_665 : BitVec 32 := 16#32
  let v2556 : BitVec 32 := Scalar.muli arg1 c16_i32_665
  let c12_i32 : BitVec 32 := 12#32
  let v2557 : BitVec 32 := Scalar.addi v2556 c12_i32
  let c128_i32_666 : BitVec 32 := 128#32
  let v2558 : BitVec 32 := Scalar.muli v2557 c128_i32_666
  let c128_i32_667 : BitVec 32 := 128#32
  let v2559 : BitVec 32 := Scalar.addi v2558 c128_i32_667
  let c640_i32_668 : BitVec 32 := 640#32
  let v2560 : BitVec 32 := Scalar.subi v2559 c640_i32_668
  let v2561 : BitVec 32 := Scalar.maxsi c0_i32_669 v2560
  let v2562 : BitVec 32 := Scalar.minsi c1408_i32_670 v2561
  v2562
def k0_mult14 (i : grid0.Coords) : BitVec 32 :=
  let c1408_i32_729 : BitVec 32 := 1408#32
  let c0_i32_728 : BitVec 32 := 0#32
  let arg1 : BitVec 32 := BitVec.ofNat 32 (i 1).val
  let c16_i32_724 : BitVec 32 := 16#32
  let v2782 : BitVec 32 := Scalar.muli arg1 c16_i32_724
  let c13_i32 : BitVec 32 := 13#32
  let v2783 : BitVec 32 := Scalar.addi v2782 c13_i32
  let c128_i32_725 : BitVec 32 := 128#32
  let v2784 : BitVec 32 := Scalar.muli v2783 c128_i32_725
  let c128_i32_726 : BitVec 32 := 128#32
  let v2785 : BitVec 32 := Scalar.addi v2784 c128_i32_726
  let c640_i32_727 : BitVec 32 := 640#32
  let v2786 : BitVec 32 := Scalar.subi v2785 c640_i32_727
  let v2787 : BitVec 32 := Scalar.maxsi c0_i32_728 v2786
  let v2788 : BitVec 32 := Scalar.minsi c1408_i32_729 v2787
  v2788
def k0_mult15 (i : grid0.Coords) : BitVec 32 :=
  let c1408_i32_788 : BitVec 32 := 1408#32
  let c0_i32_787 : BitVec 32 := 0#32
  let arg1 : BitVec 32 := BitVec.ofNat 32 (i 1).val
  let c16_i32_783 : BitVec 32 := 16#32
  let v3008 : BitVec 32 := Scalar.muli arg1 c16_i32_783
  let c14_i32 : BitVec 32 := 14#32
  let v3009 : BitVec 32 := Scalar.addi v3008 c14_i32
  let c128_i32_784 : BitVec 32 := 128#32
  let v3010 : BitVec 32 := Scalar.muli v3009 c128_i32_784
  let c128_i32_785 : BitVec 32 := 128#32
  let v3011 : BitVec 32 := Scalar.addi v3010 c128_i32_785
  let c640_i32_786 : BitVec 32 := 640#32
  let v3012 : BitVec 32 := Scalar.subi v3011 c640_i32_786
  let v3013 : BitVec 32 := Scalar.maxsi c0_i32_787 v3012
  let v3014 : BitVec 32 := Scalar.minsi c1408_i32_788 v3013
  v3014
def k0_mult16 (i : grid0.Coords) : BitVec 32 :=
  let c1408_i32_847 : BitVec 32 := 1408#32
  let c0_i32_846 : BitVec 32 := 0#32
  let arg1 : BitVec 32 := BitVec.ofNat 32 (i 1).val
  let c16_i32_842 : BitVec 32 := 16#32
  let v3234 : BitVec 32 := Scalar.muli arg1 c16_i32_842
  let c15_i32 : BitVec 32 := 15#32
  let v3235 : BitVec 32 := Scalar.addi v3234 c15_i32
  let c128_i32_843 : BitVec 32 := 128#32
  let v3236 : BitVec 32 := Scalar.muli v3235 c128_i32_843
  let c128_i32_844 : BitVec 32 := 128#32
  let v3237 : BitVec 32 := Scalar.addi v3236 c128_i32_844
  let c640_i32_845 : BitVec 32 := 640#32
  let v3238 : BitVec 32 := Scalar.subi v3237 c640_i32_845
  let v3239 : BitVec 32 := Scalar.maxsi c0_i32_846 v3238
  let v3240 : BitVec 32 := Scalar.minsi c1408_i32_847 v3239
  v3240
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x160x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel3Ideal.lean ====
variable {F : FTy → Type} [FloatOps F] [Named F]
def κ : String → Option EReal := fun
  | "mask" => some ⊥
  | _ => none
-- ==== Reference3Ideal.lean ====
abbrev S16x2048x2x4x64 : Shape := ⟨5, ![16, 2048, 2, 4, 64]⟩
abbrev S16x2048x2x64 : Shape := ⟨4, ![16, 2048, 2, 64]⟩
abbrev S16x2048x24 : Shape := ⟨3, ![16, 2048, 24]⟩
abbrev S16x2x2048x2048x4 : Shape := ⟨5, ![16, 2, 2048, 2048, 4]⟩
abbrev S16x2x4x2048x2048 : Shape := ⟨5, ![16, 2, 4, 2048, 2048]⟩
abbrev S_ : Shape := ⟨0, ![]⟩
abbrev S2048x2048 : Shape := ⟨2, ![2048, 2048]⟩
abbrev S16x2x4x2048 : Shape := ⟨4, ![16, 2, 4, 2048]⟩
abbrev S16x2x4x2048x1 : Shape := ⟨5, ![16, 2, 4, 2048, 1]⟩
abbrev S16x2x64x4x2048 : Shape := ⟨5, ![16, 2, 64, 4, 2048]⟩
abbrev S16x2048x2x4x3 : Shape := ⟨5, ![16, 2048, 2, 4, 3]⟩
abbrev S16x2048x2x4x1 : Shape := ⟨5, ![16, 2048, 2, 4, 1]⟩
abbrev S16x2048x4x2x64 : Shape := ⟨5, ![16, 2048, 4, 2, 64]⟩
abbrev S16x2048x512 : Shape := ⟨3, ![16, 2048, 512]⟩

abbrev nBuf : Space → Nat
  | .hbm => 53
  | .vmem => 0
  | .smem => 0
  | _ => 0

abbrev bufTy : (tb : Table) → Fin (tcTables nBuf tb) → BufTy
  | .hbm, ⟨0, _⟩ => ⟨S16x2048x2x4x64, .f32⟩
  | .hbm, ⟨1, _⟩ => ⟨S16x2048x2x64, .f32⟩
  | .hbm, ⟨2, _⟩ => ⟨S16x2048x2x64, .f32⟩
  | .hbm, ⟨3, _⟩ => ⟨S16x2048x24, .f32⟩
  | .hbm, ⟨4, _⟩ => ⟨S16x2x2048x2048x4, .f32⟩
  | .hbm, ⟨5, _⟩ => ⟨S16x2x4x2048x2048, .f32⟩
  | .hbm, ⟨6, _⟩ => ⟨S_, .f32⟩
  | .hbm, ⟨7, _⟩ => ⟨S16x2x4x2048x2048, .f32⟩
  | .hbm, ⟨8, _⟩ => ⟨S16x2x4x2048x2048, .f32⟩
  | .hbm, ⟨9, _⟩ => ⟨S2048x2048, .i32⟩
  | .hbm, ⟨10, _⟩ => ⟨S2048x2048, .i32⟩
  | .hbm, ⟨11, _⟩ => ⟨S_, .i32⟩
  | .hbm, ⟨12, _⟩ => ⟨S2048x2048, .i32⟩
  | .hbm, ⟨13, _⟩ => ⟨S2048x2048, .i32⟩
  | .hbm, ⟨14, _⟩ => ⟨S2048x2048, .i1⟩
  | .hbm, ⟨15, _⟩ => ⟨S2048x2048, .i1⟩
  | .hbm, ⟨16, _⟩ => ⟨S2048x2048, .i1⟩
  | .hbm, ⟨17, _⟩ => ⟨S_, .f32⟩
  | .hbm, ⟨18, _⟩ => ⟨S_, .f32⟩
  | .hbm, ⟨19, _⟩ => ⟨S16x2x4x2048x2048, .i1⟩
  | .hbm, ⟨20, _⟩ => ⟨S16x2x4x2048x2048, .f32⟩
  | .hbm, ⟨21, _⟩ => ⟨S16x2x4x2048x2048, .f32⟩
  | .hbm, ⟨22, _⟩ => ⟨S_, .f32⟩
  | .hbm, ⟨23, _⟩ => ⟨S16x2x4x2048, .f32⟩
  | .hbm, ⟨24, _⟩ => ⟨S_, .f32⟩
  | .hbm, ⟨25, _⟩ => ⟨S16x2x4x2048, .f32⟩
  | .hbm, ⟨26, _⟩ => ⟨S16x2x4x2048, .f32⟩
  | .hbm, ⟨27, _⟩ => ⟨S16x2x4x2048x1, .f32⟩
  | .hbm, ⟨28, _⟩ => ⟨S16x2x4x2048x2048, .f32⟩
  | .hbm, ⟨29, _⟩ => ⟨S16x2x4x2048x2048, .f32⟩
  | .hbm, ⟨30, _⟩ => ⟨S16x2x4x2048x2048, .f32⟩
  | .hbm, ⟨31, _⟩ => ⟨S_, .f32⟩
  | .hbm, ⟨32, _⟩ => ⟨S16x2x4x2048, .f32⟩
  | .hbm, ⟨33, _⟩ => ⟨S16x2x4x2048x1, .f32⟩
  | .hbm, ⟨34, _⟩ => ⟨S16x2x4x2048x2048, .f32⟩
  | .hbm, ⟨35, _⟩ => ⟨S16x2x4x2048x2048, .f32⟩
  | .hbm, ⟨36, _⟩ => ⟨S16x2x64x4x2048, .f32⟩
  | .hbm, ⟨37, _⟩ => ⟨S16x2048x2x4x64, .f32⟩
  | .hbm, ⟨38, _⟩ => ⟨S16x2048x2x4x3, .f32⟩
  | .hbm, ⟨39, _⟩ => ⟨S16x2048x2x4x3, .f32⟩
  | .hbm, ⟨40, _⟩ => ⟨S16x2048x2x4x3, .f32⟩
  | .hbm, ⟨41, _⟩ => ⟨S_, .f32⟩
  | .hbm, ⟨42, _⟩ => ⟨S16x2048x2x4x3, .f32⟩
  | .hbm, ⟨43, _⟩ => ⟨S16x2048x2x4x3, .f32⟩
  | .hbm, ⟨44, _⟩ => ⟨S_, .f32⟩
  | .hbm, ⟨45, _⟩ => ⟨S16x2048x2x4x3, .f32⟩
  | .hbm, ⟨46, _⟩ => ⟨S16x2048x2x4x3, .f32⟩
  | .hbm, ⟨47, _⟩ => ⟨S16x2048x2x4x1, .f32⟩
  | .hbm, ⟨48, _⟩ => ⟨S16x2048x2x4x64, .f32⟩
  | .hbm, ⟨49, _⟩ => ⟨S16x2048x2x4x64, .f32⟩
  | .hbm, ⟨50, _⟩ => ⟨S16x2048x4x2x64, .f32⟩
  | .hbm, ⟨51, _⟩ => ⟨S16x2048x512, .f32⟩
  | .hbm, ⟨52, _⟩ => ⟨S16x2048x512, .bf16⟩
  | _, _ => ⟨S16x2048x2x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== Kernel4.lean ====
abbrev S16x1024 : Shape := ⟨2, ![16, 1024]⟩
abbrev S1x1024x3072 : Shape := ⟨3, ![1, 1024, 3072]⟩
abbrev S1x3072 : Shape := ⟨2, ![1, 3072]⟩
abbrev S1024x3072 : Shape := ⟨2, ![1024, 3072]⟩
abbrev S3072 : Shape := ⟨1, ![3072]⟩
abbrev S16x3072 : Shape := ⟨2, ![16, 3072]⟩
abbrev S1024x1024 : Shape := ⟨2, ![1024, 1024]⟩
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1x1024x3072, .f32⟩
  | .hbm, ⟨2, _⟩ => ⟨S1x3072, .f32⟩
  | .hbm, ⟨3, _⟩ => ⟨S1024x3072, .f32⟩
  | .hbm, ⟨4, _⟩ => ⟨S3072, .f32⟩
  | .hbm, ⟨5, _⟩ => ⟨S1x3072, .f32⟩
  | .hbm, ⟨6, _⟩ => ⟨S16x3072, .f32⟩
  | .local _ .vmem, ⟨0, _⟩ => ⟨S16x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S16x1024, .f32⟩
  | .local _ .vmem, ⟨6, _⟩ => ⟨S16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S16x1024 : Shape := ⟨2, ![16, 1024]⟩
abbrev S1x1024x3072 : Shape := ⟨3, ![1, 1024, 3072]⟩
abbrev S1x3072 : Shape := ⟨2, ![1, 3072]⟩
abbrev S_ : Shape := ⟨0, ![]⟩
abbrev S1024x3072 : Shape := ⟨2, ![1024, 3072]⟩
abbrev S16x3072 : Shape := ⟨2, ![16, 3072]⟩
abbrev S3072 : Shape := ⟨1, ![3072]⟩

abbrev nBuf : Space → Nat
  | .hbm => 18
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1x1024x3072, .f32⟩
  | .hbm, ⟨2, _⟩ => ⟨S1x3072, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1024x3072, .f32⟩
  | .hbm, ⟨13, _⟩ => ⟨S16x3072, .f32⟩
  | .hbm, ⟨14, _⟩ => ⟨S3072, .f32⟩
  | .hbm, ⟨15, _⟩ => ⟨S1x3072, .f32⟩
  | .hbm, ⟨16, _⟩ => ⟨S16x3072, .f32⟩
  | .hbm, ⟨17, _⟩ => ⟨S16x3072, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel5.lean ====
abbrev S16x2048x1024 : Shape := ⟨3, ![16, 2048, 1024]⟩
abbrev S16x3072 : Shape := ⟨2, ![16, 3072]⟩
abbrev S1024x5144 : Shape := ⟨2, ![1024, 5144]⟩
abbrev S16x512x128 : Shape := ⟨3, ![16, 512, 128]⟩
abbrev S5144x1024 : Shape := ⟨2, ![5144, 1024]⟩
abbrev S512x1024 : Shape := ⟨2, ![512, 1024]⟩
abbrev S1024x512 : Shape := ⟨2, ![1024, 512]⟩
abbrev S1024x2x4x2x32 : Shape := ⟨5, ![1024, 2, 4, 2, 32]⟩
abbrev S1024x4x2x2x32 : Shape := ⟨5, ![1024, 4, 2, 2, 32]⟩
abbrev S_ : Shape := ⟨0, ![]⟩
abbrev S128x1024 : Shape := ⟨2, ![128, 1024]⟩
abbrev S1024x128 : Shape := ⟨2, ![1024, 128]⟩
abbrev S1024x2x2x32 : Shape := ⟨4, ![1024, 2, 2, 32]⟩
abbrev S24x1024 : Shape := ⟨2, ![24, 1024]⟩
abbrev S1024x24 : Shape := ⟨2, ![1024, 24]⟩
abbrev S1024x104 : Shape := ⟨2, ![1024, 104]⟩
abbrev S1024x1792 : Shape := ⟨2, ![1024, 1792]⟩
abbrev S1024x384 : Shape := ⟨2, ![1024, 384]⟩
abbrev S384x1024 : Shape := ⟨2, ![384, 1024]⟩
abbrev S16x3x1024 : Shape := ⟨3, ![16, 3, 1024]⟩
abbrev S16x2048x512 : Shape := ⟨3, ![16, 2048, 512]⟩
abbrev S16x128x2048 : Shape := ⟨3, ![16, 128, 2048]⟩
abbrev S16x2048x128 : Shape := ⟨3, ![16, 2048, 128]⟩
abbrev S16x160x2048 : Shape := ⟨3, ![16, 160, 2048]⟩
abbrev S1x2048x1024 : Shape := ⟨3, ![1, 2048, 1024]⟩
abbrev S1x3x1024 : Shape := ⟨3, ![1, 3, 1024]⟩
abbrev S1x512x128 : Shape := ⟨3, ![1, 512, 128]⟩
abbrev S1x2048x512 : Shape := ⟨3, ![1, 2048, 512]⟩
abbrev S1x128x2048 : Shape := ⟨3, ![1, 128, 2048]⟩
abbrev S1x2048x128 : Shape := ⟨3, ![1, 2048, 128]⟩
abbrev S1x160x2048 : Shape := ⟨3, ![1, 160, 2048]⟩
abbrev S256x128 : Shape := ⟨2, ![256, 128]⟩
abbrev S1x1x1024 : Shape := ⟨3, ![1, 1, 1024]⟩
abbrev S1x1024 : Shape := ⟨2, ![1, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S256x1792 : Shape := ⟨2, ![256, 1792]⟩
abbrev S384x256 : Shape := ⟨2, ![384, 256]⟩
abbrev S1x64x32 : Shape := ⟨3, ![1, 64, 32]⟩
abbrev S64x32 : Shape := ⟨2, ![64, 32]⟩
abbrev S64x128 : Shape := ⟨2, ![64, 128]⟩
abbrev S1x64x128 : Shape := ⟨3, ![1, 64, 128]⟩
abbrev S1x256x128 : Shape := ⟨3, ![1, 256, 128]⟩
abbrev S16x128 : Shape := ⟨2, ![16, 128]⟩
abbrev S1x16x128 : Shape := ⟨3, ![1, 16, 128]⟩
abbrev S16x256 : Shape := ⟨2, ![16, 256]⟩
abbrev S64x256 : Shape := ⟨2, ![64, 256]⟩
abbrev S1x64x256 : Shape := ⟨3, ![1, 64, 256]⟩
abbrev S1x16x256 : Shape := ⟨3, ![1, 16, 256]⟩

abbrev nBuf : Space → Nat
  | .hbm => 70
  | .vmem => 34
  | .smem => 0
  | _ => 0

abbrev bufTy : (tb : Table) → Fin (tcTables nBuf tb) → BufTy
  | .hbm, ⟨0, _⟩ => ⟨S16x2048x1024, .f32⟩
  | .hbm, ⟨1, _⟩ => ⟨S16x3072, .f32⟩
  | .hbm, ⟨2, _⟩ => ⟨S1024x5144, .f32⟩
  | .hbm, ⟨3, _⟩ => ⟨S16x512x128, .f32⟩
  | .hbm, ⟨4, _⟩ => ⟨S16x512x128, .f32⟩
  | .hbm, ⟨5, _⟩ => ⟨S5144x1024, .f32⟩
  | .hbm, ⟨6, _⟩ => ⟨S5144x1024, .bf16⟩
  | .hbm, ⟨7, _⟩ => ⟨S512x1024, .bf16⟩
  | .hbm, ⟨8, _⟩ => ⟨S1024x512, .bf16⟩
  | .hbm, ⟨9, _⟩ => ⟨S1024x2x4x2x32, .bf16⟩
  | .hbm, ⟨10, _⟩ => ⟨S1024x4x2x2x32, .bf16⟩
  | .hbm, ⟨11, _⟩ => ⟨S1024x512, .bf16⟩
  | .hbm, ⟨12, _⟩ => ⟨S_, .bf16⟩
  | .hbm, ⟨13, _⟩ => ⟨S1024x512, .bf16⟩
  | .hbm, ⟨14, _⟩ => ⟨S1024x512, .bf16⟩
  | .hbm, ⟨15, _⟩ => ⟨S128x1024, .bf16⟩
  | .hbm, ⟨16, _⟩ => ⟨S1024x128, .bf16⟩
  | .hbm, ⟨17, _⟩ => ⟨S1024x2x2x32, .bf16⟩
  | .hbm, ⟨18, _⟩ => ⟨S1024x2x2x32, .bf16⟩
  | .hbm, ⟨19, _⟩ => ⟨S1024x128, .bf16⟩
  | .hbm, ⟨20, _⟩ => ⟨S128x1024, .bf16⟩
  | .hbm, ⟨21, _⟩ => ⟨S1024x128, .bf16⟩
  | .hbm, ⟨22, _⟩ => ⟨S1024x2x2x32, .bf16⟩
  | .hbm, ⟨23, _⟩ => ⟨S1024x2x2x32, .bf16⟩
  | .hbm, ⟨24, _⟩ => ⟨S1024x128, .bf16⟩
  | .hbm, ⟨25, _⟩ => ⟨S128x1024, .bf16⟩
  | .hbm, ⟨26, _⟩ => ⟨S1024x128, .bf16⟩
  | .hbm, ⟨27, _⟩ => ⟨S1024x2x2x32, .bf16⟩
  | .hbm, ⟨28, _⟩ => ⟨S1024x2x2x32, .bf16⟩
  | .hbm, ⟨29, _⟩ => ⟨S1024x128, .bf16⟩
  | .hbm, ⟨30, _⟩ => ⟨S512x1024, .bf16⟩
  | .hbm, ⟨31, _⟩ => ⟨S1024x512, .bf16⟩
  | .hbm, ⟨32, _⟩ => ⟨S1024x2x4x2x32, .bf16⟩
  | .hbm, ⟨33, _⟩ => ⟨S1024x4x2x2x32, .bf16⟩
  | .hbm, ⟨34, _⟩ => ⟨S1024x512, .bf16⟩
  | .hbm, ⟨35, _⟩ => ⟨S_, .bf16⟩
  | .hbm, ⟨36, _⟩ => ⟨S1024x512, .bf16⟩
  | .hbm, ⟨37, _⟩ => ⟨S1024x512, .bf16⟩
  | .hbm, ⟨38, _⟩ => ⟨S128x1024, .bf16⟩
  | .hbm, ⟨39, _⟩ => ⟨S1024x128, .bf16⟩
  | .hbm, ⟨40, _⟩ => ⟨S1024x2x2x32, .bf16⟩
  | .hbm, ⟨41, _⟩ => ⟨S1024x2x2x32, .bf16⟩
  | .hbm, ⟨42, _⟩ => ⟨S1024x128, .bf16⟩
  | .hbm, ⟨43, _⟩ => ⟨S128x1024, .bf16⟩
  | .hbm, ⟨44, _⟩ => ⟨S1024x128, .bf16⟩
  | .hbm, ⟨45, _⟩ => ⟨S24x1024, .bf16⟩
  | .hbm, ⟨46, _⟩ => ⟨S1024x24, .bf16⟩
  | .hbm, ⟨47, _⟩ => ⟨S_, .bf16⟩
  | .hbm, ⟨48, _⟩ => ⟨S1024x104, .bf16⟩
  | .hbm, ⟨49, _⟩ => ⟨S128x1024, .bf16⟩
  | .hbm, ⟨50, _⟩ => ⟨S1024x128, .bf16⟩
  | .hbm, ⟨51, _⟩ => ⟨S128x1024, .bf16⟩
  | .hbm, ⟨52, _⟩ => ⟨S1024x128, .bf16⟩
  | .hbm, ⟨53, _⟩ => ⟨S128x1024, .bf16⟩
  | .hbm, ⟨54, _⟩ => ⟨S1024x128, .bf16⟩
  | .hbm, ⟨55, _⟩ => ⟨S1024x1792, .bf16⟩
  | .hbm, ⟨56, _⟩ => ⟨S1024x384, .bf16⟩
  | .hbm, ⟨57, _⟩ => ⟨S384x1024, .bf16⟩
  | .hbm, ⟨58, _⟩ => ⟨S16x3x1024, .f32⟩
  | .hbm, ⟨59, _⟩ => ⟨S16x2048x512, .bf16⟩
  | .hbm, ⟨60, _⟩ => ⟨S16x128x2048, .bf16⟩
  | .hbm, ⟨61, _⟩ => ⟨S16x2048x128, .bf16⟩
  | .hbm, ⟨62, _⟩ => ⟨S16x2048x128, .bf16⟩
  | .hbm, ⟨63, _⟩ => ⟨S16x2048x512, .bf16⟩
  | .hbm, ⟨64, _⟩ => ⟨S16x2048x128, .bf16⟩
  | .hbm, ⟨65, _⟩ => ⟨S16x128x2048, .bf16⟩
  | .hbm, ⟨66, _⟩ => ⟨S16x160x2048, .bf16⟩
  | .hbm, ⟨67, _⟩ => ⟨S16x160x2048, .bf16⟩
  | .hbm, ⟨68, _⟩ => ⟨S16x160x2048, .bf16⟩
  | .hbm, ⟨69, _⟩ => ⟨S16x2048x128, .f32⟩
  | .local _ .vmem, ⟨0, _⟩ => ⟨S1x2048x1024, .f32⟩
  | .local _ .vmem, ⟨1, _⟩ => ⟨S1x2048x1024, .f32⟩
  | .local _ .vmem, ⟨2, _⟩ => ⟨S1x3x1024, .f32⟩
  | .local _ .vmem, ⟨3, _⟩ => ⟨S1x3x1024, .f32⟩
  | .local _ .vmem, ⟨4, _⟩ => ⟨S1024x1792, .bf16⟩
  | .local _ .vmem, ⟨5, _⟩ => ⟨S384x1024, .bf16⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S1x2048x512, .bf16⟩
  | .local _ .vmem, ⟨11, _⟩ => ⟨S1x2048x512, .bf16⟩
  | .local _ .vmem, ⟨12, _⟩ => ⟨S1x128x2048, .bf16⟩
  | .local _ .vmem, ⟨13, _⟩ => ⟨S1x128x2048, .bf16⟩
  | .local _ .vmem, ⟨14, _⟩ => ⟨S1x2048x128, .bf16⟩
  | .local _ .vmem, ⟨15, _⟩ => ⟨S1x2048x128, .bf16⟩
  | .local _ .vmem, ⟨16, _⟩ => ⟨S1x2048x128, .bf16⟩
  | .local _ .vmem, ⟨17, _⟩ => ⟨S1x2048x128, .bf16⟩
  | .local _ .vmem, ⟨18, _⟩ => ⟨S1x2048x512, .bf16⟩
  | .local _ .vmem, ⟨19, _⟩ => ⟨S1x2048x512, .bf16⟩
  | .local _ .vmem, ⟨20, _⟩ => ⟨S1x2048x128, .bf16⟩
  | .local _ .vmem, ⟨21, _⟩ => ⟨S1x2048x128, .bf16⟩
  | .local _ .vmem, ⟨22, _⟩ => ⟨S1x128x2048, .bf16⟩
  | .local _ .vmem, ⟨23, _⟩ => ⟨S1x128x2048, .bf16⟩
  | .local _ .vmem, ⟨24, _⟩ => ⟨S1x160x2048, .bf16⟩
  | .local _ .vmem, ⟨25, _⟩ => ⟨S1x160x2048, .bf16⟩
  | .local _ .vmem, ⟨26, _⟩ => ⟨S1x160x2048, .bf16⟩
  | .local _ .vmem, ⟨27, _⟩ => ⟨S1x160x2048, .bf16⟩
  | .local _ .vmem, ⟨28, _⟩ => ⟨S1x160x2048, .bf16⟩
  | .local _ .vmem, ⟨29, _⟩ => ⟨S1x160x2048, .bf16⟩
  | .local _ .vmem, ⟨30, _⟩ => ⟨S1x2048x128, .f32⟩
  | .local _ .vmem, ⟨31, _⟩ => ⟨S1x2048x128, .f32⟩
  | .local _ .vmem, ⟨32, _⟩ => ⟨S256x128, .f32⟩
  | .local _ .vmem, ⟨33, _⟩ => ⟨S256x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_0 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_1 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51_0 : Ref sig .tc := ⟨.hbm, 59, rfl⟩
abbrev main_v51_1 : Ref sig .tc := ⟨.hbm, 60, rfl⟩
abbrev main_v51_2 : Ref sig .tc := ⟨.hbm, 61, rfl⟩
abbrev main_v51_3 : Ref sig .tc := ⟨.hbm, 62, rfl⟩
abbrev main_v51_4 : Ref sig .tc := ⟨.hbm, 63, rfl⟩
abbrev main_v51_5 : Ref sig .tc := ⟨.hbm, 64, rfl⟩
abbrev main_v51_6 : Ref sig .tc := ⟨.hbm, 65, rfl⟩
abbrev main_v51_7 : Ref sig .tc := ⟨.hbm, 66, rfl⟩
abbrev main_v51_8 : Ref sig .tc := ⟨.hbm, 67, rfl⟩
abbrev main_v51_9 : Ref sig .tc := ⟨.hbm, 68, rfl⟩
abbrev main_v51_10 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_scratch0 : Ref sig .tc := ⟨.vmem, 32, rfl⟩
abbrev cc0_scratch1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S384x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2048x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x160x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x160x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x160x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x2048x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Kernel5Ideal.lean ====
variable {F : FTy → Type} [FloatOps F] [Named F]
def κ : String → Option EReal := fun
  | "log2e" => some (((Real.log 2)⁻¹ : ℝ) : EReal)
  | _ => none
-- ==== Reference5Ideal.lean ====
abbrev S16x2048x1024 : Shape := ⟨3, ![16, 2048, 1024]⟩
abbrev S16x3072 : Shape := ⟨2, ![16, 3072]⟩
abbrev S1024x5144 : Shape := ⟨2, ![1024, 5144]⟩
abbrev S16x512x128 : Shape := ⟨3, ![16, 512, 128]⟩
abbrev S16x1024 : Shape := ⟨2, ![16, 1024]⟩
abbrev S_ : Shape := ⟨0, ![]⟩
abbrev S16x2048 : Shape := ⟨2, ![16, 2048]⟩
abbrev S16x2048x1 : Shape := ⟨3, ![16, 2048, 1]⟩
abbrev S16x1x1024 : Shape := ⟨3, ![16, 1, 1024]⟩
abbrev S16x2048x5144 : Shape := ⟨3, ![16, 2048, 5144]⟩
abbrev S16x8x64x4x32 : Shape := ⟨5, ![16, 8, 64, 4, 32]⟩
abbrev S16x8x4x64x32 : Shape := ⟨5, ![16, 8, 4, 64, 32]⟩
abbrev S16x2048x1x32 : Shape := ⟨4, ![16, 2048, 1, 32]⟩
abbrev S16x2048x512 : Shape := ⟨3, ![16, 2048, 512]⟩
abbrev S16x2048x8x64 : Shape := ⟨4, ![16, 2048, 8, 64]⟩
abbrev S16x2048x8x32 : Shape := ⟨4, ![16, 2048, 8, 32]⟩
abbrev S16x2048x2x4x2x32 : Shape := ⟨6, ![16, 2048, 2, 4, 2, 32]⟩
abbrev S16x2048x4x2x2x32 : Shape := ⟨6, ![16, 2048, 4, 2, 2, 32]⟩
abbrev S16x2048x128 : Shape := ⟨3, ![16, 2048, 128]⟩
abbrev S16x2048x2x64 : Shape := ⟨4, ![16, 2048, 2, 64]⟩
abbrev S16x2048x2x32 : Shape := ⟨4, ![16, 2048, 2, 32]⟩
abbrev S16x2048x2x2x32 : Shape := ⟨5, ![16, 2048, 2, 2, 32]⟩
abbrev S16x2x64x2048 : Shape := ⟨4, ![16, 2, 64, 2048]⟩
abbrev S16x2x16x2048 : Shape := ⟨4, ![16, 2, 16, 2048]⟩
abbrev S16x2x80x2048 : Shape := ⟨4, ![16, 2, 80, 2048]⟩
abbrev S16x160x2048 : Shape := ⟨3, ![16, 160, 2048]⟩
abbrev S16x2048x24 : Shape := ⟨3, ![16, 2048, 24]⟩

abbrev nBuf : Space → Nat
  | .hbm => 186
  | .vmem => 0
  | .smem => 0
  | _ => 0

abbrev hbmTy0_0 (i : Nat) : BufTy := match i % 128 with
  | 0 => ⟨S16x2048x1024, .f32⟩
  | 1 => ⟨S16x3072, .f32⟩
  | 2 => ⟨S1024x5144, .f32⟩
  | 3 => ⟨S16x512x128, .f32⟩
  | 4 => ⟨S16x512x128, .f32⟩
  | 5 => ⟨S16x1024, .f32⟩
  | 6 => ⟨S16x1024, .f32⟩
  | 7 => ⟨S16x1024, .f32⟩
  | 8 => ⟨S_, .f32⟩
  | 9 => ⟨S16x2048, .f32⟩
  | 10 => ⟨S16x2048x1, .f32⟩
  | 11 => ⟨S_, .f32⟩
  | 12 => ⟨S16x2048x1, .f32⟩
  | 13 => ⟨S16x2048x1, .f32⟩
  | 14 => ⟨S16x2048x1024, .f32⟩
  | 15 => ⟨S16x2048x1024, .f32⟩
  | 16 => ⟨S16x2048x1024, .f32⟩
  | 17 => ⟨S_, .f32⟩
  | 18 => ⟨S16x2048, .f32⟩
  | 19 => ⟨S16x2048x1, .f32⟩
  | 20 => ⟨S_, .f32⟩
  | 21 => ⟨S16x2048x1, .f32⟩
  | 22 => ⟨S16x2048x1, .f32⟩
  | 23 => ⟨S16x2048x1024, .f32⟩
  | 24 => ⟨S16x2048x1024, .f32⟩
  | 25 => ⟨S_, .f32⟩
  | 26 => ⟨S16x2048x1, .f32⟩
  | 27 => ⟨S16x2048x1, .f32⟩
  | 28 => ⟨S16x2048x1, .f32⟩
  | 29 => ⟨S16x2048x1024, .f32⟩
  | 30 => ⟨S16x2048x1024, .f32⟩
  | 31 => ⟨S16x1x1024, .f32⟩
  | 32 => ⟨S_, .f32⟩
  | 33 => ⟨S16x1x1024, .f32⟩
  | 34 => ⟨S16x1x1024, .f32⟩
  | 35 => ⟨S16x2048x1024, .f32⟩
  | 36 => ⟨S16x2048x1024, .f32⟩
  | 37 => ⟨S16x1x1024, .f32⟩
  | 38 => ⟨S16x2048x1024, .f32⟩
  | 39 => ⟨S16x2048x1024, .f32⟩
  | 40 => ⟨S16x2048x5144, .f32⟩
  | 41 => ⟨S16x8x64x4x32, .f32⟩
  | 42 => ⟨S16x8x4x64x32, .f32⟩
  | 43 => ⟨S16x2048x1x32, .f32⟩
  | 44 => ⟨S16x8x64x4x32, .f32⟩
  | 45 => ⟨S16x8x4x64x32, .f32⟩
  | 46 => ⟨S16x2048x1x32, .f32⟩
  | 47 => ⟨S16x2048x512, .f32⟩
  | 48 => ⟨S16x2048x8x64, .f32⟩
  | 49 => ⟨S_, .f32⟩
  | 50 => ⟨S16x2048x8x64, .f32⟩
  | 51 => ⟨S16x2048x8x64, .f32⟩
  | 52 => ⟨S16x2048x8x32, .f32⟩
  | 53 => ⟨S16x2048x8x32, .f32⟩
  | 54 => ⟨S16x2048x8x32, .f32⟩
  | 55 => ⟨S16x2048x8x32, .f32⟩
  | 56 => ⟨S16x2048x8x32, .f32⟩
  | 57 => ⟨S16x2048x8x32, .f32⟩
  | 58 => ⟨S16x2048x8x32, .f32⟩
  | 59 => ⟨S16x2048x8x32, .f32⟩
  | 60 => ⟨S16x2048x8x32, .f32⟩
  | 61 => ⟨S16x2048x8x32, .f32⟩
  | 62 => ⟨S16x2048x8x32, .f32⟩
  | 63 => ⟨S16x2048x8x32, .f32⟩
  | 64 => ⟨S16x2048x8x64, .f32⟩
  | 65 => ⟨S_, .f32⟩
  | 66 => ⟨S_, .f32⟩
  | 67 => ⟨S_, .f32⟩
  | 68 => ⟨S16x2048x8x64, .f32⟩
  | 69 => ⟨S16x2048x8x64, .f32⟩
  | 70 => ⟨S16x2048x2x4x2x32, .f32⟩
  | 71 => ⟨S16x2048x4x2x2x32, .f32⟩
  | 72 => ⟨S16x2048x512, .f32⟩
  | 73 => ⟨S16x2048x512, .bf16⟩
  | 74 => ⟨S16x2048x128, .f32⟩
  | 75 => ⟨S16x2048x2x64, .f32⟩
  | 76 => ⟨S16x2048x2x32, .f32⟩
  | 77 => ⟨S16x2048x2x32, .f32⟩
  | 78 => ⟨S16x2048x2x32, .f32⟩
  | 79 => ⟨S16x2048x2x32, .f32⟩
  | 80 => ⟨S16x2048x2x32, .f32⟩
  | 81 => ⟨S16x2048x2x32, .f32⟩
  | 82 => ⟨S16x2048x2x32, .f32⟩
  | 83 => ⟨S16x2048x2x32, .f32⟩
  | 84 => ⟨S16x2048x2x32, .f32⟩
  | 85 => ⟨S16x2048x2x32, .f32⟩
  | 86 => ⟨S16x2048x2x32, .f32⟩
  | 87 => ⟨S16x2048x2x32, .f32⟩
  | 88 => ⟨S16x2048x2x64, .f32⟩
  | 89 => ⟨S16x2048x2x2x32, .f32⟩
  | 90 => ⟨S16x2048x2x2x32, .f32⟩
  | 91 => ⟨S16x2048x128, .f32⟩
  | 92 => ⟨S16x2048x128, .bf16⟩
  | 93 => ⟨S16x2048x128, .f32⟩
  | 94 => ⟨S16x2048x2x64, .f32⟩
  | 95 => ⟨S16x2048x2x32, .f32⟩
  | 96 => ⟨S16x2048x2x32, .f32⟩
  | 97 => ⟨S16x2048x2x32, .f32⟩
  | 98 => ⟨S16x2048x2x32, .f32⟩
  | 99 => ⟨S16x2048x2x32, .f32⟩
  | 100 => ⟨S16x2048x2x32, .f32⟩
  | 101 => ⟨S16x2048x2x32, .f32⟩
  | 102 => ⟨S16x2048x2x32, .f32⟩
  | 103 => ⟨S16x2048x2x32, .f32⟩
  | 104 => ⟨S16x2048x2x32, .f32⟩
  | 105 => ⟨S16x2048x2x32, .f32⟩
  | 106 => ⟨S16x2048x2x32, .f32⟩
  | 107 => ⟨S16x2048x2x64, .f32⟩
  | 108 => ⟨S16x2048x2x2x32, .f32⟩
  | 109 => ⟨S16x2048x2x2x32, .f32⟩
  | 110 => ⟨S16x2048x128, .f32⟩
  | 111 => ⟨S16x2048x128, .bf16⟩
  | 112 => ⟨S16x2048x512, .f32⟩
  | 113 => ⟨S16x2048x8x64, .f32⟩
  | 114 => ⟨S_, .f32⟩
  | 115 => ⟨S16x2048x8x64, .f32⟩
  | 116 => ⟨S16x2048x8x64, .f32⟩
  | 117 => ⟨S16x2048x8x32, .f32⟩
  | 118 => ⟨S16x2048x8x32, .f32⟩
  | 119 => ⟨S16x2048x8x32, .f32⟩
  | 120 => ⟨S16x2048x8x32, .f32⟩
  | 121 => ⟨S16x2048x8x32, .f32⟩
  | 122 => ⟨S16x2048x8x32, .f32⟩
  | 123 => ⟨S16x2048x8x32, .f32⟩
  | 124 => ⟨S16x2048x8x32, .f32⟩
  | 125 => ⟨S16x2048x8x32, .f32⟩
  | 126 => ⟨S16x2048x8x32, .f32⟩
  | 127 => ⟨S16x2048x8x32, .f32⟩
  | _ => ⟨S16x2048x1024, .f32⟩

abbrev hbmTy0_1 (i : Nat) : BufTy := match i % 128 with
  | 0 => ⟨S16x2048x8x32, .f32⟩
  | 1 => ⟨S16x2048x8x64, .f32⟩
  | 2 => ⟨S_, .f32⟩
  | 3 => ⟨S_, .f32⟩
  | 4 => ⟨S_, .f32⟩
  | 5 => ⟨S16x2048x8x64, .f32⟩
  | 6 => ⟨S16x2048x8x64, .f32⟩
  | 7 => ⟨S16x2048x2x4x2x32, .f32⟩
  | 8 => ⟨S16x2048x4x2x2x32, .f32⟩
  | 9 => ⟨S16x2048x512, .f32⟩
  | 10 => ⟨S16x2048x512, .bf16⟩
  | 11 => ⟨S16x2048x128, .f32⟩
  | 12 => ⟨S16x2048x2x64, .f32⟩
  | 13 => ⟨S16x2048x2x32, .f32⟩
  | 14 => ⟨S16x2048x2x32, .f32⟩
  | 15 => ⟨S16x2048x2x32, .f32⟩
  | 16 => ⟨S16x2048x2x32, .f32⟩
  | 17 => ⟨S16x2048x2x32, .f32⟩
  | 18 => ⟨S16x2048x2x32, .f32⟩
  | 19 => ⟨S16x2048x2x32, .f32⟩
  | 20 => ⟨S16x2048x2x32, .f32⟩
  | 21 => ⟨S16x2048x2x32, .f32⟩
  | 22 => ⟨S16x2048x2x32, .f32⟩
  | 23 => ⟨S16x2048x2x32, .f32⟩
  | 24 => ⟨S16x2048x2x32, .f32⟩
  | 25 => ⟨S16x2048x2x64, .f32⟩
  | 26 => ⟨S16x2048x2x2x32, .f32⟩
  | 27 => ⟨S16x2048x2x2x32, .f32⟩
  | 28 => ⟨S16x2048x128, .f32⟩
  | 29 => ⟨S16x2048x128, .bf16⟩
  | 30 => ⟨S16x2048x128, .f32⟩
  | 31 => ⟨S16x2048x2x64, .f32⟩
  | 32 => ⟨S16x2x64x2048, .f32⟩
  | 33 => ⟨S_, .f32⟩
  | 34 => ⟨S16x2x16x2048, .f32⟩
  | 35 => ⟨S16x2x80x2048, .f32⟩
  | 36 => ⟨S16x160x2048, .f32⟩
  | 37 => ⟨S16x160x2048, .bf16⟩
  | 38 => ⟨S16x2048x128, .f32⟩
  | 39 => ⟨S16x2048x2x64, .f32⟩
  | 40 => ⟨S16x2x64x2048, .f32⟩
  | 41 => ⟨S_, .f32⟩
  | 42 => ⟨S16x2x16x2048, .f32⟩
  | 43 => ⟨S16x2x80x2048, .f32⟩
  | 44 => ⟨S16x160x2048, .f32⟩
  | 45 => ⟨S16x160x2048, .bf16⟩
  | 46 => ⟨S16x2048x128, .f32⟩
  | 47 => ⟨S16x2048x2x64, .f32⟩
  | 48 => ⟨S16x2x64x2048, .f32⟩
  | 49 => ⟨S_, .f32⟩
  | 50 => ⟨S16x2x16x2048, .f32⟩
  | 51 => ⟨S16x2x80x2048, .f32⟩
  | 52 => ⟨S16x160x2048, .f32⟩
  | 53 => ⟨S16x160x2048, .bf16⟩
  | 54 => ⟨S16x2048x24, .f32⟩
  | 55 => ⟨S_, .i32⟩
  | 56 => ⟨S_, .f32⟩
  | 57 => ⟨S16x2048x128, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_6 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_cst_7 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_cst_8 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_cst_9 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_cst_10 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_cst_11 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_c : Ref sig .tc := ⟨.hbm, 183, rfl⟩
abbrev main_call0_v0 : Ref sig .tc := ⟨.hbm, 184, rfl⟩
abbrev main_v165 : Ref sig .tc := ⟨.hbm, 185, rfl⟩

abbrev nD : Nat := 1
abbrev τ : Topo := Topo.v7x

variable {F : FTy → Type} [FloatOps F]
-- ==== Proof.BandTile.lean ====
module

public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.ShloMosaic.Tactic Idealize.SL.Sem

namespace Cert.KernelIdeal.Band

open Cert.KernelIdeal Cert.KernelIdeal.Gen

variable {F : FTy → Type} [FloatOps F] [Named F]

/-! The band kernel writes its block of the output as sixty-four tiles, four for each run of 128
    query rows. All of them are one function of what the run loaded: the queries, the window of keys,
    the two windows of values, the offset of the first row from the first key, and the eight sinks. -/

/-- The lanes that hold the first key group's half of a packed row. -/
def lowLanes : IVec S128x128 1 :=
  broadcastTo S128x128 (shapeCast S1x128
    (cmpi .slt (andi (iota .tc S1x128 32 [1] iota_S1x128_d1_w32) (broadcast S1x128 63#32)) (broadcast S1x128 32#32))
    shapeCasts_S1x128_S1x128) broadcasts_S1x128_S128x128

/-- A block of zeros, for the lanes of the other group. -/
def zeroLanes : FVec F S128x128 .bf16 := broadcast S128x128 (Scalar.ofBits .bf16 0x0000#16)

/-- The loaded queries without their unit axis. -/
def rows (q : Vec F S1x128x512 .bf16) : FVec F S128x512 .bf16 := shapeCast S128x512 q shapeCasts_S1x128x512_S128x512

/-- The eight heads' queries, one under the other, each with the other group's lanes set to zero. -/
def stackQ (q : Vec F S1x128x512 .bf16) : FVec F S1024x128 .bf16 :=
  concatenate S1024x128 0
    [⟨S128x128, select lowLanes (extractStridedSlice S128x128 ![0, 0] (rows q) slices_S128x512_o0_0_S128x128) zeroLanes⟩,
     ⟨S128x128, select lowLanes (extractStridedSlice S128x128 ![0, 128] (rows q) slices_S128x512_o0_128_S128x128) zeroLanes⟩,
     ⟨S128x128, select lowLanes (extractStridedSlice S128x128 ![0, 256] (rows q) slices_S128x512_o0_256_S128x128) zeroLanes⟩,
     ⟨S128x128, select lowLanes (extractStridedSlice S128x128 ![0, 384] (rows q) slices_S128x512_o0_384_S128x128) zeroLanes⟩,
     ⟨S128x128, select lowLanes zeroLanes (extractStridedSlice S128x128 ![0, 0] (rows q) slices_S128x512_o0_0_S128x128)⟩,
     ⟨S128x128, select lowLanes zeroLanes (extractStridedSlice S128x128 ![0, 128] (rows q) slices_S128x512_o0_128_S128x128)⟩,
     ⟨S128x128, select lowLanes zeroLanes (extractStridedSlice S128x128 ![0, 256] (rows q) slices_S128x512_o0_256_S128x128)⟩,
     ⟨S128x128, select lowLanes zeroLanes (extractStridedSlice S128x128 ![0, 384] (rows q) slices_S128x512_o0_384_S128x128)⟩]
    concatenates_S128x128_S128x128_S128x128_S128x128_S128x128_S128x128_S128x128_S128x128_S1024x128_d0

/-- Keys times stacked queries: one row for each key of the window, one column for each head and row. -/
def scoreT (q : Vec F S1x128x512 .bf16) (k : Vec F S1x256x128 .bf16) : FVec F S256x1024 .f32 :=
  matmul dot_S256x128_S1024x128_S256x1024_1_1_0_0_n_n none (shapeCast S256x128 k shapeCasts_S1x256x128_S256x128) (stackQ q)
    (constant S256x1024 .f32 0x00000000#32)

/-- The signed distance of a query row from a key of the window, `w` the distance of their starts. -/
def relT (w : BitVec 32) : IVec S256x128 32 :=
  addi (subi (iota .tc S256x128 32 [1] iota_S256x128_d1_w32) (iota .tc S256x128 32 [0] iota_S256x128_d0_w32)) (broadcast S256x128 w)

/-- Zero inside the band of width 128, the mask outside. -/
def biasT (w : BitVec 32) : FVec F S256x128 .f32 :=
  select (andi (cmpi .sge (relT w) (broadcast S256x128 0#32)) (cmpi .slt (relT w) (broadcast S256x128 128#32)))
    (broadcast S256x128 (Scalar.ofBits .f32 0x00000000#32)) (broadcast S256x128 (Named.named κ "mask" 0xF149F2CA#32))

/-- One head's scores with the mask added. -/
def headS (o : ℕ) (h : S256x1024.Slices ![0, o] S256x128) (b : FVec F S256x128 .f32) (st : FVec F S256x1024 .f32) :
    FVec F S256x128 .f32 :=
  addf (extractStridedSlice S256x128 ![0, o] st h) b

/-- A sink in the kernel's base. -/
def sinkT (x : Elt F .f32) : FVec F S1x128 .f32 := broadcast S1x128 (Scalar.mulf x (Named.named κ "log2e" 0x3FB8AA3B#32))

/-- The greatest of a head's scores and its sink, for each row. -/
def headM (s : FVec F S256x128 .f32) (x : Elt F .f32) : FVec F S1x128 .f32 :=
  maximumf (shapeCast S1x128 (multiReduction .maximumf [0] S128 s 0xFF800000#32 reduces_S256x128_S128 (.inl rfl) rfl)
    shapeCasts_S128_S1x128) (sinkT x)

/-- The sink's share of a row's denominator. -/
def headE (s : FVec F S256x128 .f32) (x : Elt F .f32) : FVec F S1x128 .f32 := exp2 (subf (sinkT x) (headM s x))

/-- The unnormalised weights of a head. -/
def headP (s : FVec F S256x128 .f32) (x : Elt F .f32) : FVec F S256x128 .bf16 :=
  truncf .bf16 (exp2 (subf s (broadcastTo S256x128 (headM s x) broadcasts_S1x128_S256x128))) bitsLt_bf16_f32

/-- Values times weights for the four heads of a group. -/
def groupO (v : Vec F S1x80x256 .bf16) (s0 s1 s2 s3 : FVec F S256x128 .f32) (x0 x1 x2 x3 : Elt F .f32) : FVec F S80x512 .f32 :=
  matmul dot_S80x256_S256x512_S80x512_1_0_0_1_n_n none (shapeCast S80x256 v shapeCasts_S1x80x256_S80x256)
    (concatenate S256x512 1 [⟨S256x128, headP s0 x0⟩, ⟨S256x128, headP s1 x1⟩, ⟨S256x128, headP s2 x2⟩, ⟨S256x128, headP s3 x3⟩]
      concatenates_S256x128_S256x128_S256x128_S256x128_S256x512_d1)
    (constant S80x512 .f32 0x00000000#32)

/-- The reciprocal of the denominators of a group. -/
def groupL (v : Vec F S1x80x256 .bf16) (s0 s1 s2 s3 : FVec F S256x128 .f32) (x0 x1 x2 x3 : Elt F .f32) : FVec F S1x512 .f32 :=
  divf (broadcast S1x512 (Scalar.ofBits .f32 0x3F800000#32))
    (addf (extractStridedSlice S1x512 ![64, 0] (groupO v s0 s1 s2 s3 x0 x1 x2 x3) slices_S80x512_o64_0_S1x512)
      (concatenate S1x512 1 [⟨S1x128, headE s0 x0⟩, ⟨S1x128, headE s1 x1⟩, ⟨S1x128, headE s2 x2⟩, ⟨S1x128, headE s3 x3⟩]
        concatenates_S1x128_S1x128_S1x128_S1x128_S1x512_d1))

/-- One group's half of an output tile, still with the rows along the lanes. -/
def halfT (o : ℕ) (h1 : S80x512.Slices ![0, o] S64x128) (h2 : S1x512.Slices ![0, o] S1x128)
    (v : Vec F S1x80x256 .bf16) (s0 s1 s2 s3 : FVec F S256x128 .f32) (x0 x1 x2 x3 : Elt F .f32) : FVec F S64x128 .f32 :=
  mulf (extractStridedSlice S64x128 ![0, o] (groupO v s0 s1 s2 s3 x0 x1 x2 x3) h1)
    (broadcastTo S64x128 (extractStridedSlice S1x128 ![0, o] (groupL v s0 s1 s2 s3 x0 x1 x2 x3) h2) broadcasts_S1x128_S64x128)

/-- An output tile: column block `o`, for both groups. -/
def tile (o : ℕ) (h1 : S80x512.Slices ![0, o] S64x128) (h2 : S1x512.Slices ![0, o] S1x128)
    (q : Vec F S1x128x512 .bf16) (k : Vec F S1x256x128 .bf16) (va vb : Vec F S1x80x256 .bf16) (w : BitVec 32)
    (x0 x1 x2 x3 x4 x5 x6 x7 : Elt F .f32) : FVec F S1x128x128 .bf16 :=
  shapeCast S1x128x128 (truncf .bf16 (transpose S128x128 [1, 0]
    (concatenate S128x128 0
      [⟨S64x128, halfT o h1 h2 va
        (headS 0 slices_S256x1024_o0_0_S256x128 (biasT w) (scoreT q k)) (headS 128 slices_S256x1024_o0_128_S256x128 (biasT w) (scoreT q k))
        (headS 256 slices_S256x1024_o0_256_S256x128 (biasT w) (scoreT q k)) (headS 384 slices_S256x1024_o0_384_S256x128 (biasT w) (scoreT q k))
        x0 x1 x2 x3⟩,
       ⟨S64x128, halfT o h1 h2 vb
        (headS 512 slices_S256x1024_o0_512_S256x128 (biasT w) (scoreT q k)) (headS 640 slices_S256x1024_o0_640_S256x128 (biasT w) (scoreT q k))
        (headS 768 slices_S256x1024_o0_768_S256x128 (biasT w) (scoreT q k)) (headS 896 slices_S256x1024_o0_896_S256x128 (biasT w) (scoreT q k))
        x4 x5 x6 x7⟩] concatenates_S64x128_S64x128_S128x128_d0)
    transposes_S128x128_p1_0_S128x128) bitsLt_bf16_f32) shapeCasts_S128x128_S1x128x128

/-- The distance of the first row of run `r` from the first key of its window. -/
def relW (i : grid0.Coords) (r : BitVec 32) : BitVec 32 :=
  let a : BitVec 32 := Scalar.muli (Scalar.addi (Scalar.muli (BitVec.ofNat 32 (i 1).val) 16#32) r) 128#32
  Scalar.subi a (Scalar.minsi 1792#32 (Scalar.maxsi 0#32 (Scalar.subi (Scalar.addi a 128#32) 256#32)))

section Pieces

variable (c : Dev nD) (i : grid0.Coords)
  (arg2 : Memref sig .tc .vmem S1x2048x512 .bf16) (harg2 : arg2.IsWhole)
  (arg3 : Memref sig .tc .vmem S1x2048x128 .bf16) (harg3 : arg3.IsWhole)
  (arg4 : Memref sig .tc .vmem S1x160x2048 .bf16) (harg4 : arg4.IsWhole)
  (arg5 : Memref sig .tc .smem S8 .f32) (harg5 : arg5.IsWhole)
  (arg6 : Memref sig .tc .vmem S1x2048x512 .bf16) (harg6 : arg6.IsWhole)
  (x0 : Vec F S1x2048x512 .bf16) (x1 : Vec F S1x2048x128 .bf16) (x2 : Vec F S1x160x2048 .bf16) (x3 : Vec F S8 .f32)

/-- A sink as the run reads it. -/
def sinkAt (arg5 : Memref sig .tc .smem S8 .f32) (harg5 : arg5.IsWhole) (x3 : Vec F S8 .f32) (j : ℕ)
    (h : ∀ a, (![j] : Fin 1 → ℕ) a + S1.size a ≤ S8.size a) : Elt F .f32 :=
  View.readAt (Elt F) arg5.view (Rect.unit (s := S8) ![j] S1.size h).toLoadRect (harg5.unread x3) (Shape.Idx.first (show 0 < S1.numel by rw [numel1_S1]; exact Nat.one_pos))

/-- The tile of rows `n` to `n + 127` and column block `o`, over the buffers the run holds. -/
def tileAt (o n : ℕ) (h1 : S80x512.Slices ![0, o] S64x128) (h2 : S1x512.Slices ![0, o] S1x128)
    (hn : ∀ a, (![0, n, 0] : Fin 3 → ℕ) a + S1x128x512.size a ≤ S1x2048x512.size a) (r : Fin 16) : FVec F S1x128x128 .bf16 :=
  tile o h1 h2
    (View.readAt (Elt F) arg2.view (Rect.unit (s := S1x2048x512) ![0, n, 0] S1x128x512.size hn).toLoadRect (harg2.unread x0))
    (View.readAt (Elt F) arg3.view (Rect.unit (s := S1x2048x128) (k0_off1 i (BitVec.ofNat 32 r.val)) S1x256x128.size (k0_off1_inb i r)).toLoadRect (harg3.unread x1))
    (View.readAt (Elt F) arg4.view (Rect.unit (s := S1x160x2048) (k0_off2 i (BitVec.ofNat 32 r.val)) S1x80x256.size (k0_off2_inb i r)).toLoadRect (harg4.unread x2))
    (View.readAt (Elt F) arg4.view (Rect.unit (s := S1x160x2048) (k0_off3 i (BitVec.ofNat 32 r.val)) S1x80x256.size (k0_off3_inb i r)).toLoadRect (harg4.unread x2))
    (relW i (BitVec.ofNat 32 r.val))
    (sinkAt arg5 harg5 x3 0 inb_S8_S1_0) (sinkAt arg5 harg5 x3 1 inb_S8_S1_1) (sinkAt arg5 harg5 x3 2 inb_S8_S1_2) (sinkAt arg5 harg5 x3 3 inb_S8_S1_3)
    (sinkAt arg5 harg5 x3 4 inb_S8_S1_4) (sinkAt arg5 harg5 x3 5 inb_S8_S1_5) (sinkAt arg5 harg5 x3 6 inb_S8_S1_6) (sinkAt arg5 harg5 x3 7 inb_S8_S1_7)

/-- What the run stores, last first, is those tiles. -/
theorem pieces_eq :
    (kernelRun0_A (F := F) c i arg2 harg2 arg3 harg3 arg4 harg4 arg5 harg5 arg6 harg6 x0 x1 x2 x3).1 = [
    ⟨Rect.unit (s := S1x2048x512) ![0, 1920, 384] S1x128x128.size inb_S1x2048x512_S1x128x128_0_1920_384,
      tileAt i arg2 harg2 arg3 harg3 arg4 harg4 arg5 harg5 x0 x1 x2 x3 384 1920 slices_S80x512_o0_384_S64x128 slices_S1x512_o0_384_S1x128 inb_S1x2048x512_S1x128x512_0_1920_0 15⟩,
    ⟨Rect.unit (s := S1x2048x512) ![0, 1920, 256] S1x128x128.size inb_S1x2048x512_S1x128x128_0_1920_256,
      tileAt i arg2 harg2 arg3 harg3 arg4 harg4 arg5 harg5 x0 x1 x2 x3 256 1920 slices_S80x512_o0_256_S64x128 slices_S1x512_o0_256_S1x128 inb_S1x2048x512_S1x128x512_0_1920_0 15⟩,
    ⟨Rect.unit (s := S1x2048x512) ![0, 1920, 128] S1x128x128.size inb_S1x2048x512_S1x128x128_0_1920_128,
      tileAt i arg2 harg2 arg3 harg3 arg4 harg4 arg5 harg5 x0 x1 x2 x3 128 1920 slices_S80x512_o0_128_S64x128 slices_S1x512_o0_128_S1x128 inb_S1x2048x512_S1x128x512_0_1920_0 15⟩,
    ⟨Rect.unit (s := S1x2048x512) ![0, 1920, 0] S1x128x128.size inb_S1x2048x512_S1x128x128_0_1920_0,
      tileAt i arg2 harg2 arg3 harg3 arg4 harg4 arg5 harg5 x0 x1 x2 x3 0 1920 slices_S80x512_o0_0_S64x128 slices_S1x512_o0_0_S1x128 inb_S1x2048x512_S1x128x512_0_1920_0 15⟩,
    ⟨Rect.unit (s := S1x2048x512) ![0, 1792, 384] S1x128x128.size inb_S1x2048x512_S1x128x128_0_1792_384,
      tileAt i arg2 harg2 arg3 harg3 arg4 harg4 arg5 harg5 x0 x1 x2 x3 384 1792 slices_S80x512_o0_384_S64x128 slices_S1x512_o0_384_S1x128 inb_S1x2048x512_S1x128x512_0_1792_0 14⟩,
    ⟨Rect.unit (s := S1x2048x512) ![0, 1792, 256] S1x128x128.size inb_S1x2048x512_S1x128x128_0_1792_256,
      tileAt i arg2 harg2 arg3 harg3 arg4 harg4 arg5 harg5 x0 x1 x2 x3 256 1792 slices_S80x512_o0_256_S64x128 slices_S1x512_o0_256_S1x128 inb_S1x2048x512_S1x128x512_0_1792_0 14⟩,
    ⟨Rect.unit (s := S1x2048x512) ![0, 1792, 128] S1x128x128.size inb_S1x2048x512_S1x128x128_0_1792_128,
      tileAt i arg2 harg2 arg3 harg3 arg4 harg4 arg5 harg5 x0 x1 x2 x3 128 1792 slices_S80x512_o0_128_S64x128 slices_S1x512_o0_128_S1x128 inb_S1x2048x512_S1x128x512_0_1792_0 14⟩,
    ⟨Rect.unit (s := S1x2048x512) ![0, 1792, 0] S1x128x128.size inb_S1x2048x512_S1x128x128_0_1792_0,
      tileAt i arg2 harg2 arg3 harg3 arg4 harg4 arg5 harg5 x0 x1 x2 x3 0 1792 slices_S80x512_o0_0_S64x128 slices_S1x512_o0_0_S1x128 inb_S1x2048x512_S1x128x512_0_1792_0 14⟩,
    ⟨Rect.unit (s := S1x2048x512) ![0, 1664, 384] S1x128x128.size inb_S1x2048x512_S1x128x128_0_1664_384,
      tileAt i arg2 harg2 arg3 harg3 arg4 harg4 arg5 harg5 x0 x1 x2 x3 384 1664 slices_S80x512_o0_384_S64x128 slices_S1x512_o0_384_S1x128 inb_S1x2048x512_S1x128x512_0_1664_0 13⟩,
    ⟨Rect.unit (s := S1x2048x512) ![0, 1664, 256] S1x128x128.size inb_S1x2048x512_S1x128x128_0_1664_256,
      tileAt i arg2 harg2 arg3 harg3 arg4 harg4 arg5 harg5 x0 x1 x2 x3 256 1664 slices_S80x512_o0_256_S64x128 slices_S1x512_o0_256_S1x128 inb_S1x2048x512_S1x128x512_0_1664_0 13⟩,
    ⟨Rect.unit (s := S1x2048x512) ![0, 1664, 128] S1x128x128.size inb_S1x2048x512_S1x128x128_0_1664_128,
      tileAt i arg2 harg2 arg3 harg3 arg4 harg4 arg5 harg5 x0 x1 x2 x3 128 1664 slices_S80x512_o0_128_S64x128 slices_S1x512_o0_128_S1x128 inb_S1x2048x512_S1x128x512_0_1664_0 13⟩,
    ⟨Rect.unit (s := S1x2048x512) ![0, 1664, 0] S1x128x128.size inb_S1x2048x512_S1x128x128_0_1664_0,
      tileAt i arg2 harg2 arg3 harg3 arg4 harg4 arg5 harg5 x0 x1 x2 x3 0 1664 slices_S80x512_o0_0_S64x128 slices_S1x512_o0_0_S1x128 inb_S1x2048x512_S1x128x512_0_1664_0 13⟩,
    ⟨Rect.unit (s := S1x2048x512) ![0, 1536, 384] S1x128x128.size inb_S1x2048x512_S1x128x128_0_1536_384,
      tileAt i arg2 harg2 arg3 harg3 arg4 harg4 arg5 harg5 x0 x1 x2 x3 384 1536 slices_S80x512_o0_384_S64x128 slices_S1x512_o0_384_S1x128 inb_S1x2048x512_S1x128x512_0_1536_0 12⟩,
    ⟨Rect.unit (s := S1x2048x512) ![0, 1536, 256] S1x128x128.size inb_S1x2048x512_S1x128x128_0_1536_256,
      tileAt i arg2 harg2 arg3 harg3 arg4 harg4 arg5 harg5 x0 x1 x2 x3 256 1536 slices_S80x512_o0_256_S64x128 slices_S1x512_o0_256_S1x128 inb_S1x2048x512_S1x128x512_0_1536_0 12⟩,
    ⟨Rect.unit (s := S1x2048x512) ![0, 1536, 128] S1x128x128.size inb_S1x2048x512_S1x128x128_0_1536_128,
      tileAt i arg2 harg2 arg3 harg3 arg4 harg4 arg5 harg5 x0 x1 x2 x3 128 1536 slices_S80x512_o0_128_S64x128 slices_S1x512_o0_128_S1x128 inb_S1x2048x512_S1x128x512_0_1536_0 12⟩,
    ⟨Rect.unit (s := S1x2048x512) ![0, 1536, 0] S1x128x128.size inb_S1x2048x512_S1x128x128_0_1536_0,
      tileAt i arg2 harg2 arg3 harg3 arg4 harg4 arg5 harg5 x0 x1 x2 x3 0 1536 slices_S80x512_o0_0_S64x128 slices_S1x512_o0_0_S1x128 inb_S1x2048x512_S1x128x512_0_1536_0 12⟩,
    ⟨Rect.unit (s := S1x2048x512) ![0, 1408, 384] S1x128x128.size inb_S1x2048x512_S1x128x128_0_1408_384,
      tileAt i arg2 harg2 arg3 harg3 arg4 harg4 arg5 harg5 x0 x1 x2 x3 384 1408 slices_S80x512_o0_384_S64x128 slices_S1x512_o0_384_S1x128 inb_S1x2048x512_S1x128x512_0_1408_0 11⟩,
    ⟨Rect.unit (s := S1x2048x512) ![0, 1408, 256] S1x128x128.size inb_S1x2048x512_S1x128x128_0_1408_256,
      tileAt i arg2 harg2 arg3 harg3 arg4 harg4 arg5 harg5 x0 x1 x2 x3 256 1408 slices_S80x512_o0_256_S64x128 slices_S1x512_o0_256_S1x128 inb_S1x2048x512_S1x128x512_0_1408_0 11⟩,
    ⟨Rect.unit (s := S1x2048x512) ![0, 1408, 128] S1x128x128.size inb_S1x2048x512_S1x128x128_0_1408_128,
      tileAt i arg2 harg2 arg3 harg3 arg4 harg4 arg5 harg5 x0 x1 x2 x3 128 1408 slices_S80x512_o0_128_S64x128 slices_S1x512_o0_128_S1x128 inb_S1x2048x512_S1x128x512_0_1408_0 11⟩,
    ⟨Rect.unit (s := S1x2048x512) ![0, 1408, 0] S1x128x128.size inb_S1x2048x512_S1x128x128_0_1408_0,
      tileAt i arg2 harg2 arg3 harg3 arg4 harg4 arg5 harg5 x0 x1 x2 x3 0 1408 slices_S80x512_o0_0_S64x128 slices_S1x512_o0_0_S1x128 inb_S1x2048x512_S1x128x512_0_1408_0 11⟩,
    ⟨Rect.unit (s := S1x2048x512) ![0, 1280, 384] S1x128x128.size inb_S1x2048x512_S1x128x128_0_1280_384,
      tileAt i arg2 harg2 arg3 harg3 arg4 harg4 arg5 harg5 x0 x1 x2 x3 384 1280 slices_S80x512_o0_384_S64x128 slices_S1x512_o0_384_S1x128 inb_S1x2048x512_S1x128x512_0_1280_0 10⟩,
    ⟨Rect.unit (s := S1x2048x512) ![0, 1280, 256] S1x128x128.size inb_S1x2048x512_S1x128x128_0_1280_256,
      tileAt i arg2 harg2 arg3 harg3 arg4 harg4 arg5 harg5 x0 x1 x2 x3 256 1280 slices_S80x512_o0_256_S64x128 slices_S1x512_o0_256_S1x128 inb_S1x2048x512_S1x128x512_0_1280_0 10⟩,
    ⟨Rect.unit (s := S1x2048x512) ![0, 1280, 128] S1x128x128.size inb_S1x2048x512_S1x128x128_0_1280_128,
      tileAt i arg2 harg2 arg3 harg3 arg4 harg4 arg5 harg5 x0 x1 x2 x3 128 1280 slices_S80x512_o0_128_S64x128 slices_S1x512_o0_128_S1x128 inb_S1x2048x512_S1x128x512_0_1280_0 10⟩,
    ⟨Rect.unit (s := S1x2048x512) ![0, 1280, 0] S1x128x128.size inb_S1x2048x512_S1x128x128_0_1280_0,
      tileAt i arg2 harg2 arg3 harg3 arg4 harg4 arg5 harg5 x0 x1 x2 x3 0 1280 slices_S80x512_o0_0_S64x128 slices_S1x512_o0_0_S1x128 inb_S1x2048x512_S1x128x512_0_1280_0 10⟩,
    ⟨Rect.unit (s := S1x2048x512) ![0, 1152, 384] S1x128x128.size inb_S1x2048x512_S1x128x128_0_1152_384,
      tileAt i arg2 harg2 arg3 harg3 arg4 harg4 arg5 harg5 x0 x1 x2 x3 384 1152 slices_S80x512_o0_384_S64x128 slices_S1x512_o0_384_S1x128 inb_S1x2048x512_S1x128x512_0_1152_0 9⟩,
    ⟨Rect.unit (s := S1x2048x512) ![0, 1152, 256] S1x128x128.size inb_S1x2048x512_S1x128x128_0_1152_256,
      tileAt i arg2 harg2 arg3 harg3 arg4 harg4 arg5 harg5 x0 x1 x2 x3 256 1152 slices_S80x512_o0_256_S64x128 slices_S1x512_o0_256_S1x128 inb_S1x2048x512_S1x128x512_0_1152_0 9⟩,
    ⟨Rect.unit (s := S1x2048x512) ![0, 1152, 128] S1x128x128.size inb_S1x2048x512_S1x128x128_0_1152_128,
      tileAt i arg2 harg2 arg3 harg3 arg4 harg4 arg5 harg5 x0 x1 x2 x3 128 1152 slices_S80x512_o0_128_S64x128 slices_S1x512_o0_128_S1x128 inb_S1x2048x512_S1x128x512_0_1152_0 9⟩,
    ⟨Rect.unit (s := S1x2048x512) ![0, 1152, 0] S1x128x128.size inb_S1x2048x512_S1x128x128_0_1152_0,
      tileAt i arg2 harg2 arg3 harg3 arg4 harg4 arg5 harg5 x0 x1 x2 x3 0 1152 slices_S80x512_o0_0_S64x128 slices_S1x512_o0_0_S1x128 inb_S1x2048x512_S1x128x512_0_1152_0 9⟩,
    ⟨Rect.unit (s := S1x2048x512) ![0, 1024, 384] S1x128x128.size inb_S1x2048x512_S1x128x128_0_1024_384,
      tileAt i arg2 harg2 arg3 harg3 arg4 harg4 arg5 harg5 x0 x1 x2 x3 384 1024 slices_S80x512_o0_384_S64x128 slices_S1x512_o0_384_S1x128 inb_S1x2048x512_S1x128x512_0_1024_0 8⟩,
    ⟨Rect.unit (s := S1x2048x512) ![0, 1024, 256] S1x128x128.size inb_S1x2048x512_S1x128x128_0_1024_256,
      tileAt i arg2 harg2 arg3 harg3 arg4 harg4 arg5 harg5 x0 x1 x2 x3 256 1024 slices_S80x512_o0_256_S64x128 slices_S1x512_o0_256_S1x128 inb_S1x2048x512_S1x128x512_0_1024_0 8⟩,
    ⟨Rect.unit (s := S1x2048x512) ![0, 1024, 128] S1x128x128.size inb_S1x2048x512_S1x128x128_0_1024_128,
      tileAt i arg2 harg2 arg3 harg3 arg4 harg4 arg5 harg5 x0 x1 x2 x3 128 1024 slices_S80x512_o0_128_S64x128 slices_S1x512_o0_128_S1x128 inb_S1x2048x512_S1x128x512_0_1024_0 8⟩,
    ⟨Rect.unit (s := S1x2048x512) ![0, 1024, 0] S1x128x128.size inb_S1x2048x512_S1x128x128_0_1024_0,
      tileAt i arg2 harg2 arg3 harg3 arg4 harg4 arg5 harg5 x0 x1 x2 x3 0 1024 slices_S80x512_o0_0_S64x128 slices_S1x512_o0_0_S1x128 inb_S1x2048x512_S1x128x512_0_1024_0 8⟩,
    ⟨Rect.unit (s := S1x2048x512) ![0, 896, 384] S1x128x128.size inb_S1x2048x512_S1x128x128_0_896_384,
      tileAt i arg2 harg2 arg3 harg3 arg4 harg4 arg5 harg5 x0 x1 x2 x3 384 896 slices_S80x512_o0_384_S64x128 slices_S1x512_o0_384_S1x128 inb_S1x2048x512_S1x128x512_0_896_0 7⟩,
    ⟨Rect.unit (s := S1x2048x512) ![0, 896, 256] S1x128x128.size inb_S1x2048x512_S1x128x128_0_896_256,
      tileAt i arg2 harg2 arg3 harg3 arg4 harg4 arg5 harg5 x0 x1 x2 x3 256 896 slices_S80x512_o0_256_S64x128 slices_S1x512_o0_256_S1x128 inb_S1x2048x512_S1x128x512_0_896_0 7⟩,
    ⟨Rect.unit (s := S1x2048x512) ![0, 896, 128] S1x128x128.size inb_S1x2048x512_S1x128x128_0_896_128,
      tileAt i arg2 harg2 arg3 harg3 arg4 harg4 arg5 harg5 x0 x1 x2 x3 128 896 slices_S80x512_o0_128_S64x128 slices_S1x512_o0_128_S1x128 inb_S1x2048x512_S1x128x512_0_896_0 7⟩,
    ⟨Rect.unit (s := S1x2048x512) ![0, 896, 0] S1x128x128.size inb_S1x2048x512_S1x128x128_0_896_0,
      tileAt i arg2 harg2 arg3 harg3 arg4 harg4 arg5 harg5 x0 x1 x2 x3 0 896 slices_S80x512_o0_0_S64x128 slices_S1x512_o0_0_S1x128 inb_S1x2048x512_S1x128x512_0_896_0 7⟩,
    ⟨Rect.unit (s := S1x2048x512) ![0, 768, 384] S1x128x128.size inb_S1x2048x512_S1x128x128_0_768_384,
      tileAt i arg2 harg2 arg3 harg3 arg4 harg4 arg5 harg5 x0 x1 x2 x3 384 768 slices_S80x512_o0_384_S64x128 slices_S1x512_o0_384_S1x128 inb_S1x2048x512_S1x128x512_0_768_0 6⟩,
    ⟨Rect.unit (s := S1x2048x512) ![0, 768, 256] S1x128x128.size inb_S1x2048x512_S1x128x128_0_768_256,
      tileAt i arg2 harg2 arg3 harg3 arg4 harg4 arg5 harg5 x0 x1 x2 x3 256 768 slices_S80x512_o0_256_S64x128 slices_S1x512_o0_256_S1x128 inb_S1x2048x512_S1x128x512_0_768_0 6⟩,
    ⟨Rect.unit (s := S1x2048x512) ![0, 768, 128] S1x128x128.size inb_S1x2048x512_S1x128x128_0_768_128,
      tileAt i arg2 harg2 arg3 harg3 arg4 harg4 arg5 harg5 x0 x1 x2 x3 128 768 slices_S80x512_o0_128_S64x128 slices_S1x512_o0_128_S1x128 inb_S1x2048x512_S1x128x512_0_768_0 6⟩,
    ⟨Rect.unit (s := S1x2048x512) ![0, 768, 0] S1x128x128.size inb_S1x2048x512_S1x128x128_0_768_0,
      tileAt i arg2 harg2 arg3 harg3 arg4 harg4 arg5 harg5 x0 x1 x2 x3 0 768 slices_S80x512_o0_0_S64x128 slices_S1x512_o0_0_S1x128 inb_S1x2048x512_S1x128x512_0_768_0 6⟩,
    ⟨Rect.unit (s := S1x2048x512) ![0, 640, 384] S1x128x128.size inb_S1x2048x512_S1x128x128_0_640_384,
      tileAt i arg2 harg2 arg3 harg3 arg4 harg4 arg5 harg5 x0 x1 x2 x3 384 640 slices_S80x512_o0_384_S64x128 slices_S1x512_o0_384_S1x128 inb_S1x2048x512_S1x128x512_0_640_0 5⟩,
    ⟨Rect.unit (s := S1x2048x512) ![0, 640, 256] S1x128x128.size inb_S1x2048x512_S1x128x128_0_640_256,
      tileAt i arg2 harg2 arg3 harg3 arg4 harg4 arg5 harg5 x0 x1 x2 x3 256 640 slices_S80x512_o0_256_S64x128 slices_S1x512_o0_256_S1x128 inb_S1x2048x512_S1x128x512_0_640_0 5⟩,
    ⟨Rect.unit (s := S1x2048x512) ![0, 640, 128] S1x128x128.size inb_S1x2048x512_S1x128x128_0_640_128,
      tileAt i arg2 harg2 arg3 harg3 arg4 harg4 arg5 harg5 x0 x1 x2 x3 128 640 slices_S80x512_o0_128_S64x128 slices_S1x512_o0_128_S1x128 inb_S1x2048x512_S1x128x512_0_640_0 5⟩,
    ⟨Rect.unit (s := S1x2048x512) ![0, 640, 0] S1x128x128.size inb_S1x2048x512_S1x128x128_0_640_0,
      tileAt i arg2 harg2 arg3 harg3 arg4 harg4 arg5 harg5 x0 x1 x2 x3 0 640 slices_S80x512_o0_0_S64x128 slices_S1x512_o0_0_S1x128 inb_S1x2048x512_S1x128x512_0_640_0 5⟩,
    ⟨Rect.unit (s := S1x2048x512) ![0, 512, 384] S1x128x128.size inb_S1x2048x512_S1x128x128_0_512_384,
      tileAt i arg2 harg2 arg3 harg3 arg4 harg4 arg5 harg5 x0 x1 x2 x3 384 512 slices_S80x512_o0_384_S64x128 slices_S1x512_o0_384_S1x128 inb_S1x2048x512_S1x128x512_0_512_0 4⟩,
    ⟨Rect.unit (s := S1x2048x512) ![0, 512, 256] S1x128x128.size inb_S1x2048x512_S1x128x128_0_512_256,
      tileAt i arg2 harg2 arg3 harg3 arg4 harg4 arg5 harg5 x0 x1 x2 x3 256 512 slices_S80x512_o0_256_S64x128 slices_S1x512_o0_256_S1x128 inb_S1x2048x512_S1x128x512_0_512_0 4⟩,
    ⟨Rect.unit (s := S1x2048x512) ![0, 512, 128] S1x128x128.size inb_S1x2048x512_S1x128x128_0_512_128,
      tileAt i arg2 harg2 arg3 harg3 arg4 harg4 arg5 harg5 x0 x1 x2 x3 128 512 slices_S80x512_o0_128_S64x128 slices_S1x512_o0_128_S1x128 inb_S1x2048x512_S1x128x512_0_512_0 4⟩,
    ⟨Rect.unit (s := S1x2048x512) ![0, 512, 0] S1x128x128.size inb_S1x2048x512_S1x128x128_0_512_0,
      tileAt i arg2 harg2 arg3 harg3 arg4 harg4 arg5 harg5 x0 x1 x2 x3 0 512 slices_S80x512_o0_0_S64x128 slices_S1x512_o0_0_S1x128 inb_S1x2048x512_S1x128x512_0_512_0 4⟩,
    ⟨Rect.unit (s := S1x2048x512) ![0, 384, 384] S1x128x128.size inb_S1x2048x512_S1x128x128_0_384_384,
      tileAt i arg2 harg2 arg3 harg3 arg4 harg4 arg5 harg5 x0 x1 x2 x3 384 384 slices_S80x512_o0_384_S64x128 slices_S1x512_o0_384_S1x128 inb_S1x2048x512_S1x128x512_0_384_0 3⟩,
    ⟨Rect.unit (s := S1x2048x512) ![0, 384, 256] S1x128x128.size inb_S1x2048x512_S1x128x128_0_384_256,
      tileAt i arg2 harg2 arg3 harg3 arg4 harg4 arg5 harg5 x0 x1 x2 x3 256 384 slices_S80x512_o0_256_S64x128 slices_S1x512_o0_256_S1x128 inb_S1x2048x512_S1x128x512_0_384_0 3⟩,
    ⟨Rect.unit (s := S1x2048x512) ![0, 384, 128] S1x128x128.size inb_S1x2048x512_S1x128x128_0_384_128,
      tileAt i arg2 harg2 arg3 harg3 arg4 harg4 arg5 harg5 x0 x1 x2 x3 128 384 slices_S80x512_o0_128_S64x128 slices_S1x512_o0_128_S1x128 inb_S1x2048x512_S1x128x512_0_384_0 3⟩,
    ⟨Rect.unit (s := S1x2048x512) ![0, 384, 0] S1x128x128.size inb_S1x2048x512_S1x128x128_0_384_0,
      tileAt i arg2 harg2 arg3 harg3 arg4 harg4 arg5 harg5 x0 x1 x2 x3 0 384 slices_S80x512_o0_0_S64x128 slices_S1x512_o0_0_S1x128 inb_S1x2048x512_S1x128x512_0_384_0 3⟩,
    ⟨Rect.unit (s := S1x2048x512) ![0, 256, 384] S1x128x128.size inb_S1x2048x512_S1x128x128_0_256_384,
      tileAt i arg2 harg2 arg3 harg3 arg4 harg4 arg5 harg5 x0 x1 x2 x3 384 256 slices_S80x512_o0_384_S64x128 slices_S1x512_o0_384_S1x128 inb_S1x2048x512_S1x128x512_0_256_0 2⟩,
    ⟨Rect.unit (s := S1x2048x512) ![0, 256, 256] S1x128x128.size inb_S1x2048x512_S1x128x128_0_256_256,
      tileAt i arg2 harg2 arg3 harg3 arg4 harg4 arg5 harg5 x0 x1 x2 x3 256 256 slices_S80x512_o0_256_S64x128 slices_S1x512_o0_256_S1x128 inb_S1x2048x512_S1x128x512_0_256_0 2⟩,
    ⟨Rect.unit (s := S1x2048x512) ![0, 256, 128] S1x128x128.size inb_S1x2048x512_S1x128x128_0_256_128,
      tileAt i arg2 harg2 arg3 harg3 arg4 harg4 arg5 harg5 x0 x1 x2 x3 128 256 slices_S80x512_o0_128_S64x128 slices_S1x512_o0_128_S1x128 inb_S1x2048x512_S1x128x512_0_256_0 2⟩,
    ⟨Rect.unit (s := S1x2048x512) ![0, 256, 0] S1x128x128.size inb_S1x2048x512_S1x128x128_0_256_0,
      tileAt i arg2 harg2 arg3 harg3 arg4 harg4 arg5 harg5 x0 x1 x2 x3 0 256 slices_S80x512_o0_0_S64x128 slices_S1x512_o0_0_S1x128 inb_S1x2048x512_S1x128x512_0_256_0 2⟩,
    ⟨Rect.unit (s := S1x2048x512) ![0, 128, 384] S1x128x128.size inb_S1x2048x512_S1x128x128_0_128_384,
      tileAt i arg2 harg2 arg3 harg3 arg4 harg4 arg5 harg5 x0 x1 x2 x3 384 128 slices_S80x512_o0_384_S64x128 slices_S1x512_o0_384_S1x128 inb_S1x2048x512_S1x128x512_0_128_0 1⟩,
    ⟨Rect.unit (s := S1x2048x512) ![0, 128, 256] S1x128x128.size inb_S1x2048x512_S1x128x128_0_128_256,
      tileAt i arg2 harg2 arg3 harg3 arg4 harg4 arg5 harg5 x0 x1 x2 x3 256 128 slices_S80x512_o0_256_S64x128 slices_S1x512_o0_256_S1x128 inb_S1x2048x512_S1x128x512_0_128_0 1⟩,
    ⟨Rect.unit (s := S1x2048x512) ![0, 128, 128] S1x128x128.size inb_S1x2048x512_S1x128x128_0_128_128,
      tileAt i arg2 harg2 arg3 harg3 arg4 harg4 arg5 harg5 x0 x1 x2 x3 128 128 slices_S80x512_o0_128_S64x128 slices_S1x512_o0_128_S1x128 inb_S1x2048x512_S1x128x512_0_128_0 1⟩,
    ⟨Rect.unit (s := S1x2048x512) ![0, 128, 0] S1x128x128.size inb_S1x2048x512_S1x128x128_0_128_0,
      tileAt i arg2 harg2 arg3 harg3 arg4 harg4 arg5 harg5 x0 x1 x2 x3 0 128 slices_S80x512_o0_0_S64x128 slices_S1x512_o0_0_S1x128 inb_S1x2048x512_S1x128x512_0_128_0 1⟩,
    ⟨Rect.unit (s := S1x2048x512) ![0, 0, 384] S1x128x128.size inb_S1x2048x512_S1x128x128_0_0_384,
      tileAt i arg2 harg2 arg3 harg3 arg4 harg4 arg5 harg5 x0 x1 x2 x3 384 0 slices_S80x512_o0_384_S64x128 slices_S1x512_o0_384_S1x128 inb_S1x2048x512_S1x128x512_0_0_0 0⟩,
    ⟨Rect.unit (s := S1x2048x512) ![0, 0, 256] S1x128x128.size inb_S1x2048x512_S1x128x128_0_0_256,
      tileAt i arg2 harg2 arg3 harg3 arg4 harg4 arg5 harg5 x0 x1 x2 x3 256 0 slices_S80x512_o0_256_S64x128 slices_S1x512_o0_256_S1x128 inb_S1x2048x512_S1x128x512_0_0_0 0⟩,
    ⟨Rect.unit (s := S1x2048x512) ![0, 0, 128] S1x128x128.size inb_S1x2048x512_S1x128x128_0_0_128,
      tileAt i arg2 harg2 arg3 harg3 arg4 harg4 arg5 harg5 x0 x1 x2 x3 128 0 slices_S80x512_o0_128_S64x128 slices_S1x512_o0_128_S1x128 inb_S1x2048x512_S1x128x512_0_0_0 0⟩,
    ⟨Rect.unit (s := S1x2048x512) ![0, 0, 0] S1x128x128.size inb_S1x2048x512_S1x128x128_0_0_0,
      tileAt i arg2 harg2 arg3 harg3 arg4 harg4 arg5 harg5 x0 x1 x2 x3 0 0 slices_S80x512_o0_0_S64x128 slices_S1x512_o0_0_S1x128 inb_S1x2048x512_S1x128x512_0_0_0 0⟩] := by
  sl_kernel_rfl

end Pieces

end Cert.KernelIdeal.Band

end
-- ==== Proof.BandRead.lean ====
module

public import proofs.«01_k».proof.Proof.BandTile
public import Idealize.ShloMosaic.Lib.WordCmp

@[expose] public section

set_option maxRecDepth 16384

noncomputable section

open Idealize.ShloMosaic Idealize.ShloMosaic.TcCoe Idealize.SL.Sem

namespace Cert.KernelIdeal.Band

open Cert.KernelIdeal Cert.KernelIdeal.Gen

/-! The tiles at the ideal instance, read at an index. -/

theorem low_at (r l : Fin 128) : lowLanes (ix2 r l) = if (l : ℕ) % 64 < 32 then 1#1 else 0#1 := by
  pointwise [lowLanes]
  revert l
  decide +kernel

/-- The queries of head `j` of group `g`: the lanes of the other group are zero. -/
def qLane (q : FVec Ideal S1x128x512 .bf16) (g : Fin 2) (j : Fin 4) (r l : Fin 128) : EReal :=
  if ((l : ℕ) % 64 < 32 ↔ g = 0) then q (ix3 0 r ⟨128 * (j : ℕ) + l, by omega⟩) else 0

set_option maxHeartbeats 1000000 in
theorem stackQ_at (q : FVec Ideal S1x128x512 .bf16) (g : Fin 2) (j : Fin 4) (r l : Fin 128) :
    stackQ (F := Ideal) q (ix2 ⟨512 * (g : ℕ) + 128 * (j : ℕ) + r, by omega⟩ l) = qLane q g j r l := by
  have hr := r.isLt
  obtain rfl | rfl : g = 0 ∨ g = 1 := by revert g; decide
  all_goals obtain rfl | rfl | rfl | rfl : j = 0 ∨ j = 1 ∨ j = 2 ∨ j = 3 := by revert j; decide
  all_goals
    pointwise [stackQ, rows, zeroLanes, qLane]
    repeat (first | rw [dif_neg (by omega)] | rw [dif_pos (by omega)])
    simp only [Nat.sub_sub, Nat.reduceAdd, Nat.add_sub_cancel_left, Fin.eta, low_at, iff_true, iff_false]
    by_cases hl : (l : ℕ) % 64 < 32
    · simp [hl, Scalar.select]
    · simp [hl, Scalar.select]

theorem scoreT_at (q : FVec Ideal S1x128x512 .bf16) (k : FVec Ideal S1x256x128 .bf16) (t : Fin 256) (r : Fin 1024) :
    scoreT (F := Ideal) q k (ix2 t r) = ∑ l : Fin 128, k (ix3 0 t l) * stackQ q (ix2 r l) := by
  pointwise [scoreT]

/-- One row of one head of the kernel: the values weighted by the powers of two of the scores less
    their maximum, over the sum of the weights and the sink's weight. `l` is the row of ones that sums the weights. -/
def bandRow (s : Fin 256 → EReal) (x : EReal) (v l : Fin 256 → EReal) : EReal :=
  (∑ t, v t * Ideal.exp2 (s t - max (Finset.fold max ⊥ s Finset.univ) x)) *
    Ideal.div 1 ((∑ t, l t * Ideal.exp2 (s t - max (Finset.fold max ⊥ s Finset.univ) x)) +
      Ideal.exp2 (x - max (Finset.fold max ⊥ s Finset.univ) x))

theorem groupO_at (v : FVec Ideal S1x80x256 .bf16) (s : Fin 4 → FVec Ideal S256x128 .f32) (x : Fin 4 → Ideal .f32) (j : Fin 4) (a : Fin 80) (r : Fin 128) :
    groupO v (s 0) (s 1) (s 2) (s 3) (x 0) (x 1) (x 2) (x 3) (ix2 a ⟨128 * (j : ℕ) + r, by omega⟩) =
      ∑ t : Fin 256, v (ix3 0 a t) * headP (s j) (x j) (ix2 t r) := by
  have hr := r.isLt
  obtain rfl | rfl | rfl | rfl : j = 0 ∨ j = 1 ∨ j = 2 ∨ j = 3 := by revert j; decide
  all_goals pointwise [groupO]
  all_goals
    refine Finset.sum_congr rfl fun t _ => ?_
    repeat (first | rw [dif_neg (by omega)] | rw [dif_pos (by omega)])
    try simp only [Nat.sub_sub, Nat.reduceAdd, Nat.add_sub_cancel_left, Fin.eta]

theorem groupL_at (v : FVec Ideal S1x80x256 .bf16) (s : Fin 4 → FVec Ideal S256x128 .f32) (x : Fin 4 → Ideal .f32) (j : Fin 4) (r : Fin 128) :
    groupL v (s 0) (s 1) (s 2) (s 3) (x 0) (x 1) (x 2) (x 3) (ix2 0 ⟨128 * (j : ℕ) + r, by omega⟩) =
      Ideal.div 1 ((∑ t : Fin 256, v (ix3 0 64 t) * headP (s j) (x j) (ix2 t r)) + headE (s j) (x j) (ix2 0 r)) := by
  have hr := r.isLt
  have hO := groupO_at v s x j 64 r
  rw [← hO]
  clear hO
  obtain rfl | rfl | rfl | rfl : j = 0 ∨ j = 1 ∨ j = 2 ∨ j = 3 := by revert j; decide
  all_goals
    pointwise [groupL]
    repeat (first | rw [dif_neg (by omega)] | rw [dif_pos (by omega)])
    try simp only [Nat.sub_sub, Nat.reduceAdd, Nat.add_sub_cancel_left, Fin.eta]

theorem headM_at (s : FVec Ideal S256x128 .f32) (x : Ideal .f32) (r : Fin 128) :
    headM s x (ix2 0 r) = max (Finset.fold max ⊥ (fun t : Fin 256 => s (ix2 t r)) Finset.univ)
      (x * (((Real.log 2)⁻¹ : ℝ) : EReal)) := by
  have h1 : Ideal.ofBits FTy.f32 0xFF800000#32 = ⊥ := by simp [Ideal.ofBits, Ideal.ieee]
  have h2 : (Named.named κ "log2e" (φ := .f32) 0x3FB8AA3B#32 : Ideal .f32) = (((Real.log 2)⁻¹ : ℝ) : EReal) :=
    IdealRules.named_const.ideal_named_scalar _ _ _ _ rfl
  pointwise [headM, sinkT]
  rw [h1, h2]

theorem headE_at (s : FVec Ideal S256x128 .f32) (x : Ideal .f32) (r : Fin 128) :
    headE s x (ix2 0 r) = Ideal.exp2 (x * (((Real.log 2)⁻¹ : ℝ) : EReal) - headM s x (ix2 0 r)) := by
  have h2 : (Named.named κ "log2e" (φ := .f32) 0x3FB8AA3B#32 : Ideal .f32) = (((Real.log 2)⁻¹ : ℝ) : EReal) :=
    IdealRules.named_const.ideal_named_scalar _ _ _ _ rfl
  pointwise [headE, sinkT]
  rw [h2]
  rfl

theorem headP_at (s : FVec Ideal S256x128 .f32) (x : Ideal .f32) (t : Fin 256) (r : Fin 128) :
    headP s x (ix2 t r) = Ideal.exp2 (s (ix2 t r) - headM s x (ix2 0 r)) := by
  pointwise [headP]
  rfl

theorem biasT_at (δ : ℕ) (hδ : δ ≤ 128) (t : Fin 256) (r : Fin 128) :
    biasT (F := Ideal) (BitVec.ofNat 32 δ) (ix2 t r) = if (t : ℕ) ≤ r + δ ∧ (r : ℕ) + δ < t + 128 then 0 else ⊥ := by
  have h2 : (Named.named κ "mask" (φ := .f32) 0xF149F2CA#32 : Ideal .f32) = ⊥ :=
    IdealRules.named_const.ideal_named_scalar _ _ _ _ rfl
  have hr := r.isLt
  have ht := t.isLt
  have e : IntOp.addi (IntOp.subi (BitVec.ofNat 32 (r : ℕ)) (BitVec.ofNat 32 (t : ℕ))) (BitVec.ofNat 32 δ) =
      BitVec.ofNat 32 ((r : ℕ) + δ + (4294967296 - t)) := by
    apply BitVec.eq_of_toNat_eq
    simp only [IntOp.addi, IntOp.subi, BitVec.toNat_add, BitVec.toNat_sub, BitVec.toNat_ofNat]
    omega
  pointwise [biasT, relT]
  rw [e, WordCmp.andi_sge_zero_slt_ofNat (by decide), WordCmp.select_ofBool, h2, BitVec.toNat_ofNat]
  by_cases h : (t : ℕ) ≤ r + δ ∧ (r : ℕ) + δ < t + 128
  · rw [if_pos h, if_pos (by simp only [decide_eq_true_eq]; omega)]
  · rw [if_neg h, if_neg (by simp only [decide_eq_true_eq]; omega)]

/-- A head's row of a group: the sum of the values over the sum of the weights. -/
theorem halfT_at (o : ℕ) (h1 : S80x512.Slices ![0, o] S64x128) (h2 : S1x512.Slices ![0, o] S1x128) (j : Fin 4) (ho : o = 128 * (j : ℕ))
    (v : FVec Ideal S1x80x256 .bf16) (s : Fin 4 → FVec Ideal S256x128 .f32) (x : Fin 4 → Ideal .f32) (d : Fin 64) (r : Fin 128) :
    halfT o h1 h2 v (s 0) (s 1) (s 2) (s 3) (x 0) (x 1) (x 2) (x 3) (ix2 d r) =
      bandRow (fun t => s j (ix2 t r)) (x j * (((Real.log 2)⁻¹ : ℝ) : EReal)) (fun t => v (ix3 0 ⟨d, by omega⟩ t)) (fun t => v (ix3 0 64 t)) := by
  subst ho
  have e1 := groupO_at v s x j ⟨d, by omega⟩ r
  have e2 := groupL_at v s x j r
  simp only [headP_at, headE_at, headM_at] at e1 e2
  pointwise [halfT]
  rw [e1, e2]
  rfl

theorem headS_at (o : ℕ) (h : S256x1024.Slices ![0, o] S256x128) (b : FVec Ideal S256x128 .f32) (st : FVec Ideal S256x1024 .f32)
    (g : Fin 2) (j : Fin 4) (ho : o = 512 * (g : ℕ) + 128 * (j : ℕ)) (t : Fin 256) (r : Fin 128) :
    headS o h b st (ix2 t r) = st (ix2 t ⟨512 * (g : ℕ) + 128 * (j : ℕ) + r, by omega⟩) + b (ix2 t r) := by
  subst ho
  pointwise [headS]

end Cert.KernelIdeal.Band

end
-- ==== Proof.BandPiece.lean ====
module

public import proofs.«01_k».proof.Proof.BandRead

@[expose] public section

set_option maxRecDepth 16384

noncomputable section

open Idealize.ShloMosaic Idealize.ShloMosaic.TcCoe Idealize.SL.Sem

namespace Cert.KernelIdeal.Band

open Cert.KernelIdeal Cert.KernelIdeal.Gen

/-- The scores of a row of head `j` of group `g` against a window of keys, with the band. -/
def bandScore (q : FVec Ideal S1x128x512 .bf16) (k : FVec Ideal S1x256x128 .bf16) (δ : ℕ) (g : Fin 2) (j : Fin 4) (r : Fin 128) (t : Fin 256) : EReal :=
  (∑ l : Fin 128, k (ix3 0 t l) * qLane q g j r l) + if (t : ℕ) ≤ r + δ ∧ (r : ℕ) + δ < t + 128 then 0 else ⊥

theorem two : ∀ g : Fin 2, g = 0 ∨ g = 1 := by decide

theorem four : ∀ j : Fin 4, j = 0 ∨ j = 1 ∨ j = 2 ∨ j = 3 := by decide

set_option maxHeartbeats 1000000 in
/-- A tile at an index: column `64 * g + d` of the tile of heads `j`. -/
theorem tile_at (o : ℕ) (h1 : S80x512.Slices ![0, o] S64x128) (h2 : S1x512.Slices ![0, o] S1x128) (j : Fin 4) (ho : o = 128 * (j : ℕ))
    (q : FVec Ideal S1x128x512 .bf16) (k : FVec Ideal S1x256x128 .bf16) (v : Fin 2 → FVec Ideal S1x80x256 .bf16) (δ : ℕ) (hδ : δ ≤ 128)
    (x : Fin 2 → Fin 4 → Ideal .f32) (r : Fin 128) (g : Fin 2) (d : Fin 64) :
    tile (F := Ideal) o h1 h2 q k (v 0) (v 1) (BitVec.ofNat 32 δ) (x 0 0) (x 0 1) (x 0 2) (x 0 3) (x 1 0) (x 1 1) (x 1 2) (x 1 3)
        (ix3 0 r ⟨64 * (g : ℕ) + d, by omega⟩) =
      bandRow (bandScore q k δ g j r) (x g j * (((Real.log 2)⁻¹ : ℝ) : EReal)) (fun t => v g (ix3 0 ⟨d, by omega⟩ t)) (fun t => v g (ix3 0 64 t)) := by
  have hd := d.isLt
  have key : ∀ (g : Fin 2) (j' : Fin 4) (o' : ℕ) (h' : S256x1024.Slices ![0, o'] S256x128) (ho' : o' = 512 * (g : ℕ) + 128 * (j' : ℕ)) (t : Fin 256),
      headS (F := Ideal) o' h' (biasT (BitVec.ofNat 32 δ)) (scoreT q k) (ix2 t r) = bandScore q k δ g j' r t := by
    intro g j' o' h' ho' t
    rw [headS_at o' h' _ _ g j' ho', biasT_at δ hδ, scoreT_at]
    simp only [stackQ_at]
    rfl
  rcases two g with rfl | rfl
  · have e := halfT_at o h1 h2 j ho (v 0) ![headS (F := Ideal) 0 slices_S256x1024_o0_0_S256x128 (biasT (BitVec.ofNat 32 δ)) (scoreT q k),
      headS 128 slices_S256x1024_o0_128_S256x128 (biasT (BitVec.ofNat 32 δ)) (scoreT q k),
      headS 256 slices_S256x1024_o0_256_S256x128 (biasT (BitVec.ofNat 32 δ)) (scoreT q k),
      headS 384 slices_S256x1024_o0_384_S256x128 (biasT (BitVec.ofNat 32 δ)) (scoreT q k)] (x 0) d r
    pointwise [tile]
    repeat (first | rw [dif_neg (by omega)] | rw [dif_pos (by omega)])
    refine e.trans (congrArg (fun s => bandRow s _ _ _) (funext fun t => ?_))
    rcases four j with rfl | rfl | rfl | rfl
    · exact key 0 0 0 slices_S256x1024_o0_0_S256x128 rfl t
    · exact key 0 1 128 slices_S256x1024_o0_128_S256x128 rfl t
    · exact key 0 2 256 slices_S256x1024_o0_256_S256x128 rfl t
    · exact key 0 3 384 slices_S256x1024_o0_384_S256x128 rfl t
  · have e := halfT_at o h1 h2 j ho (v 1) ![headS (F := Ideal) 512 slices_S256x1024_o0_512_S256x128 (biasT (BitVec.ofNat 32 δ)) (scoreT q k),
      headS 640 slices_S256x1024_o0_640_S256x128 (biasT (BitVec.ofNat 32 δ)) (scoreT q k),
      headS 768 slices_S256x1024_o0_768_S256x128 (biasT (BitVec.ofNat 32 δ)) (scoreT q k),
      headS 896 slices_S256x1024_o0_896_S256x128 (biasT (BitVec.ofNat 32 δ)) (scoreT q k)] (x 1) d r
    pointwise [tile]
    repeat (first | rw [dif_neg (by omega)] | rw [dif_pos (by omega)])
    try simp only [Nat.sub_sub, Nat.reduceAdd, Nat.add_sub_cancel_left, Fin.eta]
    refine e.trans (congrArg (fun s => bandRow s _ _ _) (funext fun t => ?_))
    rcases four j with rfl | rfl | rfl | rfl
    · exact key 1 0 512 slices_S256x1024_o0_512_S256x128 rfl t
    · exact key 1 1 640 slices_S256x1024_o0_640_S256x128 rfl t
    · exact key 1 2 768 slices_S256x1024_o0_768_S256x128 rfl t
    · exact key 1 3 896 slices_S256x1024_o0_896_S256x128 rfl t

end Cert.KernelIdeal.Band

end
-- ==== Proof.BandBlock.lean ====
module

public import proofs.«01_k».proof.Proof.BandPiece
public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.SL.Sem

namespace Cert.KernelIdeal.Band

open Cert.KernelIdeal Cert.KernelIdeal.Gen

/-! The block of the output a grid point leaves, as one function of the blocks it was given. -/

/-- The first key of the window of a run of rows. -/
def lo (r : Fin 16) : ℕ := 128 * (r : ℕ) - 128

theorem lo_le (r : Fin 16) : lo r + 256 ≤ 2048 := by unfold lo; omega

theorem coord1 (i : grid0.Coords) : (i 1).val = 0 := by
  have h : (i 1).val < 1 := (i 1).isLt
  omega

theorem off1_eq (i : grid0.Coords) (r : Fin 16) : k0_off1 i (BitVec.ofNat 32 r.val) = ![0, lo r, 0] := by
  simp only [k0_off1, coord1]
  revert r
  decide +kernel

theorem off2_eq (i : grid0.Coords) (r : Fin 16) : k0_off2 i (BitVec.ofNat 32 r.val) = ![0, 0, lo r] := by
  simp only [k0_off2, coord1]
  revert r
  decide +kernel

theorem off3_eq (i : grid0.Coords) (r : Fin 16) : k0_off3 i (BitVec.ofNat 32 r.val) = ![0, 80, lo r] := by
  simp only [k0_off3, coord1]
  revert r
  decide +kernel

theorem relW_eq (i : grid0.Coords) (r : Fin 16) : relW i (BitVec.ofNat 32 r.val) = BitVec.ofNat 32 (128 * r.val - lo r) := by
  simp only [relW, coord1]
  revert r
  decide +kernel

variable (c : Dev nD) (i : grid0.Coords)
  (arg2 : Memref sig .tc .vmem S1x2048x512 .bf16) (harg2 : arg2.IsWhole)
  (arg3 : Memref sig .tc .vmem S1x2048x128 .bf16) (harg3 : arg3.IsWhole)
  (arg4 : Memref sig .tc .vmem S1x160x2048 .bf16) (harg4 : arg4.IsWhole)
  (arg5 : Memref sig .tc .smem S8 .f32) (harg5 : arg5.IsWhole)
  (arg6 : Memref sig .tc .vmem S1x2048x512 .bf16) (harg6 : arg6.IsWhole)
  (x0 : FVec Ideal S1x2048x512 .bf16) (x1 : FVec Ideal S1x2048x128 .bf16) (x2 : FVec Ideal S1x160x2048 .bf16) (x3 : FVec Ideal S8 .f32)

theorem read_q (n : ℕ) (hn : ∀ a, (![0, n, 0] : Fin 3 → ℕ) a + S1x128x512.size a ≤ S1x2048x512.size a) (hn' : n + 128 ≤ 2048) (rr : Fin 128) (l : Fin 512) :
    View.readAt (Elt Ideal) arg2.view (Rect.unit (s := S1x2048x512) ![0, n, 0] S1x128x512.size hn).toLoadRect (harg2.unread x0) (ix3 0 rr l) =
      x0 (ix3 0 ⟨n + rr, by omega⟩ l) := by
  rw [View.readAt_eq_ld, Memref.IsWhole.read_unread]
  pointwise

theorem read_k (off : Fin 3 → ℕ) (hn : ∀ a, off a + S1x256x128.size a ≤ S1x2048x128.size a) (n : ℕ) (hoff : off = ![0, n, 0]) (hn' : n + 256 ≤ 2048) (t : Fin 256) (l : Fin 128) :
    View.readAt (Elt Ideal) arg3.view (Rect.unit (s := S1x2048x128) off S1x256x128.size hn).toLoadRect (harg3.unread x1) (ix3 0 t l) =
      x1 (ix3 0 ⟨n + t, by omega⟩ l) := by
  subst hoff
  rw [View.readAt_eq_ld, Memref.IsWhole.read_unread]
  pointwise

theorem read_v (off : Fin 3 → ℕ) (hn : ∀ a, off a + S1x80x256.size a ≤ S1x160x2048.size a) (p n : ℕ) (hoff : off = ![0, p, n]) (hp : p + 80 ≤ 160) (hn' : n + 256 ≤ 2048) (a : Fin 80) (t : Fin 256) :
    View.readAt (Elt Ideal) arg4.view (Rect.unit (s := S1x160x2048) off S1x80x256.size hn).toLoadRect (harg4.unread x2) (ix3 0 a t) =
      x2 (ix3 0 ⟨p + a, by omega⟩ ⟨n + t, by omega⟩) := by
  subst hoff
  rw [View.readAt_eq_ld, Memref.IsWhole.read_unread]
  pointwise

theorem read_sink (j : ℕ) (h : ∀ a, (![j] : Fin 1 → ℕ) a + S1.size a ≤ S8.size a) (hj : j < 8) :
    sinkAt (F := Ideal) arg5 harg5 x3 j h = x3 (ix1 ⟨j, hj⟩) := by
  unfold sinkAt
  have e : Shape.Idx.first (show 0 < S1.numel by rw [numel1_S1]; exact Nat.one_pos) = (ix1 0 : S1.Idx) := by
    funext a
    exact Fin.ext (by have := (Shape.Idx.first (show 0 < S1.numel by rw [numel1_S1]; exact Nat.one_pos) a).isLt; revert this; fin_cases a; simp [S1])
  rw [e, View.readAt_eq_ld, Memref.IsWhole.read_unread]
  pointwise

/-- A row of a head of the block. -/
def blockRow (r : Fin 16) (rr : Fin 128) (j : Fin 4) (g : Fin 2) (d : Fin 64) : EReal :=
  bandRow (fun t => (∑ l : Fin 128, x1 (ix3 0 ⟨lo r + t, by have := lo_le r; omega⟩ l) *
        (if ((l : ℕ) % 64 < 32 ↔ g = 0) then x0 (ix3 0 ⟨128 * (r : ℕ) + rr, by omega⟩ ⟨128 * (j : ℕ) + l, by omega⟩) else 0)) +
      if 128 * (r : ℕ) + rr < lo r + t + 128 ∧ lo r + t ≤ 128 * (r : ℕ) + rr then 0 else ⊥)
    (x3 (ix1 ⟨(g : ℕ) * 4 + j, by omega⟩) * (((Real.log 2)⁻¹ : ℝ) : EReal))
    (fun t => x2 (ix3 0 ⟨80 * (g : ℕ) + d, by omega⟩ ⟨lo r + t, by have := lo_le r; omega⟩))
    (fun t => x2 (ix3 0 ⟨80 * (g : ℕ) + 64, by omega⟩ ⟨lo r + t, by have := lo_le r; omega⟩))

/-- The block, row by row. -/
def blockOut (y : S1x2048x512.Idx) : EReal :=
  blockRow x0 x1 x2 x3 ⟨(y 1).val / 128, by have : (y 1).val < 2048 := (y 1).isLt; omega⟩ ⟨(y 1).val % 128, by omega⟩
    ⟨(y 2).val / 128, by have : (y 2).val < 512 := (y 2).isLt; omega⟩ ⟨(y 2).val % 128 / 64, by omega⟩ ⟨(y 2).val % 64, by omega⟩

theorem tile_row (o : ℕ) (h1 : S80x512.Slices ![0, o] S64x128) (h2 : S1x512.Slices ![0, o] S1x128) (j : Fin 4) (ho : o = 128 * (j : ℕ)) (r : Fin 16)
    (q : FVec Ideal S1x128x512 .bf16) (k : FVec Ideal S1x256x128 .bf16) (va vb : FVec Ideal S1x80x256 .bf16) (s0 s1 s2 s3 s4 s5 s6 s7 : Ideal .f32)
    (hq : ∀ (rr : Fin 128) (l : Fin 512), q (ix3 0 rr l) = x0 (ix3 0 ⟨128 * (r : ℕ) + rr, by omega⟩ l))
    (hk : ∀ (t : Fin 256) (l : Fin 128), k (ix3 0 t l) = x1 (ix3 0 ⟨lo r + t, by have := lo_le r; omega⟩ l))
    (ha : ∀ (a : Fin 80) (t : Fin 256), va (ix3 0 a t) = x2 (ix3 0 ⟨0 + a, by omega⟩ ⟨lo r + t, by have := lo_le r; omega⟩))
    (hb : ∀ (a : Fin 80) (t : Fin 256), vb (ix3 0 a t) = x2 (ix3 0 ⟨80 + a, by omega⟩ ⟨lo r + t, by have := lo_le r; omega⟩))
    (e0 : s0 = x3 (ix1 0)) (e1 : s1 = x3 (ix1 1)) (e2 : s2 = x3 (ix1 2)) (e3 : s3 = x3 (ix1 3))
    (e4 : s4 = x3 (ix1 4)) (e5 : s5 = x3 (ix1 5)) (e6 : s6 = x3 (ix1 6)) (e7 : s7 = x3 (ix1 7))
    (rr : Fin 128) (g : Fin 2) (d : Fin 64) :
    tile (F := Ideal) o h1 h2 q k va vb (BitVec.ofNat 32 (128 * r.val - lo r)) s0 s1 s2 s3 s4 s5 s6 s7 (ix3 0 rr ⟨64 * (g : ℕ) + d, by omega⟩) =
      blockRow x0 x1 x2 x3 r rr j g d := by
  have hlo := lo_le r
  have hd : 128 * (r : ℕ) - lo r ≤ 128 := by unfold lo; omega
  have key := tile_at o h1 h2 j ho q k ![va, vb] (128 * r.val - lo r) hd ![![s0, s1, s2, s3], ![s4, s5, s6, s7]] rr g d
  have hs : (![![s0, s1, s2, s3], ![s4, s5, s6, s7]] : Fin 2 → Fin 4 → Ideal .f32) g j = x3 (ix1 ⟨(g : ℕ) * 4 + j, by omega⟩) := by
    subst e0 e1 e2 e3 e4 e5 e6 e7
    rw [show (![![x3 (ix1 0), x3 (ix1 1), x3 (ix1 2), x3 (ix1 3)], ![x3 (ix1 4), x3 (ix1 5), x3 (ix1 6), x3 (ix1 7)]] : Fin 2 → Fin 4 → Ideal .f32) = fun (g : Fin 2) (j : Fin 4) => x3 (ix1 ⟨(g : ℕ) * 4 + j, by omega⟩) from by
      funext g j
      rcases two g with rfl | rfl <;> rcases four j with rfl | rfl | rfl | rfl <;> rfl]
  have hv : ∀ (a : Fin 80) (t : Fin 256), (![va, vb] : Fin 2 → FVec Ideal S1x80x256 .bf16) g (ix3 0 a t) =
      x2 (ix3 0 ⟨80 * (g : ℕ) + a, by omega⟩ ⟨lo r + t, by omega⟩) := by
    intro a t
    clear key hs
    rcases two g with rfl | rfl
    · exact ha a t
    · exact hb a t
  refine Eq.trans key ?_
  clear key
  unfold blockRow
  rw [hs]
  simp only [hv]
  congr 1
  funext t
  unfold bandScore qLane
  congr 1
  · refine Finset.sum_congr rfl fun l _ => ?_
    rw [hk, hq]
  · refine if_congr ?_ rfl rfl
    unfold lo at *
    constructor <;> intro h <;> constructor <;> omega

theorem tileAt_at (o n : ℕ) (h1 : S80x512.Slices ![0, o] S64x128) (h2 : S1x512.Slices ![0, o] S1x128)
    (hn : ∀ a, (![0, n, 0] : Fin 3 → ℕ) a + S1x128x512.size a ≤ S1x2048x512.size a) (r : Fin 16) (j : Fin 4) (ho : o = 128 * (j : ℕ)) (hr : n = 128 * (r : ℕ))
    (rr : Fin 128) (g : Fin 2) (d : Fin 64) :
    tileAt (F := Ideal) i arg2 harg2 arg3 harg3 arg4 harg4 arg5 harg5 x0 x1 x2 x3 o n h1 h2 hn r (ix3 0 rr ⟨64 * (g : ℕ) + d, by omega⟩) =
      blockRow x0 x1 x2 x3 r rr j g d := by
  subst hr
  have hlo := lo_le r
  unfold tileAt
  rw [relW_eq]
  exact tile_row x0 x1 x2 x3 o h1 h2 j ho r _ _ _ _ _ _ _ _ _ _ _ _
    (fun rr l => read_q arg2 harg2 x0 _ hn (by omega) rr l)
    (fun t l => read_k arg3 harg3 x1 _ (k0_off1_inb i r) (lo r) (off1_eq i r) hlo t l)
    (fun a t => read_v arg4 harg4 x2 _ (k0_off2_inb i r) 0 (lo r) (off2_eq i r) (by omega) hlo a t)
    (fun a t => read_v arg4 harg4 x2 _ (k0_off3_inb i r) 80 (lo r) (off3_eq i r) (by omega) hlo a t)
    (read_sink arg5 harg5 x3 0 _ (by omega)) (read_sink arg5 harg5 x3 1 _ (by omega)) (read_sink arg5 harg5 x3 2 _ (by omega)) (read_sink arg5 harg5 x3 3 _ (by omega))
    (read_sink arg5 harg5 x3 4 _ (by omega)) (read_sink arg5 harg5 x3 5 _ (by omega)) (read_sink arg5 harg5 x3 6 _ (by omega)) (read_sink arg5 harg5 x3 7 _ (by omega)) rr g d

/-- A written piece that agrees with the block. -/
def Agrees (p : View.Piece (Elt Ideal) S1x2048x512 .bf16) : Prop := ∀ x : p.1.shape.Idx, p.2 x = blockOut x0 x1 x2 x3 (p.1.emb x)

theorem tile_piece (o n : ℕ) (h1 : S80x512.Slices ![0, o] S64x128) (h2 : S1x512.Slices ![0, o] S1x128)
    (hn : ∀ a, (![0, n, 0] : Fin 3 → ℕ) a + S1x128x512.size a ≤ S1x2048x512.size a) (hp : ∀ a, (![0, n, o] : Fin 3 → ℕ) a + S1x128x128.size a ≤ S1x2048x512.size a)
    (r : Fin 16) (j : Fin 4) (ho : o = 128 * (j : ℕ)) (hr : n = 128 * (r : ℕ)) :
    Agrees x0 x1 x2 x3 ⟨Rect.unit (s := S1x2048x512) ![0, n, o] S1x128x128.size hp, tileAt (F := Ideal) i arg2 harg2 arg3 harg3 arg4 harg4 arg5 harg5 x0 x1 x2 x3 o n h1 h2 hn r⟩ := by
  intro x
  have b1 : (x 1).val < 128 := (x 1).isLt
  have b2 : (x 2).val < 128 := (x 2).isLt
  have e : x = ix3 0 ⟨(x 1).val, b1⟩ ⟨64 * ((⟨(x 2).val / 64, by omega⟩ : Fin 2) : ℕ) + ((⟨(x 2).val % 64, by omega⟩ : Fin 64) : ℕ), by omega⟩ := by
    funext a
    fin_cases a
    · have : (x 0).val < 1 := (x 0).isLt
      exact Fin.ext (by change (x 0).val = 0; omega)
    · rfl
    · exact Fin.ext (by change (x 2).val = 64 * ((x 2).val / 64) + (x 2).val % 64; omega)
  have m1 : (((Rect.unit (s := S1x2048x512) ![0, n, o] S1x128x128.size hp).emb x) 1).val = n + (x 1).val := by
    rw [Rect.emb_apply]; simp
  have m2 : (((Rect.unit (s := S1x2048x512) ![0, n, o] S1x128x128.size hp).emb x) 2).val = o + (x 2).val := by
    rw [Rect.emb_apply]; simp
  refine (congrArg _ e).trans ((tileAt_at i arg2 harg2 arg3 harg3 arg4 harg4 arg5 harg5 x0 x1 x2 x3 o n h1 h2 hn r j ho hr _ _ _).trans ?_)
  unfold blockOut
  congr 1 <;> apply Fin.ext <;> simp only [m1, m2, ho, hr] <;> omega

theorem canon_out (L : List (View.Piece (Elt Ideal) S1x2048x512 .bf16)) (hc : ∀ y, ∃ p ∈ L, y ∈ p.1.set) (hA : ∀ p ∈ L, Agrees x0 x1 x2 x3 p) :
    VO0_4.read (Elt Ideal) (VO0_4.writes (Elt Ideal) VO0_4.junk L) = blockOut x0 x1 x2 x3 := by
  funext y
  rw [View.read_writes_junk_eq_canon]
  exact View.canon_apply_of_pieces (Val := Elt Ideal) (S := S1x2048x512) (e := .bf16) (fun y => blockOut x0 x1 x2 x3 y) L (fun p hp x => hA p hp x) y (hc y)

set_option maxHeartbeats 1000000 in
theorem pieces_agree : ∀ p ∈ (kernelRun0_A (F := Ideal) c i arg2 harg2 arg3 harg3 arg4 harg4 arg5 harg5 arg6 harg6 x0 x1 x2 x3).1, Agrees x0 x1 x2 x3 p := by
  rw [pieces_eq]
  refine List.forall_mem_cons.mpr ⟨tile_piece i arg2 harg2 arg3 harg3 arg4 harg4 arg5 harg5 x0 x1 x2 x3 384 1920 _ _ _ _ 15 3 rfl rfl, ?_⟩
  refine List.forall_mem_cons.mpr ⟨tile_piece i arg2 harg2 arg3 harg3 arg4 harg4 arg5 harg5 x0 x1 x2 x3 256 1920 _ _ _ _ 15 2 rfl rfl, ?_⟩
  refine List.forall_mem_cons.mpr ⟨tile_piece i arg2 harg2 arg3 harg3 arg4 harg4 arg5 harg5 x0 x1 x2 x3 128 1920 _ _ _ _ 15 1 rfl rfl, ?_⟩
  refine List.forall_mem_cons.mpr ⟨tile_piece i arg2 harg2 arg3 harg3 arg4 harg4 arg5 harg5 x0 x1 x2 x3 0 1920 _ _ _ _ 15 0 rfl rfl, ?_⟩
  refine List.forall_mem_cons.mpr ⟨tile_piece i arg2 harg2 arg3 harg3 arg4 harg4 arg5 harg5 x0 x1 x2 x3 384 1792 _ _ _ _ 14 3 rfl rfl, ?_⟩
  refine List.forall_mem_cons.mpr ⟨tile_piece i arg2 harg2 arg3 harg3 arg4 harg4 arg5 harg5 x0 x1 x2 x3 256 1792 _ _ _ _ 14 2 rfl rfl, ?_⟩
  refine List.forall_mem_cons.mpr ⟨tile_piece i arg2 harg2 arg3 harg3 arg4 harg4 arg5 harg5 x0 x1 x2 x3 128 1792 _ _ _ _ 14 1 rfl rfl, ?_⟩
  refine List.forall_mem_cons.mpr ⟨tile_piece i arg2 harg2 arg3 harg3 arg4 harg4 arg5 harg5 x0 x1 x2 x3 0 1792 _ _ _ _ 14 0 rfl rfl, ?_⟩
  refine List.forall_mem_cons.mpr ⟨tile_piece i arg2 harg2 arg3 harg3 arg4 harg4 arg5 harg5 x0 x1 x2 x3 384 1664 _ _ _ _ 13 3 rfl rfl, ?_⟩
  refine List.forall_mem_cons.mpr ⟨tile_piece i arg2 harg2 arg3 harg3 arg4 harg4 arg5 harg5 x0 x1 x2 x3 256 1664 _ _ _ _ 13 2 rfl rfl, ?_⟩
  refine List.forall_mem_cons.mpr ⟨tile_piece i arg2 harg2 arg3 harg3 arg4 harg4 arg5 harg5 x0 x1 x2 x3 128 1664 _ _ _ _ 13 1 rfl rfl, ?_⟩
  refine List.forall_mem_cons.mpr ⟨tile_piece i arg2 harg2 arg3 harg3 arg4 harg4 arg5 harg5 x0 x1 x2 x3 0 1664 _ _ _ _ 13 0 rfl rfl, ?_⟩
  refine List.forall_mem_cons.mpr ⟨tile_piece i arg2 harg2 arg3 harg3 arg4 harg4 arg5 harg5 x0 x1 x2 x3 384 1536 _ _ _ _ 12 3 rfl rfl, ?_⟩
  refine List.forall_mem_cons.mpr ⟨tile_piece i arg2 harg2 arg3 harg3 arg4 harg4 arg5 harg5 x0 x1 x2 x3 256 1536 _ _ _ _ 12 2 rfl rfl, ?_⟩
  refine List.forall_mem_cons.mpr ⟨tile_piece i arg2 harg2 arg3 harg3 arg4 harg4 arg5 harg5 x0 x1 x2 x3 128 1536 _ _ _ _ 12 1 rfl rfl, ?_⟩
  refine List.forall_mem_cons.mpr ⟨tile_piece i arg2 harg2 arg3 harg3 arg4 harg4 arg5 harg5 x0 x1 x2 x3 0 1536 _ _ _ _ 12 0 rfl rfl, ?_⟩
  refine List.forall_mem_cons.mpr ⟨tile_piece i arg2 harg2 arg3 harg3 arg4 harg4 arg5 harg5 x0 x1 x2 x3 384 1408 _ _ _ _ 11 3 rfl rfl, ?_⟩
  refine List.forall_mem_cons.mpr ⟨tile_piece i arg2 harg2 arg3 harg3 arg4 harg4 arg5 harg5 x0 x1 x2 x3 256 1408 _ _ _ _ 11 2 rfl rfl, ?_⟩
  refine List.forall_mem_cons.mpr ⟨tile_piece i arg2 harg2 arg3 harg3 arg4 harg4 arg5 harg5 x0 x1 x2 x3 128 1408 _ _ _ _ 11 1 rfl rfl, ?_⟩
  refine List.forall_mem_cons.mpr ⟨tile_piece i arg2 harg2 arg3 harg3 arg4 harg4 arg5 harg5 x0 x1 x2 x3 0 1408 _ _ _ _ 11 0 rfl rfl, ?_⟩
  refine List.forall_mem_cons.mpr ⟨tile_piece i arg2 harg2 arg3 harg3 arg4 harg4 arg5 harg5 x0 x1 x2 x3 384 1280 _ _ _ _ 10 3 rfl rfl, ?_⟩
  refine List.forall_mem_cons.mpr ⟨tile_piece i arg2 harg2 arg3 harg3 arg4 harg4 arg5 harg5 x0 x1 x2 x3 256 1280 _ _ _ _ 10 2 rfl rfl, ?_⟩
  refine List.forall_mem_cons.mpr ⟨tile_piece i arg2 harg2 arg3 harg3 arg4 harg4 arg5 harg5 x0 x1 x2 x3 128 1280 _ _ _ _ 10 1 rfl rfl, ?_⟩
  refine List.forall_mem_cons.mpr ⟨tile_piece i arg2 harg2 arg3 harg3 arg4 harg4 arg5 harg5 x0 x1 x2 x3 0 1280 _ _ _ _ 10 0 rfl rfl, ?_⟩
  refine List.forall_mem_cons.mpr ⟨tile_piece i arg2 harg2 arg3 harg3 arg4 harg4 arg5 harg5 x0 x1 x2 x3 384 1152 _ _ _ _ 9 3 rfl rfl, ?_⟩
  refine List.forall_mem_cons.mpr ⟨tile_piece i arg2 harg2 arg3 harg3 arg4 harg4 arg5 harg5 x0 x1 x2 x3 256 1152 _ _ _ _ 9 2 rfl rfl, ?_⟩
  refine List.forall_mem_cons.mpr ⟨tile_piece i arg2 harg2 arg3 harg3 arg4 harg4 arg5 harg5 x0 x1 x2 x3 128 1152 _ _ _ _ 9 1 rfl rfl, ?_⟩
  refine List.forall_mem_cons.mpr ⟨tile_piece i arg2 harg2 arg3 harg3 arg4 harg4 arg5 harg5 x0 x1 x2 x3 0 1152 _ _ _ _ 9 0 rfl rfl, ?_⟩
  refine List.forall_mem_cons.mpr ⟨tile_piece i arg2 harg2 arg3 harg3 arg4 harg4 arg5 harg5 x0 x1 x2 x3 384 1024 _ _ _ _ 8 3 rfl rfl, ?_⟩
  refine List.forall_mem_cons.mpr ⟨tile_piece i arg2 harg2 arg3 harg3 arg4 harg4 arg5 harg5 x0 x1 x2 x3 256 1024 _ _ _ _ 8 2 rfl rfl, ?_⟩
  refine List.forall_mem_cons.mpr ⟨tile_piece i arg2 harg2 arg3 harg3 arg4 harg4 arg5 harg5 x0 x1 x2 x3 128 1024 _ _ _ _ 8 1 rfl rfl, ?_⟩
  refine List.forall_mem_cons.mpr ⟨tile_piece i arg2 harg2 arg3 harg3 arg4 harg4 arg5 harg5 x0 x1 x2 x3 0 1024 _ _ _ _ 8 0 rfl rfl, ?_⟩
  refine List.forall_mem_cons.mpr ⟨tile_piece i arg2 harg2 arg3 harg3 arg4 harg4 arg5 harg5 x0 x1 x2 x3 384 896 _ _ _ _ 7 3 rfl rfl, ?_⟩
  refine List.forall_mem_cons.mpr ⟨tile_piece i arg2 harg2 arg3 harg3 arg4 harg4 arg5 harg5 x0 x1 x2 x3 256 896 _ _ _ _ 7 2 rfl rfl, ?_⟩
  refine List.forall_mem_cons.mpr ⟨tile_piece i arg2 harg2 arg3 harg3 arg4 harg4 arg5 harg5 x0 x1 x2 x3 128 896 _ _ _ _ 7 1 rfl rfl, ?_⟩
  refine List.forall_mem_cons.mpr ⟨tile_piece i arg2 harg2 arg3 harg3 arg4 harg4 arg5 harg5 x0 x1 x2 x3 0 896 _ _ _ _ 7 0 rfl rfl, ?_⟩
  refine List.forall_mem_cons.mpr ⟨tile_piece i arg2 harg2 arg3 harg3 arg4 harg4 arg5 harg5 x0 x1 x2 x3 384 768 _ _ _ _ 6 3 rfl rfl, ?_⟩
  refine List.forall_mem_cons.mpr ⟨tile_piece i arg2 harg2 arg3 harg3 arg4 harg4 arg5 harg5 x0 x1 x2 x3 256 768 _ _ _ _ 6 2 rfl rfl, ?_⟩
  refine List.forall_mem_cons.mpr ⟨tile_piece i arg2 harg2 arg3 harg3 arg4 harg4 arg5 harg5 x0 x1 x2 x3 128 768 _ _ _ _ 6 1 rfl rfl, ?_⟩
  refine List.forall_mem_cons.mpr ⟨tile_piece i arg2 harg2 arg3 harg3 arg4 harg4 arg5 harg5 x0 x1 x2 x3 0 768 _ _ _ _ 6 0 rfl rfl, ?_⟩
  refine List.forall_mem_cons.mpr ⟨tile_piece i arg2 harg2 arg3 harg3 arg4 harg4 arg5 harg5 x0 x1 x2 x3 384 640 _ _ _ _ 5 3 rfl rfl, ?_⟩
  refine List.forall_mem_cons.mpr ⟨tile_piece i arg2 harg2 arg3 harg3 arg4 harg4 arg5 harg5 x0 x1 x2 x3 256 640 _ _ _ _ 5 2 rfl rfl, ?_⟩
  refine List.forall_mem_cons.mpr ⟨tile_piece i arg2 harg2 arg3 harg3 arg4 harg4 arg5 harg5 x0 x1 x2 x3 128 640 _ _ _ _ 5 1 rfl rfl, ?_⟩
  refine List.forall_mem_cons.mpr ⟨tile_piece i arg2 harg2 arg3 harg3 arg4 harg4 arg5 harg5 x0 x1 x2 x3 0 640 _ _ _ _ 5 0 rfl rfl, ?_⟩
  refine List.forall_mem_cons.mpr ⟨tile_piece i arg2 harg2 arg3 harg3 arg4 harg4 arg5 harg5 x0 x1 x2 x3 384 512 _ _ _ _ 4 3 rfl rfl, ?_⟩
  refine List.forall_mem_cons.mpr ⟨tile_piece i arg2 harg2 arg3 harg3 arg4 harg4 arg5 harg5 x0 x1 x2 x3 256 512 _ _ _ _ 4 2 rfl rfl, ?_⟩
  refine List.forall_mem_cons.mpr ⟨tile_piece i arg2 harg2 arg3 harg3 arg4 harg4 arg5 harg5 x0 x1 x2 x3 128 512 _ _ _ _ 4 1 rfl rfl, ?_⟩
  refine List.forall_mem_cons.mpr ⟨tile_piece i arg2 harg2 arg3 harg3 arg4 harg4 arg5 harg5 x0 x1 x2 x3 0 512 _ _ _ _ 4 0 rfl rfl, ?_⟩
  refine List.forall_mem_cons.mpr ⟨tile_piece i arg2 harg2 arg3 harg3 arg4 harg4 arg5 harg5 x0 x1 x2 x3 384 384 _ _ _ _ 3 3 rfl rfl, ?_⟩
  refine List.forall_mem_cons.mpr ⟨tile_piece i arg2 harg2 arg3 harg3 arg4 harg4 arg5 harg5 x0 x1 x2 x3 256 384 _ _ _ _ 3 2 rfl rfl, ?_⟩
  refine List.forall_mem_cons.mpr ⟨tile_piece i arg2 harg2 arg3 harg3 arg4 harg4 arg5 harg5 x0 x1 x2 x3 128 384 _ _ _ _ 3 1 rfl rfl, ?_⟩
  refine List.forall_mem_cons.mpr ⟨tile_piece i arg2 harg2 arg3 harg3 arg4 harg4 arg5 harg5 x0 x1 x2 x3 0 384 _ _ _ _ 3 0 rfl rfl, ?_⟩
  refine List.forall_mem_cons.mpr ⟨tile_piece i arg2 harg2 arg3 harg3 arg4 harg4 arg5 harg5 x0 x1 x2 x3 384 256 _ _ _ _ 2 3 rfl rfl, ?_⟩
  refine List.forall_mem_cons.mpr ⟨tile_piece i arg2 harg2 arg3 harg3 arg4 harg4 arg5 harg5 x0 x1 x2 x3 256 256 _ _ _ _ 2 2 rfl rfl, ?_⟩
  refine List.forall_mem_cons.mpr ⟨tile_piece i arg2 harg2 arg3 harg3 arg4 harg4 arg5 harg5 x0 x1 x2 x3 128 256 _ _ _ _ 2 1 rfl rfl, ?_⟩
  refine List.forall_mem_cons.mpr ⟨tile_piece i arg2 harg2 arg3 harg3 arg4 harg4 arg5 harg5 x0 x1 x2 x3 0 256 _ _ _ _ 2 0 rfl rfl, ?_⟩
  refine List.forall_mem_cons.mpr ⟨tile_piece i arg2 harg2 arg3 harg3 arg4 harg4 arg5 harg5 x0 x1 x2 x3 384 128 _ _ _ _ 1 3 rfl rfl, ?_⟩
  refine List.forall_mem_cons.mpr ⟨tile_piece i arg2 harg2 arg3 harg3 arg4 harg4 arg5 harg5 x0 x1 x2 x3 256 128 _ _ _ _ 1 2 rfl rfl, ?_⟩
  refine List.forall_mem_cons.mpr ⟨tile_piece i arg2 harg2 arg3 harg3 arg4 harg4 arg5 harg5 x0 x1 x2 x3 128 128 _ _ _ _ 1 1 rfl rfl, ?_⟩
  refine List.forall_mem_cons.mpr ⟨tile_piece i arg2 harg2 arg3 harg3 arg4 harg4 arg5 harg5 x0 x1 x2 x3 0 128 _ _ _ _ 1 0 rfl rfl, ?_⟩
  refine List.forall_mem_cons.mpr ⟨tile_piece i arg2 harg2 arg3 harg3 arg4 harg4 arg5 harg5 x0 x1 x2 x3 384 0 _ _ _ _ 0 3 rfl rfl, ?_⟩
  refine List.forall_mem_cons.mpr ⟨tile_piece i arg2 harg2 arg3 harg3 arg4 harg4 arg5 harg5 x0 x1 x2 x3 256 0 _ _ _ _ 0 2 rfl rfl, ?_⟩
  refine List.forall_mem_cons.mpr ⟨tile_piece i arg2 harg2 arg3 harg3 arg4 harg4 arg5 harg5 x0 x1 x2 x3 128 0 _ _ _ _ 0 1 rfl rfl, ?_⟩
  refine List.forall_mem_cons.mpr ⟨tile_piece i arg2 harg2 arg3 harg3 arg4 harg4 arg5 harg5 x0 x1 x2 x3 0 0 _ _ _ _ 0 0 rfl rfl, ?_⟩
  exact fun p hp => absurd hp List.not_mem_nil

end Cert.KernelIdeal.Band

end
-- ==== Proof.BandOut.lean ====
module

public import proofs.«01_k».proof.Proof.BandBlock
public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.SL.Sem

namespace Cert.KernelIdeal.Band

open Cert.KernelIdeal Cert.KernelIdeal.Gen

/-! What a grid point leaves in its block of the output. -/

variable (c : Dev nD) (i : grid0.Coords)
  (arg2 : Memref sig .tc .vmem S1x2048x512 .bf16) (harg2 : arg2.IsWhole)
  (arg3 : Memref sig .tc .vmem S1x2048x128 .bf16) (harg3 : arg3.IsWhole)
  (arg4 : Memref sig .tc .vmem S1x160x2048 .bf16) (harg4 : arg4.IsWhole)
  (arg5 : Memref sig .tc .smem S8 .f32) (harg5 : arg5.IsWhole)
  (arg6 : Memref sig .tc .vmem S1x2048x512 .bf16) (harg6 : arg6.IsWhole)
  (x0 : FVec Ideal S1x2048x512 .bf16) (x1 : FVec Ideal S1x2048x128 .bf16) (x2 : FVec Ideal S1x160x2048 .bf16) (x3 : FVec Ideal S8 .f32)

theorem out_def : out0_A_4 (F := Ideal) c i arg2 harg2 arg3 harg3 arg4 harg4 arg5 harg5 arg6 harg6 x0 x1 x2 x3 =
    VO0_4.read (Elt Ideal) (VO0_4.writes (Elt Ideal) VO0_4.junk (kernelRun0_A (F := Ideal) c i arg2 harg2 arg3 harg3 arg4 harg4 arg5 harg5 arg6 harg6 x0 x1 x2 x3).1) := by
  sl_kernel_rfl

/-- What a point leaves in its block is the function of its rows. -/
theorem out_eq : out0_A_4 (F := Ideal) c i arg2 harg2 arg3 harg3 arg4 harg4 arg5 harg5 arg6 harg6 x0 x1 x2 x3 = blockOut x0 x1 x2 x3 :=
  by
  have hc := cover0_A_4 (F := Ideal) c i arg2 harg2 arg3 harg3 arg4 harg4 arg5 harg5 arg6 harg6 x0 x1 x2 x3
  have hA := pieces_agree c i arg2 harg2 arg3 harg3 arg4 harg4 arg5 harg5 arg6 harg6 x0 x1 x2 x3
  rw [out_def]
  generalize (kernelRun0_A (F := Ideal) c i arg2 harg2 arg3 harg3 arg4 harg4 arg5 harg5 arg6 harg6 x0 x1 x2 x3).1 = L at hc hA ⊢
  exact canon_out x0 x1 x2 x3 L hc hA

end Cert.KernelIdeal.Band

end
-- ==== Proof.BandHost.lean ====
module

public import proofs.«01_k».proof.Proof.BandOut
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.KernelIdeal.Band

open Cert.KernelIdeal Cert.KernelIdeal.Gen

/-! The arrays the host prepares for the kernel, entry by entry. -/

variable (m : (ℓ : Loc nD τ sig) → Buf (Elt Ideal) ℓ) (c : Dev nD)

theorem eighth : Ideal.ofBits .f32 0x3E000000#32 = ((1 / 8 : ℝ) : EReal) := by
  simp [Ideal.ofBits, Ideal.ieee]
  rw [← EReal.coe_mul]; norm_num

theorem log_two : Ideal.log (Ideal.ofBits .f32 0x40000000#32) = ((Real.log 2 : ℝ) : EReal) := by
  have h : Ideal.ofBits .f32 0x40000000#32 = ((2 : ℝ) : EReal) := by
    simp [Ideal.ofBits, Ideal.ieee]
    try rw [← EReal.coe_mul]; norm_num
  rw [h]
  change (if (2 : ℝ) ≤ 0 then (⊥ : EReal) else ((Real.log 2 : ℝ) : EReal)) = _
  rw [if_neg (by norm_num)]

/-- A query's number as the kernel takes it: times an eighth, over the logarithm of two. -/
def scaled (y : EReal) : EReal := Ideal.div (y * ((1 / 8 : ℝ) : EReal)) ((Real.log 2 : ℝ) : EReal)

theorem scaled_coe (a : ℝ) : scaled a = (((1 / 8) * a * (Real.log 2)⁻¹ : ℝ) : EReal) := by
  have h : Real.log 2 ≠ 0 := (Real.log_pos (by norm_num)).ne'
  unfold scaled
  rw [Ideal.div_coe h, ← EReal.coe_mul, ← EReal.coe_mul]
  congr 1
  rw [one_div (Real.log 2)]
  ring

theorem scaled_eq (y : EReal) : Ideal.div (y * Ideal.ofBits .f32 0x3E000000#32) (Ideal.log (Ideal.ofBits .f32 0x40000000#32)) = scaled y := by
  rw [eighth, log_two]; rfl

theorem v14_at (b : Fin 16) (n : Fin 2048) (j : Fin 4) (e : Fin 2) (g : Fin 2) (p : Fin 32) :
    V m c main_v14 (ix3 b n ⟨128 * (j : ℕ) + 64 * e + 32 * g + p, by omega⟩) =
      scaled (m ((c : Thread nD τ).loc main_arg0) (ix5 b n g j ⟨32 * (e : ℕ) + p, by omega⟩)) := by
  entry_read
  pointwise
  refine (scaled_eq _).trans (congrArg scaled (congrArg (m ((c : Thread nD τ).loc main_arg0)) ?_))
  congr 1 <;> apply Fin.ext <;> simp only [] <;> omega

theorem v16_at (b : Fin 16) (n : Fin 2048) (e : Fin 2) (g : Fin 2) (p : Fin 32) :
    V m c main_v16 (ix3 b n ⟨64 * (e : ℕ) + 32 * g + p, by omega⟩) =
      m ((c : Thread nD τ).loc main_arg1) (ix4 b n g ⟨32 * (e : ℕ) + p, by omega⟩) := by
  entry_read
  pointwise
  refine congrArg (m ((c : Thread nD τ).loc main_arg1)) ?_
  congr 1 <;> apply Fin.ext <;> simp only [] <;> omega

theorem v18_at (b : Fin 16) (u : Fin 2048) (g : Fin 2) (a : Fin 64) :
    V m c main_v18 (ix3 b ⟨80 * (g : ℕ) + a, by omega⟩ u) = m ((c : Thread nD τ).loc main_arg2) (ix4 b u g a) := by
  entry_read
  pointwise
  rw [dif_pos (by omega)]
  refine congrArg (m ((c : Thread nD τ).loc main_arg2)) ?_
  congr 1 <;> apply Fin.ext <;> simp only [] <;> omega

theorem v18_one (b : Fin 16) (u : Fin 2048) (g : Fin 2) :
    V m c main_v18 (ix3 b ⟨80 * (g : ℕ) + 64, by omega⟩ u) = (1 : EReal) := by
  entry_read
  pointwise
  rw [dif_neg (by omega)]
  try exact EReal.coe_one

theorem v19_at (i : Fin 8) :
    V m c main_v19 (ix1 i) = m ((c : Thread nD τ).loc main_arg3) (ix2 0 i) := by
  entry_read
  pointwise

end Cert.KernelIdeal.Band

end
-- ==== Proof.BandRef.lean ====
module

public import proofs.«01_k».proof.Proof.Gen.ReferenceIdeal.Read
public import Idealize.ShloMosaic.Lib.WordCmp
public import Idealize.ShloMosaic.Lib.Pipeline.ValueKit

@[expose] public section

set_option maxRecDepth 16384

noncomputable section

open Idealize.ShloMosaic Idealize.ShloMosaic.TcCoe Idealize.SL.Sem

namespace Cert.ReferenceIdeal.Band

open Cert.ReferenceIdeal Cert.ReferenceIdeal.Gen Cert.ReferenceIdeal.Read

/-- The greatest of `n + 1` values is the greatest of the first `n` and the last. -/
theorem fold_max_succ {n : ℕ} (f : Fin (n + 1) → EReal) :
    Finset.fold max ⊥ f Finset.univ = max (Finset.fold max ⊥ (fun k : Fin n => f k.castSucc) Finset.univ) (f (Fin.last n)) := by
  change Finset.univ.sup f = max (Finset.univ.sup fun k : Fin n => f k.castSucc) (f (Fin.last n))
  apply le_antisymm
  · refine Finset.sup_le fun k _ => ?_
    induction k using Fin.lastCases with
    | last => exact le_max_right _ _
    | cast k => exact le_trans (Finset.le_sup (f := fun k : Fin n => f k.castSucc) (Finset.mem_univ k)) (le_max_left _ _)
  · exact max_le (Finset.sup_le fun k _ => Finset.le_sup (Finset.mem_univ _)) (Finset.le_sup (Finset.mem_univ _))

theorem fold_max_2049 (f : Fin 2049 → EReal) :
    Finset.fold max ⊥ f Finset.univ = max (Finset.fold max ⊥ (fun k : Fin 2048 => f k.castSucc) Finset.univ) (f (Fin.last 2048)) :=
  fold_max_succ f

theorem max_row (T U : FVec Ideal S16x2x4x2048 .f32) (V : Fin 2049 → EReal) (M : Fin 2048 → EReal) (x : EReal) (b : Fin 16) (g : Fin 2) (j : Fin 4) (n : Fin 2048)
    (e0 : U (ix4 b g j n) = Finset.fold max ⊥ (fun k : Fin 2049 => V k) Finset.univ)
    (e1 : ∀ k : Fin 2048, V k.castSucc = M k) (e2 : V (Fin.last 2048) = x) (e3 : T (ix4 b g j n) = ⊥) :
    maximumf T U (ix4 b g j n) = max (Finset.fold max ⊥ (fun k : Fin 2048 => M k) Finset.univ) x := by
  have e4 := fold_max_2049 V
  rw [e2] at e4
  simp only [e1] at e4
  change max (T (ix4 b g j n)) (U (ix4 b g j n)) = _
  rw [e3, e0, e4]
  exact max_eq_right bot_le

variable (x0 : FVec Ideal S16x2048x2x4x64 .f32) (x1 x2 : FVec Ideal S16x2048x2x64 .f32) (x3 : FVec Ideal S1x8 .f32)

/-- The scaled score of a query and a key. -/
def score (b : Fin 16) (g : Fin 2) (j : Fin 4) (n k : Fin 2048) : EReal :=
  (∑ d : Fin 64, x1 (ix4 b k g d) * x0 (ix5 b n g j d)) * (((1 / 8 : ℝ)) : EReal)

/-- The score inside the band, the mask outside. -/
def masked (b : Fin 16) (g : Fin 2) (j : Fin 4) (n k : Fin 2048) : EReal :=
  if (n : ℕ) < k + 128 ∧ (k : ℕ) ≤ n then score x0 x1 b g j n k else ⊥

theorem v10_at (n k : Fin 2048) :
    val_main_v10 (F := Ideal) (ix2 n k) = BitVec.ofBool (decide ((n : ℕ) < k + 128 ∧ (k : ℕ) ≤ n)) := by
  have hn := n.isLt
  have hk := k.isLt
  have e : (IntOp.subi (BitVec.ofNat 32 (n : ℕ)) 128#32).toInt = (n : ℤ) - 128 := by
    simp only [IntOp.subi]
    rw [BitVec.toInt_sub, WordCmp.toInt_ofNat_of_lt (by omega), show (128#32 : BitVec 32).toInt = 128 from rfl, Int.bmod_def]
    omega
  have e' : (BitVec.ofNat 32 (k : ℕ)).toInt = (k : ℤ) := WordCmp.toInt_ofNat_of_lt (by omega)
  pointwise [val_main_v10, val_main_v9, val_main_v8, val_main_v7, val_main_v6, val_main_v5, val_main_v4, val_main_c]
  rw [WordCmp.cmpi_slt_eq, WordCmp.cmpi_sle_ofNat (by omega) (by omega), WordCmp.andi_ofBool, ← Bool.decide_and, e, e']
  congr 1
  exact decide_eq_decide.mpr ⟨fun h => ⟨by omega, by omega⟩, fun h => ⟨by omega, by omega⟩⟩

theorem v11_at (b : Fin 16) (g : Fin 2) (j : Fin 4) (n k : Fin 2048) :
    val_main_v11 (F := Ideal) x0 x1 (ix5 b g j n k) = masked x0 x1 b g j n k := by
  have e := v10_at n k
  have h8 : Ideal.ofBits FTy.f32 0x3E000000#32 = ((1 / 8 : ℝ) : EReal) := by
    simp [Ideal.ofBits, Ideal.ieee]
    rw [← EReal.coe_mul]
    norm_num
  have hb : Ideal.ofBits FTy.f32 0xFF800000#32 = ⊥ := by simp [Ideal.ofBits, Ideal.ieee]
  pointwise [val_main_v11, val_main_v3, val_main_v1, val_main_v0, val_main_v2, val_main_cst, val_main_call0_v1, val_main_call0_v2, val_main_call0_v0, val_main_cst_0]
  rw [e, WordCmp.select_ofBool, h8]
  simp only [decide_eq_true_eq, id]
  pointwise
  rw [hb]
  rfl

/-- The sink of a head. -/
def sink (g : Fin 2) (j : Fin 4) : EReal := x3 (ix2 0 ⟨(g : ℕ) * 4 + j, by omega⟩)

theorem v14_at (b : Fin 16) (g : Fin 2) (j : Fin 4) (n : Fin 2048) :
    val_main_v14 (F := Ideal) x3 (ix5 b g j n 0) = sink x3 g j := by
  pointwise [val_main_v14, val_main_v13, val_main_v12, sink]

theorem v15_key (b : Fin 16) (g : Fin 2) (j : Fin 4) (n : Fin 2048) (k : Fin 2048) :
    val_main_v15 (F := Ideal) x0 x1 x3 (ix5 b g j n k.castSucc) = masked x0 x1 b g j n k := by
  have e := v11_at x0 x1 b g j n k
  unfold val_main_v15
  generalize val_main_v11 (F := Ideal) x0 x1 = V at *
  generalize val_main_v14 (F := Ideal) x3 = W
  pointwise
  rw [dif_pos (by simp)]
  exact e

theorem v15_sink (b : Fin 16) (g : Fin 2) (j : Fin 4) (n : Fin 2048) :
    val_main_v15 (F := Ideal) x0 x1 x3 (ix5 b g j n (Fin.last 2048)) = sink x3 g j := by
  have e := v14_at x3 b g j n
  unfold val_main_v15
  generalize val_main_v11 (F := Ideal) x0 x1 = V
  generalize val_main_v14 (F := Ideal) x3 = W at *
  refine Eq.trans ?_ e
  have hk : ∀ k : Fin 2049, (k : ℕ) = 2048 → concatenate S16x2x4x2048x2049 4 [⟨S16x2x4x2048x2048, V⟩, ⟨S16x2x4x2048x1, W⟩]
      concatenates_S16x2x4x2048x2048_S16x2x4x2048x1_S16x2x4x2048x2049_d4 (ix5 b g j n k) = W (ix5 b g j n 0) := by
    intro k hk
    pointwise
    rw [dif_neg (by omega)]
    exact congrArg (fun z => W (ix5 b g j n z)) (Fin.ext (by simp only [hk]; rfl))
  exact hk _ rfl

/-- The greatest of a row's scores and its sink. -/
def top (b : Fin 16) (g : Fin 2) (j : Fin 4) (n : Fin 2048) : EReal :=
  max (Finset.fold max ⊥ (fun k : Fin 2048 => masked x0 x1 b g j n k) Finset.univ) (sink x3 g j)

theorem v16_at (b : Fin 16) (g : Fin 2) (j : Fin 4) (n : Fin 2048) :
    val_main_v16 (F := Ideal) x0 x1 x3 (ix4 b g j n) =
      Finset.fold max ⊥ (fun k : Fin 2049 => val_main_v15 (F := Ideal) x0 x1 x3 (ix5 b g j n k)) Finset.univ := by
  have hb : Ideal.ofBits FTy.f32 0xFF800000#32 = ⊥ := by simp [Ideal.ofBits, Ideal.ieee]
  unfold val_main_v16
  generalize val_main_v15 (F := Ideal) x0 x1 x3 = V
  pointwise [val_main_cst_1]
  rw [hb]

theorem v17_at (b : Fin 16) (g : Fin 2) (j : Fin 4) (n : Fin 2048) : val_main_v17 (F := Ideal) (ix4 b g j n) = ⊥ := by
  have hb : Ideal.ofBits FTy.f32 0xFF800000#32 = ⊥ := by simp [Ideal.ofBits, Ideal.ieee]
  pointwise [val_main_v17, val_main_cst_2]
  rw [hb]

theorem v18_at (b : Fin 16) (g : Fin 2) (j : Fin 4) (n : Fin 2048) :
    val_main_v18 (F := Ideal) x0 x1 x3 (ix4 b g j n) = top x0 x1 x3 b g j n :=
  max_row (val_main_v17 (F := Ideal)) (val_main_v16 (F := Ideal) x0 x1 x3) (fun k => val_main_v15 (F := Ideal) x0 x1 x3 (ix5 b g j n k))
    (fun k => masked x0 x1 b g j n k) (sink x3 g j) b g j n (v16_at x0 x1 x3 b g j n) (v15_key x0 x1 x3 b g j n) (v15_sink x0 x1 x3 b g j n) (v17_at b g j n)

theorem v22_at (b : Fin 16) (g : Fin 2) (j : Fin 4) (n : Fin 2048) (k : Fin 2049) :
    val_main_v22 (F := Ideal) x0 x1 x3 (ix5 b g j n k) =
      Ideal.exp (val_main_v15 (F := Ideal) x0 x1 x3 (ix5 b g j n k) - top x0 x1 x3 b g j n) := by
  have e := v18_at x0 x1 x3 b g j n
  unfold val_main_v22 val_main_v21 val_main_v20 val_main_v19
  generalize val_main_v15 (F := Ideal) x0 x1 x3 = V at *
  generalize val_main_v18 (F := Ideal) x0 x1 x3 = W at *
  pointwise
  rw [e]

theorem v27_at (b : Fin 16) (g : Fin 2) (j : Fin 4) (n : Fin 2048) (k : Fin 2048) :
    val_main_v27 (F := Ideal) x0 x1 x3 (ix5 b g j n k) =
      Ideal.div (Ideal.exp (masked x0 x1 b g j n k - top x0 x1 x3 b g j n))
        ((∑ k' : Fin 2048, Ideal.exp (masked x0 x1 b g j n k' - top x0 x1 x3 b g j n)) + Ideal.exp (sink x3 g j - top x0 x1 x3 b g j n)) := by
  have h0 : Ideal.ofBits FTy.f32 0x00000000#32 = 0 := by simp [Ideal.ofBits, Ideal.ieee]
  have e1 : ∀ k : Fin 2048, val_main_v22 (F := Ideal) x0 x1 x3 (ix5 b g j n k.castSucc) =
      Ideal.exp (masked x0 x1 b g j n k - top x0 x1 x3 b g j n) := fun k => by rw [v22_at, v15_key]
  have e2 : val_main_v22 (F := Ideal) x0 x1 x3 (ix5 b g j n (Fin.last 2048)) =
      Ideal.exp (sink x3 g j - top x0 x1 x3 b g j n) := by rw [v22_at, v15_sink]
  unfold val_main_v27 val_main_v26 val_main_v25 val_main_v24 val_main_v23
  generalize val_main_v22 (F := Ideal) x0 x1 x3 = V at *
  pointwise [val_main_cst_3]
  rw [Fin.sum_univ_castSucc, e2]
  simp only [e1]
  have := e1 k
  first
    | (rw [← this]; rfl)
    | (rw [← this, h0, zero_add]; rfl)

theorem v32_at (b : Fin 16) (n : Fin 2048) (j : Fin 4) (g : Fin 2) (d : Fin 64) :
    val_main_v32 (F := Ideal) x0 x1 x2 x3 (ix3 b n ⟨128 * (j : ℕ) + 64 * (g : ℕ) + d, by omega⟩) =
      ∑ k : Fin 2048, Ideal.div (Ideal.exp (masked x0 x1 b g j n k - top x0 x1 x3 b g j n))
        ((∑ k' : Fin 2048, Ideal.exp (masked x0 x1 b g j n k' - top x0 x1 x3 b g j n)) + Ideal.exp (sink x3 g j - top x0 x1 x3 b g j n)) *
          x2 (ix4 b k g d) := by
  have e := v27_at x0 x1 x3 b g j n
  unfold val_main_v32 val_main_v31 val_main_v30 val_main_v29 val_main_v28
  generalize val_main_v27 (F := Ideal) x0 x1 x3 = V at *
  pointwise
  simp only [e]
  exact Finset.sum_congr rfl fun k _ => mul_comm _ _

end Cert.ReferenceIdeal.Band

end
-- ==== Proof.SoftmaxSink.lean ====
module

public import proofs.«01_k».proof.Proof.BandRead
public import Idealize.ShloMosaic.Lib.FinSumWindow

@[expose] public section

noncomputable section

open Idealize.ShloMosaic

namespace Cert.Softmax

/-- The coercion of a sum of reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A factor that is a nonnegative real comes out of a sum of extended reals. -/
theorem sum_mul_coe {ι : Type} (s : Finset ι) (f : ι → EReal) (a : ℝ) (ha : 0 ≤ a) : (∑ i ∈ s, f i) * (a : EReal) = ∑ i ∈ s, f i * (a : EReal) := by
  classical
  induction s using Finset.induction_on with
  | empty => simp
  | insert b s hb ih =>
    rw [Finset.sum_insert hb, Finset.sum_insert hb, ← ih, mul_comm, mul_comm (f b), mul_comm (∑ i ∈ s, f i),
      EReal.left_distrib_of_nonneg_of_ne_top (EReal.coe_nonneg.mpr ha) (EReal.coe_ne_top a)]

/-- The weight of a key: the exponential of the score inside the band, nothing outside. -/
def weight (A : ℝ) (M : ℝ) (b : Prop) [Decidable b] : ℝ := if b then Real.exp (A - M) else 0

theorem weight_nonneg (A M : ℝ) (b : Prop) [Decidable b] : 0 ≤ weight A M b := by
  unfold weight; split <;> positivity

/-- The greatest of finitely many scores, some of them masked, and a real sink is real. -/
theorem max_real {ι : Type} [Fintype ι] (A : ι → ℝ) (B : ι → Prop) [DecidablePred B] (z : ℝ) :
    ∃ M : ℝ, max (Finset.fold max ⊥ (fun i => if B i then (A i : EReal) else ⊥) Finset.univ) (z : EReal) = (M : EReal) := by
  classical
  have h : ∀ s : Finset ι, (Finset.fold max (⊥ : EReal) (fun i => if B i then (A i : EReal) else ⊥) s) ≠ ⊤ := by
    intro s
    induction s using Finset.induction_on with
    | empty => simp
    | insert a s ha ih =>
      rw [Finset.fold_insert ha]
      refine ne_of_lt (max_lt ?_ (lt_top_iff_ne_top.mpr ih))
      split
      · exact EReal.coe_lt_top _
      · exact bot_lt_top
  refine ⟨(max (Finset.fold max ⊥ (fun i => if B i then (A i : EReal) else ⊥) Finset.univ) (z : EReal)).toReal, (EReal.coe_toReal ?_ ?_).symm⟩
  · exact ne_of_lt (max_lt (lt_top_iff_ne_top.mpr (h _)) (EReal.coe_lt_top z))
  · exact ne_of_gt (lt_of_lt_of_le (EReal.bot_lt_coe z) (le_max_right _ _))

/-- The scores outside the band count for nothing, and a window that holds the band has the same maximum. -/
theorem max_window {N W : ℕ} (lo : ℕ) (hlo : lo + W ≤ N) (A : Fin N → ℝ) (B : Fin N → Prop) [DecidablePred B]
    (hB : ∀ k, B k → lo ≤ k.val ∧ k.val < lo + W) (z c : ℝ) (hc : 0 < c) :
    max (Finset.fold max ⊥ (fun t : Fin W => ((c * A ⟨lo + t, by omega⟩ : ℝ) : EReal) + if B ⟨lo + t, by omega⟩ then 0 else ⊥) Finset.univ)
        ((z : EReal) * (c : EReal)) =
      (c : EReal) * max (Finset.fold max ⊥ (fun i => if B i then (A i : EReal) else ⊥) Finset.univ) (z : EReal) := by
  have hm : Monotone fun x : EReal => (c : EReal) * x := fun x y h => mul_le_mul_of_nonneg_left h (EReal.coe_nonneg.mpr hc.le)
  have hS : ∀ t : Fin W, (((c * A ⟨lo + t, by omega⟩ : ℝ) : EReal) + if B ⟨lo + t, by omega⟩ then 0 else ⊥) =
      (c : EReal) * (if B ⟨lo + t, by omega⟩ then (A ⟨lo + t, by omega⟩ : EReal) else ⊥) := by
    intro t
    split
    · rw [add_zero, EReal.coe_mul]
    · rw [EReal.add_bot, EReal.coe_mul_bot_of_pos hc]
  simp only [hS]
  have hr : (c : EReal) * max (Finset.fold max ⊥ (fun i => if B i then (A i : EReal) else ⊥) Finset.univ) (z : EReal) =
      max ((c : EReal) * Finset.fold max ⊥ (fun i => if B i then (A i : EReal) else ⊥) Finset.univ) ((c : EReal) * z) := hm.map_max
  rw [hr, mul_comm (z : EReal)]
  congr 1
  change Finset.univ.sup _ = (c : EReal) * Finset.univ.sup _
  have hs : (c : EReal) * Finset.univ.sup (fun i => if B i then (A i : EReal) else ⊥) =
      Finset.univ.sup (fun i => (c : EReal) * (if B i then (A i : EReal) else ⊥)) :=
    Finset.comp_sup_eq_sup_comp (fun x : EReal => (c : EReal) * x) (fun x y => hm.map_max) (EReal.coe_mul_bot_of_pos hc)
  rw [hs]
  apply le_antisymm
  · refine Finset.sup_le fun t _ => ?_
    exact Finset.le_sup (f := fun i => (c : EReal) * (if B i then (A i : EReal) else ⊥)) (Finset.mem_univ (⟨lo + t, by omega⟩ : Fin N))
  · refine Finset.sup_le fun k _ => ?_
    by_cases hk : B k
    · obtain ⟨h1, h2⟩ := hB k hk
      have e : (⟨lo + (k.val - lo), by omega⟩ : Fin N) = k := Fin.ext (by simp only; omega)
      have := Finset.le_sup (f := fun t : Fin W => (c : EReal) * (if B ⟨lo + t, by omega⟩ then (A ⟨lo + t, by omega⟩ : EReal) else ⊥))
        (Finset.mem_univ (⟨k.val - lo, by omega⟩ : Fin W))
      simp only [e] at this
      exact this
    · rw [if_neg hk, EReal.coe_mul_bot_of_pos hc]
      exact bot_le

theorem exp_weight (A M : ℝ) (b : Prop) [Decidable b] : Ideal.exp ((if b then (A : EReal) else ⊥) - (M : EReal)) = (weight A M b : EReal) := by
  unfold weight
  split
  · rw [← EReal.coe_sub]; rfl
  · rw [EReal.bot_sub]; rfl

theorem exp2_scaled (a : ℝ) : Ideal.exp2 ((((Real.log 2)⁻¹ * a : ℝ)) : EReal) = (Real.exp a : EReal) := by
  have h : Real.log 2 ≠ 0 := (Real.log_pos (by norm_num)).ne'
  change ((Real.rpow 2 _ : ℝ) : EReal) = _
  congr 1
  change (2 : ℝ) ^ ((Real.log 2)⁻¹ * a) = Real.exp a
  rw [Real.rpow_def_of_pos (by norm_num)]
  congr 1
  field_simp

theorem exp2_weight (A M : ℝ) (b : Prop) [Decidable b] :
    Ideal.exp2 ((((Real.log 2)⁻¹ * A : ℝ) : EReal) + (if b then 0 else ⊥) - (((Real.log 2)⁻¹ : ℝ) : EReal) * (M : EReal)) = (weight A M b : EReal) := by
  unfold weight
  split
  · rw [add_zero, ← EReal.coe_mul, ← EReal.coe_sub, ← mul_sub, exp2_scaled]
  · rw [EReal.add_bot, EReal.bot_sub]; rfl

/-- A row of the kernel over a window of keys, in base two, is the row of softmax over all keys with a sink. -/
theorem band_softmax {N : ℕ} (lo : ℕ) (hlo : lo + 256 ≤ N) (A : Fin N → ℝ) (B : Fin N → Prop) [DecidablePred B]
    (hB : ∀ k, B k → lo ≤ k.val ∧ k.val < lo + 256) (z : ℝ) (v : Fin N → EReal) (M : EReal)
    (hM : M = max (Finset.fold max ⊥ (fun i => if B i then (A i : EReal) else ⊥) Finset.univ) (z : EReal)) :
    Cert.KernelIdeal.Band.bandRow
        (fun t => (((Real.log 2)⁻¹ * A ⟨lo + t, by omega⟩ : ℝ) : EReal) + if B ⟨lo + t, by omega⟩ then 0 else ⊥)
        ((z : EReal) * (((Real.log 2)⁻¹ : ℝ) : EReal)) (fun t => v ⟨lo + t, by omega⟩) (fun _ => 1) =
      ∑ k, Ideal.div (Ideal.exp ((if B k then (A k : EReal) else ⊥) - M))
        ((∑ k', Ideal.exp ((if B k' then (A k' : EReal) else ⊥) - M)) + Ideal.exp ((z : EReal) - M)) * v k := by
  have hc : 0 < (Real.log 2)⁻¹ := inv_pos.mpr (Real.log_pos (by norm_num))
  obtain ⟨m, hm⟩ := max_real A B z
  unfold Cert.KernelIdeal.Band.bandRow
  rw [max_window lo hlo A B hB z _ hc, hM, hm]
  simp only [exp_weight, exp2_weight]
  have hz : Ideal.exp2 ((z : EReal) * (((Real.log 2)⁻¹ : ℝ) : EReal) - (((Real.log 2)⁻¹ : ℝ) : EReal) * (m : EReal)) = (Real.exp (z - m) : EReal) := by
    rw [mul_comm, ← EReal.coe_mul, ← EReal.coe_mul, ← EReal.coe_sub, ← mul_sub, exp2_scaled]
  have hz' : Ideal.exp ((z : EReal) - (m : EReal)) = (Real.exp (z - m) : EReal) := by rw [← EReal.coe_sub]; rfl
  have hout : ∀ k : Fin N, ¬(lo ≤ k.val ∧ k.val < lo + 256) → weight (A k) m (B k) = 0 := by
    intro k hk
    rw [weight, if_neg fun h => hk (hB k h)]
  rw [hz, hz', ← coe_sum, ← EReal.coe_add]
  simp only [one_mul]
  rw [← coe_sum, ← EReal.coe_add]
  rw [FinSumWindow.sum_window lo hlo (fun k => weight (A k) m (B k)) hout]
  set D : ℝ := (∑ p : Fin 256, weight (A ⟨lo + p, by omega⟩) m (B ⟨lo + p, by omega⟩)) + Real.exp (z - m) with hD
  have hpos : 0 < D := add_pos_of_nonneg_of_pos (Finset.sum_nonneg fun _ _ => weight_nonneg _ _ _) (Real.exp_pos _)
  simp only [Ideal.div_coe hpos.ne', one_mul]
  rw [sum_mul_coe _ _ _ (one_div_nonneg.mpr hpos.le)]
  rw [FinSumWindow.sum_window lo hlo (fun k => (weight (A k) m (B k) : EReal) * ((1 / D : ℝ) : EReal) * v k) (by
    intro k hk
    simp only [hout k hk, EReal.coe_zero, zero_mul])]
  refine Finset.sum_congr rfl fun t _ => ?_
  ac_rfl

end Cert.Softmax

end
-- ==== Proof.BandRow.lean ====
module

public import proofs.«01_k».proof.Proof.BandHost
public import proofs.«01_k».proof.Proof.BandRef
public import proofs.«01_k».proof.Proof.SoftmaxSink

@[expose] public section

set_option maxRecDepth 16384

noncomputable section

open Idealize.ShloMosaic

namespace Cert.Row

open Cert.KernelIdeal.Band Cert.ReferenceIdeal.Band

/-! A row of the kernel's block is the reference's row, the operands being what the host made of real arguments. -/

/-- The lane of a number of a key of a group. -/
def lane (g : Fin 2) (d : Fin 64) : Fin 128 := ⟨64 * ((d : ℕ) / 32) + 32 * g + (d : ℕ) % 32, by omega⟩

/-- A sum over the lanes whose terms vanish outside a group is the sum over the group's numbers. -/
theorem sum_lanes (f : Fin 128 → EReal) (g : Fin 2) (hz : ∀ l : Fin 128, ¬((l : ℕ) % 64 < 32 ↔ g = 0) → f l = 0) :
    ∑ l, f l = ∑ d : Fin 64, f (lane g d) := by
  symm
  refine Finset.sum_of_injOn (lane g) ?_ (fun _ _ => Finset.mem_coe.mpr (Finset.mem_univ _)) ?_ (fun _ _ => rfl)
  · intro a _ b _ h
    have h' := congrArg Fin.val h
    simp only [lane] at h'
    exact Fin.ext (by omega)
  · intro l _ hl
    refine hz l fun h => hl ?_
    have hg : (g : ℕ) = 0 ↔ g = 0 := ⟨fun e => Fin.ext e, fun e => by rw [e]; rfl⟩
    refine ⟨⟨32 * ((l : ℕ) / 64) + (l : ℕ) % 32, by omega⟩, Finset.mem_coe.mpr (Finset.mem_univ _), Fin.ext ?_⟩
    simp only [lane]
    have := g.isLt
    rw [← hg] at h
    omega

variable (X0 : FVec Ideal Cert.KernelIdeal.S1x2048x512 .bf16) (X1 : FVec Ideal Cert.KernelIdeal.S1x2048x128 .bf16)
  (X2 : FVec Ideal Cert.KernelIdeal.S1x160x2048 .bf16) (X3 : FVec Ideal Cert.KernelIdeal.S8 .f32)
  (q : FVec Ideal Cert.ReferenceIdeal.S16x2048x2x4x64 .f32) (k v : FVec Ideal Cert.ReferenceIdeal.S16x2048x2x64 .f32) (s : FVec Ideal Cert.ReferenceIdeal.S1x8 .f32)

theorem row_eq (b : Fin 16)
    (h0 : ∀ (n : Fin 2048) (j : Fin 4) (e : Fin 2) (g : Fin 2) (p : Fin 32), X0 (ix3 0 n ⟨128 * (j : ℕ) + 64 * e + 32 * g + p, by omega⟩) = scaled (q (ix5 b n g j ⟨32 * (e : ℕ) + p, by omega⟩)))
    (h1 : ∀ (n : Fin 2048) (e : Fin 2) (g : Fin 2) (p : Fin 32), X1 (ix3 0 n ⟨64 * (e : ℕ) + 32 * g + p, by omega⟩) = k (ix4 b n g ⟨32 * (e : ℕ) + p, by omega⟩))
    (h2 : ∀ (u : Fin 2048) (g : Fin 2) (a : Fin 64), X2 (ix3 0 ⟨80 * (g : ℕ) + a, by omega⟩ u) = v (ix4 b u g a))
    (h2' : ∀ (u : Fin 2048) (g : Fin 2), X2 (ix3 0 ⟨80 * (g : ℕ) + 64, by omega⟩ u) = (1 : EReal))
    (h3 : ∀ i : Fin 8, X3 (ix1 i) = s (ix2 0 i))
    (rq : ∀ i, ∃ a : ℝ, q i = a) (rk : ∀ i, ∃ a : ℝ, k i = a) (rs : ∀ i, ∃ a : ℝ, s i = a)
    (r : Fin 16) (rr : Fin 128) (j : Fin 4) (g : Fin 2) (d : Fin 64) (n : Fin 2048) (hn : (n : ℕ) = 128 * r + rr) :
    blockRow X0 X1 X2 X3 r rr j g d =
      ∑ u : Fin 2048, Ideal.div (Ideal.exp (masked q k b g j n u - top q k s b g j n))
        ((∑ u' : Fin 2048, Ideal.exp (masked q k b g j n u' - top q k s b g j n)) + Ideal.exp (sink s g j - top q k s b g j n)) * v (ix4 b u g d) := by
  choose Q hQ using rq
  choose K hK using rk
  choose Z hZ using rs
  have hr := lo_le r
  let A : Fin 2048 → ℝ := fun u => (∑ d : Fin 64, K (ix4 b u g d) * Q (ix5 b n g j d)) * (1 / 8)
  have hA : ∀ u, score q k b g j n u = (A u : EReal) := by
    intro u
    unfold score
    simp only [hQ, hK, ← EReal.coe_mul, ← Cert.Softmax.coe_sum]
    rfl
  have hS : ∀ u : Fin 2048, (∑ l : Fin 128, X1 (ix3 0 u l) *
      (if ((l : ℕ) % 64 < 32 ↔ g = 0) then X0 (ix3 0 n ⟨128 * (j : ℕ) + l, by omega⟩) else 0)) = (((Real.log 2)⁻¹ * A u : ℝ) : EReal) := by
    intro u
    rw [sum_lanes _ g (fun l hl => by rw [if_neg hl, mul_zero])]
    have hl : ∀ d : Fin 64, X1 (ix3 0 u (lane g d)) * (if (((lane g d : Fin 128) : ℕ) % 64 < 32 ↔ g = 0) then X0 (ix3 0 n ⟨128 * (j : ℕ) + lane g d, by omega⟩) else 0) =
        (((K (ix4 b u g d) * ((1 / 8) * Q (ix5 b n g j d) * (Real.log 2)⁻¹)) : ℝ) : EReal) := by
      intro d
      have hd : (⟨32 * ((⟨(d : ℕ) / 32, by omega⟩ : Fin 2) : ℕ) + ((⟨(d : ℕ) % 32, by omega⟩ : Fin 32) : ℕ), by omega⟩ : Fin 64) = d := Fin.ext (by simp only []; omega)
      have e1 := h1 u ⟨(d : ℕ) / 32, by omega⟩ g ⟨(d : ℕ) % 32, by omega⟩
      have e0 := h0 n j ⟨(d : ℕ) / 32, by omega⟩ g ⟨(d : ℕ) % 32, by omega⟩
      rw [hd] at e0 e1
      rw [hQ, scaled_coe] at e0
      rw [hK] at e1
      have hg : (g : ℕ) = 0 ↔ g = 0 := ⟨fun e => Fin.ext e, fun e => by rw [e]; rfl⟩
      rw [if_pos (by rw [← hg]; simp only [lane]; omega), EReal.coe_mul, ← e1, ← e0]
      congr 1
      refine congrArg X0 (congrArg (ix3 0 n) (Fin.ext ?_))
      simp only [lane]
      omega
    rw [Finset.sum_congr rfl fun d _ => hl d, ← Cert.Softmax.coe_sum]
    congr 1
    simp only [A, Finset.sum_mul, Finset.mul_sum]
    exact Finset.sum_congr rfl fun d _ => by ring
  have hz : sink s g j = ((Z (ix2 0 ⟨(g : ℕ) * 4 + j, by omega⟩) : ℝ) : EReal) := hZ _
  have key := Cert.Softmax.band_softmax (lo r) hr A (fun u => (n : ℕ) < u + 128 ∧ (u : ℕ) ≤ n)
    (fun u hu => by unfold lo; omega) (Z (ix2 0 ⟨(g : ℕ) * 4 + j, by omega⟩)) (fun u => v (ix4 b u g d)) (top q k s b g j n)
    (by unfold top masked; simp only [hA, hz])
  unfold masked
  simp only [hA, hz]
  refine Eq.trans ?_ key
  unfold blockRow
  have e : (⟨128 * (r : ℕ) + rr, by omega⟩ : Fin 2048) = n := Fin.ext hn.symm
  rw [e, h3, hZ]
  simp only [hS, h2, h2', hn]

end Cert.Row

end
-- ==== Proof.Finite.lean ====
module

public import proofs.«01_k».proof.Pre_finite
public import Idealize.ShloMosaic.Lib.ReduceAll
public import Idealize.ShloMosaic.Lib.Pointwise

@[expose] public section

set_option maxRecDepth 16384

noncomputable section

open Idealize.ShloMosaic

namespace Cert.Pre_finite

/-! What the precondition says: every query, key and sink is a real number. -/

theorem top_bits : Ideal.ofBits .f32 0x7F800000#32 = ⊤ := by simp [Ideal.ofBits, Ideal.ieee]

theorem bot_bits : Ideal.ofBits .f32 0xFF800000#32 = ⊥ := by simp [Ideal.ofBits, Ideal.ieee]

theorem real_of_lt (x : EReal) (h : IntOp.andi (BitVec.ofBool (decide (x < ⊤))) (BitVec.ofBool (decide (⊥ < x))) = 1#1) : ∃ a : ℝ, x = a := by
  by_cases h1 : x < ⊤
  · by_cases h2 : ⊥ < x
    · exact ⟨x.toReal, (EReal.coe_toReal h1.ne h2.ne').symm⟩
    · rw [decide_eq_false h2, decide_eq_true h1] at h; exact absurd h (by decide)
  · rw [decide_eq_false h1] at h
    cases hd : decide (⊥ < x) <;> rw [hd] at h <;> exact absurd h (by decide)

theorem andi_ones (a b : BitVec 1) (h : IntOp.andi a b = 1#1) : a = 1#1 ∧ b = 1#1 := by
  revert a b
  decide

variable [Facts]

variable (x0 : FVec Ideal S16x2048x2x4x64 .f32) (x1 x2 : FVec Ideal S16x2048x2x64 .f32) (x3 : FVec Ideal S1x8 .f32)

theorem real {s : Shape} (x : FVec Ideal s .f32) (hb : S_.BroadcastsInDim s (![] : Fin 0 → Fin s.rank)) {axes : List (Fin s.rank)} (hr : s.ReducesTo axes S_)
    (h : Host.reduce IntOp.andi (andi (cmpf .olt x (broadcastInDim s ![] hb (constant (F := Ideal) S_ .f32 0x7F800000#32)))
      (cmpf .ogt x (broadcastInDim s ![] hb (constant (F := Ideal) S_ .f32 0xFF800000#32)))) (constantI S_ 1 1#1) hr Facts.h_S_ ix0 = 1#1) (i : s.Idx) : ∃ a : ℝ, x i = a := by
  haveI : Subsingleton S_.Idx := ⟨fun a b => funext fun k => k.elim0⟩
  have e := Host.reduce_andi_all _ _ hr Facts.h_S_ ix0 h i
  clear h
  have e' : IntOp.andi (BitVec.ofBool (decide (x i < Ideal.ofBits .f32 0x7F800000#32))) (BitVec.ofBool (decide (Ideal.ofBits .f32 0xFF800000#32 < x i))) = 1#1 := by
    rw [← e]
    pointwise
  rw [top_bits, bot_bits] at e'
  exact real_of_lt (x i) e'

theorem finite (h : fn (F := Ideal) x0 x1 x2 x3 ix0 = 1#1) : (∀ i, ∃ a : ℝ, x0 i = a) ∧ (∀ i, ∃ a : ℝ, x1 i = a) ∧ (∀ i, ∃ a : ℝ, x3 i = a) := by
  have h1 := andi_ones _ _ h
  have h2 := andi_ones _ _ h1.1
  exact ⟨real x0 _ _ h2.1, real x1 _ _ h2.2, real x3 _ _ h1.2⟩

end Cert.Pre_finite

end
-- ==== Proof.BandFinal.lean ====
module

public import proofs.«01_k».proof.Proof.BandRow
public import proofs.«01_k».proof.Proof.Finite
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Band

open Cert.KernelIdeal Cert.KernelIdeal.Gen Cert.KernelIdeal.Value

/-! The kernel's whole result is the reference's. -/

variable (m : (ℓ : Loc nD τ sig) → Buf (Elt Ideal) ℓ) (c : Dev nD)

theorem idx0 : ∀ t : Fin cfg0.N, win0_0.index t = ![t.val, 0, 0] :=
  (by decide +kernel : ∀ t : Fin grid0.N, win0_0.index t = ![t.val, 0, 0])

theorem idx1 : ∀ t : Fin cfg0.N, win0_1.index t = ![t.val, 0, 0] :=
  (by decide +kernel : ∀ t : Fin grid0.N, win0_1.index t = ![t.val, 0, 0])

theorem idx2 : ∀ t : Fin cfg0.N, win0_2.index t = ![t.val, 0, 0] :=
  (by decide +kernel : ∀ t : Fin grid0.N, win0_2.index t = ![t.val, 0, 0])

theorem idx3 : ∀ t : Fin cfg0.N, win0_3.index t = ![0] :=
  (by decide +kernel : ∀ t : Fin grid0.N, win0_3.index t = ![0])

theorem idx4 : ∀ t : Fin cfg0.N, win0_4.index t = ![t.val, 0, 0] :=
  (by decide +kernel : ∀ t : Fin grid0.N, win0_4.index t = ![t.val, 0, 0])

theorem iblk0 (t : Fin cfg0.N) (b : Fin 16) (hb : b.val = t.val) (n : Fin 2048) (l : Fin 512) :
    iblk m c 0 t (ix3 0 n l) = V m c main_v14 (ix3 b n l) := by
  blk_simp [iblk, idx0 t]
  refine congrArg (V m c main_v14) (funext fun a => Fin.ext ?_)
  fin_cases a <;> blk_simp [idx0 t] <;> simp [hb]

theorem iblk1 (t : Fin cfg0.N) (b : Fin 16) (hb : b.val = t.val) (n : Fin 2048) (l : Fin 128) :
    iblk m c 1 t (ix3 0 n l) = V m c main_v16 (ix3 b n l) := by
  blk_simp [iblk, idx1 t]
  refine congrArg (V m c main_v16) (funext fun a => Fin.ext ?_)
  fin_cases a <;> blk_simp [idx1 t] <;> simp [hb]

theorem iblk2 (t : Fin cfg0.N) (b : Fin 16) (hb : b.val = t.val) (a : Fin 160) (u : Fin 2048) :
    iblk m c 2 t (ix3 0 a u) = V m c main_v18 (ix3 b a u) := by
  blk_simp [iblk, idx2 t]
  refine congrArg (V m c main_v18) (funext fun a => Fin.ext ?_)
  fin_cases a <;> blk_simp [idx2 t] <;> simp [hb]

theorem iblk3 (t : Fin cfg0.N) (i : Fin 8) :
    iblk m c 3 t (ix1 i) = V m c main_v19 (ix1 i) := by
  blk_simp [iblk, idx3 t]
  refine congrArg (V m c main_v19) (funext fun a => Fin.ext ?_)
  fin_cases a <;> blk_simp [idx3 t] <;> simp

theorem final (G : FVec Ideal S16x2048x512 .bf16)
    (h : ∀ (t : Fin cfg0.N) (b : Fin 16) (hb : b.val = t.val) (y : S1x2048x512.Idx), blockOut (iblk m c 0 t) (iblk m c 1 t) (iblk m c 2 t) (iblk m c 3 t) y = G (ix3 b ⟨(y 1).val, (y 1).isLt⟩ ⟨(y 2).val, (y 2).isLt⟩)) :
    (dats m 0 c).arrAt 4 cfg0.N = G := by
  refine (dats m 0 c).arrAt_eq_of_covers 4 _ (by decide +kernel) fun t hf y => ?_
  blk_simp
  rw [after0_4]
  unfold outsAt0
  rw [out_eq]
  have ht : t.val < 16 := lt_of_lt_of_eq t.isLt (by decide +kernel : cfg0.N = 16)
  refine (h t ⟨t.val, ht⟩ rfl y).trans (congrArg G (funext fun a => Fin.ext ?_))
  have hy : (y 0).val < 1 := (y 0).isLt
  fin_cases a <;> blk_simp [idx4 t] <;> simp
  all_goals (try trace_state); omega

/-- The result array of the kernel is the reference's term over the arguments, the arguments being real. -/
theorem value (rq : ∀ i, ∃ a : ℝ, m ((c : Thread nD τ).loc main_arg0) i = (a : EReal)) (rk : ∀ i, ∃ a : ℝ, m ((c : Thread nD τ).loc main_arg1) i = (a : EReal))
    (rs : ∀ i, ∃ a : ℝ, m ((c : Thread nD τ).loc main_arg3) i = (a : EReal)) :
    (dats m 0 c).arrAt 4 cfg0.N = Cert.ReferenceIdeal.Read.val_main_v32 (F := Ideal) (m ((c : Thread nD τ).loc main_arg0)) (m ((c : Thread nD τ).loc main_arg1)) (m ((c : Thread nD τ).loc main_arg2)) (m ((c : Thread nD τ).loc main_arg3)) := by
  refine final m c _ fun t b hb y => ?_
  have b1 : (y 1).val < 2048 := (y 1).isLt
  have b2 : (y 2).val < 512 := (y 2).isLt
  have e := Cert.Row.row_eq (iblk m c 0 t) (iblk m c 1 t) (iblk m c 2 t) (iblk m c 3 t)
    (m ((c : Thread nD τ).loc main_arg0)) (m ((c : Thread nD τ).loc main_arg1)) (m ((c : Thread nD τ).loc main_arg2)) (m ((c : Thread nD τ).loc main_arg3)) b
    (fun n j e g p => (iblk0 m c t b hb _ _).trans (v14_at m c b n j e g p))
    (fun n e g p => (iblk1 m c t b hb _ _).trans (v16_at m c b n e g p))
    (fun u g a => (iblk2 m c t b hb _ _).trans (v18_at m c b u g a))
    (fun u g => (iblk2 m c t b hb _ _).trans (v18_one m c b u g))
    (fun i => (iblk3 m c t i).trans (v19_at m c i)) rq rk rs
    ⟨(y 1).val / 128, by omega⟩ ⟨(y 1).val % 128, by omega⟩ ⟨(y 2).val / 128, by omega⟩ ⟨(y 2).val % 128 / 64, by omega⟩ ⟨(y 2).val % 64, by omega⟩
    ⟨(y 1).val, b1⟩ (by simp only []; omega)
  unfold blockOut
  refine e.trans ((Cert.ReferenceIdeal.Band.v32_at _ _ _ _ b _ _ _ _).symm.trans ?_)
  refine congrArg _ ?_
  refine congrArg (ix3 b _) (Fin.ext ?_)
  simp only []
  omega

end Cert.KernelIdeal.Band

end
-- ==== Proof.Claims.lean ====
module

public import proofs.«01_k».proof.Defs
public import proofs.«01_k».proof.Proof.BandFinal
public import proofs.«01_k».proof.Proof.Gen.Kernel
public import proofs.«01_k».proof.Proof.Gen.Kernel.Frame
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Pre_finite
public import Idealize.ShloMosaic.Lib.Claim
public import Idealize.ShloMosaic.Lib.Quiescent

@[expose] public section

noncomputable section

namespace Cert.Claims

open Idealize.ShloMosaic Idealize.SL.Sem

/-! The conjuncts of the claim, one theorem each. -/

theorem frame_kernel : Cert.quiescent_Kernel (hKernel := Cert.Kernel.Gen.facts) := fun m g _ => by
  run_from Cert.Kernel.Gen.frame m g

theorem frame_ideal : Cert.quiescent_KernelIdeal (hKernelIdeal := Cert.KernelIdeal.Gen.facts) := fun m g _ => by
  run_from Cert.KernelIdeal.Gen.frame m g

theorem frame_ideal_pre : Cert.quiescent_KernelIdeal_pre_finite (hKernelIdeal := Cert.KernelIdeal.Gen.facts) (hPre_finite := Cert.Pre_finite.Gen.facts) := fun m g _ => by
  run_from Cert.KernelIdeal.Gen.frame m g

theorem frame_reference : Cert.quiescent_ReferenceIdeal (hReferenceIdeal := Cert.ReferenceIdeal.Gen.facts) := fun m g _ => by
  exact (θ_run _ _ _).mono (fun r h => ⟨fun c => (h c).2, sem_eq_zero_of_no_sems rfl r.2⟩) (Cert.ReferenceIdeal.Value.run m g)

theorem frame_reference_pre : Cert.quiescent_ReferenceIdeal_pre_finite (hReferenceIdeal := Cert.ReferenceIdeal.Gen.facts) (hPre_finite := Cert.Pre_finite.Gen.facts) := fun m g _ => by
  exact (θ_run _ _ _).mono (fun r h => ⟨fun c => (h c).2, sem_eq_zero_of_no_sems rfl r.2⟩) (Cert.ReferenceIdeal.Value.run m g)

theorem frame_kernel2 : Cert.quiescent_Kernel2 (hKernel2 := Cert.Kernel2.Gen.facts) := fun m g _ => by
  run_from Cert.Kernel2.Gen.frame m g

theorem frame_ideal2 : Cert.quiescent_Kernel2Ideal (hKernel2Ideal := Cert.Kernel2Ideal.Gen.facts) := fun m g _ => by
  run_from Cert.Kernel2Ideal.Gen.frame m g

theorem frame_reference2 : Cert.quiescent_Reference2Ideal (hReference2Ideal := Cert.Reference2Ideal.Gen.facts) := fun m g _ => by
  exact (θ_run _ _ _).mono (fun r h => ⟨fun c => (h c).2, sem_eq_zero_of_no_sems rfl r.2⟩) (Cert.Reference2Ideal.Value.run m g)

theorem preserves : Cert.preserves_Kernel_KernelIdeal :=
  ⟨IdealRules.named_const.statement Cert.KernelIdeal.κ "mask" .f32 0xF149F2CA#32 ⊥ rfl,
    IdealRules.named_const.statement Cert.KernelIdeal.κ "log2e" .f32 0x3FB8AA3B#32 (((Real.log 2)⁻¹ : ℝ) : EReal) rfl⟩

theorem preserves2 : Cert.preserves_Kernel2_Kernel2Ideal := trivial

theorem algebraic : Cert.algebraic_KernelIdeal_ReferenceIdeal_pre_finite (hKernelIdeal := Cert.KernelIdeal.Gen.facts) (hReferenceIdeal := Cert.ReferenceIdeal.Gen.facts) (hPre_finite := Cert.Pre_finite.Gen.facts) := by
  pair_intro
  · run_from Cert.KernelIdeal.Gen.run_main m g
  · run_from Cert.ReferenceIdeal.Value.run m' g'
    obtain ⟨a0, a1, a2, a3⟩ := hagree c
    have hf := Cert.Pre_finite.finite _ _ _ _ (congrFun (hpre c) ix0)
    refine (Cert.ReferenceIdeal.Read.val_main_v32_eq m' c).trans ?_
    rw [a0, a1, a2, a3]
    exact (Cert.KernelIdeal.Band.value m c hf.1 hf.2.1 hf.2.2).symm

end Cert.Claims

end
-- ==== Proof.MergeSpec.lean ====
module

public import proofs.«01_k».proof.Proof.BandRead
public import Idealize.ShloMosaic.Lib.FinSumWindow

@[expose] public section

noncomputable section

open Idealize.ShloMosaic

namespace Cert.Merge

/-- The mean of a row of 1024 values. -/
def mean (f : Fin 1024 → EReal) : EReal := Ideal.div (∑ e : Fin 1024, f e) (Ideal.ofBits .f32 0x44800000#32)

/-- A row less its mean. -/
def centred (f : Fin 1024 → EReal) (e : Fin 1024) : EReal := f e - mean f

/-- A row normalised to mean nought and variance one. -/
def normed (f : Fin 1024 → EReal) (e : Fin 1024) : EReal :=
  centred f e * Ideal.rsqrt (mean (fun k => centred f k * centred f k) + Ideal.ofBits .f32 0x3727C5AC#32)

/-- The sigmoid. -/
def sigm (z : EReal) : EReal := Ideal.div 1 (1 + Ideal.exp (-z))

/-- The modulated normalised row. -/
def modu (x sh sc : Fin 1024 → EReal) (e : Fin 1024) : EReal := normed x e * (1 + sc e) + sh e

/-- A row times one column of a matrix. -/
def proj {n : ℕ} (u w : Fin n → EReal) : EReal := ∑ e : Fin n, u e * w e

/-- The gated merge of the two branches. -/
def merged (ga gb : Fin 1024 → EReal) (ya yb : Fin 512 → EReal) (wa wb : Fin 512 → Fin 1024 → EReal) (c : Fin 1024) : EReal :=
  sigm (ga c) * proj ya (fun p => wa p c) + sigm (gb c) * proj yb (fun p => wb p c)

/-- The residual before the last normalisation. -/
def resid (x gate : Fin 1024 → EReal) (m : Fin 1024 → EReal) (wo : Fin 1024 → Fin 1024 → EReal) (e : Fin 1024) : EReal :=
  Ideal.ofBits .f32 0x3F9837F0#32 * x e + gate e * proj m (fun c => wo c e)

/-- The projected gate of a branch after its activation. -/
def gated (o z : EReal) : EReal := o * (z * sigm z)

/-- The layer's result for one token, the matrices given by their columns. -/
def token (x sh sc gate : Fin 1024 → EReal) (wza wzb : Fin 512 → Fin 1024 → EReal) (wga wgb : Fin 1024 → Fin 1024 → EReal)
    (oa ob : Fin 512 → EReal) (wa wb : Fin 512 → Fin 1024 → EReal) (wo : Fin 1024 → Fin 1024 → EReal) (lg lb : Fin 1024 → EReal) (e : Fin 1024) : EReal :=
  normed (resid x gate
    (merged (fun c => proj (modu x sh sc) (wga c)) (fun c => proj (modu x sh sc) (wgb c))
      (fun p => gated (oa p) (proj (modu x sh sc) (wza p))) (fun p => gated (ob p) (proj (modu x sh sc) (wzb p))) wa wb) wo) e * lg e + lb e

/-- The order of the 512 inner columns does not matter. -/
theorem token_perm (σ : Equiv.Perm (Fin 512)) (x sh sc gate : Fin 1024 → EReal) (wza wzb : Fin 512 → Fin 1024 → EReal) (wga wgb : Fin 1024 → Fin 1024 → EReal)
    (oa ob : Fin 512 → EReal) (wa wb : Fin 512 → Fin 1024 → EReal) (wo : Fin 1024 → Fin 1024 → EReal) (lg lb : Fin 1024 → EReal) :
    token x sh sc gate (fun p => wza (σ p)) (fun p => wzb (σ p)) wga wgb (fun p => oa (σ p)) (fun p => ob (σ p)) (fun p => wa (σ p)) (fun p => wb (σ p)) wo lg lb =
    token x sh sc gate wza wzb wga wgb oa ob wa wb wo lg lb := by
  have h : ∀ f g : Fin 512 → EReal, proj (fun p => f (σ p)) (fun p => g (σ p)) = proj f g := fun f g =>
    Equiv.sum_comp σ (fun p => f p * g p)
  funext e
  unfold token merged
  have h1 := fun c => h (fun p => gated (oa p) (proj (modu x sh sc) (wza p))) (fun p => wa p c)
  have h2 := fun c => h (fun p => gated (ob p) (proj (modu x sh sc) (wzb p))) (fun p => wb p c)
  simp only [h1, h2]

end Cert.Merge
-- ==== Proof.MergeTile.lean ====
module

public import proofs.«01_k».proof.Proof.Gen.Kernel2Ideal.Value
public import proofs.«01_k».proof.Proof.MergeSpec

@[expose] public section

set_option maxRecDepth 16384

noncomputable section

open Idealize.ShloMosaic Idealize.ShloMosaic.TcCoe Idealize.SL.Sem

namespace Cert.Kernel2Ideal.Merge

open Cert.Kernel2Ideal Cert.Kernel2Ideal.Gen Cert.Merge

section
variable (a0 a1 a2 : Vec Ideal S1x1x1024 .f32) (x : Vec Ideal S1x256x1024 .f32) (w2 w3 : Vec Ideal S1024x512 .bf16) (w4 : Vec Ideal S2048x1024 .bf16)
  (o5 o6 o7 o8 : Vec Ideal S1x256x512 .bf16) (w9 w10 : Vec Ideal S512x1024 .bf16) (w11 : Vec Ideal S1024x1024 .bf16) (lg lb : Vec Ideal S1x1024 .f32)

theorem pay5_at (r : Fin 256) (e : Fin 1024) :
    k0_pay5 (F := Ideal) a0 a1 x (ix2 r e) =
      modu (fun e => x (ix3 (0 : Fin 1) r e)) (fun e => a0 (ix3 (0 : Fin 1) (0 : Fin 1) e)) (fun e => a1 (ix3 (0 : Fin 1) (0 : Fin 1) e)) e := by
  unfold modu normed centred mean
  pointwise [k0_pay5, k0_pay3, k0_pay2]
  done

theorem pay6_at (r : Fin 256) (p : Fin 512) :
    k0_pay6 (F := Ideal) a0 a1 x w2 (ix2 r p) = proj (fun e => k0_pay5 (F := Ideal) a0 a1 x (ix2 r e)) (fun e => w2 (ix2 e p)) := by
  unfold proj k0_pay6
  generalize k0_pay5 (F := Ideal) a0 a1 x = U
  pointwise []
  done

theorem pay7_at (U : FVec Ideal S256x1024 .bf16) (r : Fin 256) (p : Fin 512) :
    k0_pay7 (F := Ideal) U w3 (ix2 r p) = proj (fun e => U (ix2 r e)) (fun e => w3 (ix2 e p)) := by
  unfold proj
  pointwise [k0_pay7]
  done

theorem pay8_at (U : FVec Ideal S256x1024 .bf16) (r : Fin 256) (p : Fin 2048) :
    k0_pay8 (F := Ideal) U w4 (ix2 r p) = proj (fun e => U (ix2 r e)) (fun e => w4 (ix2 p e)) := by
  unfold proj
  pointwise [k0_pay8]
  done

theorem pay14_at (Z : FVec Ideal S256x512 .f32) (r : Fin 256) (p : Fin 512) :
    k0_pay14 (F := Ideal) Z o5 o6 o7 (ix2 r p) =
      gated (o5 (ix3 (0 : Fin 1) r p) + o6 (ix3 (0 : Fin 1) r p) + o7 (ix3 (0 : Fin 1) r p)) (Z (ix2 r p)) := by
  unfold gated sigm
  rw [← zero_sub (Z (ix2 r p))]
  pointwise [k0_pay14]
  done

theorem pay15_at (Z : FVec Ideal S256x512 .f32) (r : Fin 256) (p : Fin 512) :
    k0_pay15 (F := Ideal) Z o8 (ix2 r p) = gated (o8 (ix3 (0 : Fin 1) r p)) (Z (ix2 r p)) := by
  unfold gated sigm
  rw [← zero_sub (Z (ix2 r p))]
  pointwise [k0_pay15]
  done

/-- The gate columns of the second branch lie after those of the first. -/
def lo (c : Fin 1024) : Fin 2048 := ⟨c.val, by omega⟩
def hi (c : Fin 1024) : Fin 2048 := ⟨1024 + c.val, by omega⟩

/-- The residual of the kernel's block. -/
def res (v5 : FVec Ideal S1x1024 .f32) (G : FVec Ideal S256x2048 .f32) (A B : FVec Ideal S256x512 .bf16) (r : Fin 256) : Fin 1024 → EReal :=
  resid (fun e => x (ix3 (0 : Fin 1) r e)) (fun e => v5 (ix2 (0 : Fin 1) e))
    (merged (fun c => G (ix2 r (lo c))) (fun c => G (ix2 r (hi c))) (fun p => A (ix2 r p)) (fun p => B (ix2 r p)) (fun p c => w9 (ix2 p c)) (fun p c => w10 (ix2 p c)))
    (fun c e => w11 (ix2 c e))

theorem pay18_at (v5 : FVec Ideal S1x1024 .f32) (G : FVec Ideal S256x2048 .f32) (A B : FVec Ideal S256x512 .bf16) (r : Fin 256) (e : Fin 1024) :
    k0_pay18 (F := Ideal) v5 G A B (k0_pay16 G) k0_pay17 w9 w10 w11 x (ix2 r e) = centred (res x w9 w10 w11 v5 G A B r) e := by
  unfold res centred mean resid merged proj sigm lo hi
  simp only [← zero_sub]
  pointwise [k0_pay18, k0_pay16, k0_pay17]
  done

theorem pay19_at (v5 : FVec Ideal S1x1024 .f32) (G : FVec Ideal S256x2048 .f32) (A B : FVec Ideal S256x512 .bf16) (r : Fin 256) :
    k0_pay19 (F := Ideal) v5 G A B (k0_pay16 G) k0_pay17 w9 w10 w11 x (ix2 r (0 : Fin 1)) =
      ∑ e : Fin 1024, centred (res x w9 w10 w11 v5 G A B r) e * centred (res x w9 w10 w11 v5 G A B r) e := by
  have h := pay18_at x w9 w10 w11 v5 G A B r
  unfold k0_pay19
  generalize k0_pay18 (F := Ideal) v5 G A B (k0_pay16 G) k0_pay17 w9 w10 w11 x = Y at h ⊢
  simp only [← h]
  pointwise []
  done

theorem pay20_at (Y : FVec Ideal S256x1024 .f32) (Q : FVec Ideal S256x1 .f32) (r : Fin 256) (e : Fin 1024) :
    k0_pay20 (F := Ideal) Y Q lg lb (ix3 (0 : Fin 1) r e) =
      Y (ix2 r e) * Ideal.rsqrt (Ideal.div (Q (ix2 r (0 : Fin 1))) (Ideal.ofBits .f32 0x44800000#32) + Ideal.ofBits .f32 0x3727C5AC#32) *
        lg (ix2 (0 : Fin 1) e) + lb (ix2 (0 : Fin 1) e) := by
  pointwise [k0_pay20]
  done

/-- The block of 256 rows as the kernel computes it. -/
def tile : FVec Ideal S1x256x1024 .f32 :=
  k0_pay20 (F := Ideal)
    (k0_pay18 (k0_pay4 a2) (k0_pay8 (k0_pay5 a0 a1 x) w4) (k0_pay14 (k0_pay6 a0 a1 x w2) o5 o6 o7) (k0_pay15 (k0_pay7 (k0_pay5 a0 a1 x) w3) o8)
      (k0_pay16 (k0_pay8 (k0_pay5 a0 a1 x) w4)) k0_pay17 w9 w10 w11 x)
    (k0_pay19 (k0_pay4 a2) (k0_pay8 (k0_pay5 a0 a1 x) w4) (k0_pay14 (k0_pay6 a0 a1 x w2) o5 o6 o7) (k0_pay15 (k0_pay7 (k0_pay5 a0 a1 x) w3) o8)
      (k0_pay16 (k0_pay8 (k0_pay5 a0 a1 x) w4)) k0_pay17 w9 w10 w11 x) lg lb

theorem pay4_at (e : Fin 1024) : k0_pay4 (F := Ideal) a2 (ix2 (0 : Fin 1) e) = a2 (ix3 (0 : Fin 1) (0 : Fin 1) e) := by
  pointwise [k0_pay4]
  done

/-- A row of the block is the token's result of the block's operands. -/
theorem tile_at (r : Fin 256) (e : Fin 1024) :
    tile a0 a1 a2 x w2 w3 w4 o5 o6 o7 o8 w9 w10 w11 lg lb (ix3 (0 : Fin 1) r e) =
      token (fun e => x (ix3 (0 : Fin 1) r e)) (fun e => a0 (ix3 (0 : Fin 1) (0 : Fin 1) e)) (fun e => a1 (ix3 (0 : Fin 1) (0 : Fin 1) e))
        (fun e => a2 (ix3 (0 : Fin 1) (0 : Fin 1) e)) (fun p e => w2 (ix2 e p)) (fun p e => w3 (ix2 e p)) (fun c e => w4 (ix2 (lo c) e)) (fun c e => w4 (ix2 (hi c) e))
        (fun p => o5 (ix3 (0 : Fin 1) r p) + o6 (ix3 (0 : Fin 1) r p) + o7 (ix3 (0 : Fin 1) r p)) (fun p => o8 (ix3 (0 : Fin 1) r p))
        (fun p c => w9 (ix2 p c)) (fun p c => w10 (ix2 p c)) (fun c e => w11 (ix2 c e)) (fun e => lg (ix2 (0 : Fin 1) e)) (fun e => lb (ix2 (0 : Fin 1) e)) e := by
  unfold tile
  rw [pay20_at, pay18_at, pay19_at]
  unfold token normed mean res
  simp only [pay4_at, pay14_at, pay15_at, pay6_at, pay7_at, pay8_at, pay5_at]
end

end Cert.Kernel2Ideal.Merge
-- ==== Proof.MergeOut.lean ====
module

public import proofs.«01_k».proof.Proof.MergeTile
public import Idealize.ShloMosaic.Lib.Pipeline.ValueKit

@[expose] public section

set_option maxRecDepth 16384

noncomputable section

open Idealize.ShloMosaic Idealize.ShloMosaic.TcCoe Idealize.SL.Sem

namespace Cert.Kernel2Ideal.Merge

open Cert.Kernel2Ideal Cert.Kernel2Ideal.Gen Cert.Merge

/-! What a grid point leaves in its block of the output: each row the token's result of its operands. -/

section
variable (x0 : Vec Ideal S1x1024x1024 .f32) (x1 : Vec Ideal S1x3x1024 .f32) (x2 x3 : Vec Ideal S1024x512 .bf16) (x4 : Vec Ideal S2048x1024 .bf16)
  (x5 x6 x7 x8 : Vec Ideal S1x1024x512 .bf16) (x9 x10 : Vec Ideal S512x1024 .bf16) (x11 : Vec Ideal S1024x1024 .bf16) (x12 x13 : Vec Ideal S1x1024 .f32)

/-- A row of the block. -/
def rowAt (n : Fin 1024) (e : Fin 1024) : EReal :=
  token (fun e => x0 (ix3 (0 : Fin 1) n e)) (fun e => x1 (ix3 (0 : Fin 1) (0 : Fin 3) e)) (fun e => x1 (ix3 (0 : Fin 1) (1 : Fin 3) e))
    (fun e => x1 (ix3 (0 : Fin 1) (2 : Fin 3) e)) (fun p e => x2 (ix2 e p)) (fun p e => x3 (ix2 e p)) (fun c e => x4 (ix2 (lo c) e)) (fun c e => x4 (ix2 (hi c) e))
    (fun p => x5 (ix3 (0 : Fin 1) n p) + x6 (ix3 (0 : Fin 1) n p) + x7 (ix3 (0 : Fin 1) n p)) (fun p => x8 (ix3 (0 : Fin 1) n p))
    (fun p c => x9 (ix2 p c)) (fun p c => x10 (ix2 p c)) (fun c e => x11 (ix2 c e)) (fun e => x12 (ix2 (0 : Fin 1) e)) (fun e => x13 (ix2 (0 : Fin 1) e)) e

/-- The block as one function of its operands. -/
def blockOut : FVec Ideal S1x1024x1024 .f32 := fun y => rowAt x0 x1 x2 x3 x4 x5 x6 x7 x8 x9 x10 x11 x12 x13 ⟨(y 1).val, (y 1).isLt⟩ ⟨(y 2).val, (y 2).isLt⟩

/-- A piece agrees with the block. -/
def Agrees (p : View.Piece (Elt Ideal) S1x1024x1024 .f32) : Prop := ∀ x : p.1.shape.Idx, p.2 x = blockOut x0 x1 x2 x3 x4 x5 x6 x7 x8 x9 x10 x11 x12 x13 (p.1.emb x)

theorem tile_piece (o : ℕ) (ho : o + 256 ≤ 1024) (h1 : ∀ a, (![0, o, 0] : Fin 3 → ℕ) a + S1x256x1024.size a ≤ S1x1024x1024.size a)
    (h2 : ∀ a, (![0, o, 0] : Fin 3 → ℕ) a + S1x256x512.size a ≤ S1x1024x512.size a) :
    Agrees x0 x1 x2 x3 x4 x5 x6 x7 x8 x9 x10 x11 x12 x13 ⟨Rect.unit (s := S1x1024x1024) ![0, o, 0] S1x256x1024.size h1,
      tile (View.ld x1 r0_0) (View.ld x1 r0_1) (View.ld x1 r0_2) (View.ld x0 (Rect.unit (s := S1x1024x1024) ![0, o, 0] S1x256x1024.size h1))
        (View.ld x2 r0_4) (View.ld x3 r0_4) (View.ld x4 r0_5)
        (View.ld x5 (Rect.unit (s := S1x1024x512) ![0, o, 0] S1x256x512.size h2)) (View.ld x6 (Rect.unit (s := S1x1024x512) ![0, o, 0] S1x256x512.size h2))
        (View.ld x7 (Rect.unit (s := S1x1024x512) ![0, o, 0] S1x256x512.size h2)) (View.ld x8 (Rect.unit (s := S1x1024x512) ![0, o, 0] S1x256x512.size h2))
        (View.ld x9 r0_8) (View.ld x10 r0_8) (View.ld x11 r0_9) (View.ld x12 r0_10) (View.ld x13 r0_10)⟩ := by
  intro x
  have b1 : (x 1).val < 256 := (x 1).isLt
  have b2 : (x 2).val < 1024 := (x 2).isLt
  have e : x = ix3 (0 : Fin 1) ⟨(x 1).val, b1⟩ ⟨(x 2).val, b2⟩ := by
    funext a
    have hx : (x 0).val < 1 := (x 0).isLt
    apply Fin.ext
    fin_cases a <;> simp
  generalize (⟨(x 1).val, b1⟩ : Fin 256) = r at e
  generalize (⟨(x 2).val, b2⟩ : Fin 1024) = k at e
  subst e
  refine (tile_at _ _ _ _ _ _ _ _ _ _ _ _ _ _ _ _ r k).trans ?_
  have c0 : ∀ e : Fin 1024, View.ld x0 (Rect.unit (s := S1x1024x1024) ![0, o, 0] S1x256x1024.size h1) (ix3 (0 : Fin 1) r e) = x0 (ix3 (0 : Fin 1) ⟨o + r.val, by omega⟩ e) := fun e =>
    View.ld_unit_apply_of _ _ _ _ _ _ fun a => by fin_cases a <;> simp
  have d0 : ∀ e : Fin 1024, View.ld x1 r0_0 (ix3 (0 : Fin 1) (0 : Fin 1) e) = x1 (ix3 (0 : Fin 1) (0 : Fin 3) e) := fun e =>
    View.ld_unit_apply_of _ _ _ _ _ _ fun a => by fin_cases a <;> simp
  have d1 : ∀ e : Fin 1024, View.ld x1 r0_1 (ix3 (0 : Fin 1) (0 : Fin 1) e) = x1 (ix3 (0 : Fin 1) (1 : Fin 3) e) := fun e =>
    View.ld_unit_apply_of _ _ _ _ _ _ fun a => by fin_cases a <;> simp
  have d2 : ∀ e : Fin 1024, View.ld x1 r0_2 (ix3 (0 : Fin 1) (0 : Fin 1) e) = x1 (ix3 (0 : Fin 1) (2 : Fin 3) e) := fun e =>
    View.ld_unit_apply_of _ _ _ _ _ _ fun a => by fin_cases a <;> simp
  have c5 : ∀ p : Fin 512, View.ld x5 (Rect.unit (s := S1x1024x512) ![0, o, 0] S1x256x512.size h2) (ix3 (0 : Fin 1) r p) = x5 (ix3 (0 : Fin 1) ⟨o + r.val, by omega⟩ p) := fun p =>
    View.ld_unit_apply_of _ _ _ _ _ _ fun a => by fin_cases a <;> simp
  have c6 : ∀ p : Fin 512, View.ld x6 (Rect.unit (s := S1x1024x512) ![0, o, 0] S1x256x512.size h2) (ix3 (0 : Fin 1) r p) = x6 (ix3 (0 : Fin 1) ⟨o + r.val, by omega⟩ p) := fun p =>
    View.ld_unit_apply_of _ _ _ _ _ _ fun a => by fin_cases a <;> simp
  have c7 : ∀ p : Fin 512, View.ld x7 (Rect.unit (s := S1x1024x512) ![0, o, 0] S1x256x512.size h2) (ix3 (0 : Fin 1) r p) = x7 (ix3 (0 : Fin 1) ⟨o + r.val, by omega⟩ p) := fun p =>
    View.ld_unit_apply_of _ _ _ _ _ _ fun a => by fin_cases a <;> simp
  have c8 : ∀ p : Fin 512, View.ld x8 (Rect.unit (s := S1x1024x512) ![0, o, 0] S1x256x512.size h2) (ix3 (0 : Fin 1) r p) = x8 (ix3 (0 : Fin 1) ⟨o + r.val, by omega⟩ p) := fun p =>
    View.ld_unit_apply_of _ _ _ _ _ _ fun a => by fin_cases a <;> simp
  have c2 : ∀ (p : Fin 1024) (q : Fin 512), View.ld x2 r0_4 (ix2 p q) = x2 (ix2 p q) := fun p q =>
    View.ld_unit_apply_of _ _ _ _ _ _ fun a => by fin_cases a <;> simp
  have c3 : ∀ (p : Fin 1024) (q : Fin 512), View.ld x3 r0_4 (ix2 p q) = x3 (ix2 p q) := fun p q =>
    View.ld_unit_apply_of _ _ _ _ _ _ fun a => by fin_cases a <;> simp
  have c4 : ∀ (p : Fin 2048) (q : Fin 1024), View.ld x4 r0_5 (ix2 p q) = x4 (ix2 p q) := fun p q =>
    View.ld_unit_apply_of _ _ _ _ _ _ fun a => by fin_cases a <;> simp
  have c9 : ∀ (p : Fin 512) (q : Fin 1024), View.ld x9 r0_8 (ix2 p q) = x9 (ix2 p q) := fun p q =>
    View.ld_unit_apply_of _ _ _ _ _ _ fun a => by fin_cases a <;> simp
  have c10 : ∀ (p : Fin 512) (q : Fin 1024), View.ld x10 r0_8 (ix2 p q) = x10 (ix2 p q) := fun p q =>
    View.ld_unit_apply_of _ _ _ _ _ _ fun a => by fin_cases a <;> simp
  have c11 : ∀ (p : Fin 1024) (q : Fin 1024), View.ld x11 r0_9 (ix2 p q) = x11 (ix2 p q) := fun p q =>
    View.ld_unit_apply_of _ _ _ _ _ _ fun a => by fin_cases a <;> simp
  have c12 : ∀ (p : Fin 1) (q : Fin 1024), View.ld x12 r0_10 (ix2 p q) = x12 (ix2 p q) := fun p q =>
    View.ld_unit_apply_of _ _ _ _ _ _ fun a => by fin_cases a <;> simp
  have c13 : ∀ (p : Fin 1) (q : Fin 1024), View.ld x13 r0_10 (ix2 p q) = x13 (ix2 p q) := fun p q =>
    View.ld_unit_apply_of _ _ _ _ _ _ fun a => by fin_cases a <;> simp
  have hr : (Rect.unit (s := S1x1024x1024) ![0, o, 0] S1x256x1024.size h1).emb (ix3 (0 : Fin 1) r k) = ix3 (0 : Fin 1) (⟨o + r.val, by omega⟩ : Fin 1024) k := by
    funext a
    apply Fin.ext
    rw [Rect.emb_apply]
    fin_cases a <;> simp
  simp only [c0, d0, d1, d2, c2, c3, c4, c5, c6, c7, c8, c9, c10, c11, c12, c13]
  refine Eq.trans ?_ (congrArg (blockOut x0 x1 x2 x3 x4 x5 x6 x7 x8 x9 x10 x11 x12 x13) hr).symm
  rfl

theorem out_def : out0_14 (F := Ideal) x0 x1 x2 x3 x4 x5 x6 x7 x8 x9 x10 x11 x12 x13 =
    View.canon [⟨r0_13, tile (View.ld x1 r0_0) (View.ld x1 r0_1) (View.ld x1 r0_2) (View.ld x0 r0_13) (View.ld x2 r0_4) (View.ld x3 r0_4) (View.ld x4 r0_5) (View.ld x5 r0_15) (View.ld x6 r0_15) (View.ld x7 r0_15) (View.ld x8 r0_15) (View.ld x9 r0_8) (View.ld x10 r0_8) (View.ld x11 r0_9) (View.ld x12 r0_10) (View.ld x13 r0_10)⟩,
      ⟨r0_11, tile (View.ld x1 r0_0) (View.ld x1 r0_1) (View.ld x1 r0_2) (View.ld x0 r0_11) (View.ld x2 r0_4) (View.ld x3 r0_4) (View.ld x4 r0_5) (View.ld x5 r0_14) (View.ld x6 r0_14) (View.ld x7 r0_14) (View.ld x8 r0_14) (View.ld x9 r0_8) (View.ld x10 r0_8) (View.ld x11 r0_9) (View.ld x12 r0_10) (View.ld x13 r0_10)⟩,
      ⟨r0_6, tile (View.ld x1 r0_0) (View.ld x1 r0_1) (View.ld x1 r0_2) (View.ld x0 r0_6) (View.ld x2 r0_4) (View.ld x3 r0_4) (View.ld x4 r0_5) (View.ld x5 r0_12) (View.ld x6 r0_12) (View.ld x7 r0_12) (View.ld x8 r0_12) (View.ld x9 r0_8) (View.ld x10 r0_8) (View.ld x11 r0_9) (View.ld x12 r0_10) (View.ld x13 r0_10)⟩,
      ⟨r0_3, tile (View.ld x1 r0_0) (View.ld x1 r0_1) (View.ld x1 r0_2) (View.ld x0 r0_3) (View.ld x2 r0_4) (View.ld x3 r0_4) (View.ld x4 r0_5) (View.ld x5 r0_7) (View.ld x6 r0_7) (View.ld x7 r0_7) (View.ld x8 r0_7) (View.ld x9 r0_8) (View.ld x10 r0_8) (View.ld x11 r0_9) (View.ld x12 r0_10) (View.ld x13 r0_10)⟩] := by
  sl_kernel_rfl

theorem out_eq : out0_14 (F := Ideal) x0 x1 x2 x3 x4 x5 x6 x7 x8 x9 x10 x11 x12 x13 = blockOut x0 x1 x2 x3 x4 x5 x6 x7 x8 x9 x10 x11 x12 x13 := by
  rw [out_def]
  funext y
  refine View.canon_apply_of_pieces (Val := Elt Ideal) (S := S1x1024x1024) (e := .f32) (fun y => blockOut x0 x1 x2 x3 x4 x5 x6 x7 x8 x9 x10 x11 x12 x13 y) _ (fun p hp x => ?_) y (cover0_14 _ _ _ _ y)
  revert x
  change Agrees x0 x1 x2 x3 x4 x5 x6 x7 x8 x9 x10 x11 x12 x13 p
  revert p
  refine List.forall_mem_cons.mpr ⟨tile_piece x0 x1 x2 x3 x4 x5 x6 x7 x8 x9 x10 x11 x12 x13 768 (by omega) _ _, ?_⟩
  refine List.forall_mem_cons.mpr ⟨tile_piece x0 x1 x2 x3 x4 x5 x6 x7 x8 x9 x10 x11 x12 x13 512 (by omega) _ _, ?_⟩
  refine List.forall_mem_cons.mpr ⟨tile_piece x0 x1 x2 x3 x4 x5 x6 x7 x8 x9 x10 x11 x12 x13 256 (by omega) _ _, ?_⟩
  refine List.forall_mem_cons.mpr ⟨tile_piece x0 x1 x2 x3 x4 x5 x6 x7 x8 x9 x10 x11 x12 x13 0 (by omega) _ _, ?_⟩
  exact fun p hp => absurd hp List.not_mem_nil
end

end Cert.Kernel2Ideal.Merge

end
-- ==== Proof.MergeRef.lean ====
module

public import proofs.«01_k».proof.Proof.Gen.Reference2Ideal.Read
public import proofs.«01_k».proof.Proof.MergeSpec

@[expose] public section

set_option maxRecDepth 16384

noncomputable section

open Idealize.ShloMosaic Idealize.ShloMosaic.TcCoe Idealize.SL.Sem

namespace Cert.Reference2Ideal.Merge

open Cert.Reference2Ideal Cert.Reference2Ideal.Gen Cert.Reference2Ideal.Read Cert.Merge

variable (x0 : FVec Ideal S16x2048x1024 .f32) (x1 : FVec Ideal S16x3072 .f32) (x2 : FVec Ideal S1x1024x5144 .f32) (x3 x4 x5 x6 : FVec Ideal S16x2048x512 .f32)
  (x7 x8 : FVec Ideal S1x512x1024 .f32) (x9 : FVec Ideal S1x1024x1024 .f32) (x10 x11 : FVec Ideal S1x1024 .f32)

/-- A column of the modulation, of the input projection: the parts lie one behind another. -/
def part (k : ℕ) (hk : k < 3) (e : Fin 1024) : Fin 3072 := ⟨1024 * k + e, by omega⟩
def colA (p : Fin 512) : Fin 5144 := ⟨1304 + p, by omega⟩
def colB (p : Fin 512) : Fin 5144 := ⟨2584 + p, by omega⟩
def gateA (c : Fin 1024) : Fin 5144 := ⟨3096 + c, by omega⟩
def gateB (c : Fin 1024) : Fin 5144 := ⟨3096 + (1024 + c), by omega⟩

theorem v6_at (b : Fin 16) (n : Fin 2048) : val_main_v6 (F := Ideal) x0 (ix3 b n (0 : Fin 1)) = mean (fun e => x0 (ix3 b n e)) := by
  unfold mean
  pointwise [val_main_v6, val_main_v5, val_main_v4, val_main_v3, val_main_cst, val_main_cst_0]
  done

theorem v8_at (b : Fin 16) (n : Fin 2048) (e : Fin 1024) : val_main_v8 (F := Ideal) x0 (ix3 b n e) = centred (fun e => x0 (ix3 b n e)) e := by
  unfold centred
  rw [← v6_at]
  unfold val_main_v8 val_main_v7
  generalize val_main_v6 (F := Ideal) x0 = M
  pointwise []
  done

theorem v15_at (b : Fin 16) (n : Fin 2048) (e : Fin 1024) : val_main_v15 (F := Ideal) x0 (ix3 b n e) = centred (fun e => x0 (ix3 b n e)) e := by
  unfold centred
  rw [← v6_at]
  unfold val_main_v15 val_main_v14
  generalize val_main_v6 (F := Ideal) x0 = M
  pointwise []
  done

theorem v13_at (b : Fin 16) (n : Fin 2048) : val_main_v13 (F := Ideal) x0 (ix3 b n (0 : Fin 1)) =
    mean (fun e => centred (fun e => x0 (ix3 b n e)) e * centred (fun e => x0 (ix3 b n e)) e) := by
  simp only [← v8_at]
  unfold mean val_main_v13 val_main_v11 val_main_v10 val_main_v9
  generalize val_main_v8 (F := Ideal) x0 = M
  pointwise [val_main_v12, val_main_cst_1, val_main_cst_2]
  done

theorem v20_at (b : Fin 16) (n : Fin 2048) (e : Fin 1024) : val_main_v20 (F := Ideal) x0 (ix3 b n e) = normed (fun e => x0 (ix3 b n e)) e := by
  unfold normed
  rw [← v13_at, ← v15_at]
  unfold val_main_v20 val_main_v19 val_main_v18 val_main_v17
  generalize val_main_v13 (F := Ideal) x0 = M
  generalize val_main_v15 (F := Ideal) x0 = C
  pointwise [val_main_v16, val_main_cst_3]
  done

/-- The modulated normalised row of a token. -/
def u (b : Fin 16) (n : Fin 2048) : Fin 1024 → EReal :=
  modu (fun e => x0 (ix3 b n e)) (fun e => x1 (ix2 b (part 0 (by omega) e))) (fun e => x1 (ix2 b (part 1 (by omega) e)))

theorem v28_at (b : Fin 16) (n : Fin 2048) (e : Fin 1024) : val_main_v28 (F := Ideal) x0 x1 (ix3 b n e) = u x0 x1 b n e := by
  unfold u modu part
  rw [← v20_at]
  unfold val_main_v28 val_main_v25
  generalize val_main_v20 (F := Ideal) x0 = M
  pointwise [val_main_v24, val_main_v23, val_main_v22, val_main_v21, val_main_v26, val_main_v27, val_main_v0, val_main_v1, val_main_cst_4]
  done

theorem v30_at (b : Fin 16) (n : Fin 2048) (k : Fin 5144) :
    val_main_v30 (F := Ideal) x0 x1 x2 (ix3 b n k) = proj (u x0 x1 b n) (fun e => x2 (ix3 (0 : Fin 1) e k)) := by
  have h : u x0 x1 b n = fun e => val_main_v28 (F := Ideal) x0 x1 (ix3 b n e) := funext fun e => (v28_at x0 x1 b n e).symm
  rw [h]
  unfold proj val_main_v30
  generalize val_main_v28 (F := Ideal) x0 x1 = M
  pointwise [val_main_v29]
  done

theorem v37_at (b : Fin 16) (n : Fin 2048) (p : Fin 512) :
    val_main_v37 (F := Ideal) x0 x1 x2 x3 x4 x5 (ix3 b n p) =
      gated (x3 (ix3 b n p) + x4 (ix3 b n p) + x5 (ix3 b n p)) (proj (u x0 x1 b n) (fun e => x2 (ix3 (0 : Fin 1) e (colA p)))) := by
  rw [← v30_at]
  unfold gated sigm colA val_main_v37 val_main_v36 val_main_call0_v5 val_main_call0_v3 val_main_call0_v1 val_main_call0_v0 val_main_v31
  generalize val_main_v30 (F := Ideal) x0 x1 x2 = M
  pointwise [val_main_v35, val_main_v34, val_main_call0_v2, val_main_call0_v4, val_main_call0_cst, val_main_call0_cst_0]
  done

theorem v39_at (b : Fin 16) (n : Fin 2048) (p : Fin 512) :
    val_main_v39 (F := Ideal) x0 x1 x2 x6 (ix3 b n p) =
      gated (x6 (ix3 b n p)) (proj (u x0 x1 b n) (fun e => x2 (ix3 (0 : Fin 1) e (colB p)))) := by
  rw [← v30_at]
  unfold gated sigm colB val_main_v39 val_main_v38 val_main_call1_v5 val_main_call1_v3 val_main_call1_v1 val_main_call1_v0 val_main_v32
  generalize val_main_v30 (F := Ideal) x0 x1 x2 = M
  pointwise [val_main_call1_v2, val_main_call1_v4, val_main_call1_cst, val_main_call1_cst_0]
  done

theorem v47_at (b : Fin 16) (n : Fin 2048) (c : Fin 1024) :
    val_main_v47 (F := Ideal) x0 x1 x2 (ix3 b n c) = sigm (proj (u x0 x1 b n) (fun e => x2 (ix3 (0 : Fin 1) e (gateA c)))) := by
  rw [← v30_at]
  unfold sigm gateA val_main_v47 val_main_v45 val_main_v43 val_main_v42 val_main_v40 val_main_v33
  generalize val_main_v30 (F := Ideal) x0 x1 x2 = M
  pointwise [val_main_v44, val_main_v46, val_main_cst_5, val_main_cst_6]
  done

theorem v56_at (b : Fin 16) (n : Fin 2048) (c : Fin 1024) :
    val_main_v56 (F := Ideal) x0 x1 x2 (ix3 b n c) = sigm (proj (u x0 x1 b n) (fun e => x2 (ix3 (0 : Fin 1) e (gateB c)))) := by
  rw [← v30_at]
  unfold sigm gateB val_main_v56 val_main_v54 val_main_v52 val_main_v51 val_main_v41 val_main_v33
  generalize val_main_v30 (F := Ideal) x0 x1 x2 = M
  pointwise [val_main_v53, val_main_v55, val_main_cst_7, val_main_cst_8]
  done

theorem v49_at (b : Fin 16) (n : Fin 2048) (c : Fin 1024) :
    val_main_v49 (F := Ideal) x0 x1 x2 x3 x4 x5 x7 (ix3 b n c) =
      proj (fun p => val_main_v37 (F := Ideal) x0 x1 x2 x3 x4 x5 (ix3 b n p)) (fun p => x7 (ix3 (0 : Fin 1) p c)) := by
  unfold proj val_main_v49
  generalize val_main_v37 (F := Ideal) x0 x1 x2 x3 x4 x5 = M
  pointwise [val_main_v48]
  done

theorem v58_at (b : Fin 16) (n : Fin 2048) (c : Fin 1024) :
    val_main_v58 (F := Ideal) x0 x1 x2 x6 x8 (ix3 b n c) =
      proj (fun p => val_main_v39 (F := Ideal) x0 x1 x2 x6 (ix3 b n p)) (fun p => x8 (ix3 (0 : Fin 1) p c)) := by
  unfold proj val_main_v58
  generalize val_main_v39 (F := Ideal) x0 x1 x2 x6 = M
  pointwise [val_main_v57]
  done

/-- The merge of the branches of a token. -/
def mrg (b : Fin 16) (n : Fin 2048) : Fin 1024 → EReal :=
  merged (fun c => proj (u x0 x1 b n) (fun e => x2 (ix3 (0 : Fin 1) e (gateA c)))) (fun c => proj (u x0 x1 b n) (fun e => x2 (ix3 (0 : Fin 1) e (gateB c))))
    (fun p => gated (x3 (ix3 b n p) + x4 (ix3 b n p) + x5 (ix3 b n p)) (proj (u x0 x1 b n) (fun e => x2 (ix3 (0 : Fin 1) e (colA p)))))
    (fun p => gated (x6 (ix3 b n p)) (proj (u x0 x1 b n) (fun e => x2 (ix3 (0 : Fin 1) e (colB p)))))
    (fun p c => x7 (ix3 (0 : Fin 1) p c)) (fun p c => x8 (ix3 (0 : Fin 1) p c))

theorem v60_at (b : Fin 16) (n : Fin 2048) (c : Fin 1024) :
    val_main_v60 (F := Ideal) x0 x1 x2 x3 x4 x5 x6 x7 x8 (ix3 b n c) = mrg x0 x1 x2 x3 x4 x5 x6 x7 x8 b n c := by
  unfold mrg merged
  simp only [← v47_at, ← v56_at, ← v37_at, ← v39_at, ← v49_at, ← v58_at]
  unfold val_main_v60 val_main_v50 val_main_v59
  generalize val_main_v47 (F := Ideal) x0 x1 x2 = A
  generalize val_main_v56 (F := Ideal) x0 x1 x2 = B
  generalize val_main_v49 (F := Ideal) x0 x1 x2 x3 x4 x5 x7 = C
  generalize val_main_v58 (F := Ideal) x0 x1 x2 x6 x8 = D
  pointwise []
  done

/-- The residual of a token. -/
def rsd (b : Fin 16) (n : Fin 2048) : Fin 1024 → EReal :=
  resid (fun e => x0 (ix3 b n e)) (fun e => x1 (ix2 b (part 2 (by omega) e))) (mrg x0 x1 x2 x3 x4 x5 x6 x7 x8 b n) (fun c e => x9 (ix3 (0 : Fin 1) c e))

theorem v62_at (b : Fin 16) (n : Fin 2048) (e : Fin 1024) :
    val_main_v62 (F := Ideal) x0 x1 x2 x3 x4 x5 x6 x7 x8 x9 (ix3 b n e) =
      proj (mrg x0 x1 x2 x3 x4 x5 x6 x7 x8 b n) (fun c => x9 (ix3 (0 : Fin 1) c e)) := by
  have h : mrg x0 x1 x2 x3 x4 x5 x6 x7 x8 b n = fun c => val_main_v60 (F := Ideal) x0 x1 x2 x3 x4 x5 x6 x7 x8 (ix3 b n c) :=
    funext fun c => (v60_at x0 x1 x2 x3 x4 x5 x6 x7 x8 b n c).symm
  rw [h]
  unfold proj val_main_v62
  generalize val_main_v60 (F := Ideal) x0 x1 x2 x3 x4 x5 x6 x7 x8 = M
  pointwise [val_main_v61]
  done

theorem v68_at (b : Fin 16) (n : Fin 2048) (e : Fin 1024) :
    val_main_v68 (F := Ideal) x0 x1 x2 x3 x4 x5 x6 x7 x8 x9 (ix3 b n e) = rsd x0 x1 x2 x3 x4 x5 x6 x7 x8 x9 b n e := by
  unfold rsd resid part
  rw [← v62_at]
  unfold val_main_v68 val_main_v67
  generalize val_main_v62 (F := Ideal) x0 x1 x2 x3 x4 x5 x6 x7 x8 x9 = M
  pointwise [val_main_v64, val_main_v63, val_main_v66, val_main_v65, val_main_v2, val_main_cst_9]
  done

section
variable (Y : FVec Ideal S16x2048x1024 .f32) (f : Fin 1024 → EReal) (b : Fin 16) (n : Fin 2048)
end

theorem v72_at (b : Fin 16) (n : Fin 2048) :
    val_main_v72 (F := Ideal) x0 x1 x2 x3 x4 x5 x6 x7 x8 x9 (ix3 b n (0 : Fin 1)) = mean (rsd x0 x1 x2 x3 x4 x5 x6 x7 x8 x9 b n) := by
  have h : rsd x0 x1 x2 x3 x4 x5 x6 x7 x8 x9 b n = fun c => val_main_v68 (F := Ideal) x0 x1 x2 x3 x4 x5 x6 x7 x8 x9 (ix3 b n c) :=
    funext fun c => (v68_at x0 x1 x2 x3 x4 x5 x6 x7 x8 x9 b n c).symm
  rw [h]
  unfold mean val_main_v72 val_main_v70 val_main_v69
  generalize val_main_v68 (F := Ideal) x0 x1 x2 x3 x4 x5 x6 x7 x8 x9 = M
  pointwise [val_main_v71, val_main_cst_10, val_main_cst_11]
  done

theorem v74_at (b : Fin 16) (n : Fin 2048) (e : Fin 1024) :
    val_main_v74 (F := Ideal) x0 x1 x2 x3 x4 x5 x6 x7 x8 x9 (ix3 b n e) = centred (rsd x0 x1 x2 x3 x4 x5 x6 x7 x8 x9 b n) e := by
  unfold centred
  rw [← v72_at, ← v68_at]
  unfold val_main_v74 val_main_v73
  generalize val_main_v72 (F := Ideal) x0 x1 x2 x3 x4 x5 x6 x7 x8 x9 = M
  generalize val_main_v68 (F := Ideal) x0 x1 x2 x3 x4 x5 x6 x7 x8 x9 = Y
  pointwise []
  done

theorem v81_at (b : Fin 16) (n : Fin 2048) (e : Fin 1024) :
    val_main_v81 (F := Ideal) x0 x1 x2 x3 x4 x5 x6 x7 x8 x9 (ix3 b n e) = centred (rsd x0 x1 x2 x3 x4 x5 x6 x7 x8 x9 b n) e := by
  unfold centred
  rw [← v72_at, ← v68_at]
  unfold val_main_v81 val_main_v80
  generalize val_main_v72 (F := Ideal) x0 x1 x2 x3 x4 x5 x6 x7 x8 x9 = M
  generalize val_main_v68 (F := Ideal) x0 x1 x2 x3 x4 x5 x6 x7 x8 x9 = Y
  pointwise []
  done

theorem v79_at (b : Fin 16) (n : Fin 2048) :
    val_main_v79 (F := Ideal) x0 x1 x2 x3 x4 x5 x6 x7 x8 x9 (ix3 b n (0 : Fin 1)) =
      mean (fun e => centred (rsd x0 x1 x2 x3 x4 x5 x6 x7 x8 x9 b n) e * centred (rsd x0 x1 x2 x3 x4 x5 x6 x7 x8 x9 b n) e) := by
  simp only [← v74_at]
  unfold mean val_main_v79 val_main_v77 val_main_v76 val_main_v75
  generalize val_main_v74 (F := Ideal) x0 x1 x2 x3 x4 x5 x6 x7 x8 x9 = M
  pointwise [val_main_v78, val_main_cst_12, val_main_cst_13]
  done

/-- The reference's result for a token. -/
theorem v94_at (b : Fin 16) (n : Fin 2048) (e : Fin 1024) :
    val_main_v94 (F := Ideal) x0 x1 x2 x3 x4 x5 x6 x7 x8 x9 x10 x11 (ix3 b n e) =
      token (fun e => x0 (ix3 b n e)) (fun e => x1 (ix2 b (part 0 (by omega) e))) (fun e => x1 (ix2 b (part 1 (by omega) e))) (fun e => x1 (ix2 b (part 2 (by omega) e)))
        (fun p e => x2 (ix3 (0 : Fin 1) e (colA p))) (fun p e => x2 (ix3 (0 : Fin 1) e (colB p))) (fun c e => x2 (ix3 (0 : Fin 1) e (gateA c))) (fun c e => x2 (ix3 (0 : Fin 1) e (gateB c)))
        (fun p => x3 (ix3 b n p) + x4 (ix3 b n p) + x5 (ix3 b n p)) (fun p => x6 (ix3 b n p)) (fun p c => x7 (ix3 (0 : Fin 1) p c)) (fun p c => x8 (ix3 (0 : Fin 1) p c))
        (fun c e => x9 (ix3 (0 : Fin 1) c e)) (fun e => x10 (ix2 (0 : Fin 1) e)) (fun e => x11 (ix2 (0 : Fin 1) e)) e := by
  change _ = normed (rsd x0 x1 x2 x3 x4 x5 x6 x7 x8 x9 b n) e * x10 (ix2 (0 : Fin 1) e) + x11 (ix2 (0 : Fin 1) e)
  unfold normed
  rw [← v79_at, ← v81_at]
  unfold val_main_v94 val_main_v90 val_main_v86 val_main_v85 val_main_v84 val_main_v83
  generalize val_main_v79 (F := Ideal) x0 x1 x2 x3 x4 x5 x6 x7 x8 x9 = M
  generalize val_main_v81 (F := Ideal) x0 x1 x2 x3 x4 x5 x6 x7 x8 x9 = C
  pointwise [val_main_v82, val_main_cst_14, val_main_v89, val_main_v88, val_main_v87, val_main_v93, val_main_v92, val_main_v91]
  done

end Cert.Reference2Ideal.Merge
-- ==== Proof.MergeHost.lean ====
module

public import proofs.«01_k».proof.Proof.MergeTile
public import proofs.«01_k».proof.Proof.MergeRef
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.Kernel2Ideal.Merge

open Cert.Kernel2Ideal Cert.Kernel2Ideal.Gen Cert.Merge
open Cert.Reference2Ideal.Merge (part colA colB gateA gateB)

/-! The arrays the host prepares for the merge, entry by entry. The heads lie in pairs there: the column of head
`j` of group `g` comes from the column of group `g` and head `j`. -/

/-- Where a paired column comes from, and where a column goes to. -/
def origin (p : Fin 512) : Fin 512 := ⟨256 * (p.val / 64 % 2) + 64 * (p.val / 128) + p.val % 64, by omega⟩
def into (q : Fin 512) : Fin 512 := ⟨128 * (q.val / 64 % 4) + 64 * (q.val / 256) + q.val % 64, by omega⟩

def unpair : Equiv.Perm (Fin 512) where
  toFun := origin
  invFun := into
  left_inv := (by decide +kernel : ∀ p : Fin 512, into (origin p) = p)
  right_inv := (by decide +kernel : ∀ q : Fin 512, origin (into q) = q)

theorem unpair_val (p : Fin 512) : (unpair p).val = 256 * (p.val / 64 % 2) + 64 * (p.val / 128) + p.val % 64 := Eq.trans rfl rfl
theorem part_val (k : ℕ) (hk : k < 3) (e : Fin 1024) : (part k hk e).val = 1024 * k + e.val := Eq.trans rfl rfl
theorem colA_val (p : Fin 512) : (colA p).val = 1304 + p.val := Eq.trans rfl rfl
theorem colB_val (p : Fin 512) : (colB p).val = 2584 + p.val := Eq.trans rfl rfl
theorem gateA_val (p : Fin 1024) : (gateA p).val = 3096 + p.val := Eq.trans rfl rfl
theorem gateB_val (p : Fin 1024) : (gateB p).val = 3096 + (1024 + p.val) := Eq.trans rfl rfl
theorem lo_val (p : Fin 1024) : (lo p).val = p.val := Eq.trans rfl rfl
theorem hi_val (p : Fin 1024) : (hi p).val = 1024 + p.val := Eq.trans rfl rfl

theorem split512 (P : Fin 512 → Prop) (h : ∀ (j : Fin 4) (g : Fin 2) (d : Fin 64), P ⟨128 * (j : ℕ) + 64 * g + d, by omega⟩) (p : Fin 512) : P p := by
  have e := h ⟨p.val / 128, by omega⟩ ⟨p.val / 64 % 2, by omega⟩ ⟨p.val % 64, by omega⟩
  have : (⟨128 * (p.val / 128) + 64 * (p.val / 64 % 2) + p.val % 64, by omega⟩ : Fin 512) = p := by apply Fin.ext; simp only []; omega
  rw [← this]
  exact e

variable (m : (ℓ : Loc nD τ sig) → Buf (Elt Ideal) ℓ) (c : Dev nD)

theorem v0_at0 (b : Fin 16) (e : Fin 1024) :
    V m c main_v0 (ix3 b (0 : Fin 3) e) = m ((c : Thread nD τ).loc main_arg1) (ix2 b (part 0 (by omega) e)) := by
  entry_read
  pointwise
  refine congrArg (m ((c : Thread nD τ).loc main_arg1)) ?_
  congr 1 <;> apply Fin.ext <;> simp only [part_val, colA_val, colB_val, gateA_val, gateB_val, lo_val, hi_val, unpair_val] <;> omega

theorem v0_at1 (b : Fin 16) (e : Fin 1024) :
    V m c main_v0 (ix3 b (1 : Fin 3) e) = m ((c : Thread nD τ).loc main_arg1) (ix2 b (part 1 (by omega) e)) := by
  entry_read
  pointwise
  refine congrArg (m ((c : Thread nD τ).loc main_arg1)) ?_
  congr 1 <;> apply Fin.ext <;> simp only [part_val, colA_val, colB_val, gateA_val, gateB_val, lo_val, hi_val, unpair_val] <;> omega

theorem v0_at2 (b : Fin 16) (e : Fin 1024) :
    V m c main_v0 (ix3 b (2 : Fin 3) e) = m ((c : Thread nD τ).loc main_arg1) (ix2 b (part 2 (by omega) e)) := by
  entry_read
  pointwise
  refine congrArg (m ((c : Thread nD τ).loc main_arg1)) ?_
  congr 1 <;> apply Fin.ext <;> simp only [part_val, colA_val, colB_val, gateA_val, gateB_val, lo_val, hi_val, unpair_val] <;> omega

theorem v8_at (p : Fin 512) (e : Fin 1024) :
    V m c main_v8 (ix2 e p) = m ((c : Thread nD τ).loc main_arg2) (ix3 (0 : Fin 1) e (colA (unpair p))) := by
  refine split512 (fun p => V m c main_v8 (ix2 e p) = m ((c : Thread nD τ).loc main_arg2) (ix3 (0 : Fin 1) e (colA (unpair p)))) (fun j g d => ?_) p
  entry_read
  pointwise
  refine congrArg (m ((c : Thread nD τ).loc main_arg2)) ?_
  congr 1 <;> apply Fin.ext <;> simp only [part_val, colA_val, colB_val, gateA_val, gateB_val, lo_val, hi_val, unpair_val] <;> omega

theorem v13_at (p : Fin 512) (e : Fin 1024) :
    V m c main_v13 (ix2 e p) = m ((c : Thread nD τ).loc main_arg2) (ix3 (0 : Fin 1) e (colB (unpair p))) := by
  refine split512 (fun p => V m c main_v13 (ix2 e p) = m ((c : Thread nD τ).loc main_arg2) (ix3 (0 : Fin 1) e (colB (unpair p)))) (fun j g d => ?_) p
  entry_read
  pointwise
  refine congrArg (m ((c : Thread nD τ).loc main_arg2)) ?_
  congr 1 <;> apply Fin.ext <;> simp only [part_val, colA_val, colB_val, gateA_val, gateB_val, lo_val, hi_val, unpair_val] <;> omega

theorem v14_ata (k e : Fin 1024) :
    V m c main_v14 (ix2 (lo k) e) = m ((c : Thread nD τ).loc main_arg2) (ix3 (0 : Fin 1) e (gateA k)) := by
  entry_read
  pointwise
  refine congrArg (m ((c : Thread nD τ).loc main_arg2)) ?_
  congr 1 <;> apply Fin.ext <;> simp only [part_val, colA_val, colB_val, gateA_val, gateB_val, lo_val, hi_val, unpair_val] <;> omega

theorem v14_atb (k e : Fin 1024) :
    V m c main_v14 (ix2 (hi k) e) = m ((c : Thread nD τ).loc main_arg2) (ix3 (0 : Fin 1) e (gateB k)) := by
  entry_read
  pointwise
  refine congrArg (m ((c : Thread nD τ).loc main_arg2)) ?_
  congr 1 <;> apply Fin.ext <;> simp only [part_val, colA_val, colB_val, gateA_val, gateB_val, lo_val, hi_val, unpair_val] <;> omega

theorem v18_at (b : Fin 16) (n : Fin 2048) (p : Fin 512) :
    V m c main_v18 (ix3 b n p) = m ((c : Thread nD τ).loc main_arg3) (ix3 b n (unpair p)) := by
  refine split512 (fun p => V m c main_v18 (ix3 b n p) = m ((c : Thread nD τ).loc main_arg3) (ix3 b n (unpair p))) (fun j g d => ?_) p
  entry_read
  pointwise
  refine congrArg (m ((c : Thread nD τ).loc main_arg3)) ?_
  congr 1 <;> apply Fin.ext <;> simp only [part_val, colA_val, colB_val, gateA_val, gateB_val, lo_val, hi_val, unpair_val] <;> omega

theorem v22_at (b : Fin 16) (n : Fin 2048) (p : Fin 512) :
    V m c main_v22 (ix3 b n p) = m ((c : Thread nD τ).loc main_arg4) (ix3 b n (unpair p)) := by
  refine split512 (fun p => V m c main_v22 (ix3 b n p) = m ((c : Thread nD τ).loc main_arg4) (ix3 b n (unpair p))) (fun j g d => ?_) p
  entry_read
  pointwise
  refine congrArg (m ((c : Thread nD τ).loc main_arg4)) ?_
  congr 1 <;> apply Fin.ext <;> simp only [part_val, colA_val, colB_val, gateA_val, gateB_val, lo_val, hi_val, unpair_val] <;> omega

theorem v26_at (b : Fin 16) (n : Fin 2048) (p : Fin 512) :
    V m c main_v26 (ix3 b n p) = m ((c : Thread nD τ).loc main_arg5) (ix3 b n (unpair p)) := by
  refine split512 (fun p => V m c main_v26 (ix3 b n p) = m ((c : Thread nD τ).loc main_arg5) (ix3 b n (unpair p))) (fun j g d => ?_) p
  entry_read
  pointwise
  refine congrArg (m ((c : Thread nD τ).loc main_arg5)) ?_
  congr 1 <;> apply Fin.ext <;> simp only [part_val, colA_val, colB_val, gateA_val, gateB_val, lo_val, hi_val, unpair_val] <;> omega

theorem v30_at (b : Fin 16) (n : Fin 2048) (p : Fin 512) :
    V m c main_v30 (ix3 b n p) = m ((c : Thread nD τ).loc main_arg6) (ix3 b n (unpair p)) := by
  refine split512 (fun p => V m c main_v30 (ix3 b n p) = m ((c : Thread nD τ).loc main_arg6) (ix3 b n (unpair p))) (fun j g d => ?_) p
  entry_read
  pointwise
  refine congrArg (m ((c : Thread nD τ).loc main_arg6)) ?_
  congr 1 <;> apply Fin.ext <;> simp only [part_val, colA_val, colB_val, gateA_val, gateB_val, lo_val, hi_val, unpair_val] <;> omega

theorem v35_at (p : Fin 512) (e : Fin 1024) :
    V m c main_v35 (ix2 p e) = m ((c : Thread nD τ).loc main_arg7) (ix3 (0 : Fin 1) (unpair p) e) := by
  refine split512 (fun p => V m c main_v35 (ix2 p e) = m ((c : Thread nD τ).loc main_arg7) (ix3 (0 : Fin 1) (unpair p) e)) (fun j g d => ?_) p
  entry_read
  pointwise
  refine congrArg (m ((c : Thread nD τ).loc main_arg7)) ?_
  congr 1 <;> apply Fin.ext <;> simp only [part_val, colA_val, colB_val, gateA_val, gateB_val, lo_val, hi_val, unpair_val] <;> omega

theorem v40_at (p : Fin 512) (e : Fin 1024) :
    V m c main_v40 (ix2 p e) = m ((c : Thread nD τ).loc main_arg8) (ix3 (0 : Fin 1) (unpair p) e) := by
  refine split512 (fun p => V m c main_v40 (ix2 p e) = m ((c : Thread nD τ).loc main_arg8) (ix3 (0 : Fin 1) (unpair p) e)) (fun j g d => ?_) p
  entry_read
  pointwise
  refine congrArg (m ((c : Thread nD τ).loc main_arg8)) ?_
  congr 1 <;> apply Fin.ext <;> simp only [part_val, colA_val, colB_val, gateA_val, gateB_val, lo_val, hi_val, unpair_val] <;> omega

theorem v42_at (k e : Fin 1024) :
    V m c main_v42 (ix2 k e) = m ((c : Thread nD τ).loc main_arg9) (ix3 (0 : Fin 1) k e) := by
  entry_read
  pointwise

theorem v44_at (e : Fin 1024) :
    V m c main_v44 (ix2 (0 : Fin 1) e) = m ((c : Thread nD τ).loc main_arg10) (ix2 (0 : Fin 1) e) := by
  entry_read
  pointwise

theorem v46_at (e : Fin 1024) :
    V m c main_v46 (ix2 (0 : Fin 1) e) = m ((c : Thread nD τ).loc main_arg11) (ix2 (0 : Fin 1) e) := by
  entry_read
  pointwise

theorem x_at (b : Fin 16) (n : Fin 2048) (e : Fin 1024) :
    V m c main_arg0 (ix3 b n e) = m ((c : Thread nD τ).loc main_arg0) (ix3 b n e) := by
  entry_read
  rfl

end Cert.Kernel2Ideal.Merge
-- ==== Proof.MergeFinal.lean ====
module

public import proofs.«01_k».proof.Proof.MergeOut
public import proofs.«01_k».proof.Proof.MergeHost
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel2Ideal.Merge

open Cert.Kernel2Ideal Cert.Kernel2Ideal.Gen Cert.Kernel2Ideal.Value Cert.Merge
open Cert.Reference2Ideal.Merge (part colA colB gateA gateB)

/-! The whole result of the merge is the reference's. -/

variable (m : (ℓ : Loc nD τ sig) → Buf (Elt Ideal) ℓ) (c : Dev nD)

theorem idx0 : ∀ t : Fin cfg0.N, win0_0.index t = ![t.val / 2, t.val % 2, 0] :=
  (by decide +kernel : ∀ t : Fin grid0.N, win0_0.index t = ![t.val / 2, t.val % 2, 0])

theorem idx1 : ∀ t : Fin cfg0.N, win0_1.index t = ![t.val / 2, 0, 0] :=
  (by decide +kernel : ∀ t : Fin grid0.N, win0_1.index t = ![t.val / 2, 0, 0])

theorem idx2 : ∀ t : Fin cfg0.N, win0_2.index t = ![0, 0] :=
  (by decide +kernel : ∀ t : Fin grid0.N, win0_2.index t = ![0, 0])

theorem idx3 : ∀ t : Fin cfg0.N, win0_3.index t = ![0, 0] :=
  (by decide +kernel : ∀ t : Fin grid0.N, win0_3.index t = ![0, 0])

theorem idx4 : ∀ t : Fin cfg0.N, win0_4.index t = ![0, 0] :=
  (by decide +kernel : ∀ t : Fin grid0.N, win0_4.index t = ![0, 0])

theorem idx5 : ∀ t : Fin cfg0.N, win0_5.index t = ![t.val / 2, t.val % 2, 0] :=
  (by decide +kernel : ∀ t : Fin grid0.N, win0_5.index t = ![t.val / 2, t.val % 2, 0])

theorem idx6 : ∀ t : Fin cfg0.N, win0_6.index t = ![t.val / 2, t.val % 2, 0] :=
  (by decide +kernel : ∀ t : Fin grid0.N, win0_6.index t = ![t.val / 2, t.val % 2, 0])

theorem idx7 : ∀ t : Fin cfg0.N, win0_7.index t = ![t.val / 2, t.val % 2, 0] :=
  (by decide +kernel : ∀ t : Fin grid0.N, win0_7.index t = ![t.val / 2, t.val % 2, 0])

theorem idx8 : ∀ t : Fin cfg0.N, win0_8.index t = ![t.val / 2, t.val % 2, 0] :=
  (by decide +kernel : ∀ t : Fin grid0.N, win0_8.index t = ![t.val / 2, t.val % 2, 0])

theorem idx9 : ∀ t : Fin cfg0.N, win0_9.index t = ![0, 0] :=
  (by decide +kernel : ∀ t : Fin grid0.N, win0_9.index t = ![0, 0])

theorem idx10 : ∀ t : Fin cfg0.N, win0_10.index t = ![0, 0] :=
  (by decide +kernel : ∀ t : Fin grid0.N, win0_10.index t = ![0, 0])

theorem idx11 : ∀ t : Fin cfg0.N, win0_11.index t = ![0, 0] :=
  (by decide +kernel : ∀ t : Fin grid0.N, win0_11.index t = ![0, 0])

theorem idx12 : ∀ t : Fin cfg0.N, win0_12.index t = ![0, 0] :=
  (by decide +kernel : ∀ t : Fin grid0.N, win0_12.index t = ![0, 0])

theorem idx13 : ∀ t : Fin cfg0.N, win0_13.index t = ![0, 0] :=
  (by decide +kernel : ∀ t : Fin grid0.N, win0_13.index t = ![0, 0])

theorem idx14 : ∀ t : Fin cfg0.N, win0_14.index t = ![t.val / 2, t.val % 2, 0] :=
  (by decide +kernel : ∀ t : Fin grid0.N, win0_14.index t = ![t.val / 2, t.val % 2, 0])

variable (t : Fin cfg0.N)

/-- Equal operands give equal results. -/
theorem token_congr {x x' sh sh' sc sc' ga ga' : Fin 1024 → EReal} {wza wza' wzb wzb' : Fin 512 → Fin 1024 → EReal} {wga wga' wgb wgb' : Fin 1024 → Fin 1024 → EReal}
    {oa oa' ob ob' : Fin 512 → EReal} {wa wa' wb wb' : Fin 512 → Fin 1024 → EReal} {wo wo' : Fin 1024 → Fin 1024 → EReal} {lg lg' lb lb' : Fin 1024 → EReal}
    (h0 : ∀ e, x e = x' e) (h1 : ∀ e, sh e = sh' e) (h2 : ∀ e, sc e = sc' e) (h3 : ∀ e, ga e = ga' e) (h4 : ∀ p e, wza p e = wza' p e) (h5 : ∀ p e, wzb p e = wzb' p e)
    (h6 : ∀ k e, wga k e = wga' k e) (h7 : ∀ k e, wgb k e = wgb' k e) (h8 : ∀ p, oa p = oa' p) (h9 : ∀ p, ob p = ob' p) (h10 : ∀ p e, wa p e = wa' p e)
    (h11 : ∀ p e, wb p e = wb' p e) (h12 : ∀ k e, wo k e = wo' k e) (h13 : ∀ e, lg e = lg' e) (h14 : ∀ e, lb e = lb' e) (e : Fin 1024) :
    token x sh sc ga wza wzb wga wgb oa ob wa wb wo lg lb e = token x' sh' sc' ga' wza' wzb' wga' wgb' oa' ob' wa' wb' wo' lg' lb' e := by
  obtain rfl := funext h0; obtain rfl := funext h1; obtain rfl := funext h2; obtain rfl := funext h3
  obtain rfl := funext fun p => funext (h4 p); obtain rfl := funext fun p => funext (h5 p); obtain rfl := funext fun p => funext (h6 p); obtain rfl := funext fun p => funext (h7 p)
  obtain rfl := funext h8; obtain rfl := funext h9; obtain rfl := funext fun p => funext (h10 p); obtain rfl := funext fun p => funext (h11 p)
  obtain rfl := funext fun p => funext (h12 p); obtain rfl := funext h13; obtain rfl := funext h14
  rfl

/-- The token a row of a point's block belongs to. -/
def tok (n : Fin 1024) : Fin 2048 := ⟨1024 * (t.val % 2) + n.val, by omega⟩

theorem tok_val (n : Fin 1024) : (tok t n).val = t.val % 2 * 1024 + n.val := by unfold tok; simp only []; omega

variable (b : Fin 16) (hb : b.val = t.val / 2)

include hb in
theorem iblk0 (n : Fin 1024) (e : Fin 1024) : iblk m c 0 t (ix3 (0 : Fin 1) n e) = V m c main_arg0 (ix3 b (tok t n) e) := by
  blk_simp [iblk, idx0 t]
  refine congrArg (V m c main_arg0) (funext fun a => Fin.ext ?_)
  fin_cases a <;> blk_simp [idx0 t] <;> simp [hb, tok_val]

include hb in
theorem iblk1 (n : Fin 3) (e : Fin 1024) : iblk m c 1 t (ix3 (0 : Fin 1) n e) = V m c main_v0 (ix3 b n e) := by
  blk_simp [iblk, idx1 t]
  refine congrArg (V m c main_v0) (funext fun a => Fin.ext ?_)
  fin_cases a <;> blk_simp [idx1 t] <;> simp [hb]

theorem iblk2 (n : Fin 1024) (e : Fin 512) : iblk m c 2 t (ix2 n e) = V m c main_v8 (ix2 n e) := by
  blk_simp [iblk, idx2 t]
  refine congrArg (V m c main_v8) (funext fun a => Fin.ext ?_)
  fin_cases a <;> blk_simp [idx2 t] <;> simp

theorem iblk3 (n : Fin 1024) (e : Fin 512) : iblk m c 3 t (ix2 n e) = V m c main_v13 (ix2 n e) := by
  blk_simp [iblk, idx3 t]
  refine congrArg (V m c main_v13) (funext fun a => Fin.ext ?_)
  fin_cases a <;> blk_simp [idx3 t] <;> simp

theorem iblk4 (n : Fin 2048) (e : Fin 1024) : iblk m c 4 t (ix2 n e) = V m c main_v14 (ix2 n e) := by
  blk_simp [iblk, idx4 t]
  refine congrArg (V m c main_v14) (funext fun a => Fin.ext ?_)
  fin_cases a <;> blk_simp [idx4 t] <;> simp

include hb in
theorem iblk5 (n : Fin 1024) (e : Fin 512) : iblk m c 5 t (ix3 (0 : Fin 1) n e) = V m c main_v18 (ix3 b (tok t n) e) := by
  blk_simp [iblk, idx5 t]
  refine congrArg (V m c main_v18) (funext fun a => Fin.ext ?_)
  fin_cases a <;> blk_simp [idx5 t] <;> simp [hb, tok_val]

include hb in
theorem iblk6 (n : Fin 1024) (e : Fin 512) : iblk m c 6 t (ix3 (0 : Fin 1) n e) = V m c main_v22 (ix3 b (tok t n) e) := by
  blk_simp [iblk, idx6 t]
  refine congrArg (V m c main_v22) (funext fun a => Fin.ext ?_)
  fin_cases a <;> blk_simp [idx6 t] <;> simp [hb, tok_val]

include hb in
theorem iblk7 (n : Fin 1024) (e : Fin 512) : iblk m c 7 t (ix3 (0 : Fin 1) n e) = V m c main_v26 (ix3 b (tok t n) e) := by
  blk_simp [iblk, idx7 t]
  refine congrArg (V m c main_v26) (funext fun a => Fin.ext ?_)
  fin_cases a <;> blk_simp [idx7 t] <;> simp [hb, tok_val]

include hb in
theorem iblk8 (n : Fin 1024) (e : Fin 512) : iblk m c 8 t (ix3 (0 : Fin 1) n e) = V m c main_v30 (ix3 b (tok t n) e) := by
  blk_simp [iblk, idx8 t]
  refine congrArg (V m c main_v30) (funext fun a => Fin.ext ?_)
  fin_cases a <;> blk_simp [idx8 t] <;> simp [hb, tok_val]

theorem iblk9 (n : Fin 512) (e : Fin 1024) : iblk m c 9 t (ix2 n e) = V m c main_v35 (ix2 n e) := by
  blk_simp [iblk, idx9 t]
  refine congrArg (V m c main_v35) (funext fun a => Fin.ext ?_)
  fin_cases a <;> blk_simp [idx9 t] <;> simp

theorem iblk10 (n : Fin 512) (e : Fin 1024) : iblk m c 10 t (ix2 n e) = V m c main_v40 (ix2 n e) := by
  blk_simp [iblk, idx10 t]
  refine congrArg (V m c main_v40) (funext fun a => Fin.ext ?_)
  fin_cases a <;> blk_simp [idx10 t] <;> simp

theorem iblk11 (n : Fin 1024) (e : Fin 1024) : iblk m c 11 t (ix2 n e) = V m c main_v42 (ix2 n e) := by
  blk_simp [iblk, idx11 t]
  refine congrArg (V m c main_v42) (funext fun a => Fin.ext ?_)
  fin_cases a <;> blk_simp [idx11 t] <;> simp

theorem iblk12 (n : Fin 1) (e : Fin 1024) : iblk m c 12 t (ix2 n e) = V m c main_v44 (ix2 n e) := by
  blk_simp [iblk, idx12 t]
  refine congrArg (V m c main_v44) (funext fun a => Fin.ext ?_)
  fin_cases a <;> blk_simp [idx12 t] <;> simp

theorem iblk13 (n : Fin 1) (e : Fin 1024) : iblk m c 13 t (ix2 n e) = V m c main_v46 (ix2 n e) := by
  blk_simp [iblk, idx13 t]
  refine congrArg (V m c main_v46) (funext fun a => Fin.ext ?_)
  fin_cases a <;> blk_simp [idx13 t] <;> simp

include hb in
/-- A row of a point's block is the reference's result for its token. -/
theorem row_eq (n e : Fin 1024) :
    rowAt (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) n e =
      Cert.Reference2Ideal.Read.val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (ix3 b (tok t n) e) := by
  refine Eq.trans ?_ (Cert.Reference2Ideal.Merge.v94_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) b (tok t n) e).symm
  rw [← token_perm unpair]
  unfold rowAt
  exact token_congr (fun e => (iblk0 m c t b hb _ _).trans (x_at m c b _ e)) (fun e => (iblk1 m c t b hb _ _).trans (v0_at0 m c b e))
    (fun e => (iblk1 m c t b hb _ _).trans (v0_at1 m c b e)) (fun e => (iblk1 m c t b hb _ _).trans (v0_at2 m c b e))
    (fun p e => (iblk2 m c t _ _).trans (v8_at m c p e)) (fun p e => (iblk3 m c t _ _).trans (v13_at m c p e))
    (fun k e => (iblk4 m c t _ _).trans (v14_ata m c k e)) (fun k e => (iblk4 m c t _ _).trans (v14_atb m c k e))
    (fun p => congrArg₂ (fun x y : EReal => x + y) (congrArg₂ (fun x y : EReal => x + y) ((iblk5 m c t b hb _ _).trans (v18_at m c b _ p)) ((iblk6 m c t b hb _ _).trans (v22_at m c b _ p)))
      ((iblk7 m c t b hb _ _).trans (v26_at m c b _ p)))
    (fun p => (iblk8 m c t b hb _ _).trans (v30_at m c b _ p))
    (fun p e => (iblk9 m c t _ _).trans (v35_at m c p e)) (fun p e => (iblk10 m c t _ _).trans (v40_at m c p e)) (fun k e => (iblk11 m c t _ _).trans (v42_at m c k e))
    (fun e => (iblk12 m c t _ _).trans (v44_at m c e)) (fun e => (iblk13 m c t _ _).trans (v46_at m c e)) e

theorem final (G : FVec Ideal S16x2048x1024 .f32)
    (h : ∀ (t : Fin cfg0.N) (b : Fin 16) (hb : b.val = t.val / 2) (n e : Fin 1024), rowAt (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) n e = G (ix3 b (tok t n) e)) :
    (dats m 0 c).arrAt 14 cfg0.N = G := by
  refine (dats m 0 c).arrAt_eq_of_covers 14 _ (by decide +kernel) fun t hf y => ?_
  blk_simp
  rw [after0_14]
  rw [out_eq]
  have ht : t.val < 32 := lt_of_lt_of_eq t.isLt (by decide +kernel : cfg0.N = 32)
  refine (h t ⟨t.val / 2, by omega⟩ rfl ⟨(y 1).val, (y 1).isLt⟩ ⟨(y 2).val, (y 2).isLt⟩).trans (congrArg G (funext fun a => Fin.ext ?_))
  have hy : (y 0).val < 1 := (y 0).isLt
  fin_cases a <;> blk_simp [idx14 t] <;> simp [tok_val]
  all_goals first | exact tok_val t _ | omega

/-- The result array of the kernel is the reference's term over the arguments. -/
theorem value : (dats m 0 c).arrAt 14 cfg0.N = Cert.Reference2Ideal.Read.val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  final m c _ fun t b hb n e => row_eq m c t b hb n e

end Cert.Kernel2Ideal.Merge

end
-- ==== Proof.MergeRun.lean ====
module

public import proofs.«01_k».proof.Proof.Gen.Reference2Ideal.Run
public import proofs.«01_k».proof.Proof.Gen.Reference2Ideal.Read

@[expose] public section

noncomputable section

open Idealize.ShloMosaic Idealize.ShloMosaic.TcCoe Idealize.SL.Sem Idealize.ShloMosaic.StableHlo

namespace Cert.Reference2Ideal.Merge

open Cert.Reference2Ideal Cert.Reference2Ideal.Gen

variable {F : FTy → Type} [FloatOps F]

/-- The reference's run, its result the last of its named terms. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v94) = Read.val_main_v94 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) := by
  refine (θ_run _ _ _).mono (fun r h c => ⟨?_, (h c).2⟩) (Value.run m ρ)
  have h1 := (h c).1
  rw [Read.val_main_v94_eq] at h1
  exact h1

/-- Equal arguments, equal result. -/
theorem val_congr {x0 y0 : FVec F S16x2048x1024 .f32} {x1 y1 : FVec F S16x3072 .f32} {x2 y2 : FVec F S1x1024x5144 .f32} {x3 y3 : FVec F S16x2048x512 .f32} {x4 y4 : FVec F S16x2048x512 .f32} {x5 y5 : FVec F S16x2048x512 .f32} {x6 y6 : FVec F S16x2048x512 .f32} {x7 y7 : FVec F S1x512x1024 .f32} {x8 y8 : FVec F S1x512x1024 .f32} {x9 y9 : FVec F S1x1024x1024 .f32} {x10 y10 : FVec F S1x1024 .f32} {x11 y11 : FVec F S1x1024 .f32}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) :
    Read.val_main_v94 (F := F) x0 x1 x2 x3 x4 x5 x6 x7 x8 x9 x10 x11 = Read.val_main_v94 (F := F) y0 y1 y2 y3 y4 y5 y6 y7 y8 y9 y10 y11 := by
  subst h0
  subst h1
  subst h2
  subst h3
  subst h4
  subst h5
  subst h6
  subst h7
  subst h8
  subst h9
  subst h10
  subst h11
  rfl

end Cert.Reference2Ideal.Merge

end
-- ==== Proof.MergeClaim.lean ====
module

public import proofs.«01_k».proof.Proof.MergeFinal
public import proofs.«01_k».proof.Proof.MergeRun
public import proofs.«01_k».proof.Proof.Claims

@[expose] public section

noncomputable section

namespace Cert.MergeClaim

open Idealize.ShloMosaic Idealize.SL.Sem

set_option maxHeartbeats 2000000 in
/-- The merge: kernel and reference end with the same result. -/
theorem algebraic : Cert.algebraic_Kernel2Ideal_Reference2Ideal (hKernel2Ideal := Cert.Kernel2Ideal.Gen.facts) (hReference2Ideal := Cert.Reference2Ideal.Gen.facts) := by
  pair_intro
  · run_from Cert.Kernel2Ideal.Gen.run_main m g
  · have h0 := Cert.Reference2Ideal.Merge.run (F := Ideal) m' g'
    refine (θ_run _ _ _).mono ?_ h0
    intro r h c
    refine ⟨?_, (h c).2⟩
    have h1 := (h c).1
    have h2 := hagree c
    clear h h0
    refine h1.trans ?_
    obtain ⟨a0, a1, a2, a3, a4, a5, a6, a7, a8, a9, a10, a11⟩ := h2
    have h3 := Cert.Reference2Ideal.Merge.val_congr (F := Ideal) (x0 := m' ((c.tc : Thread Cert.Reference2Ideal.nD Cert.Reference2Ideal.τ).loc Cert.Reference2Ideal.main_arg0)) (y0 := m ((c.tc : Thread Cert.Kernel2Ideal.nD Cert.Kernel2Ideal.τ).loc Cert.Kernel2Ideal.main_arg0)) (x1 := m' ((c.tc : Thread Cert.Reference2Ideal.nD Cert.Reference2Ideal.τ).loc Cert.Reference2Ideal.main_arg1)) (y1 := m ((c.tc : Thread Cert.Kernel2Ideal.nD Cert.Kernel2Ideal.τ).loc Cert.Kernel2Ideal.main_arg1)) (x2 := m' ((c.tc : Thread Cert.Reference2Ideal.nD Cert.Reference2Ideal.τ).loc Cert.Reference2Ideal.main_arg2)) (y2 := m ((c.tc : Thread Cert.Kernel2Ideal.nD Cert.Kernel2Ideal.τ).loc Cert.Kernel2Ideal.main_arg2)) (x3 := m' ((c.tc : Thread Cert.Reference2Ideal.nD Cert.Reference2Ideal.τ).loc Cert.Reference2Ideal.main_arg3)) (y3 := m ((c.tc : Thread Cert.Kernel2Ideal.nD Cert.Kernel2Ideal.τ).loc Cert.Kernel2Ideal.main_arg3)) (x4 := m' ((c.tc : Thread Cert.Reference2Ideal.nD Cert.Reference2Ideal.τ).loc Cert.Reference2Ideal.main_arg4)) (y4 := m ((c.tc : Thread Cert.Kernel2Ideal.nD Cert.Kernel2Ideal.τ).loc Cert.Kernel2Ideal.main_arg4)) (x5 := m' ((c.tc : Thread Cert.Reference2Ideal.nD Cert.Reference2Ideal.τ).loc Cert.Reference2Ideal.main_arg5)) (y5 := m ((c.tc : Thread Cert.Kernel2Ideal.nD Cert.Kernel2Ideal.τ).loc Cert.Kernel2Ideal.main_arg5)) (x6 := m' ((c.tc : Thread Cert.Reference2Ideal.nD Cert.Reference2Ideal.τ).loc Cert.Reference2Ideal.main_arg6)) (y6 := m ((c.tc : Thread Cert.Kernel2Ideal.nD Cert.Kernel2Ideal.τ).loc Cert.Kernel2Ideal.main_arg6)) (x7 := m' ((c.tc : Thread Cert.Reference2Ideal.nD Cert.Reference2Ideal.τ).loc Cert.Reference2Ideal.main_arg7)) (y7 := m ((c.tc : Thread Cert.Kernel2Ideal.nD Cert.Kernel2Ideal.τ).loc Cert.Kernel2Ideal.main_arg7)) (x8 := m' ((c.tc : Thread Cert.Reference2Ideal.nD Cert.Reference2Ideal.τ).loc Cert.Reference2Ideal.main_arg8)) (y8 := m ((c.tc : Thread Cert.Kernel2Ideal.nD Cert.Kernel2Ideal.τ).loc Cert.Kernel2Ideal.main_arg8)) (x9 := m' ((c.tc : Thread Cert.Reference2Ideal.nD Cert.Reference2Ideal.τ).loc Cert.Reference2Ideal.main_arg9)) (y9 := m ((c.tc : Thread Cert.Kernel2Ideal.nD Cert.Kernel2Ideal.τ).loc Cert.Kernel2Ideal.main_arg9)) (x10 := m' ((c.tc : Thread Cert.Reference2Ideal.nD Cert.Reference2Ideal.τ).loc Cert.Reference2Ideal.main_arg10)) (y10 := m ((c.tc : Thread Cert.Kernel2Ideal.nD Cert.Kernel2Ideal.τ).loc Cert.Kernel2Ideal.main_arg10)) (x11 := m' ((c.tc : Thread Cert.Reference2Ideal.nD Cert.Reference2Ideal.τ).loc Cert.Reference2Ideal.main_arg11)) (y11 := m ((c.tc : Thread Cert.Kernel2Ideal.nD Cert.Kernel2Ideal.τ).loc Cert.Kernel2Ideal.main_arg11)) a0 a1 a2 a3 a4 a5 a6 a7 a8 a9 a10 a11
    refine h3.trans ?_
    exact (Cert.Kernel2Ideal.Merge.value m c).symm

end Cert.MergeClaim

end
-- ==== Proof.WinTile.lean ====
module

public import proofs.«01_k».proof.Proof.Gen.Kernel3Ideal.Frame
public import Idealize.ShloMosaic.Lib.Pipeline.ValueKit

@[expose] public section

set_option maxRecDepth 16384

noncomputable section

open Idealize.ShloMosaic Idealize.ShloMosaic.TcCoe Idealize.ShloMosaic.Tactic Idealize.SL.Sem

namespace Cert.Kernel3Ideal.Win

open Cert.Kernel3Ideal Cert.Kernel3Ideal.Gen

variable {F : FTy → Type} [FloatOps F] [Named F]

/-! The gated window writes its block of the output as sixty-four tiles, four for each run of 128
    query rows. All of them are one function of what the run loaded: the queries, the window of 640 keys,
    the two windows of values, the offset of the first row from the first key, and the gates' logits. -/

/-- The lanes that hold the first key group's half of a packed row. -/
def lowLanes : IVec S128x128 1 :=
  broadcastTo S128x128 (shapeCast S1x128
    (cmpi .slt (andi (iota .tc S1x128 32 [1] iota_S1x128_d1_w32) (broadcast S1x128 63#32)) (broadcast S1x128 32#32))
    shapeCasts_S1x128_S1x128) broadcasts_S1x128_S128x128

/-- A block of zeros, for the lanes of the other group. -/
def zeroLanes : FVec F S128x128 .bf16 := broadcast S128x128 (Scalar.ofBits .bf16 0x0000#16)

/-- The loaded queries without their unit axis. -/
def rows (q : Vec F S1x128x512 .bf16) : FVec F S128x512 .bf16 := shapeCast S128x512 q shapeCasts_S1x128x512_S128x512

/-- The eight heads' queries, one under the other, each with the other group's lanes set to zero. -/
def stackQ (q : Vec F S1x128x512 .bf16) : FVec F S1024x128 .bf16 :=
  concatenate S1024x128 0
    [⟨S128x128, select lowLanes (extractStridedSlice S128x128 ![0, 0] (rows q) slices_S128x512_o0_0_S128x128) zeroLanes⟩,
     ⟨S128x128, select lowLanes (extractStridedSlice S128x128 ![0, 128] (rows q) slices_S128x512_o0_128_S128x128) zeroLanes⟩,
     ⟨S128x128, select lowLanes (extractStridedSlice S128x128 ![0, 256] (rows q) slices_S128x512_o0_256_S128x128) zeroLanes⟩,
     ⟨S128x128, select lowLanes (extractStridedSlice S128x128 ![0, 384] (rows q) slices_S128x512_o0_384_S128x128) zeroLanes⟩,
     ⟨S128x128, select lowLanes zeroLanes (extractStridedSlice S128x128 ![0, 0] (rows q) slices_S128x512_o0_0_S128x128)⟩,
     ⟨S128x128, select lowLanes zeroLanes (extractStridedSlice S128x128 ![0, 128] (rows q) slices_S128x512_o0_128_S128x128)⟩,
     ⟨S128x128, select lowLanes zeroLanes (extractStridedSlice S128x128 ![0, 256] (rows q) slices_S128x512_o0_256_S128x128)⟩,
     ⟨S128x128, select lowLanes zeroLanes (extractStridedSlice S128x128 ![0, 384] (rows q) slices_S128x512_o0_384_S128x128)⟩]
    concatenates_S128x128_S128x128_S128x128_S128x128_S128x128_S128x128_S128x128_S128x128_S1024x128_d0

/-- Keys times stacked queries: one row for each key of the window, one column for each head and row. -/
def scoreT (q : Vec F S1x128x512 .bf16) (k : Vec F S1x640x128 .bf16) : FVec F S640x1024 .f32 :=
  matmul dot_S640x128_S1024x128_S640x1024_1_1_0_0_n_n none (shapeCast S640x128 k shapeCasts_S1x640x128_S640x128) (stackQ q)
    (constant S640x1024 .f32 0x00000000#32)

/-- The signed distance of a query row from a key of the window, `w` the distance of their starts. -/
def relT (w : BitVec 32) : IVec S640x128 32 :=
  addi (subi (iota .tc S640x128 32 [1] iota_S640x128_d1_w32) (iota .tc S640x128 32 [0] iota_S640x128_d0_w32)) (broadcast S640x128 w)

/-- Zero inside the band of width 512, the mask outside. -/
def biasT (w : BitVec 32) : FVec F S640x128 .f32 :=
  select (andi (cmpi .sge (relT w) (broadcast S640x128 0#32)) (cmpi .slt (relT w) (broadcast S640x128 512#32)))
    (broadcast S640x128 (Scalar.ofBits .f32 0x00000000#32)) (broadcast S640x128 (Named.named κ "mask" 0xF149F2CA#32))

/-- One head's scores with the mask added. -/
def headS (o : ℕ) (h : S640x1024.Slices ![0, o] S640x128) (b : FVec F S640x128 .f32) (st : FVec F S640x1024 .f32) :
    FVec F S640x128 .f32 :=
  addf (extractStridedSlice S640x128 ![0, o] st h) b

/-- The greatest of a head's scores, for each row. -/
def headM (s : FVec F S640x128 .f32) : FVec F S1x128 .f32 :=
  shapeCast S1x128 (multiReduction .maximumf [0] S128 s 0xFF800000#32 reduces_S640x128_S128 (.inl rfl) rfl) shapeCasts_S128_S1x128

/-- The unnormalised weights of a head. -/
def headP (s : FVec F S640x128 .f32) : FVec F S640x128 .bf16 :=
  truncf .bf16 (exp2 (subf s (broadcastTo S640x128 (headM s) broadcasts_S1x128_S640x128))) bitsLt_bf16_f32

/-- Values times weights for the four heads of a group. -/
def groupO (v : Vec F S1x80x640 .bf16) (s0 s1 s2 s3 : FVec F S640x128 .f32) : FVec F S80x512 .f32 :=
  matmul dot_S80x640_S640x512_S80x512_1_0_0_1_n_n none (shapeCast S80x640 v shapeCasts_S1x80x640_S80x640)
    (concatenate S640x512 1 [⟨S640x128, headP s0⟩, ⟨S640x128, headP s1⟩, ⟨S640x128, headP s2⟩, ⟨S640x128, headP s3⟩]
      concatenates_S640x128_S640x128_S640x128_S640x128_S640x512_d1)
    (constant S80x512 .f32 0x00000000#32)

/-- The gates of all branches and heads, one row each. -/
def gateT (z : Vec F S1x128x128 .f32) : FVec F S24x128 .f32 :=
  divf (broadcast S24x128 (Scalar.ofBits .f32 0x3F800000#32))
    (addf (broadcast S24x128 (Scalar.ofBits .f32 0x3F800000#32))
      (exp (subf (broadcast S24x128 (Scalar.ofBits .f32 0x00000000#32))
        (extractStridedSlice S24x128 ![0, 0] (transpose S128x128 [1, 0] (shapeCast S128x128 z shapeCasts_S1x128x128_S128x128)
          transposes_S128x128_p1_0_S128x128) slices_S128x128_o0_0_S24x128))))

/-- The gates of one group's four heads, side by side. -/
def gates (a0 a1 a2 a3 : ℕ) (h0 : S24x128.Slices ![a0, 0] S1x128) (h1 : S24x128.Slices ![a1, 0] S1x128)
    (h2 : S24x128.Slices ![a2, 0] S1x128) (h3 : S24x128.Slices ![a3, 0] S1x128) (z : Vec F S1x128x128 .f32) : FVec F S1x512 .f32 :=
  concatenate S1x512 1
    [⟨S1x128, extractStridedSlice S1x128 ![a0, 0] (gateT z) h0⟩, ⟨S1x128, extractStridedSlice S1x128 ![a1, 0] (gateT z) h1⟩,
     ⟨S1x128, extractStridedSlice S1x128 ![a2, 0] (gateT z) h2⟩, ⟨S1x128, extractStridedSlice S1x128 ![a3, 0] (gateT z) h3⟩]
    concatenates_S1x128_S1x128_S1x128_S1x128_S1x512_d1

/-- The gates of the first group. -/
def gatesA (z : Vec F S1x128x128 .f32) : FVec F S1x512 .f32 :=
  gates 2 5 8 11 slices_S24x128_o2_0_S1x128 slices_S24x128_o5_0_S1x128 slices_S24x128_o8_0_S1x128 slices_S24x128_o11_0_S1x128 z

/-- The gates of the second group. -/
def gatesB (z : Vec F S1x128x128 .f32) : FVec F S1x512 .f32 :=
  gates 14 17 20 23 slices_S24x128_o14_0_S1x128 slices_S24x128_o17_0_S1x128 slices_S24x128_o20_0_S1x128 slices_S24x128_o23_0_S1x128 z

/-- The reciprocal of the denominators of a group, times the gates. -/
def groupL (v : Vec F S1x80x640 .bf16) (s0 s1 s2 s3 : FVec F S640x128 .f32) (y : FVec F S1x512 .f32) : FVec F S1x512 .f32 :=
  mulf (divf (broadcast S1x512 (Scalar.ofBits .f32 0x3F800000#32))
    (extractStridedSlice S1x512 ![64, 0] (groupO v s0 s1 s2 s3) slices_S80x512_o64_0_S1x512)) y

/-- One group's half of an output tile, still with the rows along the lanes. -/
def halfT (o : ℕ) (h1 : S80x512.Slices ![0, o] S64x128) (h2 : S1x512.Slices ![0, o] S1x128)
    (v : Vec F S1x80x640 .bf16) (s0 s1 s2 s3 : FVec F S640x128 .f32) (y : FVec F S1x512 .f32) : FVec F S64x128 .f32 :=
  mulf (extractStridedSlice S64x128 ![0, o] (groupO v s0 s1 s2 s3) h1)
    (broadcastTo S64x128 (extractStridedSlice S1x128 ![0, o] (groupL v s0 s1 s2 s3 y) h2) broadcasts_S1x128_S64x128)

/-- An output tile: column block `o`, for both groups. -/
def tile (o : ℕ) (h1 : S80x512.Slices ![0, o] S64x128) (h2 : S1x512.Slices ![0, o] S1x128)
    (q : Vec F S1x128x512 .bf16) (k : Vec F S1x640x128 .bf16) (va vb : Vec F S1x80x640 .bf16) (w : BitVec 32)
    (z : Vec F S1x128x128 .f32) : FVec F S1x128x128 .bf16 :=
  shapeCast S1x128x128 (truncf .bf16 (transpose S128x128 [1, 0]
    (concatenate S128x128 0
      [⟨S64x128, halfT o h1 h2 va
        (headS 0 slices_S640x1024_o0_0_S640x128 (biasT w) (scoreT q k)) (headS 128 slices_S640x1024_o0_128_S640x128 (biasT w) (scoreT q k))
        (headS 256 slices_S640x1024_o0_256_S640x128 (biasT w) (scoreT q k)) (headS 384 slices_S640x1024_o0_384_S640x128 (biasT w) (scoreT q k))
        (gatesA z)⟩,
       ⟨S64x128, halfT o h1 h2 vb
        (headS 512 slices_S640x1024_o0_512_S640x128 (biasT w) (scoreT q k)) (headS 640 slices_S640x1024_o0_640_S640x128 (biasT w) (scoreT q k))
        (headS 768 slices_S640x1024_o0_768_S640x128 (biasT w) (scoreT q k)) (headS 896 slices_S640x1024_o0_896_S640x128 (biasT w) (scoreT q k))
        (gatesB z)⟩] concatenates_S64x128_S64x128_S128x128_d0)
    transposes_S128x128_p1_0_S128x128) bitsLt_bf16_f32) shapeCasts_S128x128_S1x128x128

/-- The distance of the first row of run `r` from the first key of its window. -/
def relW (i : grid0.Coords) (r : BitVec 32) : BitVec 32 :=
  let a : BitVec 32 := Scalar.muli (Scalar.addi (Scalar.muli (BitVec.ofNat 32 (i 1).val) 16#32) r) 128#32
  Scalar.subi a (Scalar.minsi 1408#32 (Scalar.maxsi 0#32 (Scalar.subi (Scalar.addi a 128#32) 640#32)))

section Pieces

variable (c : Dev nD) (i : grid0.Coords)
  (arg2 : Memref sig .tc .vmem S1x2048x512 .bf16) (harg2 : arg2.IsWhole)
  (arg3 : Memref sig .tc .vmem S1x2048x128 .bf16) (harg3 : arg3.IsWhole)
  (arg4 : Memref sig .tc .vmem S1x160x2048 .bf16) (harg4 : arg4.IsWhole)
  (arg5 : Memref sig .tc .vmem S1x2048x128 .f32) (harg5 : arg5.IsWhole)
  (arg6 : Memref sig .tc .vmem S1x2048x512 .bf16) (harg6 : arg6.IsWhole)
  (x0 : Vec F S1x2048x512 .bf16) (x1 : Vec F S1x2048x128 .bf16) (x2 : Vec F S1x160x2048 .bf16) (x3 : Vec F S1x2048x128 .f32)

/-- The tile of rows `n` to `n + 127` and column block `o`, over the buffers the run holds. -/
def tileAt (o n : ℕ) (h1 : S80x512.Slices ![0, o] S64x128) (h2 : S1x512.Slices ![0, o] S1x128)
    (hn : ∀ a, (![0, n, 0] : Fin 3 → ℕ) a + S1x128x512.size a ≤ S1x2048x512.size a)
    (hg : ∀ a, (![0, n, 0] : Fin 3 → ℕ) a + S1x128x128.size a ≤ S1x2048x128.size a) (r : Fin 16) : FVec F S1x128x128 .bf16 :=
  tile o h1 h2
    (View.readAt (Elt F) arg2.view (Rect.unit (s := S1x2048x512) ![0, n, 0] S1x128x512.size hn).toLoadRect (harg2.unread x0))
    (View.readAt (Elt F) arg3.view (Rect.unit (s := S1x2048x128) (k0_off1 i (BitVec.ofNat 32 r.val)) S1x640x128.size (k0_off1_inb i r)).toLoadRect (harg3.unread x1))
    (View.readAt (Elt F) arg4.view (Rect.unit (s := S1x160x2048) (k0_off2 i (BitVec.ofNat 32 r.val)) S1x80x640.size (k0_off2_inb i r)).toLoadRect (harg4.unread x2))
    (View.readAt (Elt F) arg4.view (Rect.unit (s := S1x160x2048) (k0_off3 i (BitVec.ofNat 32 r.val)) S1x80x640.size (k0_off3_inb i r)).toLoadRect (harg4.unread x2))
    (relW i (BitVec.ofNat 32 r.val))
    (View.readAt (Elt F) arg5.view (Rect.unit (s := S1x2048x128) ![0, n, 0] S1x128x128.size hg).toLoadRect (harg5.unread x3))

/-- What the run stores, last first, is those tiles. -/
theorem pieces_eq :
    (kernelRun0_A (F := F) c i arg2 harg2 arg3 harg3 arg4 harg4 arg5 harg5 arg6 harg6 x0 x1 x2 x3).1 = [
    ⟨Rect.unit (s := S1x2048x512) ![0, 1920, 384] S1x128x128.size inb_S1x2048x512_S1x128x128_0_1920_384,
      tileAt i arg2 harg2 arg3 harg3 arg4 harg4 arg5 harg5 x0 x1 x2 x3 384 1920 slices_S80x512_o0_384_S64x128 slices_S1x512_o0_384_S1x128 inb_S1x2048x512_S1x128x512_0_1920_0 inb_S1x2048x128_S1x128x128_0_1920_0 15⟩,
    ⟨Rect.unit (s := S1x2048x512) ![0, 1920, 256] S1x128x128.size inb_S1x2048x512_S1x128x128_0_1920_256,
      tileAt i arg2 harg2 arg3 harg3 arg4 harg4 arg5 harg5 x0 x1 x2 x3 256 1920 slices_S80x512_o0_256_S64x128 slices_S1x512_o0_256_S1x128 inb_S1x2048x512_S1x128x512_0_1920_0 inb_S1x2048x128_S1x128x128_0_1920_0 15⟩,
    ⟨Rect.unit (s := S1x2048x512) ![0, 1920, 128] S1x128x128.size inb_S1x2048x512_S1x128x128_0_1920_128,
      tileAt i arg2 harg2 arg3 harg3 arg4 harg4 arg5 harg5 x0 x1 x2 x3 128 1920 slices_S80x512_o0_128_S64x128 slices_S1x512_o0_128_S1x128 inb_S1x2048x512_S1x128x512_0_1920_0 inb_S1x2048x128_S1x128x128_0_1920_0 15⟩,
    ⟨Rect.unit (s := S1x2048x512) ![0, 1920, 0] S1x128x128.size inb_S1x2048x512_S1x128x128_0_1920_0,
      tileAt i arg2 harg2 arg3 harg3 arg4 harg4 arg5 harg5 x0 x1 x2 x3 0 1920 slices_S80x512_o0_0_S64x128 slices_S1x512_o0_0_S1x128 inb_S1x2048x512_S1x128x512_0_1920_0 inb_S1x2048x128_S1x128x128_0_1920_0 15⟩,
    ⟨Rect.unit (s := S1x2048x512) ![0, 1792, 384] S1x128x128.size inb_S1x2048x512_S1x128x128_0_1792_384,
      tileAt i arg2 harg2 arg3 harg3 arg4 harg4 arg5 harg5 x0 x1 x2 x3 384 1792 slices_S80x512_o0_384_S64x128 slices_S1x512_o0_384_S1x128 inb_S1x2048x512_S1x128x512_0_1792_0 inb_S1x2048x128_S1x128x128_0_1792_0 14⟩,
    ⟨Rect.unit (s := S1x2048x512) ![0, 1792, 256] S1x128x128.size inb_S1x2048x512_S1x128x128_0_1792_256,
      tileAt i arg2 harg2 arg3 harg3 arg4 harg4 arg5 harg5 x0 x1 x2 x3 256 1792 slices_S80x512_o0_256_S64x128 slices_S1x512_o0_256_S1x128 inb_S1x2048x512_S1x128x512_0_1792_0 inb_S1x2048x128_S1x128x128_0_1792_0 14⟩,
    ⟨Rect.unit (s := S1x2048x512) ![0, 1792, 128] S1x128x128.size inb_S1x2048x512_S1x128x128_0_1792_128,
      tileAt i arg2 harg2 arg3 harg3 arg4 harg4 arg5 harg5 x0 x1 x2 x3 128 1792 slices_S80x512_o0_128_S64x128 slices_S1x512_o0_128_S1x128 inb_S1x2048x512_S1x128x512_0_1792_0 inb_S1x2048x128_S1x128x128_0_1792_0 14⟩,
    ⟨Rect.unit (s := S1x2048x512) ![0, 1792, 0] S1x128x128.size inb_S1x2048x512_S1x128x128_0_1792_0,
      tileAt i arg2 harg2 arg3 harg3 arg4 harg4 arg5 harg5 x0 x1 x2 x3 0 1792 slices_S80x512_o0_0_S64x128 slices_S1x512_o0_0_S1x128 inb_S1x2048x512_S1x128x512_0_1792_0 inb_S1x2048x128_S1x128x128_0_1792_0 14⟩,
    ⟨Rect.unit (s := S1x2048x512) ![0, 1664, 384] S1x128x128.size inb_S1x2048x512_S1x128x128_0_1664_384,
      tileAt i arg2 harg2 arg3 harg3 arg4 harg4 arg5 harg5 x0 x1 x2 x3 384 1664 slices_S80x512_o0_384_S64x128 slices_S1x512_o0_384_S1x128 inb_S1x2048x512_S1x128x512_0_1664_0 inb_S1x2048x128_S1x128x128_0_1664_0 13⟩,
    ⟨Rect.unit (s := S1x2048x512) ![0, 1664, 256] S1x128x128.size inb_S1x2048x512_S1x128x128_0_1664_256,
      tileAt i arg2 harg2 arg3 harg3 arg4 harg4 arg5 harg5 x0 x1 x2 x3 256 1664 slices_S80x512_o0_256_S64x128 slices_S1x512_o0_256_S1x128 inb_S1x2048x512_S1x128x512_0_1664_0 inb_S1x2048x128_S1x128x128_0_1664_0 13⟩,
    ⟨Rect.unit (s := S1x2048x512) ![0, 1664, 128] S1x128x128.size inb_S1x2048x512_S1x128x128_0_1664_128,
      tileAt i arg2 harg2 arg3 harg3 arg4 harg4 arg5 harg5 x0 x1 x2 x3 128 1664 slices_S80x512_o0_128_S64x128 slices_S1x512_o0_128_S1x128 inb_S1x2048x512_S1x128x512_0_1664_0 inb_S1x2048x128_S1x128x128_0_1664_0 13⟩,
    ⟨Rect.unit (s := S1x2048x512) ![0, 1664, 0] S1x128x128.size inb_S1x2048x512_S1x128x128_0_1664_0,
      tileAt i arg2 harg2 arg3 harg3 arg4 harg4 arg5 harg5 x0 x1 x2 x3 0 1664 slices_S80x512_o0_0_S64x128 slices_S1x512_o0_0_S1x128 inb_S1x2048x512_S1x128x512_0_1664_0 inb_S1x2048x128_S1x128x128_0_1664_0 13⟩,
    ⟨Rect.unit (s := S1x2048x512) ![0, 1536, 384] S1x128x128.size inb_S1x2048x512_S1x128x128_0_1536_384,
      tileAt i arg2 harg2 arg3 harg3 arg4 harg4 arg5 harg5 x0 x1 x2 x3 384 1536 slices_S80x512_o0_384_S64x128 slices_S1x512_o0_384_S1x128 inb_S1x2048x512_S1x128x512_0_1536_0 inb_S1x2048x128_S1x128x128_0_1536_0 12⟩,
    ⟨Rect.unit (s := S1x2048x512) ![0, 1536, 256] S1x128x128.size inb_S1x2048x512_S1x128x128_0_1536_256,
      tileAt i arg2 harg2 arg3 harg3 arg4 harg4 arg5 harg5 x0 x1 x2 x3 256 1536 slices_S80x512_o0_256_S64x128 slices_S1x512_o0_256_S1x128 inb_S1x2048x512_S1x128x512_0_1536_0 inb_S1x2048x128_S1x128x128_0_1536_0 12⟩,
    ⟨Rect.unit (s := S1x2048x512) ![0, 1536, 128] S1x128x128.size inb_S1x2048x512_S1x128x128_0_1536_128,
      tileAt i arg2 harg2 arg3 harg3 arg4 harg4 arg5 harg5 x0 x1 x2 x3 128 1536 slices_S80x512_o0_128_S64x128 slices_S1x512_o0_128_S1x128 inb_S1x2048x512_S1x128x512_0_1536_0 inb_S1x2048x128_S1x128x128_0_1536_0 12⟩,
    ⟨Rect.unit (s := S1x2048x512) ![0, 1536, 0] S1x128x128.size inb_S1x2048x512_S1x128x128_0_1536_0,
      tileAt i arg2 harg2 arg3 harg3 arg4 harg4 arg5 harg5 x0 x1 x2 x3 0 1536 slices_S80x512_o0_0_S64x128 slices_S1x512_o0_0_S1x128 inb_S1x2048x512_S1x128x512_0_1536_0 inb_S1x2048x128_S1x128x128_0_1536_0 12⟩,
    ⟨Rect.unit (s := S1x2048x512) ![0, 1408, 384] S1x128x128.size inb_S1x2048x512_S1x128x128_0_1408_384,
      tileAt i arg2 harg2 arg3 harg3 arg4 harg4 arg5 harg5 x0 x1 x2 x3 384 1408 slices_S80x512_o0_384_S64x128 slices_S1x512_o0_384_S1x128 inb_S1x2048x512_S1x128x512_0_1408_0 inb_S1x2048x128_S1x128x128_0_1408_0 11⟩,
    ⟨Rect.unit (s := S1x2048x512) ![0, 1408, 256] S1x128x128.size inb_S1x2048x512_S1x128x128_0_1408_256,
      tileAt i arg2 harg2 arg3 harg3 arg4 harg4 arg5 harg5 x0 x1 x2 x3 256 1408 slices_S80x512_o0_256_S64x128 slices_S1x512_o0_256_S1x128 inb_S1x2048x512_S1x128x512_0_1408_0 inb_S1x2048x128_S1x128x128_0_1408_0 11⟩,
    ⟨Rect.unit (s := S1x2048x512) ![0, 1408, 128] S1x128x128.size inb_S1x2048x512_S1x128x128_0_1408_128,
      tileAt i arg2 harg2 arg3 harg3 arg4 harg4 arg5 harg5 x0 x1 x2 x3 128 1408 slices_S80x512_o0_128_S64x128 slices_S1x512_o0_128_S1x128 inb_S1x2048x512_S1x128x512_0_1408_0 inb_S1x2048x128_S1x128x128_0_1408_0 11⟩,
    ⟨Rect.unit (s := S1x2048x512) ![0, 1408, 0] S1x128x128.size inb_S1x2048x512_S1x128x128_0_1408_0,
      tileAt i arg2 harg2 arg3 harg3 arg4 harg4 arg5 harg5 x0 x1 x2 x3 0 1408 slices_S80x512_o0_0_S64x128 slices_S1x512_o0_0_S1x128 inb_S1x2048x512_S1x128x512_0_1408_0 inb_S1x2048x128_S1x128x128_0_1408_0 11⟩,
    ⟨Rect.unit (s := S1x2048x512) ![0, 1280, 384] S1x128x128.size inb_S1x2048x512_S1x128x128_0_1280_384,
      tileAt i arg2 harg2 arg3 harg3 arg4 harg4 arg5 harg5 x0 x1 x2 x3 384 1280 slices_S80x512_o0_384_S64x128 slices_S1x512_o0_384_S1x128 inb_S1x2048x512_S1x128x512_0_1280_0 inb_S1x2048x128_S1x128x128_0_1280_0 10⟩,
    ⟨Rect.unit (s := S1x2048x512) ![0, 1280, 256] S1x128x128.size inb_S1x2048x512_S1x128x128_0_1280_256,
      tileAt i arg2 harg2 arg3 harg3 arg4 harg4 arg5 harg5 x0 x1 x2 x3 256 1280 slices_S80x512_o0_256_S64x128 slices_S1x512_o0_256_S1x128 inb_S1x2048x512_S1x128x512_0_1280_0 inb_S1x2048x128_S1x128x128_0_1280_0 10⟩,
    ⟨Rect.unit (s := S1x2048x512) ![0, 1280, 128] S1x128x128.size inb_S1x2048x512_S1x128x128_0_1280_128,
      tileAt i arg2 harg2 arg3 harg3 arg4 harg4 arg5 harg5 x0 x1 x2 x3 128 1280 slices_S80x512_o0_128_S64x128 slices_S1x512_o0_128_S1x128 inb_S1x2048x512_S1x128x512_0_1280_0 inb_S1x2048x128_S1x128x128_0_1280_0 10⟩,
    ⟨Rect.unit (s := S1x2048x512) ![0, 1280, 0] S1x128x128.size inb_S1x2048x512_S1x128x128_0_1280_0,
      tileAt i arg2 harg2 arg3 harg3 arg4 harg4 arg5 harg5 x0 x1 x2 x3 0 1280 slices_S80x512_o0_0_S64x128 slices_S1x512_o0_0_S1x128 inb_S1x2048x512_S1x128x512_0_1280_0 inb_S1x2048x128_S1x128x128_0_1280_0 10⟩,
    ⟨Rect.unit (s := S1x2048x512) ![0, 1152, 384] S1x128x128.size inb_S1x2048x512_S1x128x128_0_1152_384,
      tileAt i arg2 harg2 arg3 harg3 arg4 harg4 arg5 harg5 x0 x1 x2 x3 384 1152 slices_S80x512_o0_384_S64x128 slices_S1x512_o0_384_S1x128 inb_S1x2048x512_S1x128x512_0_1152_0 inb_S1x2048x128_S1x128x128_0_1152_0 9⟩,
    ⟨Rect.unit (s := S1x2048x512) ![0, 1152, 256] S1x128x128.size inb_S1x2048x512_S1x128x128_0_1152_256,
      tileAt i arg2 harg2 arg3 harg3 arg4 harg4 arg5 harg5 x0 x1 x2 x3 256 1152 slices_S80x512_o0_256_S64x128 slices_S1x512_o0_256_S1x128 inb_S1x2048x512_S1x128x512_0_1152_0 inb_S1x2048x128_S1x128x128_0_1152_0 9⟩,
    ⟨Rect.unit (s := S1x2048x512) ![0, 1152, 128] S1x128x128.size inb_S1x2048x512_S1x128x128_0_1152_128,
      tileAt i arg2 harg2 arg3 harg3 arg4 harg4 arg5 harg5 x0 x1 x2 x3 128 1152 slices_S80x512_o0_128_S64x128 slices_S1x512_o0_128_S1x128 inb_S1x2048x512_S1x128x512_0_1152_0 inb_S1x2048x128_S1x128x128_0_1152_0 9⟩,
    ⟨Rect.unit (s := S1x2048x512) ![0, 1152, 0] S1x128x128.size inb_S1x2048x512_S1x128x128_0_1152_0,
      tileAt i arg2 harg2 arg3 harg3 arg4 harg4 arg5 harg5 x0 x1 x2 x3 0 1152 slices_S80x512_o0_0_S64x128 slices_S1x512_o0_0_S1x128 inb_S1x2048x512_S1x128x512_0_1152_0 inb_S1x2048x128_S1x128x128_0_1152_0 9⟩,
    ⟨Rect.unit (s := S1x2048x512) ![0, 1024, 384] S1x128x128.size inb_S1x2048x512_S1x128x128_0_1024_384,
      tileAt i arg2 harg2 arg3 harg3 arg4 harg4 arg5 harg5 x0 x1 x2 x3 384 1024 slices_S80x512_o0_384_S64x128 slices_S1x512_o0_384_S1x128 inb_S1x2048x512_S1x128x512_0_1024_0 inb_S1x2048x128_S1x128x128_0_1024_0 8⟩,
    ⟨Rect.unit (s := S1x2048x512) ![0, 1024, 256] S1x128x128.size inb_S1x2048x512_S1x128x128_0_1024_256,
      tileAt i arg2 harg2 arg3 harg3 arg4 harg4 arg5 harg5 x0 x1 x2 x3 256 1024 slices_S80x512_o0_256_S64x128 slices_S1x512_o0_256_S1x128 inb_S1x2048x512_S1x128x512_0_1024_0 inb_S1x2048x128_S1x128x128_0_1024_0 8⟩,
    ⟨Rect.unit (s := S1x2048x512) ![0, 1024, 128] S1x128x128.size inb_S1x2048x512_S1x128x128_0_1024_128,
      tileAt i arg2 harg2 arg3 harg3 arg4 harg4 arg5 harg5 x0 x1 x2 x3 128 1024 slices_S80x512_o0_128_S64x128 slices_S1x512_o0_128_S1x128 inb_S1x2048x512_S1x128x512_0_1024_0 inb_S1x2048x128_S1x128x128_0_1024_0 8⟩,
    ⟨Rect.unit (s := S1x2048x512) ![0, 1024, 0] S1x128x128.size inb_S1x2048x512_S1x128x128_0_1024_0,
      tileAt i arg2 harg2 arg3 harg3 arg4 harg4 arg5 harg5 x0 x1 x2 x3 0 1024 slices_S80x512_o0_0_S64x128 slices_S1x512_o0_0_S1x128 inb_S1x2048x512_S1x128x512_0_1024_0 inb_S1x2048x128_S1x128x128_0_1024_0 8⟩,
    ⟨Rect.unit (s := S1x2048x512) ![0, 896, 384] S1x128x128.size inb_S1x2048x512_S1x128x128_0_896_384,
      tileAt i arg2 harg2 arg3 harg3 arg4 harg4 arg5 harg5 x0 x1 x2 x3 384 896 slices_S80x512_o0_384_S64x128 slices_S1x512_o0_384_S1x128 inb_S1x2048x512_S1x128x512_0_896_0 inb_S1x2048x128_S1x128x128_0_896_0 7⟩,
    ⟨Rect.unit (s := S1x2048x512) ![0, 896, 256] S1x128x128.size inb_S1x2048x512_S1x128x128_0_896_256,
      tileAt i arg2 harg2 arg3 harg3 arg4 harg4 arg5 harg5 x0 x1 x2 x3 256 896 slices_S80x512_o0_256_S64x128 slices_S1x512_o0_256_S1x128 inb_S1x2048x512_S1x128x512_0_896_0 inb_S1x2048x128_S1x128x128_0_896_0 7⟩,
    ⟨Rect.unit (s := S1x2048x512) ![0, 896, 128] S1x128x128.size inb_S1x2048x512_S1x128x128_0_896_128,
      tileAt i arg2 harg2 arg3 harg3 arg4 harg4 arg5 harg5 x0 x1 x2 x3 128 896 slices_S80x512_o0_128_S64x128 slices_S1x512_o0_128_S1x128 inb_S1x2048x512_S1x128x512_0_896_0 inb_S1x2048x128_S1x128x128_0_896_0 7⟩,
    ⟨Rect.unit (s := S1x2048x512) ![0, 896, 0] S1x128x128.size inb_S1x2048x512_S1x128x128_0_896_0,
      tileAt i arg2 harg2 arg3 harg3 arg4 harg4 arg5 harg5 x0 x1 x2 x3 0 896 slices_S80x512_o0_0_S64x128 slices_S1x512_o0_0_S1x128 inb_S1x2048x512_S1x128x512_0_896_0 inb_S1x2048x128_S1x128x128_0_896_0 7⟩,
    ⟨Rect.unit (s := S1x2048x512) ![0, 768, 384] S1x128x128.size inb_S1x2048x512_S1x128x128_0_768_384,
      tileAt i arg2 harg2 arg3 harg3 arg4 harg4 arg5 harg5 x0 x1 x2 x3 384 768 slices_S80x512_o0_384_S64x128 slices_S1x512_o0_384_S1x128 inb_S1x2048x512_S1x128x512_0_768_0 inb_S1x2048x128_S1x128x128_0_768_0 6⟩,
    ⟨Rect.unit (s := S1x2048x512) ![0, 768, 256] S1x128x128.size inb_S1x2048x512_S1x128x128_0_768_256,
      tileAt i arg2 harg2 arg3 harg3 arg4 harg4 arg5 harg5 x0 x1 x2 x3 256 768 slices_S80x512_o0_256_S64x128 slices_S1x512_o0_256_S1x128 inb_S1x2048x512_S1x128x512_0_768_0 inb_S1x2048x128_S1x128x128_0_768_0 6⟩,
    ⟨Rect.unit (s := S1x2048x512) ![0, 768, 128] S1x128x128.size inb_S1x2048x512_S1x128x128_0_768_128,
      tileAt i arg2 harg2 arg3 harg3 arg4 harg4 arg5 harg5 x0 x1 x2 x3 128 768 slices_S80x512_o0_128_S64x128 slices_S1x512_o0_128_S1x128 inb_S1x2048x512_S1x128x512_0_768_0 inb_S1x2048x128_S1x128x128_0_768_0 6⟩,
    ⟨Rect.unit (s := S1x2048x512) ![0, 768, 0] S1x128x128.size inb_S1x2048x512_S1x128x128_0_768_0,
      tileAt i arg2 harg2 arg3 harg3 arg4 harg4 arg5 harg5 x0 x1 x2 x3 0 768 slices_S80x512_o0_0_S64x128 slices_S1x512_o0_0_S1x128 inb_S1x2048x512_S1x128x512_0_768_0 inb_S1x2048x128_S1x128x128_0_768_0 6⟩,
    ⟨Rect.unit (s := S1x2048x512) ![0, 640, 384] S1x128x128.size inb_S1x2048x512_S1x128x128_0_640_384,
      tileAt i arg2 harg2 arg3 harg3 arg4 harg4 arg5 harg5 x0 x1 x2 x3 384 640 slices_S80x512_o0_384_S64x128 slices_S1x512_o0_384_S1x128 inb_S1x2048x512_S1x128x512_0_640_0 inb_S1x2048x128_S1x128x128_0_640_0 5⟩,
    ⟨Rect.unit (s := S1x2048x512) ![0, 640, 256] S1x128x128.size inb_S1x2048x512_S1x128x128_0_640_256,
      tileAt i arg2 harg2 arg3 harg3 arg4 harg4 arg5 harg5 x0 x1 x2 x3 256 640 slices_S80x512_o0_256_S64x128 slices_S1x512_o0_256_S1x128 inb_S1x2048x512_S1x128x512_0_640_0 inb_S1x2048x128_S1x128x128_0_640_0 5⟩,
    ⟨Rect.unit (s := S1x2048x512) ![0, 640, 128] S1x128x128.size inb_S1x2048x512_S1x128x128_0_640_128,
      tileAt i arg2 harg2 arg3 harg3 arg4 harg4 arg5 harg5 x0 x1 x2 x3 128 640 slices_S80x512_o0_128_S64x128 slices_S1x512_o0_128_S1x128 inb_S1x2048x512_S1x128x512_0_640_0 inb_S1x2048x128_S1x128x128_0_640_0 5⟩,
    ⟨Rect.unit (s := S1x2048x512) ![0, 640, 0] S1x128x128.size inb_S1x2048x512_S1x128x128_0_640_0,
      tileAt i arg2 harg2 arg3 harg3 arg4 harg4 arg5 harg5 x0 x1 x2 x3 0 640 slices_S80x512_o0_0_S64x128 slices_S1x512_o0_0_S1x128 inb_S1x2048x512_S1x128x512_0_640_0 inb_S1x2048x128_S1x128x128_0_640_0 5⟩,
    ⟨Rect.unit (s := S1x2048x512) ![0, 512, 384] S1x128x128.size inb_S1x2048x512_S1x128x128_0_512_384,
      tileAt i arg2 harg2 arg3 harg3 arg4 harg4 arg5 harg5 x0 x1 x2 x3 384 512 slices_S80x512_o0_384_S64x128 slices_S1x512_o0_384_S1x128 inb_S1x2048x512_S1x128x512_0_512_0 inb_S1x2048x128_S1x128x128_0_512_0 4⟩,
    ⟨Rect.unit (s := S1x2048x512) ![0, 512, 256] S1x128x128.size inb_S1x2048x512_S1x128x128_0_512_256,
      tileAt i arg2 harg2 arg3 harg3 arg4 harg4 arg5 harg5 x0 x1 x2 x3 256 512 slices_S80x512_o0_256_S64x128 slices_S1x512_o0_256_S1x128 inb_S1x2048x512_S1x128x512_0_512_0 inb_S1x2048x128_S1x128x128_0_512_0 4⟩,
    ⟨Rect.unit (s := S1x2048x512) ![0, 512, 128] S1x128x128.size inb_S1x2048x512_S1x128x128_0_512_128,
      tileAt i arg2 harg2 arg3 harg3 arg4 harg4 arg5 harg5 x0 x1 x2 x3 128 512 slices_S80x512_o0_128_S64x128 slices_S1x512_o0_128_S1x128 inb_S1x2048x512_S1x128x512_0_512_0 inb_S1x2048x128_S1x128x128_0_512_0 4⟩,
    ⟨Rect.unit (s := S1x2048x512) ![0, 512, 0] S1x128x128.size inb_S1x2048x512_S1x128x128_0_512_0,
      tileAt i arg2 harg2 arg3 harg3 arg4 harg4 arg5 harg5 x0 x1 x2 x3 0 512 slices_S80x512_o0_0_S64x128 slices_S1x512_o0_0_S1x128 inb_S1x2048x512_S1x128x512_0_512_0 inb_S1x2048x128_S1x128x128_0_512_0 4⟩,
    ⟨Rect.unit (s := S1x2048x512) ![0, 384, 384] S1x128x128.size inb_S1x2048x512_S1x128x128_0_384_384,
      tileAt i arg2 harg2 arg3 harg3 arg4 harg4 arg5 harg5 x0 x1 x2 x3 384 384 slices_S80x512_o0_384_S64x128 slices_S1x512_o0_384_S1x128 inb_S1x2048x512_S1x128x512_0_384_0 inb_S1x2048x128_S1x128x128_0_384_0 3⟩,
    ⟨Rect.unit (s := S1x2048x512) ![0, 384, 256] S1x128x128.size inb_S1x2048x512_S1x128x128_0_384_256,
      tileAt i arg2 harg2 arg3 harg3 arg4 harg4 arg5 harg5 x0 x1 x2 x3 256 384 slices_S80x512_o0_256_S64x128 slices_S1x512_o0_256_S1x128 inb_S1x2048x512_S1x128x512_0_384_0 inb_S1x2048x128_S1x128x128_0_384_0 3⟩,
    ⟨Rect.unit (s := S1x2048x512) ![0, 384, 128] S1x128x128.size inb_S1x2048x512_S1x128x128_0_384_128,
      tileAt i arg2 harg2 arg3 harg3 arg4 harg4 arg5 harg5 x0 x1 x2 x3 128 384 slices_S80x512_o0_128_S64x128 slices_S1x512_o0_128_S1x128 inb_S1x2048x512_S1x128x512_0_384_0 inb_S1x2048x128_S1x128x128_0_384_0 3⟩,
    ⟨Rect.unit (s := S1x2048x512) ![0, 384, 0] S1x128x128.size inb_S1x2048x512_S1x128x128_0_384_0,
      tileAt i arg2 harg2 arg3 harg3 arg4 harg4 arg5 harg5 x0 x1 x2 x3 0 384 slices_S80x512_o0_0_S64x128 slices_S1x512_o0_0_S1x128 inb_S1x2048x512_S1x128x512_0_384_0 inb_S1x2048x128_S1x128x128_0_384_0 3⟩,
    ⟨Rect.unit (s := S1x2048x512) ![0, 256, 384] S1x128x128.size inb_S1x2048x512_S1x128x128_0_256_384,
      tileAt i arg2 harg2 arg3 harg3 arg4 harg4 arg5 harg5 x0 x1 x2 x3 384 256 slices_S80x512_o0_384_S64x128 slices_S1x512_o0_384_S1x128 inb_S1x2048x512_S1x128x512_0_256_0 inb_S1x2048x128_S1x128x128_0_256_0 2⟩,
    ⟨Rect.unit (s := S1x2048x512) ![0, 256, 256] S1x128x128.size inb_S1x2048x512_S1x128x128_0_256_256,
      tileAt i arg2 harg2 arg3 harg3 arg4 harg4 arg5 harg5 x0 x1 x2 x3 256 256 slices_S80x512_o0_256_S64x128 slices_S1x512_o0_256_S1x128 inb_S1x2048x512_S1x128x512_0_256_0 inb_S1x2048x128_S1x128x128_0_256_0 2⟩,
    ⟨Rect.unit (s := S1x2048x512) ![0, 256, 128] S1x128x128.size inb_S1x2048x512_S1x128x128_0_256_128,
      tileAt i arg2 harg2 arg3 harg3 arg4 harg4 arg5 harg5 x0 x1 x2 x3 128 256 slices_S80x512_o0_128_S64x128 slices_S1x512_o0_128_S1x128 inb_S1x2048x512_S1x128x512_0_256_0 inb_S1x2048x128_S1x128x128_0_256_0 2⟩,
    ⟨Rect.unit (s := S1x2048x512) ![0, 256, 0] S1x128x128.size inb_S1x2048x512_S1x128x128_0_256_0,
      tileAt i arg2 harg2 arg3 harg3 arg4 harg4 arg5 harg5 x0 x1 x2 x3 0 256 slices_S80x512_o0_0_S64x128 slices_S1x512_o0_0_S1x128 inb_S1x2048x512_S1x128x512_0_256_0 inb_S1x2048x128_S1x128x128_0_256_0 2⟩,
    ⟨Rect.unit (s := S1x2048x512) ![0, 128, 384] S1x128x128.size inb_S1x2048x512_S1x128x128_0_128_384,
      tileAt i arg2 harg2 arg3 harg3 arg4 harg4 arg5 harg5 x0 x1 x2 x3 384 128 slices_S80x512_o0_384_S64x128 slices_S1x512_o0_384_S1x128 inb_S1x2048x512_S1x128x512_0_128_0 inb_S1x2048x128_S1x128x128_0_128_0 1⟩,
    ⟨Rect.unit (s := S1x2048x512) ![0, 128, 256] S1x128x128.size inb_S1x2048x512_S1x128x128_0_128_256,
      tileAt i arg2 harg2 arg3 harg3 arg4 harg4 arg5 harg5 x0 x1 x2 x3 256 128 slices_S80x512_o0_256_S64x128 slices_S1x512_o0_256_S1x128 inb_S1x2048x512_S1x128x512_0_128_0 inb_S1x2048x128_S1x128x128_0_128_0 1⟩,
    ⟨Rect.unit (s := S1x2048x512) ![0, 128, 128] S1x128x128.size inb_S1x2048x512_S1x128x128_0_128_128,
      tileAt i arg2 harg2 arg3 harg3 arg4 harg4 arg5 harg5 x0 x1 x2 x3 128 128 slices_S80x512_o0_128_S64x128 slices_S1x512_o0_128_S1x128 inb_S1x2048x512_S1x128x512_0_128_0 inb_S1x2048x128_S1x128x128_0_128_0 1⟩,
    ⟨Rect.unit (s := S1x2048x512) ![0, 128, 0] S1x128x128.size inb_S1x2048x512_S1x128x128_0_128_0,
      tileAt i arg2 harg2 arg3 harg3 arg4 harg4 arg5 harg5 x0 x1 x2 x3 0 128 slices_S80x512_o0_0_S64x128 slices_S1x512_o0_0_S1x128 inb_S1x2048x512_S1x128x512_0_128_0 inb_S1x2048x128_S1x128x128_0_128_0 1⟩,
    ⟨Rect.unit (s := S1x2048x512) ![0, 0, 384] S1x128x128.size inb_S1x2048x512_S1x128x128_0_0_384,
      tileAt i arg2 harg2 arg3 harg3 arg4 harg4 arg5 harg5 x0 x1 x2 x3 384 0 slices_S80x512_o0_384_S64x128 slices_S1x512_o0_384_S1x128 inb_S1x2048x512_S1x128x512_0_0_0 inb_S1x2048x128_S1x128x128_0_0_0 0⟩,
    ⟨Rect.unit (s := S1x2048x512) ![0, 0, 256] S1x128x128.size inb_S1x2048x512_S1x128x128_0_0_256,
      tileAt i arg2 harg2 arg3 harg3 arg4 harg4 arg5 harg5 x0 x1 x2 x3 256 0 slices_S80x512_o0_256_S64x128 slices_S1x512_o0_256_S1x128 inb_S1x2048x512_S1x128x512_0_0_0 inb_S1x2048x128_S1x128x128_0_0_0 0⟩,
    ⟨Rect.unit (s := S1x2048x512) ![0, 0, 128] S1x128x128.size inb_S1x2048x512_S1x128x128_0_0_128,
      tileAt i arg2 harg2 arg3 harg3 arg4 harg4 arg5 harg5 x0 x1 x2 x3 128 0 slices_S80x512_o0_128_S64x128 slices_S1x512_o0_128_S1x128 inb_S1x2048x512_S1x128x512_0_0_0 inb_S1x2048x128_S1x128x128_0_0_0 0⟩,
    ⟨Rect.unit (s := S1x2048x512) ![0, 0, 0] S1x128x128.size inb_S1x2048x512_S1x128x128_0_0_0,
      tileAt i arg2 harg2 arg3 harg3 arg4 harg4 arg5 harg5 x0 x1 x2 x3 0 0 slices_S80x512_o0_0_S64x128 slices_S1x512_o0_0_S1x128 inb_S1x2048x512_S1x128x512_0_0_0 inb_S1x2048x128_S1x128x128_0_0_0 0⟩] := by
  sl_kernel_rfl

end Pieces

end Cert.Kernel3Ideal.Win

end
-- ==== Proof.Gate.lean ====
module

public import Idealize.ShloMosaic.PureOps.Ideal

@[expose] public section

noncomputable section

open Idealize.ShloMosaic

namespace Cert.Gate

/-- The sigmoid of a gate's logit. -/
def sigm (z : EReal) : EReal := Ideal.div 1 (1 + Ideal.exp (-z))

end Cert.Gate

end
-- ==== Proof.WinRead.lean ====
module

public import proofs.«01_k».proof.Proof.WinTile
public import proofs.«01_k».proof.Proof.Gate
public import Idealize.ShloMosaic.Lib.WordCmp

@[expose] public section

set_option maxRecDepth 16384

noncomputable section

open Idealize.ShloMosaic Idealize.ShloMosaic.TcCoe Idealize.SL.Sem

namespace Cert.Kernel3Ideal.Win

open Cert.Kernel3Ideal Cert.Kernel3Ideal.Gen

/-! The tiles at the ideal instance, read at an index. -/

theorem low_at (r l : Fin 128) : lowLanes (ix2 r l) = if (l : ℕ) % 64 < 32 then 1#1 else 0#1 := by
  pointwise [lowLanes]
  revert l
  decide +kernel

/-- The queries of head `j` of group `g`: the lanes of the other group are zero. -/
def qLane (q : FVec Ideal S1x128x512 .bf16) (g : Fin 2) (j : Fin 4) (r l : Fin 128) : EReal :=
  if ((l : ℕ) % 64 < 32 ↔ g = 0) then q (ix3 0 r ⟨128 * (j : ℕ) + l, by omega⟩) else 0

set_option maxHeartbeats 1000000 in
theorem stackQ_at (q : FVec Ideal S1x128x512 .bf16) (g : Fin 2) (j : Fin 4) (r l : Fin 128) :
    stackQ (F := Ideal) q (ix2 ⟨512 * (g : ℕ) + 128 * (j : ℕ) + r, by omega⟩ l) = qLane q g j r l := by
  have hr := r.isLt
  obtain rfl | rfl : g = 0 ∨ g = 1 := by revert g; decide
  all_goals obtain rfl | rfl | rfl | rfl : j = 0 ∨ j = 1 ∨ j = 2 ∨ j = 3 := by revert j; decide
  all_goals
    pointwise [stackQ, rows, zeroLanes, qLane]
    repeat (first | rw [dif_neg (by omega)] | rw [dif_pos (by omega)])
    simp only [Nat.sub_sub, Nat.reduceAdd, Nat.add_sub_cancel_left, Fin.eta, low_at, iff_true, iff_false]
    by_cases hl : (l : ℕ) % 64 < 32
    · simp [hl, Scalar.select]
    · simp [hl, Scalar.select]

theorem scoreT_at (q : FVec Ideal S1x128x512 .bf16) (k : FVec Ideal S1x640x128 .bf16) (t : Fin 640) (r : Fin 1024) :
    scoreT (F := Ideal) q k (ix2 t r) = ∑ l : Fin 128, k (ix3 0 t l) * stackQ q (ix2 r l) := by
  pointwise [scoreT]

/-- The greatest score of a window. -/
def topOf (s : Fin 640 → EReal) : EReal := Finset.fold max ⊥ s Finset.univ

/-- One row of one head of the kernel: the values weighted by the powers of two of the scores less
    their maximum, over the sum of the weights, times the gate. `l` is the row of ones that sums the weights. -/
def winRow (s : Fin 640 → EReal) (y : EReal) (v l : Fin 640 → EReal) : EReal :=
  (∑ t, v t * Ideal.exp2 (s t - topOf s)) * (Ideal.div 1 (∑ t, l t * Ideal.exp2 (s t - topOf s)) * y)

theorem groupO_at (v : FVec Ideal S1x80x640 .bf16) (s : Fin 4 → FVec Ideal S640x128 .f32) (j : Fin 4) (a : Fin 80) (r : Fin 128) :
    groupO v (s 0) (s 1) (s 2) (s 3) (ix2 a ⟨128 * (j : ℕ) + r, by omega⟩) =
      ∑ t : Fin 640, v (ix3 0 a t) * headP (s j) (ix2 t r) := by
  have hr := r.isLt
  obtain rfl | rfl | rfl | rfl : j = 0 ∨ j = 1 ∨ j = 2 ∨ j = 3 := by revert j; decide
  all_goals pointwise [groupO]
  all_goals
    refine Finset.sum_congr rfl fun t _ => ?_
    repeat (first | rw [dif_neg (by omega)] | rw [dif_pos (by omega)])
    try simp only [Nat.sub_sub, Nat.reduceAdd, Nat.add_sub_cancel_left, Fin.eta]

theorem groupL_at (v : FVec Ideal S1x80x640 .bf16) (s : Fin 4 → FVec Ideal S640x128 .f32) (y : FVec Ideal S1x512 .f32) (q : Fin 512) :
    groupL v (s 0) (s 1) (s 2) (s 3) y (ix2 0 q) = Ideal.div 1 (groupO v (s 0) (s 1) (s 2) (s 3) (ix2 64 q)) * y (ix2 0 q) := by
  unfold groupL
  generalize groupO v (s 0) (s 1) (s 2) (s 3) = big
  pointwise

/-- The gate of branch column `p`. -/
theorem gateT_at (z : FVec Ideal S1x128x128 .f32) (p : Fin 24) (r : Fin 128) :
    gateT (F := Ideal) z (ix2 p r) = Cert.Gate.sigm (z (ix3 0 r ⟨p, by omega⟩)) := by
  unfold Cert.Gate.sigm
  rw [← zero_sub (z _)]
  pointwise [gateT]

theorem gates_at (a : Fin 4 → ℕ) (h : ∀ j, S24x128.Slices ![a j, 0] S1x128) (ha : ∀ j, a j < 24) (z : FVec Ideal S1x128x128 .f32) (j : Fin 4) (r : Fin 128) :
    gates (F := Ideal) (a 0) (a 1) (a 2) (a 3) (h 0) (h 1) (h 2) (h 3) z (ix2 0 ⟨128 * (j : ℕ) + r, by omega⟩) = gateT (F := Ideal) z (ix2 ⟨a j, ha j⟩ r) := by
  have hr := r.isLt
  unfold gates
  generalize gateT (F := Ideal) z = big
  obtain rfl | rfl | rfl | rfl : j = 0 ∨ j = 1 ∨ j = 2 ∨ j = 3 := by revert j; decide
  all_goals
    pointwise
    repeat (first | rw [dif_neg (by omega)] | rw [dif_pos (by omega)])
    try simp only [Nat.sub_sub, Nat.reduceAdd, Nat.add_sub_cancel_left, Fin.eta, Nat.add_zero]

theorem gatesA_at (z : FVec Ideal S1x128x128 .f32) (j : Fin 4) (r : Fin 128) :
    gatesA (F := Ideal) z (ix2 0 ⟨128 * (j : ℕ) + r, by omega⟩) = Cert.Gate.sigm (z (ix3 0 r ⟨3 * (j : ℕ) + 2, by omega⟩)) := by
  refine (gates_at (fun j => 3 * (j : ℕ) + 2) (fun j => by obtain rfl | rfl | rfl | rfl : j = 0 ∨ j = 1 ∨ j = 2 ∨ j = 3 := by revert j; decide
                                                           · exact slices_S24x128_o2_0_S1x128
                                                           · exact slices_S24x128_o5_0_S1x128
                                                           · exact slices_S24x128_o8_0_S1x128
                                                           · exact slices_S24x128_o11_0_S1x128) (fun j => by first | omega | (simp only []; omega)) z j r).trans ?_
  rw [gateT_at]

theorem gatesB_at (z : FVec Ideal S1x128x128 .f32) (j : Fin 4) (r : Fin 128) :
    gatesB (F := Ideal) z (ix2 0 ⟨128 * (j : ℕ) + r, by omega⟩) = Cert.Gate.sigm (z (ix3 0 r ⟨12 + (3 * (j : ℕ) + 2), by omega⟩)) := by
  refine (gates_at (fun j => 12 + (3 * (j : ℕ) + 2)) (fun j => by obtain rfl | rfl | rfl | rfl : j = 0 ∨ j = 1 ∨ j = 2 ∨ j = 3 := by revert j; decide
                                                                  · exact slices_S24x128_o14_0_S1x128
                                                                  · exact slices_S24x128_o17_0_S1x128
                                                                  · exact slices_S24x128_o20_0_S1x128
                                                                  · exact slices_S24x128_o23_0_S1x128) (fun j => by first | omega | (simp only []; omega)) z j r).trans ?_
  rw [gateT_at]

theorem headM_at (s : FVec Ideal S640x128 .f32) (r : Fin 128) :
    headM s (ix2 0 r) = topOf (fun t : Fin 640 => s (ix2 t r)) := by
  have h1 : Ideal.ofBits FTy.f32 0xFF800000#32 = ⊥ := by simp [Ideal.ofBits, Ideal.ieee]
  unfold topOf
  pointwise [headM]
  rw [h1]

theorem headP_at (s : FVec Ideal S640x128 .f32) (t : Fin 640) (r : Fin 128) :
    headP s (ix2 t r) = Ideal.exp2 (s (ix2 t r) - headM s (ix2 0 r)) := by
  pointwise [headP]
  rfl

theorem biasT_at (δ : ℕ) (hδ : δ ≤ 512) (t : Fin 640) (r : Fin 128) :
    biasT (F := Ideal) (BitVec.ofNat 32 δ) (ix2 t r) = if (t : ℕ) ≤ r + δ ∧ (r : ℕ) + δ < t + 512 then 0 else ⊥ := by
  have h2 : (Named.named κ "mask" (φ := .f32) 0xF149F2CA#32 : Ideal .f32) = ⊥ :=
    IdealRules.named_const.ideal_named_scalar _ _ _ _ rfl
  have hr := r.isLt
  have ht := t.isLt
  have e : IntOp.addi (IntOp.subi (BitVec.ofNat 32 (r : ℕ)) (BitVec.ofNat 32 (t : ℕ))) (BitVec.ofNat 32 δ) =
      BitVec.ofNat 32 ((r : ℕ) + δ + (4294967296 - t)) := by
    apply BitVec.eq_of_toNat_eq
    simp only [IntOp.addi, IntOp.subi, BitVec.toNat_add, BitVec.toNat_sub, BitVec.toNat_ofNat]
    omega
  pointwise [biasT, relT]
  rw [e, WordCmp.andi_sge_zero_slt_ofNat (by decide), WordCmp.select_ofBool, h2, BitVec.toNat_ofNat]
  by_cases h : (t : ℕ) ≤ r + δ ∧ (r : ℕ) + δ < t + 512
  · rw [if_pos h, if_pos (by simp only [decide_eq_true_eq]; omega)]
  · rw [if_neg h, if_neg (by simp only [decide_eq_true_eq]; omega)]

/-- A head's row of a group: the sum of the values over the sum of the weights, gated. -/
theorem halfT_at (o : ℕ) (h1 : S80x512.Slices ![0, o] S64x128) (h2 : S1x512.Slices ![0, o] S1x128) (j : Fin 4) (ho : o = 128 * (j : ℕ))
    (v : FVec Ideal S1x80x640 .bf16) (s : Fin 4 → FVec Ideal S640x128 .f32) (y : FVec Ideal S1x512 .f32) (d : Fin 64) (r : Fin 128) :
    halfT o h1 h2 v (s 0) (s 1) (s 2) (s 3) y (ix2 d r) =
      winRow (fun t => s j (ix2 t r)) (y (ix2 0 ⟨128 * (j : ℕ) + r, by omega⟩)) (fun t => v (ix3 0 ⟨d, by omega⟩ t)) (fun t => v (ix3 0 64 t)) := by
  subst ho
  have e1 := groupO_at v s j ⟨d, by omega⟩ r
  have e2 := groupL_at v s y ⟨128 * (j : ℕ) + r, by omega⟩
  rw [groupO_at v s j 64 r] at e2
  simp only [headP_at, headM_at] at e1 e2
  unfold halfT
  generalize groupO v (s 0) (s 1) (s 2) (s 3) = big at e1
  generalize groupL v (s 0) (s 1) (s 2) (s 3) y = bigL at e2
  pointwise
  rw [e1, e2]
  rfl

theorem headS_at (o : ℕ) (h : S640x1024.Slices ![0, o] S640x128) (b : FVec Ideal S640x128 .f32) (st : FVec Ideal S640x1024 .f32)
    (g : Fin 2) (j : Fin 4) (ho : o = 512 * (g : ℕ) + 128 * (j : ℕ)) (t : Fin 640) (r : Fin 128) :
    headS o h b st (ix2 t r) = st (ix2 t ⟨512 * (g : ℕ) + 128 * (j : ℕ) + r, by omega⟩) + b (ix2 t r) := by
  subst ho
  pointwise [headS]

end Cert.Kernel3Ideal.Win

end
-- ==== Proof.WinPiece.lean ====
module

public import proofs.«01_k».proof.Proof.WinRead

@[expose] public section

set_option maxRecDepth 16384

noncomputable section

open Idealize.ShloMosaic Idealize.ShloMosaic.TcCoe Idealize.SL.Sem

namespace Cert.Kernel3Ideal.Win

open Cert.Kernel3Ideal Cert.Kernel3Ideal.Gen

/-- The scores of a row of head `j` of group `g` against a window of keys, with the band. -/
def winScore (q : FVec Ideal S1x128x512 .bf16) (k : FVec Ideal S1x640x128 .bf16) (δ : ℕ) (g : Fin 2) (j : Fin 4) (r : Fin 128) (t : Fin 640) : EReal :=
  (∑ l : Fin 128, k (ix3 0 t l) * qLane q g j r l) + if (t : ℕ) ≤ r + δ ∧ (r : ℕ) + δ < t + 512 then 0 else ⊥

theorem two : ∀ g : Fin 2, g = 0 ∨ g = 1 := by decide

theorem four : ∀ j : Fin 4, j = 0 ∨ j = 1 ∨ j = 2 ∨ j = 3 := by decide

set_option maxHeartbeats 1000000 in
/-- A tile at an index: column `64 * g + d` of the tile of heads `j`. -/
theorem tile_at (o : ℕ) (h1 : S80x512.Slices ![0, o] S64x128) (h2 : S1x512.Slices ![0, o] S1x128) (j : Fin 4) (ho : o = 128 * (j : ℕ))
    (q : FVec Ideal S1x128x512 .bf16) (k : FVec Ideal S1x640x128 .bf16) (v : Fin 2 → FVec Ideal S1x80x640 .bf16) (δ : ℕ) (hδ : δ ≤ 512)
    (z : FVec Ideal S1x128x128 .f32) (r : Fin 128) (g : Fin 2) (d : Fin 64) :
    tile (F := Ideal) o h1 h2 q k (v 0) (v 1) (BitVec.ofNat 32 δ) z
        (ix3 0 r ⟨64 * (g : ℕ) + d, by omega⟩) =
      winRow (winScore q k δ g j r) (Cert.Gate.sigm (z (ix3 0 r ⟨12 * (g : ℕ) + (3 * (j : ℕ) + 2), by omega⟩))) (fun t => v g (ix3 0 ⟨d, by omega⟩ t)) (fun t => v g (ix3 0 64 t)) := by
  have hd := d.isLt
  have key : ∀ (g : Fin 2) (j' : Fin 4) (o' : ℕ) (h' : S640x1024.Slices ![0, o'] S640x128) (ho' : o' = 512 * (g : ℕ) + 128 * (j' : ℕ)) (t : Fin 640),
      headS (F := Ideal) o' h' (biasT (BitVec.ofNat 32 δ)) (scoreT q k) (ix2 t r) = winScore q k δ g j' r t := by
    intro g j' o' h' ho' t
    rw [headS_at o' h' _ _ g j' ho', biasT_at δ hδ, scoreT_at]
    simp only [stackQ_at]
    rfl
  rcases two g with rfl | rfl
  · have e := halfT_at o h1 h2 j ho (v 0) ![headS (F := Ideal) 0 slices_S640x1024_o0_0_S640x128 (biasT (BitVec.ofNat 32 δ)) (scoreT q k),
      headS 128 slices_S640x1024_o0_128_S640x128 (biasT (BitVec.ofNat 32 δ)) (scoreT q k),
      headS 256 slices_S640x1024_o0_256_S640x128 (biasT (BitVec.ofNat 32 δ)) (scoreT q k),
      headS 384 slices_S640x1024_o0_384_S640x128 (biasT (BitVec.ofNat 32 δ)) (scoreT q k)] (gatesA z) d r
    rw [gatesA_at] at e
    pointwise [tile]
    repeat (first | rw [dif_neg (by omega)] | rw [dif_pos (by omega)])
    refine e.trans (congr (congr (congr (congrArg winRow (funext fun t => ?_)) (congrArg (fun p => Cert.Gate.sigm (z (ix3 0 r p))) (Fin.ext (by simp)))) rfl) rfl)
    rcases four j with rfl | rfl | rfl | rfl
    · exact key 0 0 0 slices_S640x1024_o0_0_S640x128 rfl t
    · exact key 0 1 128 slices_S640x1024_o0_128_S640x128 rfl t
    · exact key 0 2 256 slices_S640x1024_o0_256_S640x128 rfl t
    · exact key 0 3 384 slices_S640x1024_o0_384_S640x128 rfl t
  · have e := halfT_at o h1 h2 j ho (v 1) ![headS (F := Ideal) 512 slices_S640x1024_o0_512_S640x128 (biasT (BitVec.ofNat 32 δ)) (scoreT q k),
      headS 640 slices_S640x1024_o0_640_S640x128 (biasT (BitVec.ofNat 32 δ)) (scoreT q k),
      headS 768 slices_S640x1024_o0_768_S640x128 (biasT (BitVec.ofNat 32 δ)) (scoreT q k),
      headS 896 slices_S640x1024_o0_896_S640x128 (biasT (BitVec.ofNat 32 δ)) (scoreT q k)] (gatesB z) d r
    rw [gatesB_at] at e
    pointwise [tile]
    repeat (first | rw [dif_neg (by omega)] | rw [dif_pos (by omega)])
    try simp only [Nat.sub_sub, Nat.reduceAdd, Nat.add_sub_cancel_left, Fin.eta]
    refine e.trans (congr (congr (congr (congrArg winRow (funext fun t => ?_)) (congrArg (fun p => Cert.Gate.sigm (z (ix3 0 r p))) (Fin.ext (by simp)))) rfl) rfl)
    rcases four j with rfl | rfl | rfl | rfl
    · exact key 1 0 512 slices_S640x1024_o0_512_S640x128 rfl t
    · exact key 1 1 640 slices_S640x1024_o0_640_S640x128 rfl t
    · exact key 1 2 768 slices_S640x1024_o0_768_S640x128 rfl t
    · exact key 1 3 896 slices_S640x1024_o0_896_S640x128 rfl t

end Cert.Kernel3Ideal.Win

end
-- ==== Proof.WinBlock.lean ====
module

public import proofs.«01_k».proof.Proof.WinPiece
public import proofs.«01_k».proof.Proof.Gen.Kernel3Ideal.Value
public import Idealize.ShloMosaic.Lib.Pipeline.ValueKit

@[expose] public section

set_option maxRecDepth 16384

noncomputable section

open Idealize.ShloMosaic Idealize.ShloMosaic.TcCoe Idealize.SL.Sem

namespace Cert.Kernel3Ideal.Win

open Cert.Kernel3Ideal Cert.Kernel3Ideal.Gen

/-! The block of the output a grid point leaves, as one function of the blocks it was given. -/

/-- The first key of the window of a run of rows. -/
def lo (r : Fin 16) : ℕ := min (128 * (r : ℕ) - 512) 1408

theorem lo_le (r : Fin 16) : lo r + 640 ≤ 2048 := by unfold lo; omega

theorem coord1 (i : grid0.Coords) : (i 1).val = 0 := by
  have h : (i 1).val < 1 := (i 1).isLt
  omega

theorem off1_eq (i : grid0.Coords) (r : Fin 16) : k0_off1 i (BitVec.ofNat 32 r.val) = ![0, lo r, 0] := by
  simp only [k0_off1, coord1]
  revert r
  decide +kernel

theorem off2_eq (i : grid0.Coords) (r : Fin 16) : k0_off2 i (BitVec.ofNat 32 r.val) = ![0, 0, lo r] := by
  simp only [k0_off2, coord1]
  revert r
  decide +kernel

theorem off3_eq (i : grid0.Coords) (r : Fin 16) : k0_off3 i (BitVec.ofNat 32 r.val) = ![0, 80, lo r] := by
  simp only [k0_off3, coord1]
  revert r
  decide +kernel

theorem relW_eq (i : grid0.Coords) (r : Fin 16) : relW i (BitVec.ofNat 32 r.val) = BitVec.ofNat 32 (128 * r.val - lo r) := by
  simp only [relW, coord1]
  revert r
  decide +kernel

variable (c : Dev nD) (i : grid0.Coords)
  (arg2 : Memref sig .tc .vmem S1x2048x512 .bf16) (harg2 : arg2.IsWhole)
  (arg3 : Memref sig .tc .vmem S1x2048x128 .bf16) (harg3 : arg3.IsWhole)
  (arg4 : Memref sig .tc .vmem S1x160x2048 .bf16) (harg4 : arg4.IsWhole)
  (arg5 : Memref sig .tc .vmem S1x2048x128 .f32) (harg5 : arg5.IsWhole)
  (arg6 : Memref sig .tc .vmem S1x2048x512 .bf16) (harg6 : arg6.IsWhole)
  (x0 : FVec Ideal S1x2048x512 .bf16) (x1 : FVec Ideal S1x2048x128 .bf16) (x2 : FVec Ideal S1x160x2048 .bf16) (x3 : FVec Ideal S1x2048x128 .f32)

theorem read_q (n : ℕ) (hn : ∀ a, (![0, n, 0] : Fin 3 → ℕ) a + S1x128x512.size a ≤ S1x2048x512.size a) (hn' : n + 128 ≤ 2048) (rr : Fin 128) (l : Fin 512) :
    View.readAt (Elt Ideal) arg2.view (Rect.unit (s := S1x2048x512) ![0, n, 0] S1x128x512.size hn).toLoadRect (harg2.unread x0) (ix3 0 rr l) =
      x0 (ix3 0 ⟨n + rr, by omega⟩ l) := by
  rw [View.readAt_eq_ld, Memref.IsWhole.read_unread]
  pointwise

theorem read_k (off : Fin 3 → ℕ) (hn : ∀ a, off a + S1x640x128.size a ≤ S1x2048x128.size a) (n : ℕ) (hoff : off = ![0, n, 0]) (hn' : n + 640 ≤ 2048) (t : Fin 640) (l : Fin 128) :
    View.readAt (Elt Ideal) arg3.view (Rect.unit (s := S1x2048x128) off S1x640x128.size hn).toLoadRect (harg3.unread x1) (ix3 0 t l) =
      x1 (ix3 0 ⟨n + t, by omega⟩ l) := by
  subst hoff
  rw [View.readAt_eq_ld, Memref.IsWhole.read_unread]
  pointwise

theorem read_v (off : Fin 3 → ℕ) (hn : ∀ a, off a + S1x80x640.size a ≤ S1x160x2048.size a) (p n : ℕ) (hoff : off = ![0, p, n]) (hp : p + 80 ≤ 160) (hn' : n + 640 ≤ 2048) (a : Fin 80) (t : Fin 640) :
    View.readAt (Elt Ideal) arg4.view (Rect.unit (s := S1x160x2048) off S1x80x640.size hn).toLoadRect (harg4.unread x2) (ix3 0 a t) =
      x2 (ix3 0 ⟨p + a, by omega⟩ ⟨n + t, by omega⟩) := by
  subst hoff
  rw [View.readAt_eq_ld, Memref.IsWhole.read_unread]
  pointwise

theorem read_g (n : ℕ) (hn : ∀ a, (![0, n, 0] : Fin 3 → ℕ) a + S1x128x128.size a ≤ S1x2048x128.size a) (hn' : n + 128 ≤ 2048) (rr : Fin 128) (l : Fin 128) :
    View.readAt (Elt Ideal) arg5.view (Rect.unit (s := S1x2048x128) ![0, n, 0] S1x128x128.size hn).toLoadRect (harg5.unread x3) (ix3 0 rr l) =
      x3 (ix3 0 ⟨n + rr, by omega⟩ l) := by
  rw [View.readAt_eq_ld, Memref.IsWhole.read_unread]
  pointwise

/-- A row of a head of the block. -/
def blockRow (r : Fin 16) (rr : Fin 128) (j : Fin 4) (g : Fin 2) (d : Fin 64) : EReal :=
  winRow (fun t => (∑ l : Fin 128, x1 (ix3 0 ⟨lo r + t, by have := lo_le r; omega⟩ l) *
        (if ((l : ℕ) % 64 < 32 ↔ g = 0) then x0 (ix3 0 ⟨128 * (r : ℕ) + rr, by omega⟩ ⟨128 * (j : ℕ) + l, by omega⟩) else 0)) +
      if 128 * (r : ℕ) + rr < lo r + t + 512 ∧ lo r + t ≤ 128 * (r : ℕ) + rr then 0 else ⊥)
    (Cert.Gate.sigm (x3 (ix3 0 ⟨128 * (r : ℕ) + rr, by omega⟩ ⟨12 * (g : ℕ) + (3 * (j : ℕ) + 2), by omega⟩)))
    (fun t => x2 (ix3 0 ⟨80 * (g : ℕ) + d, by omega⟩ ⟨lo r + t, by have := lo_le r; omega⟩))
    (fun t => x2 (ix3 0 ⟨80 * (g : ℕ) + 64, by omega⟩ ⟨lo r + t, by have := lo_le r; omega⟩))

/-- The block, row by row. -/
def blockOut (y : S1x2048x512.Idx) : EReal :=
  blockRow x0 x1 x2 x3 ⟨(y 1).val / 128, by have : (y 1).val < 2048 := (y 1).isLt; omega⟩ ⟨(y 1).val % 128, by omega⟩
    ⟨(y 2).val / 128, by have : (y 2).val < 512 := (y 2).isLt; omega⟩ ⟨(y 2).val % 128 / 64, by omega⟩ ⟨(y 2).val % 64, by omega⟩

theorem tile_row (o : ℕ) (h1 : S80x512.Slices ![0, o] S64x128) (h2 : S1x512.Slices ![0, o] S1x128) (j : Fin 4) (ho : o = 128 * (j : ℕ)) (r : Fin 16)
    (q : FVec Ideal S1x128x512 .bf16) (k : FVec Ideal S1x640x128 .bf16) (va vb : FVec Ideal S1x80x640 .bf16) (z : FVec Ideal S1x128x128 .f32)
    (hq : ∀ (rr : Fin 128) (l : Fin 512), q (ix3 0 rr l) = x0 (ix3 0 ⟨128 * (r : ℕ) + rr, by omega⟩ l))
    (hk : ∀ (t : Fin 640) (l : Fin 128), k (ix3 0 t l) = x1 (ix3 0 ⟨lo r + t, by have := lo_le r; omega⟩ l))
    (ha : ∀ (a : Fin 80) (t : Fin 640), va (ix3 0 a t) = x2 (ix3 0 ⟨0 + a, by omega⟩ ⟨lo r + t, by have := lo_le r; omega⟩))
    (hb : ∀ (a : Fin 80) (t : Fin 640), vb (ix3 0 a t) = x2 (ix3 0 ⟨80 + a, by omega⟩ ⟨lo r + t, by have := lo_le r; omega⟩))
    (hz : ∀ (rr l : Fin 128), z (ix3 0 rr l) = x3 (ix3 0 ⟨128 * (r : ℕ) + rr, by omega⟩ l))
    (rr : Fin 128) (g : Fin 2) (d : Fin 64) :
    tile (F := Ideal) o h1 h2 q k va vb (BitVec.ofNat 32 (128 * r.val - lo r)) z (ix3 0 rr ⟨64 * (g : ℕ) + d, by omega⟩) =
      blockRow x0 x1 x2 x3 r rr j g d := by
  have hlo := lo_le r
  have hd : 128 * (r : ℕ) - lo r ≤ 512 := by unfold lo; omega
  have key := tile_at o h1 h2 j ho q k ![va, vb] (128 * r.val - lo r) hd z rr g d
  have hv : ∀ (a : Fin 80) (t : Fin 640), (![va, vb] : Fin 2 → FVec Ideal S1x80x640 .bf16) g (ix3 0 a t) =
      x2 (ix3 0 ⟨80 * (g : ℕ) + a, by omega⟩ ⟨lo r + t, by omega⟩) := by
    intro a t
    clear key
    rcases two g with rfl | rfl
    · exact ha a t
    · exact hb a t
  refine Eq.trans key ?_
  clear key
  unfold blockRow
  simp only [hv, hz]
  congr 1
  funext t
  unfold winScore qLane
  congr 1
  · refine Finset.sum_congr rfl fun l _ => ?_
    rw [hk, hq]
  · refine if_congr ?_ rfl rfl
    unfold lo at *
    constructor <;> intro h <;> constructor <;> omega

theorem tileAt_at (o n : ℕ) (h1 : S80x512.Slices ![0, o] S64x128) (h2 : S1x512.Slices ![0, o] S1x128)
    (hn : ∀ a, (![0, n, 0] : Fin 3 → ℕ) a + S1x128x512.size a ≤ S1x2048x512.size a) (hg : ∀ a, (![0, n, 0] : Fin 3 → ℕ) a + S1x128x128.size a ≤ S1x2048x128.size a) (r : Fin 16) (j : Fin 4) (ho : o = 128 * (j : ℕ)) (hr : n = 128 * (r : ℕ))
    (rr : Fin 128) (g : Fin 2) (d : Fin 64) :
    tileAt (F := Ideal) i arg2 harg2 arg3 harg3 arg4 harg4 arg5 harg5 x0 x1 x2 x3 o n h1 h2 hn hg r (ix3 0 rr ⟨64 * (g : ℕ) + d, by omega⟩) =
      blockRow x0 x1 x2 x3 r rr j g d := by
  subst hr
  have hlo := lo_le r
  unfold tileAt
  rw [relW_eq]
  exact tile_row x0 x1 x2 x3 o h1 h2 j ho r _ _ _ _ _
    (fun rr l => read_q arg2 harg2 x0 _ hn (by omega) rr l)
    (fun t l => read_k arg3 harg3 x1 _ (k0_off1_inb i r) (lo r) (off1_eq i r) hlo t l)
    (fun a t => read_v arg4 harg4 x2 _ (k0_off2_inb i r) 0 (lo r) (off2_eq i r) (by omega) hlo a t)
    (fun a t => read_v arg4 harg4 x2 _ (k0_off3_inb i r) 80 (lo r) (off3_eq i r) (by omega) hlo a t)
    (fun rr l => read_g arg5 harg5 x3 _ hg (by omega) rr l) rr g d

/-- A written piece that agrees with the block. -/
def Agrees (p : View.Piece (Elt Ideal) S1x2048x512 .bf16) : Prop := ∀ x : p.1.shape.Idx, p.2 x = blockOut x0 x1 x2 x3 (p.1.emb x)

theorem tile_piece (o n : ℕ) (h1 : S80x512.Slices ![0, o] S64x128) (h2 : S1x512.Slices ![0, o] S1x128)
    (hn : ∀ a, (![0, n, 0] : Fin 3 → ℕ) a + S1x128x512.size a ≤ S1x2048x512.size a) (hg : ∀ a, (![0, n, 0] : Fin 3 → ℕ) a + S1x128x128.size a ≤ S1x2048x128.size a) (hp : ∀ a, (![0, n, o] : Fin 3 → ℕ) a + S1x128x128.size a ≤ S1x2048x512.size a)
    (r : Fin 16) (j : Fin 4) (ho : o = 128 * (j : ℕ)) (hr : n = 128 * (r : ℕ)) :
    Agrees x0 x1 x2 x3 ⟨Rect.unit (s := S1x2048x512) ![0, n, o] S1x128x128.size hp, tileAt (F := Ideal) i arg2 harg2 arg3 harg3 arg4 harg4 arg5 harg5 x0 x1 x2 x3 o n h1 h2 hn hg r⟩ := by
  intro x
  have b1 : (x 1).val < 128 := (x 1).isLt
  have b2 : (x 2).val < 128 := (x 2).isLt
  have e : x = ix3 0 ⟨(x 1).val, b1⟩ ⟨64 * ((⟨(x 2).val / 64, by omega⟩ : Fin 2) : ℕ) + ((⟨(x 2).val % 64, by omega⟩ : Fin 64) : ℕ), by omega⟩ := by
    funext a
    fin_cases a
    · have : (x 0).val < 1 := (x 0).isLt
      exact Fin.ext (by change (x 0).val = 0; omega)
    · rfl
    · exact Fin.ext (by change (x 2).val = 64 * ((x 2).val / 64) + (x 2).val % 64; omega)
  have m1 : (((Rect.unit (s := S1x2048x512) ![0, n, o] S1x128x128.size hp).emb x) 1).val = n + (x 1).val := by
    rw [Rect.emb_apply]; simp
  have m2 : (((Rect.unit (s := S1x2048x512) ![0, n, o] S1x128x128.size hp).emb x) 2).val = o + (x 2).val := by
    rw [Rect.emb_apply]; simp
  refine (congrArg _ e).trans ((tileAt_at i arg2 harg2 arg3 harg3 arg4 harg4 arg5 harg5 x0 x1 x2 x3 o n h1 h2 hn hg r j ho hr _ _ _).trans ?_)
  unfold blockOut
  congr 1 <;> apply Fin.ext <;> simp only [m1, m2, ho, hr] <;> omega

theorem canon_out (L : List (View.Piece (Elt Ideal) S1x2048x512 .bf16)) (hc : ∀ y, ∃ p ∈ L, y ∈ p.1.set) (hA : ∀ p ∈ L, Agrees x0 x1 x2 x3 p) :
    VO0_4.read (Elt Ideal) (VO0_4.writes (Elt Ideal) VO0_4.junk L) = blockOut x0 x1 x2 x3 := by
  funext y
  rw [View.read_writes_junk_eq_canon]
  exact View.canon_apply_of_pieces (Val := Elt Ideal) (S := S1x2048x512) (e := .bf16) (fun y => blockOut x0 x1 x2 x3 y) L (fun p hp x => hA p hp x) y (hc y)

set_option maxHeartbeats 1000000 in
theorem pieces_agree : ∀ p ∈ (kernelRun0_A (F := Ideal) c i arg2 harg2 arg3 harg3 arg4 harg4 arg5 harg5 arg6 harg6 x0 x1 x2 x3).1, Agrees x0 x1 x2 x3 p := by
  rw [pieces_eq]
  refine List.forall_mem_cons.mpr ⟨tile_piece i arg2 harg2 arg3 harg3 arg4 harg4 arg5 harg5 x0 x1 x2 x3 384 1920 _ _ _ _ _ 15 3 rfl rfl, ?_⟩
  refine List.forall_mem_cons.mpr ⟨tile_piece i arg2 harg2 arg3 harg3 arg4 harg4 arg5 harg5 x0 x1 x2 x3 256 1920 _ _ _ _ _ 15 2 rfl rfl, ?_⟩
  refine List.forall_mem_cons.mpr ⟨tile_piece i arg2 harg2 arg3 harg3 arg4 harg4 arg5 harg5 x0 x1 x2 x3 128 1920 _ _ _ _ _ 15 1 rfl rfl, ?_⟩
  refine List.forall_mem_cons.mpr ⟨tile_piece i arg2 harg2 arg3 harg3 arg4 harg4 arg5 harg5 x0 x1 x2 x3 0 1920 _ _ _ _ _ 15 0 rfl rfl, ?_⟩
  refine List.forall_mem_cons.mpr ⟨tile_piece i arg2 harg2 arg3 harg3 arg4 harg4 arg5 harg5 x0 x1 x2 x3 384 1792 _ _ _ _ _ 14 3 rfl rfl, ?_⟩
  refine List.forall_mem_cons.mpr ⟨tile_piece i arg2 harg2 arg3 harg3 arg4 harg4 arg5 harg5 x0 x1 x2 x3 256 1792 _ _ _ _ _ 14 2 rfl rfl, ?_⟩
  refine List.forall_mem_cons.mpr ⟨tile_piece i arg2 harg2 arg3 harg3 arg4 harg4 arg5 harg5 x0 x1 x2 x3 128 1792 _ _ _ _ _ 14 1 rfl rfl, ?_⟩
  refine List.forall_mem_cons.mpr ⟨tile_piece i arg2 harg2 arg3 harg3 arg4 harg4 arg5 harg5 x0 x1 x2 x3 0 1792 _ _ _ _ _ 14 0 rfl rfl, ?_⟩
  refine List.forall_mem_cons.mpr ⟨tile_piece i arg2 harg2 arg3 harg3 arg4 harg4 arg5 harg5 x0 x1 x2 x3 384 1664 _ _ _ _ _ 13 3 rfl rfl, ?_⟩
  refine List.forall_mem_cons.mpr ⟨tile_piece i arg2 harg2 arg3 harg3 arg4 harg4 arg5 harg5 x0 x1 x2 x3 256 1664 _ _ _ _ _ 13 2 rfl rfl, ?_⟩
  refine List.forall_mem_cons.mpr ⟨tile_piece i arg2 harg2 arg3 harg3 arg4 harg4 arg5 harg5 x0 x1 x2 x3 128 1664 _ _ _ _ _ 13 1 rfl rfl, ?_⟩
  refine List.forall_mem_cons.mpr ⟨tile_piece i arg2 harg2 arg3 harg3 arg4 harg4 arg5 harg5 x0 x1 x2 x3 0 1664 _ _ _ _ _ 13 0 rfl rfl, ?_⟩
  refine List.forall_mem_cons.mpr ⟨tile_piece i arg2 harg2 arg3 harg3 arg4 harg4 arg5 harg5 x0 x1 x2 x3 384 1536 _ _ _ _ _ 12 3 rfl rfl, ?_⟩
  refine List.forall_mem_cons.mpr ⟨tile_piece i arg2 harg2 arg3 harg3 arg4 harg4 arg5 harg5 x0 x1 x2 x3 256 1536 _ _ _ _ _ 12 2 rfl rfl, ?_⟩
  refine List.forall_mem_cons.mpr ⟨tile_piece i arg2 harg2 arg3 harg3 arg4 harg4 arg5 harg5 x0 x1 x2 x3 128 1536 _ _ _ _ _ 12 1 rfl rfl, ?_⟩
  refine List.forall_mem_cons.mpr ⟨tile_piece i arg2 harg2 arg3 harg3 arg4 harg4 arg5 harg5 x0 x1 x2 x3 0 1536 _ _ _ _ _ 12 0 rfl rfl, ?_⟩
  refine List.forall_mem_cons.mpr ⟨tile_piece i arg2 harg2 arg3 harg3 arg4 harg4 arg5 harg5 x0 x1 x2 x3 384 1408 _ _ _ _ _ 11 3 rfl rfl, ?_⟩
  refine List.forall_mem_cons.mpr ⟨tile_piece i arg2 harg2 arg3 harg3 arg4 harg4 arg5 harg5 x0 x1 x2 x3 256 1408 _ _ _ _ _ 11 2 rfl rfl, ?_⟩
  refine List.forall_mem_cons.mpr ⟨tile_piece i arg2 harg2 arg3 harg3 arg4 harg4 arg5 harg5 x0 x1 x2 x3 128 1408 _ _ _ _ _ 11 1 rfl rfl, ?_⟩
  refine List.forall_mem_cons.mpr ⟨tile_piece i arg2 harg2 arg3 harg3 arg4 harg4 arg5 harg5 x0 x1 x2 x3 0 1408 _ _ _ _ _ 11 0 rfl rfl, ?_⟩
  refine List.forall_mem_cons.mpr ⟨tile_piece i arg2 harg2 arg3 harg3 arg4 harg4 arg5 harg5 x0 x1 x2 x3 384 1280 _ _ _ _ _ 10 3 rfl rfl, ?_⟩
  refine List.forall_mem_cons.mpr ⟨tile_piece i arg2 harg2 arg3 harg3 arg4 harg4 arg5 harg5 x0 x1 x2 x3 256 1280 _ _ _ _ _ 10 2 rfl rfl, ?_⟩
  refine List.forall_mem_cons.mpr ⟨tile_piece i arg2 harg2 arg3 harg3 arg4 harg4 arg5 harg5 x0 x1 x2 x3 128 1280 _ _ _ _ _ 10 1 rfl rfl, ?_⟩
  refine List.forall_mem_cons.mpr ⟨tile_piece i arg2 harg2 arg3 harg3 arg4 harg4 arg5 harg5 x0 x1 x2 x3 0 1280 _ _ _ _ _ 10 0 rfl rfl, ?_⟩
  refine List.forall_mem_cons.mpr ⟨tile_piece i arg2 harg2 arg3 harg3 arg4 harg4 arg5 harg5 x0 x1 x2 x3 384 1152 _ _ _ _ _ 9 3 rfl rfl, ?_⟩
  refine List.forall_mem_cons.mpr ⟨tile_piece i arg2 harg2 arg3 harg3 arg4 harg4 arg5 harg5 x0 x1 x2 x3 256 1152 _ _ _ _ _ 9 2 rfl rfl, ?_⟩
  refine List.forall_mem_cons.mpr ⟨tile_piece i arg2 harg2 arg3 harg3 arg4 harg4 arg5 harg5 x0 x1 x2 x3 128 1152 _ _ _ _ _ 9 1 rfl rfl, ?_⟩
  refine List.forall_mem_cons.mpr ⟨tile_piece i arg2 harg2 arg3 harg3 arg4 harg4 arg5 harg5 x0 x1 x2 x3 0 1152 _ _ _ _ _ 9 0 rfl rfl, ?_⟩
  refine List.forall_mem_cons.mpr ⟨tile_piece i arg2 harg2 arg3 harg3 arg4 harg4 arg5 harg5 x0 x1 x2 x3 384 1024 _ _ _ _ _ 8 3 rfl rfl, ?_⟩
  refine List.forall_mem_cons.mpr ⟨tile_piece i arg2 harg2 arg3 harg3 arg4 harg4 arg5 harg5 x0 x1 x2 x3 256 1024 _ _ _ _ _ 8 2 rfl rfl, ?_⟩
  refine List.forall_mem_cons.mpr ⟨tile_piece i arg2 harg2 arg3 harg3 arg4 harg4 arg5 harg5 x0 x1 x2 x3 128 1024 _ _ _ _ _ 8 1 rfl rfl, ?_⟩
  refine List.forall_mem_cons.mpr ⟨tile_piece i arg2 harg2 arg3 harg3 arg4 harg4 arg5 harg5 x0 x1 x2 x3 0 1024 _ _ _ _ _ 8 0 rfl rfl, ?_⟩
  refine List.forall_mem_cons.mpr ⟨tile_piece i arg2 harg2 arg3 harg3 arg4 harg4 arg5 harg5 x0 x1 x2 x3 384 896 _ _ _ _ _ 7 3 rfl rfl, ?_⟩
  refine List.forall_mem_cons.mpr ⟨tile_piece i arg2 harg2 arg3 harg3 arg4 harg4 arg5 harg5 x0 x1 x2 x3 256 896 _ _ _ _ _ 7 2 rfl rfl, ?_⟩
  refine List.forall_mem_cons.mpr ⟨tile_piece i arg2 harg2 arg3 harg3 arg4 harg4 arg5 harg5 x0 x1 x2 x3 128 896 _ _ _ _ _ 7 1 rfl rfl, ?_⟩
  refine List.forall_mem_cons.mpr ⟨tile_piece i arg2 harg2 arg3 harg3 arg4 harg4 arg5 harg5 x0 x1 x2 x3 0 896 _ _ _ _ _ 7 0 rfl rfl, ?_⟩
  refine List.forall_mem_cons.mpr ⟨tile_piece i arg2 harg2 arg3 harg3 arg4 harg4 arg5 harg5 x0 x1 x2 x3 384 768 _ _ _ _ _ 6 3 rfl rfl, ?_⟩
  refine List.forall_mem_cons.mpr ⟨tile_piece i arg2 harg2 arg3 harg3 arg4 harg4 arg5 harg5 x0 x1 x2 x3 256 768 _ _ _ _ _ 6 2 rfl rfl, ?_⟩
  refine List.forall_mem_cons.mpr ⟨tile_piece i arg2 harg2 arg3 harg3 arg4 harg4 arg5 harg5 x0 x1 x2 x3 128 768 _ _ _ _ _ 6 1 rfl rfl, ?_⟩
  refine List.forall_mem_cons.mpr ⟨tile_piece i arg2 harg2 arg3 harg3 arg4 harg4 arg5 harg5 x0 x1 x2 x3 0 768 _ _ _ _ _ 6 0 rfl rfl, ?_⟩
  refine List.forall_mem_cons.mpr ⟨tile_piece i arg2 harg2 arg3 harg3 arg4 harg4 arg5 harg5 x0 x1 x2 x3 384 640 _ _ _ _ _ 5 3 rfl rfl, ?_⟩
  refine List.forall_mem_cons.mpr ⟨tile_piece i arg2 harg2 arg3 harg3 arg4 harg4 arg5 harg5 x0 x1 x2 x3 256 640 _ _ _ _ _ 5 2 rfl rfl, ?_⟩
  refine List.forall_mem_cons.mpr ⟨tile_piece i arg2 harg2 arg3 harg3 arg4 harg4 arg5 harg5 x0 x1 x2 x3 128 640 _ _ _ _ _ 5 1 rfl rfl, ?_⟩
  refine List.forall_mem_cons.mpr ⟨tile_piece i arg2 harg2 arg3 harg3 arg4 harg4 arg5 harg5 x0 x1 x2 x3 0 640 _ _ _ _ _ 5 0 rfl rfl, ?_⟩
  refine List.forall_mem_cons.mpr ⟨tile_piece i arg2 harg2 arg3 harg3 arg4 harg4 arg5 harg5 x0 x1 x2 x3 384 512 _ _ _ _ _ 4 3 rfl rfl, ?_⟩
  refine List.forall_mem_cons.mpr ⟨tile_piece i arg2 harg2 arg3 harg3 arg4 harg4 arg5 harg5 x0 x1 x2 x3 256 512 _ _ _ _ _ 4 2 rfl rfl, ?_⟩
  refine List.forall_mem_cons.mpr ⟨tile_piece i arg2 harg2 arg3 harg3 arg4 harg4 arg5 harg5 x0 x1 x2 x3 128 512 _ _ _ _ _ 4 1 rfl rfl, ?_⟩
  refine List.forall_mem_cons.mpr ⟨tile_piece i arg2 harg2 arg3 harg3 arg4 harg4 arg5 harg5 x0 x1 x2 x3 0 512 _ _ _ _ _ 4 0 rfl rfl, ?_⟩
  refine List.forall_mem_cons.mpr ⟨tile_piece i arg2 harg2 arg3 harg3 arg4 harg4 arg5 harg5 x0 x1 x2 x3 384 384 _ _ _ _ _ 3 3 rfl rfl, ?_⟩
  refine List.forall_mem_cons.mpr ⟨tile_piece i arg2 harg2 arg3 harg3 arg4 harg4 arg5 harg5 x0 x1 x2 x3 256 384 _ _ _ _ _ 3 2 rfl rfl, ?_⟩
  refine List.forall_mem_cons.mpr ⟨tile_piece i arg2 harg2 arg3 harg3 arg4 harg4 arg5 harg5 x0 x1 x2 x3 128 384 _ _ _ _ _ 3 1 rfl rfl, ?_⟩
  refine List.forall_mem_cons.mpr ⟨tile_piece i arg2 harg2 arg3 harg3 arg4 harg4 arg5 harg5 x0 x1 x2 x3 0 384 _ _ _ _ _ 3 0 rfl rfl, ?_⟩
  refine List.forall_mem_cons.mpr ⟨tile_piece i arg2 harg2 arg3 harg3 arg4 harg4 arg5 harg5 x0 x1 x2 x3 384 256 _ _ _ _ _ 2 3 rfl rfl, ?_⟩
  refine List.forall_mem_cons.mpr ⟨tile_piece i arg2 harg2 arg3 harg3 arg4 harg4 arg5 harg5 x0 x1 x2 x3 256 256 _ _ _ _ _ 2 2 rfl rfl, ?_⟩
  refine List.forall_mem_cons.mpr ⟨tile_piece i arg2 harg2 arg3 harg3 arg4 harg4 arg5 harg5 x0 x1 x2 x3 128 256 _ _ _ _ _ 2 1 rfl rfl, ?_⟩
  refine List.forall_mem_cons.mpr ⟨tile_piece i arg2 harg2 arg3 harg3 arg4 harg4 arg5 harg5 x0 x1 x2 x3 0 256 _ _ _ _ _ 2 0 rfl rfl, ?_⟩
  refine List.forall_mem_cons.mpr ⟨tile_piece i arg2 harg2 arg3 harg3 arg4 harg4 arg5 harg5 x0 x1 x2 x3 384 128 _ _ _ _ _ 1 3 rfl rfl, ?_⟩
  refine List.forall_mem_cons.mpr ⟨tile_piece i arg2 harg2 arg3 harg3 arg4 harg4 arg5 harg5 x0 x1 x2 x3 256 128 _ _ _ _ _ 1 2 rfl rfl, ?_⟩
  refine List.forall_mem_cons.mpr ⟨tile_piece i arg2 harg2 arg3 harg3 arg4 harg4 arg5 harg5 x0 x1 x2 x3 128 128 _ _ _ _ _ 1 1 rfl rfl, ?_⟩
  refine List.forall_mem_cons.mpr ⟨tile_piece i arg2 harg2 arg3 harg3 arg4 harg4 arg5 harg5 x0 x1 x2 x3 0 128 _ _ _ _ _ 1 0 rfl rfl, ?_⟩
  refine List.forall_mem_cons.mpr ⟨tile_piece i arg2 harg2 arg3 harg3 arg4 harg4 arg5 harg5 x0 x1 x2 x3 384 0 _ _ _ _ _ 0 3 rfl rfl, ?_⟩
  refine List.forall_mem_cons.mpr ⟨tile_piece i arg2 harg2 arg3 harg3 arg4 harg4 arg5 harg5 x0 x1 x2 x3 256 0 _ _ _ _ _ 0 2 rfl rfl, ?_⟩
  refine List.forall_mem_cons.mpr ⟨tile_piece i arg2 harg2 arg3 harg3 arg4 harg4 arg5 harg5 x0 x1 x2 x3 128 0 _ _ _ _ _ 0 1 rfl rfl, ?_⟩
  refine List.forall_mem_cons.mpr ⟨tile_piece i arg2 harg2 arg3 harg3 arg4 harg4 arg5 harg5 x0 x1 x2 x3 0 0 _ _ _ _ _ 0 0 rfl rfl, ?_⟩
  exact fun p hp => absurd hp List.not_mem_nil

end Cert.Kernel3Ideal.Win

end
-- ==== Proof.WinOut.lean ====
module

public import proofs.«01_k».proof.Proof.WinBlock
public import proofs.«01_k».proof.Proof.Gen.Kernel3Ideal.Value
public import Idealize.ShloMosaic.Lib.Pipeline.ValueKit

@[expose] public section

set_option maxRecDepth 16384

noncomputable section

open Idealize.ShloMosaic Idealize.ShloMosaic.TcCoe Idealize.SL.Sem

namespace Cert.Kernel3Ideal.Win

open Cert.Kernel3Ideal Cert.Kernel3Ideal.Gen

/-! What a grid point leaves in its block of the output. -/

variable (c : Dev nD) (i : grid0.Coords)
  (arg2 : Memref sig .tc .vmem S1x2048x512 .bf16) (harg2 : arg2.IsWhole)
  (arg3 : Memref sig .tc .vmem S1x2048x128 .bf16) (harg3 : arg3.IsWhole)
  (arg4 : Memref sig .tc .vmem S1x160x2048 .bf16) (harg4 : arg4.IsWhole)
  (arg5 : Memref sig .tc .vmem S1x2048x128 .f32) (harg5 : arg5.IsWhole)
  (arg6 : Memref sig .tc .vmem S1x2048x512 .bf16) (harg6 : arg6.IsWhole)
  (x0 : FVec Ideal S1x2048x512 .bf16) (x1 : FVec Ideal S1x2048x128 .bf16) (x2 : FVec Ideal S1x160x2048 .bf16) (x3 : FVec Ideal S1x2048x128 .f32)

theorem out_def : out0_A_4 (F := Ideal) c i arg2 harg2 arg3 harg3 arg4 harg4 arg5 harg5 arg6 harg6 x0 x1 x2 x3 =
    VO0_4.read (Elt Ideal) (VO0_4.writes (Elt Ideal) VO0_4.junk (kernelRun0_A (F := Ideal) c i arg2 harg2 arg3 harg3 arg4 harg4 arg5 harg5 arg6 harg6 x0 x1 x2 x3).1) := by
  sl_kernel_rfl

/-- What a point leaves in its block is the function of its rows. -/
theorem out_eq : out0_A_4 (F := Ideal) c i arg2 harg2 arg3 harg3 arg4 harg4 arg5 harg5 arg6 harg6 x0 x1 x2 x3 = blockOut x0 x1 x2 x3 :=
  by
  have hc := cover0_A_4 (F := Ideal) c i arg2 harg2 arg3 harg3 arg4 harg4 arg5 harg5 arg6 harg6 x0 x1 x2 x3
  have hA := pieces_agree c i arg2 harg2 arg3 harg3 arg4 harg4 arg5 harg5 arg6 harg6 x0 x1 x2 x3
  rw [out_def]
  generalize (kernelRun0_A (F := Ideal) c i arg2 harg2 arg3 harg3 arg4 harg4 arg5 harg5 arg6 harg6 x0 x1 x2 x3).1 = L at hc hA ⊢
  exact canon_out x0 x1 x2 x3 L hc hA

end Cert.Kernel3Ideal.Win

end
-- ==== Proof.WinHost.lean ====
module

public import proofs.«01_k».proof.Proof.WinOut
public import proofs.«01_k».proof.Proof.BandHost
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.Kernel3Ideal.Win

open Cert.Kernel3Ideal Cert.Kernel3Ideal.Gen
open Cert.KernelIdeal.Band (scaled scaled_coe scaled_eq)

/-! The arrays the host prepares for the kernel, entry by entry. -/

variable (m : (ℓ : Loc nD τ sig) → Buf (Elt Ideal) ℓ) (c : Dev nD)

theorem v16_at (b : Fin 16) (n : Fin 2048) (j : Fin 4) (e : Fin 2) (g : Fin 2) (p : Fin 32) :
    V m c main_v16 (ix3 b n ⟨128 * (j : ℕ) + 64 * e + 32 * g + p, by omega⟩) =
      scaled (m ((c : Thread nD τ).loc main_arg0) (ix5 b n g j ⟨32 * (e : ℕ) + p, by omega⟩)) := by
  entry_read
  pointwise
  refine (scaled_eq _).trans (congrArg scaled (congrArg (m ((c : Thread nD τ).loc main_arg0)) ?_))
  congr 1 <;> apply Fin.ext <;> simp only [] <;> omega

theorem v18_at (b : Fin 16) (n : Fin 2048) (e : Fin 2) (g : Fin 2) (p : Fin 32) :
    V m c main_v18 (ix3 b n ⟨64 * (e : ℕ) + 32 * g + p, by omega⟩) =
      m ((c : Thread nD τ).loc main_arg1) (ix4 b n g ⟨32 * (e : ℕ) + p, by omega⟩) := by
  entry_read
  pointwise
  refine congrArg (m ((c : Thread nD τ).loc main_arg1)) ?_
  congr 1 <;> apply Fin.ext <;> simp only [] <;> omega

theorem v20_at (b : Fin 16) (u : Fin 2048) (g : Fin 2) (a : Fin 64) :
    V m c main_v20 (ix3 b ⟨80 * (g : ℕ) + a, by omega⟩ u) = m ((c : Thread nD τ).loc main_arg2) (ix4 b u g a) := by
  entry_read
  pointwise
  rw [dif_pos (by omega)]
  refine congrArg (m ((c : Thread nD τ).loc main_arg2)) ?_
  congr 1 <;> apply Fin.ext <;> simp only [] <;> omega

theorem v20_one (b : Fin 16) (u : Fin 2048) (g : Fin 2) :
    V m c main_v20 (ix3 b ⟨80 * (g : ℕ) + 64, by omega⟩ u) = (1 : EReal) := by
  entry_read
  pointwise
  rw [dif_neg (by omega)]
  try exact EReal.coe_one

theorem v14_at (b : Fin 16) (n : Fin 2048) (p : Fin 24) :
    V m c main_v14 (ix3 b n ⟨p, by omega⟩) = m ((c : Thread nD τ).loc main_arg3) (ix3 b n p) := by
  entry_read
  pointwise

end Cert.Kernel3Ideal.Win

end
-- ==== Proof.WinRef.lean ====
module

public import proofs.«01_k».proof.Proof.Gen.Reference3Ideal.Read
public import proofs.«01_k».proof.Proof.Gate
public import Idealize.ShloMosaic.Lib.WordCmp
public import Idealize.ShloMosaic.Lib.Pipeline.ValueKit

@[expose] public section

set_option maxRecDepth 16384

noncomputable section

open Idealize.ShloMosaic Idealize.ShloMosaic.TcCoe Idealize.SL.Sem

namespace Cert.Reference3Ideal.Win

open Cert.Reference3Ideal Cert.Reference3Ideal.Gen Cert.Reference3Ideal.Read

variable (x0 : FVec Ideal S16x2048x2x4x64 .f32) (x1 x2 : FVec Ideal S16x2048x2x64 .f32) (x3 : FVec Ideal S16x2048x24 .f32)

/-- The scaled score of a query and a key. -/
def score (b : Fin 16) (g : Fin 2) (j : Fin 4) (n k : Fin 2048) : EReal :=
  (∑ d : Fin 64, x1 (ix4 b k g d) * x0 (ix5 b n g j d)) * (((1 / 8 : ℝ)) : EReal)

/-- The score inside the band, the mask outside. -/
def masked (b : Fin 16) (g : Fin 2) (j : Fin 4) (n k : Fin 2048) : EReal :=
  if (n : ℕ) < k + 512 ∧ (k : ℕ) ≤ n then score x0 x1 b g j n k else ⊥

theorem v10_at (n k : Fin 2048) :
    val_main_v10 (F := Ideal) (ix2 n k) = BitVec.ofBool (decide ((n : ℕ) < k + 512 ∧ (k : ℕ) ≤ n)) := by
  have hn := n.isLt
  have hk := k.isLt
  have e : (IntOp.subi (BitVec.ofNat 32 (n : ℕ)) 512#32).toInt = (n : ℤ) - 512 := by
    simp only [IntOp.subi]
    rw [BitVec.toInt_sub, WordCmp.toInt_ofNat_of_lt (by omega), show (512#32 : BitVec 32).toInt = 512 from rfl, Int.bmod_def]
    omega
  have e' : (BitVec.ofNat 32 (k : ℕ)).toInt = (k : ℤ) := WordCmp.toInt_ofNat_of_lt (by omega)
  pointwise [val_main_v10, val_main_v9, val_main_v8, val_main_v7, val_main_v6, val_main_v5, val_main_v4, val_main_c]
  rw [WordCmp.cmpi_slt_eq, WordCmp.cmpi_sle_ofNat (by omega) (by omega), WordCmp.andi_ofBool, ← Bool.decide_and, e, e']
  congr 1
  exact decide_eq_decide.mpr ⟨fun h => ⟨by omega, by omega⟩, fun h => ⟨by omega, by omega⟩⟩

theorem v11_at (b : Fin 16) (g : Fin 2) (j : Fin 4) (n k : Fin 2048) :
    val_main_v11 (F := Ideal) x0 x1 (ix5 b g j n k) = masked x0 x1 b g j n k := by
  have e := v10_at n k
  have h8 : Ideal.ofBits FTy.f32 0x3E000000#32 = ((1 / 8 : ℝ) : EReal) := by
    simp [Ideal.ofBits, Ideal.ieee]
    rw [← EReal.coe_mul]
    norm_num
  have hb : Ideal.ofBits FTy.f32 0xFF800000#32 = ⊥ := by simp [Ideal.ofBits, Ideal.ieee]
  pointwise [val_main_v11, val_main_v3, val_main_v1, val_main_v0, val_main_v2, val_main_cst, val_main_call0_v1, val_main_call0_v2, val_main_call0_v0, val_main_cst_0]
  rw [e, WordCmp.select_ofBool, h8]
  simp only [decide_eq_true_eq, id]
  pointwise
  rw [hb]
  rfl

/-- The greatest of a row's scores. -/
def top (b : Fin 16) (g : Fin 2) (j : Fin 4) (n : Fin 2048) : EReal :=
  Finset.fold max ⊥ (fun k : Fin 2048 => masked x0 x1 b g j n k) Finset.univ

theorem v12_at (b : Fin 16) (g : Fin 2) (j : Fin 4) (n : Fin 2048) :
    val_main_v12 (F := Ideal) x0 x1 (ix4 b g j n) = top x0 x1 b g j n := by
  have hb : Ideal.ofBits FTy.f32 0xFF800000#32 = ⊥ := by simp [Ideal.ofBits, Ideal.ieee]
  have e := v11_at x0 x1 b g j n
  unfold val_main_v12 top
  generalize val_main_v11 (F := Ideal) x0 x1 = V at *
  pointwise [val_main_cst_1]
  rw [hb]
  simp only [e]

theorem v13_at (b : Fin 16) (g : Fin 2) (j : Fin 4) (n : Fin 2048) : val_main_v13 (F := Ideal) (ix4 b g j n) = ⊥ := by
  have hb : Ideal.ofBits FTy.f32 0xFF800000#32 = ⊥ := by simp [Ideal.ofBits, Ideal.ieee]
  pointwise [val_main_v13, val_main_cst_2]
  rw [hb]

theorem max_bot (T U : FVec Ideal S16x2x4x2048 .f32) (i : S16x2x4x2048.Idx) (a : EReal) (h1 : T i = ⊥) (h2 : U i = a) : maximumf T U i = a := by
  change max (T i) (U i) = a
  rw [h1, h2]
  exact max_eq_right bot_le

theorem v14_at (b : Fin 16) (g : Fin 2) (j : Fin 4) (n : Fin 2048) :
    val_main_v14 (F := Ideal) x0 x1 (ix4 b g j n) = top x0 x1 b g j n :=
  max_bot (val_main_v13 (F := Ideal)) (val_main_v12 (F := Ideal) x0 x1) (ix4 b g j n) _ (v13_at b g j n) (v12_at x0 x1 b g j n)

theorem v18_at (b : Fin 16) (g : Fin 2) (j : Fin 4) (n : Fin 2048) (k : Fin 2048) :
    val_main_v18 (F := Ideal) x0 x1 (ix5 b g j n k) = Ideal.exp (masked x0 x1 b g j n k - top x0 x1 b g j n) := by
  have e := v14_at x0 x1 b g j n
  have e' := v11_at x0 x1 b g j n k
  unfold val_main_v18 val_main_v17 val_main_v16 val_main_v15
  generalize val_main_v11 (F := Ideal) x0 x1 = V at *
  generalize val_main_v14 (F := Ideal) x0 x1 = W at *
  pointwise
  rw [e, e']

theorem v22_at (b : Fin 16) (g : Fin 2) (j : Fin 4) (n : Fin 2048) (k : Fin 2048) :
    val_main_v22 (F := Ideal) x0 x1 (ix5 b g j n k) =
      Ideal.div (Ideal.exp (masked x0 x1 b g j n k - top x0 x1 b g j n))
        (∑ k' : Fin 2048, Ideal.exp (masked x0 x1 b g j n k' - top x0 x1 b g j n)) := by
  have h0 : Ideal.ofBits FTy.f32 0x00000000#32 = 0 := by simp [Ideal.ofBits, Ideal.ieee]
  have e := v18_at x0 x1 b g j n
  unfold val_main_v22 val_main_v21 val_main_v20 val_main_v19
  generalize val_main_v18 (F := Ideal) x0 x1 = V at *
  pointwise [val_main_cst_3]
  simp only [e]

/-- The gate of a head. -/
theorem v34_gate (b : Fin 16) (n : Fin 2048) (g : Fin 2) (j : Fin 4) (i : Fin 3) :
    val_main_v31 (F := Ideal) x3 (ix5 b n g j i) = Cert.Gate.sigm (x3 (ix3 b n ⟨12 * (g : ℕ) + (3 * (j : ℕ) + i), by omega⟩)) := by
  have e : (⟨12 * (g : ℕ) + (3 * (j : ℕ) + i), by omega⟩ : Fin 24) = ⟨(g : ℕ) * 12 + (j : ℕ) * 3 + i, by omega⟩ := Fin.ext (by simp only []; omega)
  rw [e]
  unfold Cert.Gate.sigm
  pointwise [val_main_v31, val_main_v30, val_main_v29, val_main_v28, val_main_v27, val_main_v26, val_main_v25, val_main_cst_4, val_main_cst_5]
  done

theorem v37_at (b : Fin 16) (n : Fin 2048) (j : Fin 4) (g : Fin 2) (d : Fin 64) :
    val_main_v37 (F := Ideal) x0 x1 x2 x3 (ix3 b n ⟨128 * (j : ℕ) + 64 * (g : ℕ) + d, by omega⟩) =
      Cert.Gate.sigm (x3 (ix3 b n ⟨12 * (g : ℕ) + (3 * (j : ℕ) + 2), by omega⟩)) *
      ∑ k : Fin 2048, Ideal.div (Ideal.exp (masked x0 x1 b g j n k - top x0 x1 b g j n))
        (∑ k' : Fin 2048, Ideal.exp (masked x0 x1 b g j n k' - top x0 x1 b g j n)) * x2 (ix4 b k g d) := by
  have e := v22_at x0 x1 b g j n
  have eg := v34_gate x3 b n g j 2
  unfold val_main_v37 val_main_v36 val_main_v35 val_main_v34 val_main_v33 val_main_v32 val_main_v24 val_main_v23
  generalize val_main_v22 (F := Ideal) x0 x1 = V at *
  generalize val_main_v31 (F := Ideal) x3 = G at *
  refine Eq.trans ?_ (congr (congrArg HMul.hMul eg) (Finset.sum_congr rfl fun k _ => (mul_comm _ _).trans (congrArg (· * _) (e k))))
  pointwise
  done

end Cert.Reference3Ideal.Win

end
-- ==== Proof.WinSoftmax.lean ====
module

public import proofs.«01_k».proof.Proof.WinRead
public import proofs.«01_k».proof.Proof.SoftmaxSink

@[expose] public section

noncomputable section

open Idealize.ShloMosaic

namespace Cert.Softmax

open Cert.Kernel3Ideal.Win

/-- A value is at most the greatest of its family. -/
theorem le_fold {ι : Type} [Fintype ι] (f : ι → EReal) (i : ι) : f i ≤ Finset.fold max ⊥ f Finset.univ := by
  change f i ≤ Finset.univ.sup f
  exact Finset.le_sup (Finset.mem_univ i)

/-- A row of the kernel over a window of keys, in base two and gated, is the gated row of softmax over all keys, one key at least being visible. -/
theorem window_softmax {N : ℕ} (lo : ℕ) (hlo : lo + 640 ≤ N) (A : Fin N → ℝ) (B : Fin N → Prop) [DecidablePred B]
    (hB : ∀ k, B k → lo ≤ k.val ∧ k.val < lo + 640) (k0 : Fin N) (hk0 : B k0) (y : EReal) (v : Fin N → EReal) (M : EReal)
    (hM : M = Finset.fold max ⊥ (fun i => if B i then (A i : EReal) else ⊥) Finset.univ) :
    winRow (fun t => (((Real.log 2)⁻¹ * A ⟨lo + t, by omega⟩ : ℝ) : EReal) + if B ⟨lo + t, by omega⟩ then 0 else ⊥)
        y (fun t => v ⟨lo + t, by omega⟩) (fun _ => 1) =
      y * ∑ k, Ideal.div (Ideal.exp ((if B k then (A k : EReal) else ⊥) - M))
        (∑ k', Ideal.exp ((if B k' then (A k' : EReal) else ⊥) - M)) * v k := by
  have hc : 0 < (Real.log 2)⁻¹ := inv_pos.mpr (Real.log_pos (by norm_num))
  obtain ⟨m, hm⟩ := max_real A B (A k0)
  have hw := max_window lo hlo A B hB (A k0) _ hc
  have h0 : (A k0 : EReal) ≤ Finset.fold max ⊥ (fun i => if B i then (A i : EReal) else ⊥) Finset.univ := by
    have := le_fold (fun i => if B i then (A i : EReal) else ⊥) k0
    simp only [if_pos hk0] at this
    exact this
  obtain ⟨b1, b2⟩ := hB k0 hk0
  have h1 : (A k0 : EReal) * (((Real.log 2)⁻¹ : ℝ) : EReal) ≤
      Finset.fold max ⊥ (fun t : Fin 640 => (((Real.log 2)⁻¹ * A ⟨lo + t, by omega⟩ : ℝ) : EReal) + if B ⟨lo + t, by omega⟩ then 0 else ⊥) Finset.univ := by
    have e : (⟨lo + (k0.val - lo), by omega⟩ : Fin N) = k0 := Fin.ext (by simp only; omega)
    have := le_fold (fun t : Fin 640 => (((Real.log 2)⁻¹ * A ⟨lo + t, by omega⟩ : ℝ) : EReal) + if B ⟨lo + t, by omega⟩ then 0 else ⊥) ⟨k0.val - lo, by omega⟩
    simp only [e, if_pos hk0, add_zero] at this
    rwa [EReal.coe_mul, mul_comm] at this
  rw [max_eq_left h0] at hm
  rw [max_eq_left h0, max_eq_left h1] at hw
  unfold winRow topOf
  rw [hw, hM, hm]
  simp only [exp_weight, exp2_weight]
  have hout : ∀ k : Fin N, ¬(lo ≤ k.val ∧ k.val < lo + 640) → weight (A k) m (B k) = 0 := by
    intro k hk
    rw [weight, if_neg fun h => hk (hB k h)]
  have hpos : 0 < ∑ k, weight (A k) m (B k) := by
    refine Finset.sum_pos' (fun _ _ => weight_nonneg _ _ _) ⟨k0, Finset.mem_univ _, ?_⟩
    rw [weight, if_pos hk0]
    exact Real.exp_pos _
  simp only [one_mul]
  rw [← coe_sum, ← coe_sum]
  rw [← FinSumWindow.sum_window lo hlo (fun k => weight (A k) m (B k)) hout]
  generalize (∑ k, weight (A k) m (B k)) = D at hpos
  simp only [Ideal.div_coe hpos.ne', one_mul]
  rw [← mul_assoc, sum_mul_coe _ _ _ (one_div_nonneg.mpr hpos.le), mul_comm]
  congr 1
  rw [FinSumWindow.sum_window lo hlo (fun k => (weight (A k) m (B k) : EReal) * ((1 / D : ℝ) : EReal) * v k) (by
    intro k hk
    simp only [hout k hk, EReal.coe_zero, zero_mul])]
  refine Finset.sum_congr rfl fun t _ => ?_
  ac_rfl

end Cert.Softmax

end
-- ==== Proof.WinRow.lean ====
module

public import proofs.«01_k».proof.Proof.WinHost
public import proofs.«01_k».proof.Proof.WinRef
public import proofs.«01_k».proof.Proof.BandRow
public import proofs.«01_k».proof.Proof.WinSoftmax

@[expose] public section

set_option maxRecDepth 16384

noncomputable section

open Idealize.ShloMosaic

namespace Cert.WinRow

open Cert.Kernel3Ideal.Win Cert.Reference3Ideal.Win
open Cert.KernelIdeal.Band (scaled scaled_coe)
open Cert.Row (lane sum_lanes)

/-! A row of the kernel's block is the reference's row, the operands being what the host made of real arguments. -/

variable (X0 : FVec Ideal Cert.Kernel3Ideal.S1x2048x512 .bf16) (X1 : FVec Ideal Cert.Kernel3Ideal.S1x2048x128 .bf16)
  (X2 : FVec Ideal Cert.Kernel3Ideal.S1x160x2048 .bf16) (X3 : FVec Ideal Cert.Kernel3Ideal.S1x2048x128 .f32)
  (q : FVec Ideal Cert.Reference3Ideal.S16x2048x2x4x64 .f32) (k v : FVec Ideal Cert.Reference3Ideal.S16x2048x2x64 .f32) (z : FVec Ideal Cert.Reference3Ideal.S16x2048x24 .f32)

theorem row_eq (b : Fin 16)
    (h0 : ∀ (n : Fin 2048) (j : Fin 4) (e : Fin 2) (g : Fin 2) (p : Fin 32), X0 (ix3 0 n ⟨128 * (j : ℕ) + 64 * e + 32 * g + p, by omega⟩) = scaled (q (ix5 b n g j ⟨32 * (e : ℕ) + p, by omega⟩)))
    (h1 : ∀ (n : Fin 2048) (e : Fin 2) (g : Fin 2) (p : Fin 32), X1 (ix3 0 n ⟨64 * (e : ℕ) + 32 * g + p, by omega⟩) = k (ix4 b n g ⟨32 * (e : ℕ) + p, by omega⟩))
    (h2 : ∀ (u : Fin 2048) (g : Fin 2) (a : Fin 64), X2 (ix3 0 ⟨80 * (g : ℕ) + a, by omega⟩ u) = v (ix4 b u g a))
    (h2' : ∀ (u : Fin 2048) (g : Fin 2), X2 (ix3 0 ⟨80 * (g : ℕ) + 64, by omega⟩ u) = (1 : EReal))
    (h3 : ∀ (n : Fin 2048) (p : Fin 24), X3 (ix3 0 n ⟨p, by omega⟩) = z (ix3 b n p))
    (rq : ∀ i, ∃ a : ℝ, q i = a) (rk : ∀ i, ∃ a : ℝ, k i = a)
    (r : Fin 16) (rr : Fin 128) (j : Fin 4) (g : Fin 2) (d : Fin 64) (n : Fin 2048) (hn : (n : ℕ) = 128 * r + rr) :
    blockRow X0 X1 X2 X3 r rr j g d =
      Cert.Gate.sigm (z (ix3 b n ⟨12 * (g : ℕ) + (3 * (j : ℕ) + 2), by omega⟩)) *
      ∑ u : Fin 2048, Ideal.div (Ideal.exp (masked q k b g j n u - top q k b g j n))
        (∑ u' : Fin 2048, Ideal.exp (masked q k b g j n u' - top q k b g j n)) * v (ix4 b u g d) := by
  choose Q hQ using rq
  choose K hK using rk
  have hr := lo_le r
  let A : Fin 2048 → ℝ := fun u => (∑ d : Fin 64, K (ix4 b u g d) * Q (ix5 b n g j d)) * (1 / 8)
  have hA : ∀ u, score q k b g j n u = (A u : EReal) := by
    intro u
    unfold score
    simp only [hQ, hK, ← EReal.coe_mul, ← Cert.Softmax.coe_sum]
    rfl
  have hS : ∀ u : Fin 2048, (∑ l : Fin 128, X1 (ix3 0 u l) *
      (if ((l : ℕ) % 64 < 32 ↔ g = 0) then X0 (ix3 0 n ⟨128 * (j : ℕ) + l, by omega⟩) else 0)) = (((Real.log 2)⁻¹ * A u : ℝ) : EReal) := by
    intro u
    rw [sum_lanes _ g (fun l hl => by rw [if_neg hl, mul_zero])]
    have hl : ∀ d : Fin 64, X1 (ix3 0 u (lane g d)) * (if (((lane g d : Fin 128) : ℕ) % 64 < 32 ↔ g = 0) then X0 (ix3 0 n ⟨128 * (j : ℕ) + lane g d, by omega⟩) else 0) =
        (((K (ix4 b u g d) * ((1 / 8) * Q (ix5 b n g j d) * (Real.log 2)⁻¹)) : ℝ) : EReal) := by
      intro d
      have hd : (⟨32 * ((⟨(d : ℕ) / 32, by omega⟩ : Fin 2) : ℕ) + ((⟨(d : ℕ) % 32, by omega⟩ : Fin 32) : ℕ), by omega⟩ : Fin 64) = d := Fin.ext (by simp only []; omega)
      have e1 := h1 u ⟨(d : ℕ) / 32, by omega⟩ g ⟨(d : ℕ) % 32, by omega⟩
      have e0 := h0 n j ⟨(d : ℕ) / 32, by omega⟩ g ⟨(d : ℕ) % 32, by omega⟩
      rw [hd] at e0 e1
      rw [hQ, scaled_coe] at e0
      rw [hK] at e1
      have hg : (g : ℕ) = 0 ↔ g = 0 := ⟨fun e => Fin.ext e, fun e => by rw [e]; rfl⟩
      rw [if_pos (by rw [← hg]; simp only [lane]; omega), EReal.coe_mul, ← e1, ← e0]
      congr 1
      refine congrArg X0 (congrArg (ix3 0 n) (Fin.ext ?_))
      simp only [lane]
      omega
    rw [Finset.sum_congr rfl fun d _ => hl d, ← Cert.Softmax.coe_sum]
    congr 1
    simp only [A, Finset.sum_mul, Finset.mul_sum]
    exact Finset.sum_congr rfl fun d _ => by ring
  have key := Cert.Softmax.window_softmax (lo r) hr A (fun u => (n : ℕ) < u + 512 ∧ (u : ℕ) ≤ n)
    (fun u hu => by unfold lo; omega) n ⟨by omega, le_refl _⟩ (Cert.Gate.sigm (z (ix3 b n ⟨12 * (g : ℕ) + (3 * (j : ℕ) + 2), by omega⟩)))
    (fun u => v (ix4 b u g d)) (top q k b g j n) (by unfold top masked; simp only [hA])
  unfold masked
  simp only [hA]
  refine Eq.trans ?_ key
  unfold blockRow
  have e : (⟨128 * (r : ℕ) + rr, by omega⟩ : Fin 2048) = n := Fin.ext hn.symm
  have e3 := h3 n ⟨12 * (g : ℕ) + (3 * (j : ℕ) + 2), by omega⟩
  rw [e, e3]
  simp only [hS, h2, h2', hn]

end Cert.WinRow

end
-- ==== Proof.WinFinite.lean ====
module

public import proofs.«01_k».proof.Pre_finite_scores
public import proofs.«01_k».proof.Proof.Finite
public import Idealize.ShloMosaic.Lib.ReduceAll
public import Idealize.ShloMosaic.Lib.Pointwise

@[expose] public section

set_option maxRecDepth 16384

noncomputable section

open Idealize.ShloMosaic

namespace Cert.Pre_finite_scores

/-! What the precondition says: every query and key is a real number. -/

variable [Facts]

variable (x0 : FVec Ideal S16x2048x2x4x64 .f32) (x1 x2 : FVec Ideal S16x2048x2x64 .f32) (x3 : FVec Ideal S16x2048x24 .f32)

theorem real {s : Shape} (x : FVec Ideal s .f32) (hb : S_.BroadcastsInDim s (![] : Fin 0 → Fin s.rank)) {axes : List (Fin s.rank)} (hr : s.ReducesTo axes S_)
    (h : Host.reduce IntOp.andi (andi (cmpf .olt x (broadcastInDim s ![] hb (constant (F := Ideal) S_ .f32 0x7F800000#32)))
      (cmpf .ogt x (broadcastInDim s ![] hb (constant (F := Ideal) S_ .f32 0xFF800000#32)))) (constantI S_ 1 1#1) hr Facts.h_S_ ix0 = 1#1) (i : s.Idx) : ∃ a : ℝ, x i = a := by
  haveI : Subsingleton S_.Idx := ⟨fun a b => funext fun k => k.elim0⟩
  have e := Host.reduce_andi_all _ _ hr Facts.h_S_ ix0 h i
  clear h
  have e' : IntOp.andi (BitVec.ofBool (decide (x i < Ideal.ofBits .f32 0x7F800000#32))) (BitVec.ofBool (decide (Ideal.ofBits .f32 0xFF800000#32 < x i))) = 1#1 := by
    rw [← e]
    pointwise
  rw [Cert.Pre_finite.top_bits, Cert.Pre_finite.bot_bits] at e'
  exact Cert.Pre_finite.real_of_lt (x i) e'

theorem finite (h : fn (F := Ideal) x0 x1 x2 x3 ix0 = 1#1) : (∀ i, ∃ a : ℝ, x0 i = a) ∧ (∀ i, ∃ a : ℝ, x1 i = a) := by
  have h1 := Cert.Pre_finite.andi_ones _ _ h
  exact ⟨real x0 _ _ h1.1, real x1 _ _ h1.2⟩

end Cert.Pre_finite_scores

end
-- ==== Proof.WinFinal.lean ====
module

public import proofs.«01_k».proof.Proof.WinRow
public import proofs.«01_k».proof.Proof.WinFinite
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel3Ideal.Win

open Cert.Kernel3Ideal Cert.Kernel3Ideal.Gen Cert.Kernel3Ideal.Value

/-! The kernel's whole result is the reference's. -/

variable (m : (ℓ : Loc nD τ sig) → Buf (Elt Ideal) ℓ) (c : Dev nD)

theorem idx0 : ∀ t : Fin cfg0.N, win0_0.index t = ![t.val, 0, 0] :=
  (by decide +kernel : ∀ t : Fin grid0.N, win0_0.index t = ![t.val, 0, 0])

theorem idx1 : ∀ t : Fin cfg0.N, win0_1.index t = ![t.val, 0, 0] :=
  (by decide +kernel : ∀ t : Fin grid0.N, win0_1.index t = ![t.val, 0, 0])

theorem idx2 : ∀ t : Fin cfg0.N, win0_2.index t = ![t.val, 0, 0] :=
  (by decide +kernel : ∀ t : Fin grid0.N, win0_2.index t = ![t.val, 0, 0])

theorem idx3 : ∀ t : Fin cfg0.N, win0_3.index t = ![t.val, 0, 0] :=
  (by decide +kernel : ∀ t : Fin grid0.N, win0_3.index t = ![t.val, 0, 0])

theorem idx4 : ∀ t : Fin cfg0.N, win0_4.index t = ![t.val, 0, 0] :=
  (by decide +kernel : ∀ t : Fin grid0.N, win0_4.index t = ![t.val, 0, 0])

theorem iblk0 (t : Fin cfg0.N) (b : Fin 16) (hb : b.val = t.val) (n : Fin 2048) (l : Fin 512) :
    iblk m c 0 t (ix3 0 n l) = V m c main_v16 (ix3 b n l) := by
  blk_simp [iblk, idx0 t]
  refine congrArg (V m c main_v16) (funext fun a => Fin.ext ?_)
  fin_cases a <;> blk_simp [idx0 t] <;> simp [hb]

theorem iblk1 (t : Fin cfg0.N) (b : Fin 16) (hb : b.val = t.val) (n : Fin 2048) (l : Fin 128) :
    iblk m c 1 t (ix3 0 n l) = V m c main_v18 (ix3 b n l) := by
  blk_simp [iblk, idx1 t]
  refine congrArg (V m c main_v18) (funext fun a => Fin.ext ?_)
  fin_cases a <;> blk_simp [idx1 t] <;> simp [hb]

theorem iblk2 (t : Fin cfg0.N) (b : Fin 16) (hb : b.val = t.val) (a : Fin 160) (u : Fin 2048) :
    iblk m c 2 t (ix3 0 a u) = V m c main_v20 (ix3 b a u) := by
  blk_simp [iblk, idx2 t]
  refine congrArg (V m c main_v20) (funext fun a => Fin.ext ?_)
  fin_cases a <;> blk_simp [idx2 t] <;> simp [hb]

theorem iblk3 (t : Fin cfg0.N) (b : Fin 16) (hb : b.val = t.val) (n : Fin 2048) (l : Fin 128) :
    iblk m c 3 t (ix3 0 n l) = V m c main_v14 (ix3 b n l) := by
  blk_simp [iblk, idx3 t]
  refine congrArg (V m c main_v14) (funext fun a => Fin.ext ?_)
  fin_cases a <;> blk_simp [idx3 t] <;> simp [hb]

theorem final (G : FVec Ideal S16x2048x512 .bf16)
    (h : ∀ (t : Fin cfg0.N) (b : Fin 16) (hb : b.val = t.val) (y : S1x2048x512.Idx), blockOut (iblk m c 0 t) (iblk m c 1 t) (iblk m c 2 t) (iblk m c 3 t) y = G (ix3 b ⟨(y 1).val, (y 1).isLt⟩ ⟨(y 2).val, (y 2).isLt⟩)) :
    (dats m 0 c).arrAt 4 cfg0.N = G := by
  refine (dats m 0 c).arrAt_eq_of_covers 4 _ (by decide +kernel) fun t hf y => ?_
  blk_simp
  rw [after0_4]
  unfold outsAt0
  rw [out_eq]
  have ht : t.val < 16 := lt_of_lt_of_eq t.isLt (by decide +kernel : cfg0.N = 16)
  refine (h t ⟨t.val, ht⟩ rfl y).trans (congrArg G (funext fun a => Fin.ext ?_))
  have hy : (y 0).val < 1 := (y 0).isLt
  fin_cases a <;> blk_simp [idx4 t] <;> simp
  all_goals (try trace_state); omega

/-- The result array of the kernel is the reference's term over the arguments, the arguments being real. -/
theorem value (rq : ∀ i, ∃ a : ℝ, m ((c : Thread nD τ).loc main_arg0) i = (a : EReal)) (rk : ∀ i, ∃ a : ℝ, m ((c : Thread nD τ).loc main_arg1) i = (a : EReal)) :
    (dats m 0 c).arrAt 4 cfg0.N = Cert.Reference3Ideal.Read.val_main_v37 (F := Ideal) (m ((c : Thread nD τ).loc main_arg0)) (m ((c : Thread nD τ).loc main_arg1)) (m ((c : Thread nD τ).loc main_arg2)) (m ((c : Thread nD τ).loc main_arg3)) := by
  refine final m c _ fun t b hb y => ?_
  have b1 : (y 1).val < 2048 := (y 1).isLt
  have b2 : (y 2).val < 512 := (y 2).isLt
  have e := Cert.WinRow.row_eq (iblk m c 0 t) (iblk m c 1 t) (iblk m c 2 t) (iblk m c 3 t)
    (m ((c : Thread nD τ).loc main_arg0)) (m ((c : Thread nD τ).loc main_arg1)) (m ((c : Thread nD τ).loc main_arg2)) (m ((c : Thread nD τ).loc main_arg3)) b
    (fun n j e g p => (iblk0 m c t b hb _ _).trans (v16_at m c b n j e g p))
    (fun n e g p => (iblk1 m c t b hb _ _).trans (v18_at m c b n e g p))
    (fun u g a => (iblk2 m c t b hb _ _).trans (v20_at m c b u g a))
    (fun u g => (iblk2 m c t b hb _ _).trans (v20_one m c b u g))
    (fun n p => (iblk3 m c t b hb _ _).trans (v14_at m c b n p)) rq rk
    ⟨(y 1).val / 128, by omega⟩ ⟨(y 1).val % 128, by omega⟩ ⟨(y 2).val / 128, by omega⟩ ⟨(y 2).val % 128 / 64, by omega⟩ ⟨(y 2).val % 64, by omega⟩
    ⟨(y 1).val, b1⟩ (by simp only []; omega)
  unfold blockOut
  refine e.trans ((Cert.Reference3Ideal.Win.v37_at _ _ _ _ b _ _ _ _).symm.trans ?_)
  refine congrArg _ ?_
  refine congrArg (ix3 b _) (Fin.ext ?_)
  simp only []
  omega

end Cert.Kernel3Ideal.Win

end
-- ==== Proof.WinClaim.lean ====
module

public import proofs.«01_k».proof.Defs
public import proofs.«01_k».proof.Proof.WinFinal
public import proofs.«01_k».proof.Proof.Gen.Kernel3
public import proofs.«01_k».proof.Proof.Gen.Kernel3.Frame
public import proofs.«01_k».proof.Proof.Gen.Reference3Ideal.Run
public import proofs.«01_k».proof.Proof.Gen.Pre_finite_scores
public import Idealize.ShloMosaic.Lib.Claim
public import Idealize.ShloMosaic.Lib.Quiescent

@[expose] public section

noncomputable section

namespace Cert.Claims

open Idealize.ShloMosaic Idealize.SL.Sem

/-! The conjuncts of the claim about the gated window, one theorem each. -/

theorem frame_kernel3 : Cert.quiescent_Kernel3 (hKernel3 := Cert.Kernel3.Gen.facts) := fun m g _ => by
  run_from Cert.Kernel3.Gen.frame m g

theorem frame_ideal3 : Cert.quiescent_Kernel3Ideal (hKernel3Ideal := Cert.Kernel3Ideal.Gen.facts) := fun m g _ => by
  run_from Cert.Kernel3Ideal.Gen.frame m g

theorem frame_ideal3_pre : Cert.quiescent_Kernel3Ideal_pre_finite_scores (hKernel3Ideal := Cert.Kernel3Ideal.Gen.facts) (hPre_finite_scores := Cert.Pre_finite_scores.Gen.facts) := fun m g _ => by
  run_from Cert.Kernel3Ideal.Gen.frame m g

theorem frame_reference3 : Cert.quiescent_Reference3Ideal (hReference3Ideal := Cert.Reference3Ideal.Gen.facts) := fun m g _ => by
  exact (θ_run _ _ _).mono (fun r h => ⟨fun c => (h c).2, sem_eq_zero_of_no_sems rfl r.2⟩) (Cert.Reference3Ideal.Value.run m g)

theorem frame_reference3_pre : Cert.quiescent_Reference3Ideal_pre_finite_scores (hReference3Ideal := Cert.Reference3Ideal.Gen.facts) (hPre_finite_scores := Cert.Pre_finite_scores.Gen.facts) := fun m g _ => by
  exact (θ_run _ _ _).mono (fun r h => ⟨fun c => (h c).2, sem_eq_zero_of_no_sems rfl r.2⟩) (Cert.Reference3Ideal.Value.run m g)

theorem preserves3 : Cert.preserves_Kernel3_Kernel3Ideal :=
  IdealRules.named_const.statement Cert.Kernel3Ideal.κ "mask" .f32 0xF149F2CA#32 ⊥ rfl

theorem algebraic3 : Cert.algebraic_Kernel3Ideal_Reference3Ideal_pre_finite_scores (hKernel3Ideal := Cert.Kernel3Ideal.Gen.facts) (hReference3Ideal := Cert.Reference3Ideal.Gen.facts) (hPre_finite_scores := Cert.Pre_finite_scores.Gen.facts) := by
  pair_intro
  · run_from Cert.Kernel3Ideal.Gen.run_main m g
  · run_from Cert.Reference3Ideal.Value.run m' g'
    obtain ⟨a0, a1, a2, a3⟩ := hagree c
    have hf := Cert.Pre_finite_scores.finite _ _ _ _ (congrFun (hpre c) ix0)
    refine (Cert.Reference3Ideal.Read.val_main_v37_eq m' c).trans ?_
    rw [a0, a1, a2, a3]
    exact (Cert.Kernel3Ideal.Win.value m c hf.1 hf.2).symm

end Cert.Claims

end
-- ==== Proof.ModValue.lean ====
module

public import proofs.«01_k».proof.Proof.Gen.Kernel4Ideal.Value
public import proofs.«01_k».proof.Proof.Gen.Reference4Ideal.Read
public import proofs.«01_k».proof.Proof.Gate
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The modulation: each entry is the activated conditioning times a column of the weights, plus that column's
bias. -/

namespace Cert.Mod

/-- One entry of the modulation, from a row of the conditioning, a column of the weights and its bias. -/
def entry (z w : Fin 1024 → EReal) (b : EReal) : EReal := (∑ k : Fin 1024, z k * Cert.Gate.sigm (z k) * w k) + b

theorem entry_congr {z z' w w' : Fin 1024 → EReal} {b b' : EReal} (hz : ∀ k, z k = z' k) (hw : ∀ k, w k = w' k) (hb : b = b') :
    entry z w b = entry z' w' b' := by
  obtain rfl := funext hz; obtain rfl := funext hw; rw [hb]

end Cert.Mod

namespace Cert.Reference4Ideal.Mod

open Cert.Reference4Ideal Cert.Reference4Ideal.Gen Cert.Reference4Ideal.Read Cert.Mod

variable (x0 : FVec Ideal S16x1024 .f32) (x1 : FVec Ideal S1x1024x3072 .f32) (x2 : FVec Ideal S1x3072 .f32)

theorem v0_at (b : Fin 16) (k : Fin 1024) :
    val_main_v0 (F := Ideal) x0 (ix2 b k) = x0 (ix2 b k) * Cert.Gate.sigm (x0 (ix2 b k)) := by
  unfold Cert.Gate.sigm
  pointwise [val_main_v0, val_main_call0_v5, val_main_call0_v4, val_main_call0_cst_0, val_main_call0_v3, val_main_call0_v2, val_main_call0_cst, val_main_call0_v1, val_main_call0_v0]
  done

theorem v6_at (b : Fin 16) (q : Fin 3072) :
    val_main_v6 (F := Ideal) x0 x1 x2 (ix2 b q) =
      entry (fun k => x0 (ix2 b k)) (fun k => x1 (ix3 (0 : Fin 1) k q)) (x2 (ix2 (0 : Fin 1) q)) := by
  have e := v0_at x0 b
  unfold val_main_v6 val_main_v2
  generalize val_main_v0 (F := Ideal) x0 = Z at *
  unfold entry
  simp only [← e]
  pointwise [val_main_v5, val_main_v4, val_main_v3, val_main_v1]
  done

end Cert.Reference4Ideal.Mod

namespace Cert.Kernel4Ideal.Mod

open Cert.Kernel4Ideal Cert.Kernel4Ideal.Gen Cert.Kernel4Ideal.Value Cert.Mod

section
variable (x0 : Vec Ideal S16x1024 .f32) (x1 : Vec Ideal S1024x1024 .f32) (x2 : Vec Ideal S1x1024 .f32)

theorem pay1_at (b : Fin 16) (e : Fin 1024) :
    k0_pay1 (F := Ideal) x0 x1 x2 (ix2 b e) =
      entry (fun k => x0 (ix2 b k)) (fun k => x1 (ix2 k e)) (x2 (ix2 (0 : Fin 1) e)) := by
  unfold entry Cert.Gate.sigm
  simp only [← zero_sub]
  pointwise [k0_pay1]
  done

/-- The block a grid point writes. -/
def blockOut (y : S16x1024.Idx) : EReal :=
  entry (fun k => x0 (ix2 ⟨(y 0).val, (y 0).isLt⟩ k)) (fun k => x1 (ix2 k ⟨(y 1).val, (y 1).isLt⟩)) (x2 (ix2 (0 : Fin 1) ⟨(y 1).val, (y 1).isLt⟩))

theorem out_eq : out0_3 (F := Ideal) x0 x1 x2 = blockOut x0 x1 x2 := by
  unfold out0_3
  funext y
  refine View.canon_apply_of_pieces (Val := Elt Ideal) (S := S16x1024) (e := .f32) (fun y => blockOut x0 x1 x2 y) _ (fun p hp x => ?_) y (cover0_3 _ y)
  obtain rfl := List.mem_singleton.mp hp
  have b0 : (x 0).val < 16 := (x 0).isLt
  have b1 : (x 1).val < 1024 := (x 1).isLt
  have e : x = ix2 ⟨(x 0).val, b0⟩ ⟨(x 1).val, b1⟩ := by
    funext a
    fin_cases a <;> rfl
  generalize (⟨(x 0).val, b0⟩ : Fin 16) = r at e
  generalize (⟨(x 1).val, b1⟩ : Fin 1024) = q at e
  subst e
  have c0 : ∀ (p : Fin 16) (q : Fin 1024), View.ld x0 r0_0 (ix2 p q) = x0 (ix2 p q) := fun p q =>
    View.ld_unit_apply_of _ _ _ _ _ _ fun a => by fin_cases a <;> simp
  have c1 : ∀ (p : Fin 1024) (q : Fin 1024), View.ld x1 r0_1 (ix2 p q) = x1 (ix2 p q) := fun p q =>
    View.ld_unit_apply_of _ _ _ _ _ _ fun a => by fin_cases a <;> simp
  have c2 : ∀ (p : Fin 1) (q : Fin 1024), View.ld x2 r0_2 (ix2 p q) = x2 (ix2 p q) := fun p q =>
    View.ld_unit_apply_of _ _ _ _ _ _ fun a => by fin_cases a <;> simp
  have hr : r0_0.emb (ix2 r q) = (ix2 r q : S16x1024.Idx) := by
    funext a
    apply Fin.ext
    rw [Rect.emb_apply]
    fin_cases a <;> simp
  refine (pay1_at (View.ld x0 r0_0) (View.ld x1 r0_1) (View.ld x2 r0_2) r q).trans ?_
  refine (entry_congr (fun k => c0 r k) (fun k => c1 k q) (c2 0 q)).trans ?_
  exact (congrArg (blockOut x0 x1 x2) hr).symm
end

variable (m : (ℓ : Loc nD τ sig) → Buf (Elt Ideal) ℓ) (c : Dev nD)

theorem v0_at (k : Fin 1024) (q : Fin 3072) :
    V m c main_v0 (ix2 k q) = m ((c : Thread nD τ).loc main_arg1) (ix3 (0 : Fin 1) k q) := by
  entry_read
  pointwise

theorem v2_at (q : Fin 3072) :
    V m c main_v2 (ix2 (0 : Fin 1) q) = m ((c : Thread nD τ).loc main_arg2) (ix2 (0 : Fin 1) q) := by
  entry_read
  pointwise
  done

theorem arg0_at (b : Fin 16) (k : Fin 1024) :
    V m c main_arg0 (ix2 b k) = m ((c : Thread nD τ).loc main_arg0) (ix2 b k) := by
  entry_read
  rfl

theorem idx0 : ∀ t : Fin cfg0.N, win0_0.index t = ![0, 0] :=
  (by decide +kernel : ∀ t : Fin grid0.N, win0_0.index t = ![0, 0])

theorem idx1 : ∀ t : Fin cfg0.N, win0_1.index t = ![0, t.val] :=
  (by decide +kernel : ∀ t : Fin grid0.N, win0_1.index t = ![0, t.val])

theorem idx2 : ∀ t : Fin cfg0.N, win0_2.index t = ![0, t.val] :=
  (by decide +kernel : ∀ t : Fin grid0.N, win0_2.index t = ![0, t.val])

theorem idx3 : ∀ t : Fin cfg0.N, win0_3.index t = ![0, t.val] :=
  (by decide +kernel : ∀ t : Fin grid0.N, win0_3.index t = ![0, t.val])

variable (t : Fin cfg0.N)

theorem lt3 : t.val < 3 := lt_of_lt_of_eq t.isLt (by decide +kernel : cfg0.N = 3)

/-- The column of the result a column of a point's block is. -/
def col (e : Fin 1024) : Fin 3072 := ⟨1024 * t.val + e.val, by have := lt3 t; omega⟩

theorem col_val (e : Fin 1024) : (col t e).val = t.val * 1024 + e.val := by unfold col; simp only []; omega

theorem iblk0 (b : Fin 16) (k : Fin 1024) : iblk m c 0 t (ix2 b k) = V m c main_arg0 (ix2 b k) := by
  blk_simp [iblk, idx0 t]
  refine congrArg (V m c main_arg0) (funext fun a => Fin.ext ?_)
  fin_cases a <;> blk_simp [idx0 t] <;> simp

theorem iblk1 (k e : Fin 1024) : iblk m c 1 t (ix2 k e) = V m c main_v0 (ix2 k (col t e)) := by
  blk_simp [iblk, idx1 t]
  refine congrArg (V m c main_v0) (funext fun a => Fin.ext ?_)
  fin_cases a <;> blk_simp [idx1 t] <;> simp [col_val]

theorem iblk2 (e : Fin 1024) : iblk m c 2 t (ix2 (0 : Fin 1) e) = V m c main_v2 (ix2 (0 : Fin 1) (col t e)) := by
  blk_simp [iblk, idx2 t]
  refine congrArg (V m c main_v2) (funext fun a => Fin.ext ?_)
  fin_cases a <;> blk_simp [idx2 t] <;> simp [col_val]

theorem block_eq (b : Fin 16) (e : Fin 1024) :
    entry (fun k => iblk m c 0 t (ix2 b k)) (fun k => iblk m c 1 t (ix2 k e)) (iblk m c 2 t (ix2 (0 : Fin 1) e)) =
      Cert.Reference4Ideal.Read.val_main_v6 (F := Ideal) (m ((c : Thread nD τ).loc main_arg0)) (m ((c : Thread nD τ).loc main_arg1)) (m ((c : Thread nD τ).loc main_arg2)) (ix2 b (col t e)) :=
  (entry_congr (fun k => (iblk0 m c t b k).trans (arg0_at m c b k)) (fun k => (iblk1 m c t k e).trans (v0_at m c k (col t e)))
    ((iblk2 m c t e).trans (v2_at m c (col t e)))).trans (Cert.Reference4Ideal.Mod.v6_at _ _ _ b (col t e)).symm

/-- The whole result is `G` when each point's block is its part of `G`. -/
theorem final (G : FVec Ideal S16x3072 .f32)
    (h : ∀ (t : Fin cfg0.N) (b : Fin 16) (e : Fin 1024), entry (fun k => iblk m c 0 t (ix2 b k)) (fun k => iblk m c 1 t (ix2 k e)) (iblk m c 2 t (ix2 (0 : Fin 1) e)) = G (ix2 b (col t e))) :
    (dats m 0 c).arrAt 3 cfg0.N = G := by
  refine (dats m 0 c).arrAt_eq_of_covers 3 _ (by decide +kernel) fun t hf y => ?_
  blk_simp
  rw [after0_3]
  rw [out_eq]
  have ht := lt3 t
  refine (h t ⟨(y 0).val, (y 0).isLt⟩ ⟨(y 1).val, (y 1).isLt⟩).trans (congrArg G (funext fun a => Fin.ext ?_))
  fin_cases a <;> blk_simp [idx3 t] <;> simp [col_val]
  all_goals first | exact col_val t _ | omega

/-- The result array of the kernel is the reference's term over the arguments. -/
theorem value : (dats m 0 c).arrAt 3 cfg0.N = Cert.Reference4Ideal.Read.val_main_v6 (F := Ideal) (m ((c : Thread nD τ).loc main_arg0)) (m ((c : Thread nD τ).loc main_arg1)) (m ((c : Thread nD τ).loc main_arg2)) :=
  final m c _ fun t b e => block_eq m c t b e

end Cert.Kernel4Ideal.Mod

end
-- ==== Proof.ModClaim.lean ====
module

public import proofs.«01_k».proof.Defs
public import proofs.«01_k».proof.Proof.ModValue
public import proofs.«01_k».proof.Proof.Gen.Kernel4
public import proofs.«01_k».proof.Proof.Gen.Kernel4.Frame
public import proofs.«01_k».proof.Proof.Gen.Reference4Ideal
public import proofs.«01_k».proof.Proof.Gen.Reference4Ideal.Run
public import Idealize.ShloMosaic.Lib.Claim
public import Idealize.ShloMosaic.Lib.Quiescent

@[expose] public section

noncomputable section

namespace Cert.Claims

open Idealize.ShloMosaic Idealize.SL.Sem

/-! The conjuncts of the claim about the modulation, one theorem each. -/

theorem frame_kernel4 : Cert.quiescent_Kernel4 (hKernel4 := Cert.Kernel4.Gen.facts) := fun m g _ => by
  run_from Cert.Kernel4.Gen.frame m g

theorem frame_ideal4 : Cert.quiescent_Kernel4Ideal (hKernel4Ideal := Cert.Kernel4Ideal.Gen.facts) := fun m g _ => by
  run_from Cert.Kernel4Ideal.Gen.frame m g

theorem frame_reference4 : Cert.quiescent_Reference4Ideal (hReference4Ideal := Cert.Reference4Ideal.Gen.facts) := fun m g _ => by
  exact (θ_run _ _ _).mono (fun r h => ⟨fun c => (h c).2, sem_eq_zero_of_no_sems rfl r.2⟩) (Cert.Reference4Ideal.Value.run m g)

theorem preserves4 : Cert.preserves_Kernel4_Kernel4Ideal := trivial

theorem algebraic4 : Cert.algebraic_Kernel4Ideal_Reference4Ideal (hKernel4Ideal := Cert.Kernel4Ideal.Gen.facts) (hReference4Ideal := Cert.Reference4Ideal.Gen.facts) := by
  pair_intro
  · run_from Cert.Kernel4Ideal.Gen.run_main m g
  · run_from Cert.Reference4Ideal.Value.run m' g'
    refine (Cert.Reference4Ideal.Read.val_main_v6_eq (F := Ideal) _ _ _).trans ?_
    exact (Cert.Kernel4Ideal.Mod.value m c).symm

end Cert.Claims

end
-- ==== Proof.QkvSpec.lean ====
module

public import proofs.«01_k».proof.Proof.MergeSpec

@[expose] public section

noncomputable section

open Idealize.ShloMosaic

namespace Cert.Qkv

theorem two (h : Fin 2) : h = 0 ∨ h = 1 := by omega

/-- A half of a head turned by an angle: the first half, the second. -/
def turned (h : Fin 2) (a b c s : EReal) : EReal := if h = 0 then a * c - b * s else b * c + a * s

/-- A token by its run of 256, its quarter, its row. -/
def tok (r : Fin 8) (k : Fin 4) (rr : Fin 64) : Fin 2048 := ⟨256 * (r : ℕ) + 64 * k + rr, by omega⟩

/-- Where the packed table holds a token's angle. -/
def trow (r : Fin 8) (rr : Fin 64) : Fin 512 := ⟨64 * (r : ℕ) + rr, by omega⟩
def tcol (k : Fin 4) (d : Fin 32) : Fin 128 := ⟨32 * (k : ℕ) + d, by omega⟩

/-- The place of a number of a query, of a key, the halves of the heads apart. -/
def kcol (h g : Fin 2) (d : Fin 32) : Fin 128 := ⟨64 * (h : ℕ) + 32 * g + d, by omega⟩
def qcol (j : Fin 4) (h g : Fin 2) (d : Fin 32) : Fin 512 := ⟨128 * (j : ℕ) + 64 * h + 32 * g + d, by omega⟩

theorem tok_surj (n : Fin 2048) : ∃ r k rr, n = tok r k rr :=
  ⟨⟨n / 256, by omega⟩, ⟨n % 256 / 64, by omega⟩, ⟨n % 64, by omega⟩, Fin.ext (by simp only [tok]; omega)⟩

theorem kcol_surj (l : Fin 128) : ∃ h g d, l = kcol h g d :=
  ⟨⟨l / 64, by omega⟩, ⟨l % 64 / 32, by omega⟩, ⟨l % 32, by omega⟩, Fin.ext (by simp only [kcol]; omega)⟩

theorem qcol_surj (l : Fin 512) : ∃ j h g d, l = qcol j h g d :=
  ⟨⟨l / 128, by omega⟩, ⟨l % 128 / 64, by omega⟩, ⟨l % 64 / 32, by omega⟩, ⟨l % 32, by omega⟩, Fin.ext (by simp only [qcol]; omega)⟩

end Cert.Qkv

end
-- ==== Proof.QkvTile.lean ====
module

public import proofs.«01_k».proof.Proof.Gen.Kernel5Ideal.Skeleton
public import proofs.«01_k».proof.Proof.QkvSpec

@[expose] public section

set_option maxRecDepth 16384

noncomputable section

open Idealize.ShloMosaic Idealize.ShloMosaic.TcCoe Idealize.SL.Sem

namespace Cert.Kernel5Ideal.Qkv

open Cert.Kernel5Ideal Cert.Kernel5Ideal.Gen Cert.Merge Cert.Qkv

/-- The modulated normalised rows of a run times the packed weight. -/
theorem norm_at (a0 a1 : Vec Ideal S1x1x1024 .f32) (x : Vec Ideal S1x256x1024 .f32) (r : Fin 256) (e : Fin 1024) :
    k0_pay5 (F := Ideal) a0 a1 x (ix2 r e) =
      modu (fun e => x (ix3 (0 : Fin 1) r e)) (fun e => a0 (ix3 (0 : Fin 1) (0 : Fin 1) e)) (fun e => a1 (ix3 (0 : Fin 1) (0 : Fin 1) e)) e := by
  unfold modu normed centred mean
  pointwise [k0_pay5, k0_pay3, k0_pay4]
  done

theorem acc_at (a0 a1 : Vec Ideal S1x1x1024 .f32) (x : Vec Ideal S1x256x1024 .f32) (w : Vec Ideal S1024x1792 .bf16) (r : Fin 256) (p : Fin 1792) :
    k0_pay6 (F := Ideal) a0 a1 x w (ix2 r p) =
      proj (modu (fun e => x (ix3 (0 : Fin 1) r e)) (fun e => a0 (ix3 (0 : Fin 1) (0 : Fin 1) e)) (fun e => a1 (ix3 (0 : Fin 1) (0 : Fin 1) e))) (fun e => w (ix2 e p)) := by
  have h := funext (norm_at a0 a1 x r)
  rw [← h]
  unfold proj k0_pay6
  generalize k0_pay5 (F := Ideal) a0 a1 x = U
  pointwise []
  done

theorem vt_at (a0 a1 : Vec Ideal S1x1x1024 .f32) (x : Vec Ideal S1x256x1024 .f32) (w : Vec Ideal S384x1024 .bf16) (r : Fin 256) (p : Fin 384) :
    k0_pay7 (F := Ideal) a0 a1 x w (ix2 p r) =
      ∑ e, w (ix2 p e) * modu (fun e => x (ix3 (0 : Fin 1) r e)) (fun e => a0 (ix3 (0 : Fin 1) (0 : Fin 1) e)) (fun e => a1 (ix3 (0 : Fin 1) (0 : Fin 1) e)) e := by
  have h := norm_at a0 a1 x r
  simp only [← h]
  unfold k0_pay7
  generalize k0_pay5 (F := Ideal) a0 a1 x = U
  pointwise []
  done

variable (o n : ℕ) (hs : S256x1792.Slices ![n, o] S64x128) (acc : FVec Ideal S256x1792 .f32) (co si : Vec Ideal S1x64x32 .f32)

/-- The angles' cosines, sines over the lanes of a tile, the sines of the first half negated. -/
def cosT : FVec Ideal S64x128 .f32 := k0_pay12 co
def sinT : FVec Ideal S64x128 .f32 := k0_pay15 (k0_pay11 si) (k0_pay13 si) k0_pay14

/-- A tile of the product, turned by its angles. -/
def ropeT : FVec Ideal S64x128 .f32 :=
  addf (mulf (extractStridedSlice S64x128 ![n, o] acc hs) (cosT co))
    (mulf (dynamicRotate 1 64#32 none (extractStridedSlice S64x128 ![n, o] acc hs) rotates_S64x128_d1) (sinT si))

/-- A tile of queries, of keys, as it is stored. -/
def qTile : FVec Ideal S1x64x128 .bf16 :=
  shapeCast S1x64x128 (truncf .bf16 (mulf (ropeT o n hs acc co si) (broadcast S64x128 (Named.named κ "log2e" 0x3FB8AA3B#32 : Ideal .f32))) bitsLt_bf16_f32) shapeCasts_S64x128_S1x64x128
def kTile : FVec Ideal S1x64x128 .bf16 :=
  shapeCast S1x64x128 (truncf .bf16 (ropeT o n hs acc co si) bitsLt_bf16_f32) shapeCasts_S64x128_S1x64x128

theorem cosT_at (rr : Fin 64) (h g : Fin 2) (d : Fin 32) : cosT co (ix2 rr (kcol h g d)) = co (ix3 (0 : Fin 1) rr d) := by
  unfold cosT
  rcases two h with rfl | rfl <;> rcases two g with rfl | rfl <;> unfold kcol <;> pointwise [k0_pay12]
  all_goals
    repeat (first | rw [dif_neg (by omega)] | rw [dif_pos (by omega)])
    refine congrArg co (congrArg (ix3 (0 : Fin 1) rr) (Fin.ext ?_))
    simp only []
    omega

theorem sinT_at (rr : Fin 64) (h g : Fin 2) (d : Fin 32) :
    sinT si (ix2 rr (kcol h g d)) = if h = 0 then -(si (ix3 (0 : Fin 1) rr d)) else si (ix3 (0 : Fin 1) rr d) := by
  unfold sinT
  rcases two h with rfl | rfl <;> rcases two g with rfl | rfl <;> unfold kcol <;> simp <;> pointwise [k0_pay15, k0_pay11, k0_pay13, k0_pay14]
  · exact zero_sub _
  · exact zero_sub _
  all_goals
    repeat (first | rw [dif_neg (by omega)] | rw [dif_pos (by omega)])
    refine congrArg si (congrArg (ix3 (0 : Fin 1) rr) (Fin.ext ?_))
    simp only []
    omega

theorem ropeT_at (hb : n + 64 ≤ 256 ∧ o + 128 ≤ 1792) (rr : Fin 64) (h g : Fin 2) (d : Fin 32) :
    ropeT o n hs acc co si (ix2 rr (kcol h g d)) =
      turned h (acc (ix2 ⟨n + rr, by omega⟩ ⟨o + kcol 0 g d, by omega⟩)) (acc (ix2 ⟨n + rr, by omega⟩ ⟨o + kcol 1 g d, by omega⟩)) (co (ix3 (0 : Fin 1) rr d)) (si (ix3 (0 : Fin 1) rr d)) := by
  have hc := cosT_at co rr h g d
  have hn := sinT_at si rr h g d
  unfold ropeT turned
  generalize cosT co = C at hc ⊢
  generalize sinT si = S at hn ⊢
  pointwise
  rw [hc, hn]
  have e : ∀ h' : Fin 2, (kcol h g d : ℕ) + 128 - 64 = kcol h' g d ∨ (kcol h g d : ℕ) + 128 - 64 = kcol h' g d + 128 →
      acc (ix2 ⟨n + rr, by omega⟩ ⟨o + ((kcol h g d : ℕ) + 128 - 64) % 128, by omega⟩) = acc (ix2 ⟨n + rr, by omega⟩ ⟨o + kcol h' g d, by omega⟩) := by
    intro h' hh
    refine congrArg acc (congrArg (ix2 (⟨n + rr, by omega⟩ : Fin 256)) (Fin.ext ?_))
    have := (kcol h' g d).isLt
    simp only []
    omega
  rcases two h with rfl | rfl
  · rw [if_pos rfl, if_pos rfl, e 1 (by simp only [kcol]; simp; omega), mul_neg, sub_eq_add_neg]
  · rw [if_neg (by decide), if_neg (by decide), e 0 (by simp only [kcol]; simp; omega)]

theorem qTile_at (hb : n + 64 ≤ 256 ∧ o + 128 ≤ 1792) (rr : Fin 64) (h g : Fin 2) (d : Fin 32) :
    qTile o n hs acc co si (ix3 (0 : Fin 1) rr (kcol h g d)) =
      turned h (acc (ix2 ⟨n + rr, by omega⟩ ⟨o + kcol 0 g d, by omega⟩)) (acc (ix2 ⟨n + rr, by omega⟩ ⟨o + kcol 1 g d, by omega⟩)) (co (ix3 (0 : Fin 1) rr d)) (si (ix3 (0 : Fin 1) rr d)) *
        (((Real.log 2)⁻¹ : ℝ) : EReal) := by
  have h2 : (Named.named κ "log2e" (φ := .f32) 0x3FB8AA3B#32 : Ideal .f32) = (((Real.log 2)⁻¹ : ℝ) : EReal) :=
    IdealRules.named_const.ideal_named_scalar _ _ _ _ rfl
  rw [← ropeT_at o n hs acc co si hb, ← h2]
  unfold qTile
  generalize ropeT o n hs acc co si = T
  generalize (Named.named κ "log2e" (φ := .f32) 0x3FB8AA3B#32 : Ideal .f32) = L
  pointwise
  done

theorem kTile_at (hb : n + 64 ≤ 256 ∧ o + 128 ≤ 1792) (rr : Fin 64) (h g : Fin 2) (d : Fin 32) :
    kTile o n hs acc co si (ix3 (0 : Fin 1) rr (kcol h g d)) =
      turned h (acc (ix2 ⟨n + rr, by omega⟩ ⟨o + kcol 0 g d, by omega⟩)) (acc (ix2 ⟨n + rr, by omega⟩ ⟨o + kcol 1 g d, by omega⟩)) (co (ix3 (0 : Fin 1) rr d)) (si (ix3 (0 : Fin 1) rr d)) := by
  rw [← ropeT_at o n hs acc co si hb]
  unfold kTile
  generalize ropeT o n hs acc co si = T
  pointwise
  done

/-- The gates' columns as they are stored. -/
def gTile : FVec Ideal S1x256x128 .f32 := k0_pay88 acc

theorem gTile_at (r : Fin 256) (l : Fin 128) : gTile acc (ix3 (0 : Fin 1) r l) = acc (ix2 r ⟨1664 + l, by omega⟩) := by
  unfold gTile
  pointwise [k0_pay88]
  done

/-- A group's values by their numbers, as they are stored, and the ones beneath. -/
def vTile (p : ℕ) (hv : S384x256.Slices ![p, 0] S64x256) (vt : FVec Ideal S384x256 .f32) : FVec Ideal S1x64x256 .bf16 :=
  shapeCast S1x64x256 (truncf .bf16 (extractStridedSlice S64x256 ![p, 0] vt hv) bitsLt_bf16_f32) shapeCasts_S64x256_S1x64x256
def oneTile : FVec Ideal S1x16x256 .bf16 := k0_pay126

theorem vTile_at (p : ℕ) (hv : S384x256.Slices ![p, 0] S64x256) (hp : p + 64 ≤ 384) (vt : FVec Ideal S384x256 .f32) (a : Fin 64) (r : Fin 256) :
    vTile p hv vt (ix3 (0 : Fin 1) a r) = vt (ix2 ⟨p + a, by omega⟩ r) := by
  unfold vTile
  pointwise
  done

theorem oneTile_at (a : Fin 16) (r : Fin 256) : oneTile (ix3 (0 : Fin 1) a r) = Ideal.ofBits .bf16 0x3F80#16 := by
  unfold oneTile
  pointwise [k0_pay126, k0_pay124]
  done

end Cert.Kernel5Ideal.Qkv

end
-- ==== Proof.QkvBlock.lean ====
module

public import proofs.«01_k».proof.Proof.QkvTile
public import proofs.«01_k».proof.Proof.Gen.Kernel5Ideal.Value
public import Idealize.ShloMosaic.Lib.Pipeline.ValueKit

@[expose] public section

set_option maxRecDepth 16384

noncomputable section

open Idealize.ShloMosaic Idealize.ShloMosaic.TcCoe Idealize.SL.Sem

namespace Cert.Kernel5Ideal.Qkv

open Cert.Kernel5Ideal Cert.Kernel5Ideal.Gen Cert.Merge Cert.Qkv

/-! What a grid point stores, as functions of the blocks it reads. -/

variable (c : Dev nD) (t : Fin cfg0.N)
  (x0 : Vec Ideal S1x2048x1024 .f32) (x1 : Vec Ideal S1x3x1024 .f32) (x2 : Vec Ideal S1024x1792 .bf16) (x3 : Vec Ideal S384x1024 .bf16)
  (x4 x5 : Vec Ideal S1x512x128 .f32)

/-- The body's run at a grid point. -/
abbrev runAt := kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) x0 x1 x2 x3 x4 x5

theorem inX (r : Fin 8) : ∀ a, (![0, 256 * (r : ℕ), 0] : Fin 3 → ℕ) a + S1x256x1024.size a ≤ S1x2048x1024.size a := by revert r; decide
theorem inM (i : Fin 3) : ∀ a, (![0, (i : ℕ), 0] : Fin 3 → ℕ) a + S1x1x1024.size a ≤ S1x3x1024.size a := by revert i; decide
theorem inC (r : Fin 8) (k : Fin 4) : ∀ a, (![0, 64 * (r : ℕ), 32 * (k : ℕ)] : Fin 3 → ℕ) a + S1x64x32.size a ≤ S1x512x128.size a := by revert r k; decide
theorem inK (r : Fin 8) (k : Fin 4) : ∀ a, (![0, 256 * (r : ℕ) + 64 * (k : ℕ), 0] : Fin 3 → ℕ) a + S1x64x128.size a ≤ S1x2048x128.size a := by revert r k; decide
theorem inQ (r : Fin 8) (k j : Fin 4) : ∀ a, (![0, 256 * (r : ℕ) + 64 * (k : ℕ), 128 * (j : ℕ)] : Fin 3 → ℕ) a + S1x64x128.size a ≤ S1x2048x512.size a := by revert r k j; decide
theorem inG (r : Fin 8) : ∀ a, (![0, 256 * (r : ℕ), 0] : Fin 3 → ℕ) a + S1x256x128.size a ≤ S1x2048x128.size a := by revert r; decide
theorem inV (r : Fin 8) (g : Fin 2) : ∀ a, (![0, 80 * (g : ℕ), 256 * (r : ℕ)] : Fin 3 → ℕ) a + S1x64x256.size a ≤ S1x160x2048.size a := by revert r g; decide
theorem inO (r : Fin 8) (g : Fin 2) : ∀ a, (![0, 80 * (g : ℕ) + 64, 256 * (r : ℕ)] : Fin 3 → ℕ) a + S1x16x256.size a ≤ S1x160x2048.size a := by revert r g; decide
theorem slK (k : Fin 4) (s : Fin 14) : S256x1792.Slices ![64 * (k : ℕ), 128 * (s : ℕ)] S64x128 := by revert k s; decide
theorem slV (s : Fin 6) : S384x256.Slices ![64 * (s : ℕ), 0] S64x256 := by revert s; decide

/-- The rows of a run, the shift and scale, the weights, a tile's angles. -/
def xR (r : Fin 8) : Vec Ideal S1x256x1024 .f32 := View.readAt (Elt Ideal) (ms0_0 t).view (Rect.unit (s := S1x2048x1024) ![0, 256 * (r : ℕ), 0] S1x256x1024.size (inX r)).toLoadRect ((hs0_0 t).unread x0)
def mR (i : Fin 3) : Vec Ideal S1x1x1024 .f32 := View.readAt (Elt Ideal) (ms0_1 t).view (Rect.unit (s := S1x3x1024) ![0, (i : ℕ), 0] S1x1x1024.size (inM i)).toLoadRect ((hs0_1 t).unread x1)
def wR : Vec Ideal S1024x1792 .bf16 := View.readAt (Elt Ideal) (ms0_2 t).view (Rect.unit (s := S1024x1792) ![0, 0] S1024x1792.size inb_S1024x1792_S1024x1792_0_0).toLoadRect ((hs0_2 t).unread x2)
def wvR : Vec Ideal S384x1024 .bf16 := View.readAt (Elt Ideal) (ms0_3 t).view (Rect.unit (s := S384x1024) ![0, 0] S384x1024.size inb_S384x1024_S384x1024_0_0).toLoadRect ((hs0_3 t).unread x3)
def coR (r : Fin 8) (k : Fin 4) : Vec Ideal S1x64x32 .f32 := View.readAt (Elt Ideal) (ms0_4 t).view (Rect.unit (s := S1x512x128) ![0, 64 * (r : ℕ), 32 * (k : ℕ)] S1x64x32.size (inC r k)).toLoadRect ((hs0_4 t).unread x4)
def siR (r : Fin 8) (k : Fin 4) : Vec Ideal S1x64x32 .f32 := View.readAt (Elt Ideal) (ms0_5 t).view (Rect.unit (s := S1x512x128) ![0, 64 * (r : ℕ), 32 * (k : ℕ)] S1x64x32.size (inC r k)).toLoadRect ((hs0_5 t).unread x5)

/-- A run's product with the weights, and the values' transposed. -/
def accR (r : Fin 8) : FVec Ideal S256x1792 .f32 := k0_pay6 (mR t x1 0) (mR t x1 1) (xR t x0 r) (wR t x2)
def vtR (r : Fin 8) : FVec Ideal S384x256 .f32 := k0_pay7 (mR t x1 0) (mR t x1 1) (xR t x0 r) (wvR t x3)

def down8 : List (Fin 8) := [7, 6, 5, 4, 3, 2, 1, 0]
def down4 : List (Fin 4) := [3, 2, 1, 0]
def down2 : List (Fin 2) := [1, 0]

/-- What is stored of a slab of keys, last first. -/
def kPieces (s : Fin 14) : List (View.Piece (Elt Ideal) S1x2048x128 .bf16) :=
  down8.flatMap fun (r : Fin 8) => down4.map fun (k : Fin 4) =>
    ⟨Rect.unit (s := S1x2048x128) ![0, 256 * (r : ℕ) + 64 * (k : ℕ), 0] S1x64x128.size (inK r k),
      kTile (128 * (s : ℕ)) (64 * (k : ℕ)) (slK k s) (accR t x0 x1 x2 r) (coR t x4 r k) (siR t x5 r k)⟩

/-- What is stored of four slabs of queries, last first. -/
def qPieces (s : Fin 4 → Fin 14) : List (View.Piece (Elt Ideal) S1x2048x512 .bf16) :=
  down8.flatMap fun (r : Fin 8) => down4.flatMap fun (k : Fin 4) => down4.map fun (j : Fin 4) =>
    ⟨Rect.unit (s := S1x2048x512) ![0, 256 * (r : ℕ) + 64 * (k : ℕ), 128 * (j : ℕ)] S1x64x128.size (inQ r k j),
      qTile (128 * (s j : ℕ)) (64 * (k : ℕ)) (slK k (s j)) (accR t x0 x1 x2 r) (coR t x4 r k) (siR t x5 r k)⟩

/-- What is stored of the gates, last first. -/
def gPieces : List (View.Piece (Elt Ideal) S1x2048x128 .f32) :=
  down8.map fun (r : Fin 8) => ⟨Rect.unit (s := S1x2048x128) ![0, 256 * (r : ℕ), 0] S1x256x128.size (inG r), gTile (accR t x0 x1 x2 r)⟩

/-- What is stored of the values by their numbers, last first. -/
def vPieces (s : Fin 2 → Fin 6) : List (View.Piece (Elt Ideal) S1x160x2048 .bf16) :=
  down8.flatMap fun (r : Fin 8) => down2.flatMap fun (g : Fin 2) =>
    [⟨Rect.unit (s := S1x160x2048) ![0, 80 * (g : ℕ) + 64, 256 * (r : ℕ)] S1x16x256.size (inO r g), oneTile⟩,
      ⟨Rect.unit (s := S1x160x2048) ![0, 80 * (g : ℕ), 256 * (r : ℕ)] S1x64x256.size (inV r g), vTile (64 * (s g : ℕ)) (slV (s g)) (vtR t x0 x1 x3 r)⟩]

end Cert.Kernel5Ideal.Qkv

end
-- ==== Proof.QkvQueries.lean ====
module

public import proofs.«01_k».proof.Proof.QkvBlock

@[expose] public section

set_option maxRecDepth 16384

noncomputable section

open Idealize.ShloMosaic Idealize.ShloMosaic.TcCoe Idealize.SL.Sem

namespace Cert.Kernel5Ideal.Qkv

open Cert.Kernel5Ideal Cert.Kernel5Ideal.Gen Cert.Merge Cert.Qkv

/-! The lists of what the run stores, read off it. -/

variable (c : Dev nD) (t : Fin cfg0.N)
  (x0 : Vec Ideal S1x2048x1024 .f32) (x1 : Vec Ideal S1x3x1024 .f32) (x2 : Vec Ideal S1024x1792 .bf16) (x3 : Vec Ideal S384x1024 .bf16)
  (x4 x5 : Vec Ideal S1x512x128 .f32)

theorem pieces6 : (runAt c t x0 x1 x2 x3 x4 x5).1 = qPieces t x0 x1 x2 x4 x5 ![0, 1, 2, 3] := by sl_kernel_rfl
theorem pieces10 : (runAt c t x0 x1 x2 x3 x4 x5).2.2.2.2.1 = qPieces t x0 x1 x2 x4 x5 ![7, 8, 9, 10] := by sl_kernel_rfl

end Cert.Kernel5Ideal.Qkv

end
-- ==== Proof.QkvKeys.lean ====
module

public import proofs.«01_k».proof.Proof.QkvBlock

@[expose] public section

set_option maxRecDepth 16384

noncomputable section

open Idealize.ShloMosaic Idealize.ShloMosaic.TcCoe Idealize.SL.Sem

namespace Cert.Kernel5Ideal.Qkv

open Cert.Kernel5Ideal Cert.Kernel5Ideal.Gen Cert.Merge Cert.Qkv

/-! The lists of what the run stores, read off it. -/

variable (c : Dev nD) (t : Fin cfg0.N)
  (x0 : Vec Ideal S1x2048x1024 .f32) (x1 : Vec Ideal S1x3x1024 .f32) (x2 : Vec Ideal S1024x1792 .bf16) (x3 : Vec Ideal S384x1024 .bf16)
  (x4 x5 : Vec Ideal S1x512x128 .f32)

theorem pieces8 : (runAt c t x0 x1 x2 x3 x4 x5).2.2.1 = kPieces t x0 x1 x2 x4 x5 5 := by sl_kernel_rfl
theorem pieces9 : (runAt c t x0 x1 x2 x3 x4 x5).2.2.2.1 = kPieces t x0 x1 x2 x4 x5 6 := by sl_kernel_rfl
theorem pieces11 : (runAt c t x0 x1 x2 x3 x4 x5).2.2.2.2.2.1 = kPieces t x0 x1 x2 x4 x5 11 := by sl_kernel_rfl

end Cert.Kernel5Ideal.Qkv

end
-- ==== Proof.QkvValues.lean ====
module

public import proofs.«01_k».proof.Proof.QkvBlock

@[expose] public section

set_option maxRecDepth 16384

noncomputable section

open Idealize.ShloMosaic Idealize.ShloMosaic.TcCoe Idealize.SL.Sem

namespace Cert.Kernel5Ideal.Qkv

open Cert.Kernel5Ideal Cert.Kernel5Ideal.Gen Cert.Merge Cert.Qkv

/-! The lists of what the run stores, read off it. -/

variable (c : Dev nD) (t : Fin cfg0.N)
  (x0 : Vec Ideal S1x2048x1024 .f32) (x1 : Vec Ideal S1x3x1024 .f32) (x2 : Vec Ideal S1024x1792 .bf16) (x3 : Vec Ideal S384x1024 .bf16)
  (x4 x5 : Vec Ideal S1x512x128 .f32)

theorem pieces13 : (runAt c t x0 x1 x2 x3 x4 x5).2.2.2.2.2.2.2.1 = vPieces t x0 x1 x3 ![0, 1] := by sl_kernel_rfl
theorem pieces14 : (runAt c t x0 x1 x2 x3 x4 x5).2.2.2.2.2.2.2.2.1 = vPieces t x0 x1 x3 ![2, 3] := by sl_kernel_rfl
theorem pieces15 : (runAt c t x0 x1 x2 x3 x4 x5).2.2.2.2.2.2.2.2.2.1 = vPieces t x0 x1 x3 ![4, 5] := by sl_kernel_rfl
theorem pieces16 : (runAt c t x0 x1 x2 x3 x4 x5).2.2.2.2.2.2.2.2.2.2.1 = gPieces t x0 x1 x2 := by sl_kernel_rfl

end Cert.Kernel5Ideal.Qkv

end
-- ==== Proof.QkvOut.lean ====
module

public import proofs.«01_k».proof.Proof.QkvQueries
public import proofs.«01_k».proof.Proof.QkvKeys
public import proofs.«01_k».proof.Proof.QkvValues

@[expose] public section

set_option maxRecDepth 16384

noncomputable section

open Idealize.ShloMosaic Idealize.ShloMosaic.TcCoe Idealize.SL.Sem

namespace Cert.Kernel5Ideal.Qkv

open Cert.Kernel5Ideal Cert.Kernel5Ideal.Gen Cert.Merge Cert.Qkv

/-! What a grid point leaves in its block of each output, entry by entry. -/

variable (t : Fin cfg0.N)
  (x0 : Vec Ideal S1x2048x1024 .f32) (x1 : Vec Ideal S1x3x1024 .f32) (x2 : Vec Ideal S1024x1792 .bf16) (x3 : Vec Ideal S384x1024 .bf16)
  (x4 x5 : Vec Ideal S1x512x128 .f32)

def rOf (n : ℕ) (hn : n < 2048) : Fin 8 := ⟨n / 256, by omega⟩
def kOf (n : ℕ) : Fin 4 := ⟨n % 256 / 64, by omega⟩
def rrOf (n : ℕ) : Fin 64 := ⟨n % 64, by omega⟩

/-- A number of a slab of keys, of four of queries, of the gates, of the values. -/
def kVal (s : Fin 14) (r : Fin 8) (k : Fin 4) (rr : Fin 64) (l : Fin 128) : EReal :=
  kTile (128 * (s : ℕ)) (64 * (k : ℕ)) (slK k s) (accR t x0 x1 x2 r) (coR t x4 r k) (siR t x5 r k) (ix3 (0 : Fin 1) rr l)

def qVal (s : Fin 4 → Fin 14) (r : Fin 8) (k : Fin 4) (rr : Fin 64) (j : Fin 4) (l : Fin 128) : EReal :=
  qTile (128 * (s j : ℕ)) (64 * (k : ℕ)) (slK k (s j)) (accR t x0 x1 x2 r) (coR t x4 r k) (siR t x5 r k) (ix3 (0 : Fin 1) rr l)

def gVal (r : Fin 8) (q : Fin 256) (l : Fin 128) : EReal := gTile (accR t x0 x1 x2 r) (ix3 (0 : Fin 1) q l)

def vVal (s : Fin 2 → Fin 6) (r : Fin 8) (g : Fin 2) (a : Fin 80) (q : Fin 256) : EReal :=
  if h : (a : ℕ) < 64 then vTile (64 * (s g : ℕ)) (slV (s g)) (vtR t x0 x1 x3 r) (ix3 (0 : Fin 1) (⟨a, h⟩ : Fin 64) q) else oneTile (ix3 (0 : Fin 1) (⟨(a : ℕ) - 64, by omega⟩ : Fin 16) q)

def kOut (s : Fin 14) (y : S1x2048x128.Idx) : EReal :=
  kVal t x0 x1 x2 x4 x5 s (rOf (y 1).val (y 1).isLt) (kOf (y 1).val) (rrOf (y 1).val) ⟨(y 2).val, (y 2).isLt⟩

def qOut (s : Fin 4 → Fin 14) (y : S1x2048x512.Idx) : EReal :=
  qVal t x0 x1 x2 x4 x5 s (rOf (y 1).val (y 1).isLt) (kOf (y 1).val) (rrOf (y 1).val) ⟨(y 2).val / 128, Nat.div_lt_of_lt_mul (y 2).isLt⟩ ⟨(y 2).val % 128, Nat.mod_lt _ (by decide)⟩

def gOut (y : S1x2048x128.Idx) : EReal :=
  gVal t x0 x1 x2 (rOf (y 1).val (y 1).isLt) ⟨(y 1).val % 256, Nat.mod_lt _ (by decide)⟩ ⟨(y 2).val, (y 2).isLt⟩

def vOut (s : Fin 2 → Fin 6) (y : S1x160x2048.Idx) : EReal :=
  vVal t x0 x1 x3 s (rOf (y 2).val (y 2).isLt) ⟨(y 1).val / 80, Nat.div_lt_of_lt_mul (y 1).isLt⟩ ⟨(y 1).val % 80, Nat.mod_lt _ (by decide)⟩ ⟨(y 2).val % 256, Nat.mod_lt _ (by decide)⟩

/-- An index of three axes, the first of one place, by its coordinates. -/
theorem ix3_of {a b : ℕ} (x : (⟨3, ![1, a, b]⟩ : Shape).Idx) : x = ix3 (0 : Fin 1) (⟨(x 1).val, (x 1).isLt⟩ : Fin a) (⟨(x 2).val, (x 2).isLt⟩ : Fin b) := by
  funext i
  fin_cases i
  · have : (x 0).val < 1 := (x 0).isLt
    exact Fin.ext (by change (x 0).val = 0; omega)
  · rfl
  · rfl

theorem kAgree (s : Fin 14) : ∀ p ∈ kPieces t x0 x1 x2 x4 x5 s, ∀ x : p.1.shape.Idx, p.2 x = kOut t x0 x1 x2 x4 x5 s (p.1.emb x) := by
  intro p hp
  obtain ⟨r, -, hp⟩ := List.mem_flatMap.mp hp
  obtain ⟨k, -, rfl⟩ := List.mem_map.mp hp
  intro x
  have b1 : (x 1).val < 64 := (x 1).isLt
  have m1 : (((Rect.unit (s := S1x2048x128) ![0, 256 * (r : ℕ) + 64 * (k : ℕ), 0] S1x64x128.size (inK r k)).emb x) 1).val = 256 * (r : ℕ) + 64 * (k : ℕ) + (x 1).val := by
    rw [Rect.emb_apply]; simp
  have m2 : (((Rect.unit (s := S1x2048x128) ![0, 256 * (r : ℕ) + 64 * (k : ℕ), 0] S1x64x128.size (inK r k)).emb x) 2).val = (x 2).val := by
    rw [Rect.emb_apply]; simp
  refine (congrArg _ (ix3_of (a := 64) (b := 128) x)).trans ?_
  change kVal t x0 x1 x2 x4 x5 s r k ⟨(x 1).val, (x 1).isLt⟩ ⟨(x 2).val, (x 2).isLt⟩ = _
  unfold kOut
  congr 1 <;> apply Fin.ext <;> simp only [rOf, kOf, rrOf, m1, m2] <;> omega

theorem qAgree (s : Fin 4 → Fin 14) : ∀ p ∈ qPieces t x0 x1 x2 x4 x5 s, ∀ x : p.1.shape.Idx, p.2 x = qOut t x0 x1 x2 x4 x5 s (p.1.emb x) := by
  intro p hp
  obtain ⟨r, -, hp⟩ := List.mem_flatMap.mp hp
  obtain ⟨k, -, hp⟩ := List.mem_flatMap.mp hp
  obtain ⟨j, -, rfl⟩ := List.mem_map.mp hp
  intro x
  have b1 : (x 1).val < 64 := (x 1).isLt
  have b2 : (x 2).val < 128 := (x 2).isLt
  have m1 : (((Rect.unit (s := S1x2048x512) ![0, 256 * (r : ℕ) + 64 * (k : ℕ), 128 * (j : ℕ)] S1x64x128.size (inQ r k j)).emb x) 1).val = 256 * (r : ℕ) + 64 * (k : ℕ) + (x 1).val := by
    rw [Rect.emb_apply]; simp
  have m2 : (((Rect.unit (s := S1x2048x512) ![0, 256 * (r : ℕ) + 64 * (k : ℕ), 128 * (j : ℕ)] S1x64x128.size (inQ r k j)).emb x) 2).val = 128 * (j : ℕ) + (x 2).val := by
    rw [Rect.emb_apply]; simp
  refine (congrArg _ (ix3_of (a := 64) (b := 128) x)).trans ?_
  change qVal t x0 x1 x2 x4 x5 s r k ⟨(x 1).val, (x 1).isLt⟩ j ⟨(x 2).val, (x 2).isLt⟩ = _
  unfold qOut
  congr 1 <;> apply Fin.ext <;> simp only [rOf, kOf, rrOf, m1, m2] <;> omega

theorem gAgree : ∀ p ∈ gPieces t x0 x1 x2, ∀ x : p.1.shape.Idx, p.2 x = gOut t x0 x1 x2 (p.1.emb x) := by
  intro p hp
  obtain ⟨r, -, rfl⟩ := List.mem_map.mp hp
  intro x
  have b1 : (x 1).val < 256 := (x 1).isLt
  have m1 : (((Rect.unit (s := S1x2048x128) ![0, 256 * (r : ℕ), 0] S1x256x128.size (inG r)).emb x) 1).val = 256 * (r : ℕ) + (x 1).val := by
    rw [Rect.emb_apply]; simp
  have m2 : (((Rect.unit (s := S1x2048x128) ![0, 256 * (r : ℕ), 0] S1x256x128.size (inG r)).emb x) 2).val = (x 2).val := by
    rw [Rect.emb_apply]; simp
  refine (congrArg _ (ix3_of (a := 256) (b := 128) x)).trans ?_
  change gVal t x0 x1 x2 r ⟨(x 1).val, (x 1).isLt⟩ ⟨(x 2).val, (x 2).isLt⟩ = _
  unfold gOut
  congr 1 <;> apply Fin.ext <;> simp only [rOf, kOf, rrOf, m1, m2] <;> omega

theorem vAgree (s : Fin 2 → Fin 6) : ∀ p ∈ vPieces t x0 x1 x3 s, ∀ x : p.1.shape.Idx, p.2 x = vOut t x0 x1 x3 s (p.1.emb x) := by
  intro p hp
  obtain ⟨r, -, hp⟩ := List.mem_flatMap.mp hp
  obtain ⟨g, -, hp⟩ := List.mem_flatMap.mp hp
  rcases List.mem_cons.mp hp with rfl | hp
  · intro x
    have b1 : (x 1).val < 16 := (x 1).isLt
    have b2 : (x 2).val < 256 := (x 2).isLt
    have m1 : (((Rect.unit (s := S1x160x2048) ![0, 80 * (g : ℕ) + 64, 256 * (r : ℕ)] S1x16x256.size (inO r g)).emb x) 1).val = 80 * (g : ℕ) + 64 + (x 1).val := by
      rw [Rect.emb_apply]; simp
    have m2 : (((Rect.unit (s := S1x160x2048) ![0, 80 * (g : ℕ) + 64, 256 * (r : ℕ)] S1x16x256.size (inO r g)).emb x) 2).val = 256 * (r : ℕ) + (x 2).val := by
      rw [Rect.emb_apply]; simp
    refine (congrArg _ (ix3_of (a := 16) (b := 256) x)).trans ?_
    have e : vVal t x0 x1 x3 s r g ⟨64 + (x 1).val, by omega⟩ ⟨(x 2).val, b2⟩ = oneTile (ix3 (0 : Fin 1) (⟨(x 1).val, b1⟩ : Fin 16) (⟨(x 2).val, b2⟩ : Fin 256)) := by
      unfold vVal
      rw [dif_neg (by simp)]
      refine congrArg oneTile (congrArg (fun a => ix3 (0 : Fin 1) a _) (Fin.ext ?_))
      simp
    refine e.symm.trans ?_
    unfold vOut
    congr 1 <;> apply Fin.ext <;> simp only [rOf, kOf, rrOf, m1, m2] <;> omega

  · obtain rfl := List.mem_singleton.mp hp
    intro x
    have b1 : (x 1).val < 64 := (x 1).isLt
    have b2 : (x 2).val < 256 := (x 2).isLt
    have m1 : (((Rect.unit (s := S1x160x2048) ![0, 80 * (g : ℕ), 256 * (r : ℕ)] S1x64x256.size (inV r g)).emb x) 1).val = 80 * (g : ℕ) + (x 1).val := by
      rw [Rect.emb_apply]; simp
    have m2 : (((Rect.unit (s := S1x160x2048) ![0, 80 * (g : ℕ), 256 * (r : ℕ)] S1x64x256.size (inV r g)).emb x) 2).val = 256 * (r : ℕ) + (x 2).val := by
      rw [Rect.emb_apply]; simp
    refine (congrArg _ (ix3_of (a := 64) (b := 256) x)).trans ?_
    have e : vVal t x0 x1 x3 s r g ⟨(x 1).val, by omega⟩ ⟨(x 2).val, b2⟩ = vTile (64 * (s g : ℕ)) (slV (s g)) (vtR t x0 x1 x3 r) (ix3 (0 : Fin 1) (⟨(x 1).val, b1⟩ : Fin 64) (⟨(x 2).val, b2⟩ : Fin 256)) := by
      unfold vVal
      rw [dif_pos b1]
    refine e.symm.trans ?_
    unfold vOut
    congr 1 <;> apply Fin.ext <;> simp only [rOf, kOf, rrOf, m1, m2] <;> omega

end Cert.Kernel5Ideal.Qkv

end
-- ==== Proof.QkvLeft.lean ====
module

public import proofs.«01_k».proof.Proof.QkvOut

@[expose] public section

set_option maxRecDepth 16384

noncomputable section

open Idealize.ShloMosaic Idealize.ShloMosaic.TcCoe Idealize.SL.Sem

namespace Cert.Kernel5Ideal.Qkv

open Cert.Kernel5Ideal Cert.Kernel5Ideal.Gen Cert.Merge Cert.Qkv

/-! What the point leaves of each output is the function of its blocks. -/

variable (m : (ℓ : Loc nD τ sig) → Buf (Elt Ideal) ℓ) (c : Dev nD) (t : Fin cfg0.N)

theorem left6 : (outsAt0 m c t).1 = qOut t (iblk m c 0 t) (iblk m c 1 t) (iblk m c 2 t) (iblk m c 4 t) (iblk m c 5 t) ![0, 1, 2, 3] := by
  have hc : ∀ y, ∃ p ∈ (runAt c t (iblk m c 0 t) (iblk m c 1 t) (iblk m c 2 t) (iblk m c 3 t) (iblk m c 4 t) (iblk m c 5 t)).1, y ∈ p.1.set := fun y => cover0_A_6 c (grid0.coords t) ..
  have hd : (outsAt0 m c t).1 = VO0_6.read (Elt Ideal) (VO0_6.writes (Elt Ideal) VO0_6.junk (runAt c t (iblk m c 0 t) (iblk m c 1 t) (iblk m c 2 t) (iblk m c 3 t) (iblk m c 4 t) (iblk m c 5 t)).1) := by sl_kernel_rfl
  rw [pieces6] at hc hd
  rw [hd]
  funext y
  rw [View.read_writes_junk_eq_canon]
  exact View.canon_apply_of_pieces (Val := Elt Ideal) (S := S1x2048x512) (e := .bf16) (qOut t (iblk m c 0 t) (iblk m c 1 t) (iblk m c 2 t) (iblk m c 4 t) (iblk m c 5 t) ![0, 1, 2, 3]) _ (qAgree t (iblk m c 0 t) (iblk m c 1 t) (iblk m c 2 t) (iblk m c 4 t) (iblk m c 5 t) _) y (hc y)

theorem left8 : (outsAt0 m c t).2.2.1 = kOut t (iblk m c 0 t) (iblk m c 1 t) (iblk m c 2 t) (iblk m c 4 t) (iblk m c 5 t) 5 := by
  have hc : ∀ y, ∃ p ∈ (runAt c t (iblk m c 0 t) (iblk m c 1 t) (iblk m c 2 t) (iblk m c 3 t) (iblk m c 4 t) (iblk m c 5 t)).2.2.1, y ∈ p.1.set := fun y => cover0_A_8 c (grid0.coords t) ..
  have hd : (outsAt0 m c t).2.2.1 = VO0_8.read (Elt Ideal) (VO0_8.writes (Elt Ideal) VO0_8.junk (runAt c t (iblk m c 0 t) (iblk m c 1 t) (iblk m c 2 t) (iblk m c 3 t) (iblk m c 4 t) (iblk m c 5 t)).2.2.1) := by sl_kernel_rfl
  rw [pieces8] at hc hd
  rw [hd]
  funext y
  rw [View.read_writes_junk_eq_canon]
  exact View.canon_apply_of_pieces (Val := Elt Ideal) (S := S1x2048x128) (e := .bf16) (kOut t (iblk m c 0 t) (iblk m c 1 t) (iblk m c 2 t) (iblk m c 4 t) (iblk m c 5 t) 5) _ (kAgree t (iblk m c 0 t) (iblk m c 1 t) (iblk m c 2 t) (iblk m c 4 t) (iblk m c 5 t) _) y (hc y)

theorem left9 : (outsAt0 m c t).2.2.2.1 = kOut t (iblk m c 0 t) (iblk m c 1 t) (iblk m c 2 t) (iblk m c 4 t) (iblk m c 5 t) 6 := by
  have hc : ∀ y, ∃ p ∈ (runAt c t (iblk m c 0 t) (iblk m c 1 t) (iblk m c 2 t) (iblk m c 3 t) (iblk m c 4 t) (iblk m c 5 t)).2.2.2.1, y ∈ p.1.set := fun y => cover0_A_9 c (grid0.coords t) ..
  have hd : (outsAt0 m c t).2.2.2.1 = VO0_9.read (Elt Ideal) (VO0_9.writes (Elt Ideal) VO0_9.junk (runAt c t (iblk m c 0 t) (iblk m c 1 t) (iblk m c 2 t) (iblk m c 3 t) (iblk m c 4 t) (iblk m c 5 t)).2.2.2.1) := by sl_kernel_rfl
  rw [pieces9] at hc hd
  rw [hd]
  funext y
  rw [View.read_writes_junk_eq_canon]
  exact View.canon_apply_of_pieces (Val := Elt Ideal) (S := S1x2048x128) (e := .bf16) (kOut t (iblk m c 0 t) (iblk m c 1 t) (iblk m c 2 t) (iblk m c 4 t) (iblk m c 5 t) 6) _ (kAgree t (iblk m c 0 t) (iblk m c 1 t) (iblk m c 2 t) (iblk m c 4 t) (iblk m c 5 t) _) y (hc y)

theorem left10 : (outsAt0 m c t).2.2.2.2.1 = qOut t (iblk m c 0 t) (iblk m c 1 t) (iblk m c 2 t) (iblk m c 4 t) (iblk m c 5 t) ![7, 8, 9, 10] := by
  have hc : ∀ y, ∃ p ∈ (runAt c t (iblk m c 0 t) (iblk m c 1 t) (iblk m c 2 t) (iblk m c 3 t) (iblk m c 4 t) (iblk m c 5 t)).2.2.2.2.1, y ∈ p.1.set := fun y => cover0_A_10 c (grid0.coords t) ..
  have hd : (outsAt0 m c t).2.2.2.2.1 = VO0_10.read (Elt Ideal) (VO0_10.writes (Elt Ideal) VO0_10.junk (runAt c t (iblk m c 0 t) (iblk m c 1 t) (iblk m c 2 t) (iblk m c 3 t) (iblk m c 4 t) (iblk m c 5 t)).2.2.2.2.1) := by sl_kernel_rfl
  rw [pieces10] at hc hd
  rw [hd]
  funext y
  rw [View.read_writes_junk_eq_canon]
  exact View.canon_apply_of_pieces (Val := Elt Ideal) (S := S1x2048x512) (e := .bf16) (qOut t (iblk m c 0 t) (iblk m c 1 t) (iblk m c 2 t) (iblk m c 4 t) (iblk m c 5 t) ![7, 8, 9, 10]) _ (qAgree t (iblk m c 0 t) (iblk m c 1 t) (iblk m c 2 t) (iblk m c 4 t) (iblk m c 5 t) _) y (hc y)

theorem left11 : (outsAt0 m c t).2.2.2.2.2.1 = kOut t (iblk m c 0 t) (iblk m c 1 t) (iblk m c 2 t) (iblk m c 4 t) (iblk m c 5 t) 11 := by
  have hc : ∀ y, ∃ p ∈ (runAt c t (iblk m c 0 t) (iblk m c 1 t) (iblk m c 2 t) (iblk m c 3 t) (iblk m c 4 t) (iblk m c 5 t)).2.2.2.2.2.1, y ∈ p.1.set := fun y => cover0_A_11 c (grid0.coords t) ..
  have hd : (outsAt0 m c t).2.2.2.2.2.1 = VO0_11.read (Elt Ideal) (VO0_11.writes (Elt Ideal) VO0_11.junk (runAt c t (iblk m c 0 t) (iblk m c 1 t) (iblk m c 2 t) (iblk m c 3 t) (iblk m c 4 t) (iblk m c 5 t)).2.2.2.2.2.1) := by sl_kernel_rfl
  rw [pieces11] at hc hd
  rw [hd]
  funext y
  rw [View.read_writes_junk_eq_canon]
  exact View.canon_apply_of_pieces (Val := Elt Ideal) (S := S1x2048x128) (e := .bf16) (kOut t (iblk m c 0 t) (iblk m c 1 t) (iblk m c 2 t) (iblk m c 4 t) (iblk m c 5 t) 11) _ (kAgree t (iblk m c 0 t) (iblk m c 1 t) (iblk m c 2 t) (iblk m c 4 t) (iblk m c 5 t) _) y (hc y)

theorem left13 : (outsAt0 m c t).2.2.2.2.2.2.2.1 = vOut t (iblk m c 0 t) (iblk m c 1 t) (iblk m c 3 t) ![0, 1] := by
  have hc : ∀ y, ∃ p ∈ (runAt c t (iblk m c 0 t) (iblk m c 1 t) (iblk m c 2 t) (iblk m c 3 t) (iblk m c 4 t) (iblk m c 5 t)).2.2.2.2.2.2.2.1, y ∈ p.1.set := fun y => cover0_A_13 c (grid0.coords t) ..
  have hd : (outsAt0 m c t).2.2.2.2.2.2.2.1 = VO0_13.read (Elt Ideal) (VO0_13.writes (Elt Ideal) VO0_13.junk (runAt c t (iblk m c 0 t) (iblk m c 1 t) (iblk m c 2 t) (iblk m c 3 t) (iblk m c 4 t) (iblk m c 5 t)).2.2.2.2.2.2.2.1) := by sl_kernel_rfl
  rw [pieces13] at hc hd
  rw [hd]
  funext y
  rw [View.read_writes_junk_eq_canon]
  exact View.canon_apply_of_pieces (Val := Elt Ideal) (S := S1x160x2048) (e := .bf16) (vOut t (iblk m c 0 t) (iblk m c 1 t) (iblk m c 3 t) ![0, 1]) _ (vAgree t (iblk m c 0 t) (iblk m c 1 t) (iblk m c 3 t) _) y (hc y)

theorem left14 : (outsAt0 m c t).2.2.2.2.2.2.2.2.1 = vOut t (iblk m c 0 t) (iblk m c 1 t) (iblk m c 3 t) ![2, 3] := by
  have hc : ∀ y, ∃ p ∈ (runAt c t (iblk m c 0 t) (iblk m c 1 t) (iblk m c 2 t) (iblk m c 3 t) (iblk m c 4 t) (iblk m c 5 t)).2.2.2.2.2.2.2.2.1, y ∈ p.1.set := fun y => cover0_A_14 c (grid0.coords t) ..
  have hd : (outsAt0 m c t).2.2.2.2.2.2.2.2.1 = VO0_14.read (Elt Ideal) (VO0_14.writes (Elt Ideal) VO0_14.junk (runAt c t (iblk m c 0 t) (iblk m c 1 t) (iblk m c 2 t) (iblk m c 3 t) (iblk m c 4 t) (iblk m c 5 t)).2.2.2.2.2.2.2.2.1) := by sl_kernel_rfl
  rw [pieces14] at hc hd
  rw [hd]
  funext y
  rw [View.read_writes_junk_eq_canon]
  exact View.canon_apply_of_pieces (Val := Elt Ideal) (S := S1x160x2048) (e := .bf16) (vOut t (iblk m c 0 t) (iblk m c 1 t) (iblk m c 3 t) ![2, 3]) _ (vAgree t (iblk m c 0 t) (iblk m c 1 t) (iblk m c 3 t) _) y (hc y)

theorem left15 : (outsAt0 m c t).2.2.2.2.2.2.2.2.2.1 = vOut t (iblk m c 0 t) (iblk m c 1 t) (iblk m c 3 t) ![4, 5] := by
  have hc : ∀ y, ∃ p ∈ (runAt c t (iblk m c 0 t) (iblk m c 1 t) (iblk m c 2 t) (iblk m c 3 t) (iblk m c 4 t) (iblk m c 5 t)).2.2.2.2.2.2.2.2.2.1, y ∈ p.1.set := fun y => cover0_A_15 c (grid0.coords t) ..
  have hd : (outsAt0 m c t).2.2.2.2.2.2.2.2.2.1 = VO0_15.read (Elt Ideal) (VO0_15.writes (Elt Ideal) VO0_15.junk (runAt c t (iblk m c 0 t) (iblk m c 1 t) (iblk m c 2 t) (iblk m c 3 t) (iblk m c 4 t) (iblk m c 5 t)).2.2.2.2.2.2.2.2.2.1) := by sl_kernel_rfl
  rw [pieces15] at hc hd
  rw [hd]
  funext y
  rw [View.read_writes_junk_eq_canon]
  exact View.canon_apply_of_pieces (Val := Elt Ideal) (S := S1x160x2048) (e := .bf16) (vOut t (iblk m c 0 t) (iblk m c 1 t) (iblk m c 3 t) ![4, 5]) _ (vAgree t (iblk m c 0 t) (iblk m c 1 t) (iblk m c 3 t) _) y (hc y)

theorem left16 : (outsAt0 m c t).2.2.2.2.2.2.2.2.2.2 = gOut t (iblk m c 0 t) (iblk m c 1 t) (iblk m c 2 t) := by
  have hc : ∀ y, ∃ p ∈ (runAt c t (iblk m c 0 t) (iblk m c 1 t) (iblk m c 2 t) (iblk m c 3 t) (iblk m c 4 t) (iblk m c 5 t)).2.2.2.2.2.2.2.2.2.2.1, y ∈ p.1.set := fun y => cover0_A_16 c (grid0.coords t) ..
  have hd : (outsAt0 m c t).2.2.2.2.2.2.2.2.2.2 = VO0_16.read (Elt Ideal) (VO0_16.writes (Elt Ideal) VO0_16.junk (runAt c t (iblk m c 0 t) (iblk m c 1 t) (iblk m c 2 t) (iblk m c 3 t) (iblk m c 4 t) (iblk m c 5 t)).2.2.2.2.2.2.2.2.2.2.1) := by sl_kernel_rfl
  rw [pieces16] at hc hd
  rw [hd]
  funext y
  rw [View.read_writes_junk_eq_canon]
  exact View.canon_apply_of_pieces (Val := Elt Ideal) (S := S1x2048x128) (e := .f32) (gOut t (iblk m c 0 t) (iblk m c 1 t) (iblk m c 2 t)) _ (gAgree t (iblk m c 0 t) (iblk m c 1 t) (iblk m c 2 t)) y (hc y)

end Cert.Kernel5Ideal.Qkv

end
-- ==== Proof.QkvJoin.lean ====
module

public import proofs.«01_k».proof.Proof.QkvSpec
public import proofs.«01_k».proof.Proof.Gen.Kernel5Ideal.Skeleton
public import Idealize.ShloMosaic.Lib.Pointwise

@[expose] public section

set_option maxRecDepth 16384

noncomputable section

open Idealize.ShloMosaic Idealize.ShloMosaic.TcCoe Idealize.SL.Sem

namespace Cert.Kernel5Ideal.Qkv

open Cert.Kernel5Ideal Cert.Kernel5Ideal.Gen Cert.Qkv

/-! The packed weights, column by column of their parts. -/

variable (A0 : FVec Ideal S1024x512 .bf16) (A1 A2 A3 : FVec Ideal S1024x128 .bf16) (A4 : FVec Ideal S1024x512 .bf16) (A5 A6 : FVec Ideal S1024x128 .bf16) (A7 : FVec Ideal S1024x24 .bf16) (A8 : FVec Ideal S1024x104 .bf16)

/-- The parts of the packed weight side by side. -/
def joined : FVec Ideal S1024x1792 .bf16 :=
  concatenate S1024x1792 1 [⟨S1024x512, A0⟩, ⟨S1024x128, A1⟩, ⟨S1024x128, A2⟩, ⟨S1024x128, A3⟩, ⟨S1024x512, A4⟩, ⟨S1024x128, A5⟩, ⟨S1024x128, A6⟩, ⟨S1024x24, A7⟩, ⟨S1024x104, A8⟩]
    concatenates_S1024x512_S1024x128_S1024x128_S1024x128_S1024x512_S1024x128_S1024x128_S1024x24_S1024x104_S1024x1792_d1

def joinedV : FVec Ideal S384x1024 .bf16 :=
  transpose S384x1024 [1, 0] (concatenate S1024x384 1 [⟨S1024x128, A1⟩, ⟨S1024x128, A2⟩, ⟨S1024x128, A3⟩] concatenates_S1024x128_S1024x128_S1024x128_S1024x384_d1) transposes_S1024x384_S384x1024_1_0

theorem joined_q0 (e : Fin 1024) (l : Fin 512) : joined A0 A1 A2 A3 A4 A5 A6 A7 A8 (ix2 e ⟨0 + l, by omega⟩) = A0 (ix2 e l) := by
  unfold joined
  pointwise
  repeat (first | rw [dif_neg (by omega)] | rw [dif_pos (by omega)])
  all_goals
    refine congrArg _ (congrArg (ix2 e) (Fin.ext ?_))
    simp only []
    omega

theorem joined_ks (e : Fin 1024) (l : Fin 128) : joined A0 A1 A2 A3 A4 A5 A6 A7 A8 (ix2 e ⟨640 + l, by omega⟩) = A2 (ix2 e l) := by
  unfold joined
  pointwise
  repeat (first | rw [dif_neg (by omega)] | rw [dif_pos (by omega)])
  all_goals
    refine congrArg _ (congrArg (ix2 e) (Fin.ext ?_))
    simp only []
    omega

theorem joined_kw (e : Fin 1024) (l : Fin 128) : joined A0 A1 A2 A3 A4 A5 A6 A7 A8 (ix2 e ⟨768 + l, by omega⟩) = A3 (ix2 e l) := by
  unfold joined
  pointwise
  repeat (first | rw [dif_neg (by omega)] | rw [dif_pos (by omega)])
  all_goals
    refine congrArg _ (congrArg (ix2 e) (Fin.ext ?_))
    simp only []
    omega

theorem joined_q1 (e : Fin 1024) (l : Fin 512) : joined A0 A1 A2 A3 A4 A5 A6 A7 A8 (ix2 e ⟨896 + l, by omega⟩) = A4 (ix2 e l) := by
  unfold joined
  pointwise
  repeat (first | rw [dif_neg (by omega)] | rw [dif_pos (by omega)])
  all_goals
    refine congrArg _ (congrArg (ix2 e) (Fin.ext ?_))
    simp only []
    omega

theorem joined_kb (e : Fin 1024) (l : Fin 128) : joined A0 A1 A2 A3 A4 A5 A6 A7 A8 (ix2 e ⟨1408 + l, by omega⟩) = A5 (ix2 e l) := by
  unfold joined
  pointwise
  repeat (first | rw [dif_neg (by omega)] | rw [dif_pos (by omega)])
  all_goals
    refine congrArg _ (congrArg (ix2 e) (Fin.ext ?_))
    simp only []
    omega

theorem joined_gate (e : Fin 1024) (l : Fin 24) : joined A0 A1 A2 A3 A4 A5 A6 A7 A8 (ix2 e ⟨1664 + l, by omega⟩) = A7 (ix2 e l) := by
  unfold joined
  pointwise
  repeat (first | rw [dif_neg (by omega)] | rw [dif_pos (by omega)])
  all_goals
    refine congrArg _ (congrArg (ix2 e) (Fin.ext ?_))
    simp only []
    omega

theorem joined_zero (e : Fin 1024) (l : Fin 104) : joined A0 A1 A2 A3 A4 A5 A6 A7 A8 (ix2 e ⟨1688 + l, by omega⟩) = A8 (ix2 e l) := by
  unfold joined
  pointwise
  repeat (first | rw [dif_neg (by omega)] | rw [dif_pos (by omega)])
  all_goals
    refine congrArg _ (congrArg (ix2 e) (Fin.ext ?_))
    simp only []
    omega

theorem joinedV_0 (e : Fin 1024) (l : Fin 128) : joinedV A1 A2 A3 (ix2 ⟨0 + l, by omega⟩ e) = A1 (ix2 e l) := by
  unfold joinedV
  pointwise
  repeat (first | rw [dif_neg (by omega)] | rw [dif_pos (by omega)])
  all_goals
    refine congrArg _ (congrArg (ix2 e) (Fin.ext ?_))
    simp only []
    omega

theorem joinedV_1 (e : Fin 1024) (l : Fin 128) : joinedV A1 A2 A3 (ix2 ⟨128 + l, by omega⟩ e) = A2 (ix2 e l) := by
  unfold joinedV
  pointwise
  repeat (first | rw [dif_neg (by omega)] | rw [dif_pos (by omega)])
  all_goals
    refine congrArg _ (congrArg (ix2 e) (Fin.ext ?_))
    simp only []
    omega

theorem joinedV_2 (e : Fin 1024) (l : Fin 128) : joinedV A1 A2 A3 (ix2 ⟨256 + l, by omega⟩ e) = A3 (ix2 e l) := by
  unfold joinedV
  pointwise
  repeat (first | rw [dif_neg (by omega)] | rw [dif_pos (by omega)])
  all_goals
    refine congrArg _ (congrArg (ix2 e) (Fin.ext ?_))
    simp only []
    omega

end Cert.Kernel5Ideal.Qkv

end
-- ==== Proof.QkvHost.lean ====
module

public import proofs.«01_k».proof.Proof.QkvJoin
public import proofs.«01_k».proof.Proof.Gen.Kernel5Ideal.Frame
public import Idealize.ShloMosaic.Lib.Pipeline.ValueKit

@[expose] public section

set_option maxRecDepth 16384

noncomputable section

open Idealize.ShloMosaic Idealize.ShloMosaic.TcCoe Idealize.SL.Sem

namespace Cert.Kernel5Ideal.Qkv

open Cert.Kernel5Ideal Cert.Kernel5Ideal.Gen Cert.Qkv

/-! The arrays the region reads. -/

variable (m : (ℓ : Loc nD τ sig) → Buf (Elt Ideal) ℓ) (c : Dev nD)

theorem x_at (b : Fin 16) (n : Fin 2048) (e : Fin 1024) :
    V m c main_arg0 (ix3 b n e) = m ((c : Thread nD τ).loc main_arg0) (ix3 b n e) := by
  entry_read
  rfl

theorem mod_at (b : Fin 16) (i : Fin 3) (e : Fin 1024) :
    V m c main_v50 (ix3 b i e) = m ((c : Thread nD τ).loc main_arg1) (ix2 b ⟨1024 * (i : ℕ) + e, by omega⟩) := by
  entry_read
  pointwise
  refine congrArg (m ((c : Thread nD τ).loc main_arg1)) ?_
  congr 1 <;> apply Fin.ext <;> simp only [] <;> omega

theorem cos_at (i : S16x512x128.Idx) : V m c main_arg3 i = m ((c : Thread nD τ).loc main_arg3) i := by
  entry_read
  try rfl

theorem sin_at (i : S16x512x128.Idx) : V m c main_arg4 i = m ((c : Thread nD τ).loc main_arg4) i := by
  entry_read
  try rfl

/-! The columns of keys and queries, their halves apart; the columns of the queries carry the factor of an eighth. -/

theorem v18_at (e : Fin 1024) (h g : Fin 2) (d : Fin 32) :
    V m c main_v18 (ix2 e (kcol h g d)) = m ((c : Thread nD τ).loc main_arg2) (ix2 e ⟨768 + (64 * (g : ℕ) + 32 * h + d), by omega⟩) := by
  unfold kcol
  entry_read
  pointwise
  refine congrArg (m ((c : Thread nD τ).loc main_arg2)) ?_
  congr 1 <;> apply Fin.ext <;> simp only [] <;> omega

theorem v23_at (e : Fin 1024) (h g : Fin 2) (d : Fin 32) :
    V m c main_v23 (ix2 e (kcol h g d)) = m ((c : Thread nD τ).loc main_arg2) (ix2 e ⟨1024 + (64 * (g : ℕ) + 32 * h + d), by omega⟩) := by
  unfold kcol
  entry_read
  pointwise
  refine congrArg (m ((c : Thread nD τ).loc main_arg2)) ?_
  congr 1 <;> apply Fin.ext <;> simp only [] <;> omega

theorem v35_at (e : Fin 1024) (h g : Fin 2) (d : Fin 32) :
    V m c main_v35 (ix2 e (kcol h g d)) = m ((c : Thread nD τ).loc main_arg2) (ix2 e ⟨2328 + (64 * (g : ℕ) + 32 * h + d), by omega⟩) := by
  unfold kcol
  entry_read
  pointwise
  refine congrArg (m ((c : Thread nD τ).loc main_arg2)) ?_
  congr 1 <;> apply Fin.ext <;> simp only [] <;> omega

theorem v8_at (e : Fin 1024) (j : Fin 4) (h g : Fin 2) (d : Fin 32) :
    V m c main_v8 (ix2 e (qcol j h g d)) = (show EReal from m ((c : Thread nD τ).loc main_arg2) (ix2 e ⟨0 + (64 * (4 * (g : ℕ) + j) + 32 * h + d), by omega⟩)) * (Ideal.ofBits .bf16 0x3E00#16 : EReal) := by
  unfold qcol
  entry_read
  pointwise
  refine congrArg₂ _ (congrArg (m ((c : Thread nD τ).loc main_arg2)) ?_) rfl
  congr 1 <;> apply Fin.ext <;> simp only [] <;> omega

theorem v30_at (e : Fin 1024) (j : Fin 4) (h g : Fin 2) (d : Fin 32) :
    V m c main_v30 (ix2 e (qcol j h g d)) = (show EReal from m ((c : Thread nD τ).loc main_arg2) (ix2 e ⟨1816 + (64 * (4 * (g : ℕ) + j) + 32 * h + d), by omega⟩)) * (Ideal.ofBits .bf16 0x3E00#16 : EReal) := by
  unfold qcol
  entry_read
  pointwise
  refine congrArg₂ _ (congrArg (m ((c : Thread nD τ).loc main_arg2)) ?_) rfl
  congr 1 <;> apply Fin.ext <;> simp only [] <;> omega

/-! The columns of the gates and of the values. -/

theorem v39_at (e : Fin 1024) (l : Fin 24) :
    V m c main_v39 (ix2 e l) = m ((c : Thread nD τ).loc main_arg2) (ix2 e ⟨1280 + l, by omega⟩) := by
  entry_read
  pointwise

theorem v42_at (e : Fin 1024) (l : Fin 128) :
    V m c main_v42 (ix2 e l) = m ((c : Thread nD τ).loc main_arg2) (ix2 e ⟨896 + l, by omega⟩) := by
  entry_read
  pointwise

theorem v44_at (e : Fin 1024) (l : Fin 128) :
    V m c main_v44 (ix2 e l) = m ((c : Thread nD τ).loc main_arg2) (ix2 e ⟨1152 + l, by omega⟩) := by
  entry_read
  pointwise

theorem v46_at (e : Fin 1024) (l : Fin 128) :
    V m c main_v46 (ix2 e l) = m ((c : Thread nD τ).loc main_arg2) (ix2 e ⟨2456 + l, by omega⟩) := by
  entry_read
  pointwise

theorem v40_at (e : Fin 1024) (l : Fin 104) : V m c main_v40 (ix2 e l) = Ideal.ofBits .bf16 0#16 := by
  entry_read
  pointwise

theorem v49_eq : V m c main_v49 = joinedV (V m c main_v42) (V m c main_v44) (V m c main_v46) := by sl_kernel_rfl

theorem v47_eq : V m c main_v47 = joined (V m c main_v8) (V m c main_v13) (V m c main_v18) (V m c main_v23) (V m c main_v30) (V m c main_v35) (V m c main_v37) (V m c main_v39) (V m c main_v40) := by sl_kernel_rfl

end Cert.Kernel5Ideal.Qkv

end
-- ==== Proof.QkvRef.lean ====
module

public import proofs.«01_k».proof.Proof.Gen.Reference5Ideal.Read
public import proofs.«01_k».proof.Proof.MergeSpec
public import proofs.«01_k».proof.Proof.QkvSpec

@[expose] public section

set_option maxRecDepth 16384

noncomputable section

open Idealize.ShloMosaic Idealize.ShloMosaic.TcCoe Idealize.SL.Sem

namespace Cert.Reference5Ideal.Qkv

open Cert.Reference5Ideal Cert.Reference5Ideal.Gen Cert.Reference5Ideal.Read Cert.Merge Cert.Qkv

variable (x0 : FVec Ideal S16x2048x1024 .f32) (x1 : FVec Ideal S16x3072 .f32) (x2 : FVec Ideal S1024x5144 .f32) (x3 x4 : FVec Ideal S16x512x128 .f32)

/-- A column of the modulation: the parts lie one behind another. -/
def part (k : ℕ) (hk : k < 3) (e : Fin 1024) : Fin 3072 := ⟨1024 * k + e, by omega⟩

theorem v6_at (b : Fin 16) (n : Fin 2048) : val_main_v6 (F := Ideal) x0 (ix3 b n (0 : Fin 1)) = mean (fun e => x0 (ix3 b n e)) := by
  unfold mean
  pointwise [val_main_v6, val_main_v5, val_main_v4, val_main_v3, val_main_cst, val_main_cst_0]
  done

theorem v8_at (b : Fin 16) (n : Fin 2048) (e : Fin 1024) : val_main_v8 (F := Ideal) x0 (ix3 b n e) = centred (fun e => x0 (ix3 b n e)) e := by
  unfold centred
  rw [← v6_at]
  unfold val_main_v8 val_main_v7
  generalize val_main_v6 (F := Ideal) x0 = M
  pointwise []
  done

theorem v15_at (b : Fin 16) (n : Fin 2048) (e : Fin 1024) : val_main_v15 (F := Ideal) x0 (ix3 b n e) = centred (fun e => x0 (ix3 b n e)) e := by
  unfold centred
  rw [← v6_at]
  unfold val_main_v15 val_main_v14
  generalize val_main_v6 (F := Ideal) x0 = M
  pointwise []
  done

theorem v13_at (b : Fin 16) (n : Fin 2048) : val_main_v13 (F := Ideal) x0 (ix3 b n (0 : Fin 1)) =
    mean (fun e => centred (fun e => x0 (ix3 b n e)) e * centred (fun e => x0 (ix3 b n e)) e) := by
  simp only [← v8_at]
  unfold mean val_main_v13 val_main_v11 val_main_v10 val_main_v9
  generalize val_main_v8 (F := Ideal) x0 = M
  pointwise [val_main_v12, val_main_cst_1, val_main_cst_2]
  done

theorem v20_at (b : Fin 16) (n : Fin 2048) (e : Fin 1024) : val_main_v20 (F := Ideal) x0 (ix3 b n e) = normed (fun e => x0 (ix3 b n e)) e := by
  unfold normed
  rw [← v13_at, ← v15_at]
  unfold val_main_v20 val_main_v19 val_main_v18 val_main_v17
  generalize val_main_v13 (F := Ideal) x0 = M
  generalize val_main_v15 (F := Ideal) x0 = C
  pointwise [val_main_v16, val_main_cst_3]
  done

/-- The modulated normalised row of a token. -/
def u (b : Fin 16) (n : Fin 2048) : Fin 1024 → EReal :=
  modu (fun e => x0 (ix3 b n e)) (fun e => x1 (ix2 b (part 0 (by omega) e))) (fun e => x1 (ix2 b (part 1 (by omega) e)))

theorem v28_at (b : Fin 16) (n : Fin 2048) (e : Fin 1024) : val_main_v28 (F := Ideal) x0 x1 (ix3 b n e) = u x0 x1 b n e := by
  unfold u modu part
  rw [← v20_at]
  unfold val_main_v28 val_main_v25
  generalize val_main_v20 (F := Ideal) x0 = M
  pointwise [val_main_v24, val_main_v23, val_main_v22, val_main_v21, val_main_v26, val_main_v27, val_main_v0, val_main_v1, val_main_cst_4]
  done

theorem v29_at (b : Fin 16) (n : Fin 2048) (k : Fin 5144) :
    val_main_v29 (F := Ideal) x0 x1 x2 (ix3 b n k) = proj (u x0 x1 b n) (fun e => x2 (ix2 e k)) := by
  have h : u x0 x1 b n = fun e => val_main_v28 (F := Ideal) x0 x1 (ix3 b n e) := funext fun e => (v28_at x0 x1 b n e).symm
  rw [h]
  unfold proj val_main_v29
  generalize val_main_v28 (F := Ideal) x0 x1 = M
  pointwise []
  done

theorem v32_at (b : Fin 16) (r : Fin 8) (k : Fin 4) (rr : Fin 64) (d : Fin 32) :
    val_main_v32 (F := Ideal) x3 (ix4 b (tok r k rr) (0 : Fin 1) d) = x3 (ix3 b (trow r rr) (tcol k d)) := by
  unfold tok trow tcol
  pointwise [val_main_v32, val_main_v31, val_main_v30]
  refine congrArg x3 ?_
  congr 1 <;> apply Fin.ext <;> simp only [] <;> omega

theorem v35_at (b : Fin 16) (r : Fin 8) (k : Fin 4) (rr : Fin 64) (d : Fin 32) :
    val_main_v35 (F := Ideal) x4 (ix4 b (tok r k rr) (0 : Fin 1) d) = x4 (ix3 b (trow r rr) (tcol k d)) := v32_at x4 b r k rr d

section
variable (o : ℕ) (M : FVec Ideal S16x2048x5144 .f32) (C S : FVec Ideal S16x2048x1x32 .f32)

/-- The heads of the queries times an eighth. -/
def qHeads (hs : S16x2048x5144.Slices ![0, 0, o] S16x2048x512) : FVec Ideal S16x2048x8x64 .f32 :=
  mulf (shapeCast S16x2048x8x64 (extractStridedSlice S16x2048x512 ![0, 0, o] M hs) shapeCasts_S16x2048x512_S16x2048x8x64)
    (broadcastInDim S16x2048x8x64 ![] bcast_S_S16x2048x8x64 (constant S_ .f32 0x3E000000#32))

/-- The rotation of the heads of the queries. -/
def qRope (X : FVec Ideal S16x2048x8x64 .f32) : FVec Ideal S16x2048x8x64 .f32 :=
  concatenate S16x2048x8x64 3
    [⟨S16x2048x8x32, subf
        (mulf (extractStridedSlice S16x2048x8x32 ![0, 0, 0, 0] X slices_S16x2048x8x64_S16x2048x8x32_0_0_0_0) (broadcastInDim S16x2048x8x32 ![0, 1, 2, 3] bcast_S16x2048x1x32_S16x2048x8x32_0_1_2_3 C))
        (mulf (extractStridedSlice S16x2048x8x32 ![0, 0, 0, 32] X slices_S16x2048x8x64_S16x2048x8x32_0_0_0_32) (broadcastInDim S16x2048x8x32 ![0, 1, 2, 3] bcast_S16x2048x1x32_S16x2048x8x32_0_1_2_3 S))⟩,
     ⟨S16x2048x8x32, addf
        (mulf (extractStridedSlice S16x2048x8x32 ![0, 0, 0, 32] X slices_S16x2048x8x64_S16x2048x8x32_0_0_0_32) (broadcastInDim S16x2048x8x32 ![0, 1, 2, 3] bcast_S16x2048x1x32_S16x2048x8x32_0_1_2_3 C))
        (mulf (extractStridedSlice S16x2048x8x32 ![0, 0, 0, 0] X slices_S16x2048x8x64_S16x2048x8x32_0_0_0_0) (broadcastInDim S16x2048x8x32 ![0, 1, 2, 3] bcast_S16x2048x1x32_S16x2048x8x32_0_1_2_3 S))⟩]
    concatenates_S16x2048x8x32_S16x2048x8x32_S16x2048x8x64_d3

/-- The queries over the logarithm of two, their halves apart. -/
def qLay (Y : FVec Ideal S16x2048x8x64 .f32) : FVec Ideal S16x2048x512 .bf16 :=
  truncf .bf16 (shapeCast S16x2048x512 (transpose S16x2048x4x2x2x32 [0, 1, 3, 4, 2, 5]
    (shapeCast S16x2048x2x4x2x32 (Host.divf Y (broadcastInDim S16x2048x8x64 ![] bcast_S_S16x2048x8x64 (Host.log (constant S_ .f32 0x40000000#32)))) shapeCasts_S16x2048x8x64_S16x2048x2x4x2x32)
    transposes_S16x2048x2x4x2x32_S16x2048x4x2x2x32_0_1_3_4_2_5) shapeCasts_S16x2048x4x2x2x32_S16x2048x512) bitsLt_bf16_f32

theorem qHeads_at (hs : S16x2048x5144.Slices ![0, 0, o] S16x2048x512) (ho : o + 512 ≤ 5144) (b : Fin 16) (n : Fin 2048) (e : Fin 8) (d : Fin 64) :
    qHeads o M hs (ix4 b n e d) = M (ix3 b n ⟨o + (64 * (e : ℕ) + d), by omega⟩) * Ideal.ofBits .f32 0x3E000000#32 := by
  unfold qHeads
  pointwise
  refine congrArg (· * Ideal.ofBits .f32 0x3E000000#32) (congrArg M ?_)
  congr 1 <;> apply Fin.ext <;> simp only [] <;> omega

theorem qRope_at (X : FVec Ideal S16x2048x8x64 .f32) (b : Fin 16) (n : Fin 2048) (e : Fin 8) (h : Fin 2) (d : Fin 32) :
    qRope C S X (ix4 b n e ⟨32 * (h : ℕ) + d, by omega⟩) =
      turned h (X (ix4 b n e ⟨d, by omega⟩)) (X (ix4 b n e ⟨32 + d, by omega⟩)) (C (ix4 b n (0 : Fin 1) d)) (S (ix4 b n (0 : Fin 1) d)) := by
  unfold qRope turned
  rcases two h with rfl | rfl
  · rw [if_pos rfl]
    pointwise
  · rw [if_neg (by decide)]
    pointwise

theorem qLay_at (Y : FVec Ideal S16x2048x8x64 .f32) (b : Fin 16) (n : Fin 2048) (j : Fin 4) (h g : Fin 2) (d : Fin 32) :
    qLay Y (ix3 b n (qcol j h g d)) =
      Ideal.div (Y (ix4 b n ⟨4 * (g : ℕ) + j, by omega⟩ ⟨32 * (h : ℕ) + d, by omega⟩)) (Ideal.log (Ideal.ofBits .f32 0x40000000#32)) := by
  unfold qLay qcol
  pointwise
  refine congrArg (Ideal.div · _) (congrArg Y ?_)
  congr 1 <;> apply Fin.ext <;> simp only [] <;> omega

/-- The heads of the keys. -/
def kHeads (hs : S16x2048x5144.Slices ![0, 0, o] S16x2048x128) : FVec Ideal S16x2048x2x64 .f32 :=
  shapeCast S16x2048x2x64 (extractStridedSlice S16x2048x128 ![0, 0, o] M hs) shapeCasts_S16x2048x128_S16x2048x2x64

/-- The rotation of the heads of the keys. -/
def kRope (X : FVec Ideal S16x2048x2x64 .f32) : FVec Ideal S16x2048x2x64 .f32 :=
  concatenate S16x2048x2x64 3
    [⟨S16x2048x2x32, subf
        (mulf (extractStridedSlice S16x2048x2x32 ![0, 0, 0, 0] X slices_S16x2048x2x64_S16x2048x2x32_0_0_0_0) (broadcastInDim S16x2048x2x32 ![0, 1, 2, 3] bcast_S16x2048x1x32_S16x2048x2x32_0_1_2_3 C))
        (mulf (extractStridedSlice S16x2048x2x32 ![0, 0, 0, 32] X slices_S16x2048x2x64_S16x2048x2x32_0_0_0_32) (broadcastInDim S16x2048x2x32 ![0, 1, 2, 3] bcast_S16x2048x1x32_S16x2048x2x32_0_1_2_3 S))⟩,
     ⟨S16x2048x2x32, addf
        (mulf (extractStridedSlice S16x2048x2x32 ![0, 0, 0, 32] X slices_S16x2048x2x64_S16x2048x2x32_0_0_0_32) (broadcastInDim S16x2048x2x32 ![0, 1, 2, 3] bcast_S16x2048x1x32_S16x2048x2x32_0_1_2_3 C))
        (mulf (extractStridedSlice S16x2048x2x32 ![0, 0, 0, 0] X slices_S16x2048x2x64_S16x2048x2x32_0_0_0_0) (broadcastInDim S16x2048x2x32 ![0, 1, 2, 3] bcast_S16x2048x1x32_S16x2048x2x32_0_1_2_3 S))⟩]
    concatenates_S16x2048x2x32_S16x2048x2x32_S16x2048x2x64_d3

/-- The keys, their halves apart. -/
def kLay (Y : FVec Ideal S16x2048x2x64 .f32) : FVec Ideal S16x2048x128 .bf16 :=
  truncf .bf16 (shapeCast S16x2048x128 (transpose S16x2048x2x2x32 [0, 1, 3, 2, 4]
    (shapeCast S16x2048x2x2x32 Y shapeCasts_S16x2048x2x64_S16x2048x2x2x32)
    transposes_S16x2048x2x2x32_S16x2048x2x2x32_0_1_3_2_4) shapeCasts_S16x2048x2x2x32_S16x2048x128) bitsLt_bf16_f32

theorem kHeads_at (hs : S16x2048x5144.Slices ![0, 0, o] S16x2048x128) (ho : o + 128 ≤ 5144) (b : Fin 16) (n : Fin 2048) (e : Fin 2) (d : Fin 64) :
    kHeads o M hs (ix4 b n e d) = M (ix3 b n ⟨o + (64 * (e : ℕ) + d), by omega⟩) := by
  unfold kHeads
  pointwise
  refine congrArg M ?_
  congr 1 <;> apply Fin.ext <;> simp only [] <;> omega

theorem kRope_at (X : FVec Ideal S16x2048x2x64 .f32) (b : Fin 16) (n : Fin 2048) (e : Fin 2) (h : Fin 2) (d : Fin 32) :
    kRope C S X (ix4 b n e ⟨32 * (h : ℕ) + d, by omega⟩) =
      turned h (X (ix4 b n e ⟨d, by omega⟩)) (X (ix4 b n e ⟨32 + d, by omega⟩)) (C (ix4 b n (0 : Fin 1) d)) (S (ix4 b n (0 : Fin 1) d)) := by
  unfold kRope turned
  rcases two h with rfl | rfl
  · rw [if_pos rfl]
    pointwise
  · rw [if_neg (by decide)]
    pointwise

theorem kLay_at (Y : FVec Ideal S16x2048x2x64 .f32) (b : Fin 16) (n : Fin 2048) (h g : Fin 2) (d : Fin 32) :
    kLay Y (ix3 b n (kcol h g d)) = Y (ix4 b n g ⟨32 * (h : ℕ) + d, by omega⟩) := by
  unfold kLay kcol
  pointwise
  refine congrArg Y ?_
  congr 1 <;> apply Fin.ext <;> simp only [] <;> omega

/-- The values by their numbers, rows of ones beneath. -/
def vLay (hs : S16x2048x5144.Slices ![0, 0, o] S16x2048x128) : FVec Ideal S16x160x2048 .bf16 :=
  truncf .bf16 (shapeCast S16x160x2048 (concatenate S16x2x80x2048 2
    [⟨S16x2x64x2048, transpose S16x2x64x2048 [0, 2, 3, 1] (kHeads o M hs) transposes_S16x2048x2x64_S16x2x64x2048_0_2_3_1⟩,
     ⟨S16x2x16x2048, broadcastInDim S16x2x16x2048 ![] bcast_S_S16x2x16x2048 (constant S_ .f32 0x3F800000#32)⟩]
    concatenates_S16x2x64x2048_S16x2x16x2048_S16x2x80x2048_d2) shapeCasts_S16x2x80x2048_S16x160x2048) bitsLt_bf16_f32

theorem vLay_at (hs : S16x2048x5144.Slices ![0, 0, o] S16x2048x128) (ho : o + 128 ≤ 5144) (b : Fin 16) (n : Fin 2048) (g : Fin 2) (a : Fin 64) :
    vLay o M hs (ix3 b ⟨80 * (g : ℕ) + a, by omega⟩ n) = M (ix3 b n ⟨o + (64 * (g : ℕ) + a), by omega⟩) := by
  rw [← kHeads_at o M hs ho]
  unfold vLay
  generalize kHeads o M hs = X
  pointwise
  rw [dif_pos (by omega)]
  refine congrArg X ?_
  congr 1 <;> apply Fin.ext <;> simp only [] <;> omega

theorem vLay_one (hs : S16x2048x5144.Slices ![0, 0, o] S16x2048x128) (b : Fin 16) (n : Fin 2048) (g : Fin 2) (a : Fin 16) :
    vLay o M hs (ix3 b ⟨80 * (g : ℕ) + (64 + a), by omega⟩ n) = Ideal.ofBits .f32 0x3F800000#32 := by
  unfold vLay
  generalize kHeads o M hs = X
  pointwise
  rw [dif_neg (by omega)]

end

/-- The results are these of the projection. -/
theorem v60_eq : val_main_v60 (F := Ideal) x0 x1 x2 x3 x4 =
    qLay (qRope (val_main_v32 (F := Ideal) x3) (val_main_v35 (F := Ideal) x4) (qHeads 0 (val_main_v29 (F := Ideal) x0 x1 x2) slices_S16x2048x5144_S16x2048x512_0_0_0)) := rfl

theorem v123_eq : val_main_v123 (F := Ideal) x0 x1 x2 x3 x4 =
    qLay (qRope (val_main_v32 (F := Ideal) x3) (val_main_v35 (F := Ideal) x4) (qHeads 1816 (val_main_v29 (F := Ideal) x0 x1 x2) slices_S16x2048x5144_S16x2048x512_0_0_1816)) := rfl

theorem v79_eq : val_main_v79 (F := Ideal) x0 x1 x2 x3 x4 =
    kLay (kRope (val_main_v32 (F := Ideal) x3) (val_main_v35 (F := Ideal) x4) (kHeads 768 (val_main_v29 (F := Ideal) x0 x1 x2) slices_S16x2048x5144_S16x2048x128_0_0_768)) := rfl

theorem v98_eq : val_main_v98 (F := Ideal) x0 x1 x2 x3 x4 =
    kLay (kRope (val_main_v32 (F := Ideal) x3) (val_main_v35 (F := Ideal) x4) (kHeads 1024 (val_main_v29 (F := Ideal) x0 x1 x2) slices_S16x2048x5144_S16x2048x128_0_0_1024)) := rfl

theorem v142_eq : val_main_v142 (F := Ideal) x0 x1 x2 x3 x4 =
    kLay (kRope (val_main_v32 (F := Ideal) x3) (val_main_v35 (F := Ideal) x4) (kHeads 2328 (val_main_v29 (F := Ideal) x0 x1 x2) slices_S16x2048x5144_S16x2048x128_0_0_2328)) := rfl

theorem v149_eq : val_main_v149 (F := Ideal) x0 x1 x2 = vLay 896 (val_main_v29 (F := Ideal) x0 x1 x2) slices_S16x2048x5144_S16x2048x128_0_0_896 := rfl

theorem v156_eq : val_main_v156 (F := Ideal) x0 x1 x2 = vLay 1152 (val_main_v29 (F := Ideal) x0 x1 x2) slices_S16x2048x5144_S16x2048x128_0_0_1152 := rfl

theorem v163_eq : val_main_v163 (F := Ideal) x0 x1 x2 = vLay 2456 (val_main_v29 (F := Ideal) x0 x1 x2) slices_S16x2048x5144_S16x2048x128_0_0_2456 := rfl

end Cert.Reference5Ideal.Qkv

end
-- ==== Proof.QkvRead.lean ====
module

public import proofs.«01_k».proof.Proof.QkvLeft
public import proofs.«01_k».proof.Proof.QkvHost
public import proofs.«01_k».proof.Proof.QkvRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel5Ideal.Qkv

open Cert.Kernel5Ideal Cert.Kernel5Ideal.Gen Cert.Merge Cert.Qkv

/-! What a point reads of its blocks, and the blocks of the arguments. -/

section
variable (t : Fin cfg0.N) (x0 : Vec Ideal S1x2048x1024 .f32) (x1 : Vec Ideal S1x3x1024 .f32) (x2 : Vec Ideal S1024x1792 .bf16) (x3 : Vec Ideal S384x1024 .bf16)
  (x4 x5 : Vec Ideal S1x512x128 .f32)

theorem xR_at (r : Fin 8) (q : Fin 256) (e : Fin 1024) : xR t x0 r (ix3 (0 : Fin 1) q e) = x0 (ix3 (0 : Fin 1) ⟨256 * (r : ℕ) + q, by omega⟩ e) := by
  unfold xR
  rw [View.readAt_eq_ld, Memref.IsWhole.read_unread]
  pointwise

theorem mR_at (i : Fin 3) (e : Fin 1024) : mR t x1 i (ix3 (0 : Fin 1) (0 : Fin 1) e) = x1 (ix3 (0 : Fin 1) i e) := by
  unfold mR
  rw [View.readAt_eq_ld, Memref.IsWhole.read_unread]
  pointwise

theorem wR_at (e : Fin 1024) (p : Fin 1792) : wR t x2 (ix2 e p) = x2 (ix2 e p) := by
  unfold wR
  rw [View.readAt_eq_ld, Memref.IsWhole.read_unread]
  pointwise

theorem wvR_at (p : Fin 384) (e : Fin 1024) : wvR t x3 (ix2 p e) = x3 (ix2 p e) := by
  unfold wvR
  rw [View.readAt_eq_ld, Memref.IsWhole.read_unread]
  pointwise

theorem coR_at (r : Fin 8) (k : Fin 4) (rr : Fin 64) (d : Fin 32) : coR t x4 r k (ix3 (0 : Fin 1) rr d) = x4 (ix3 (0 : Fin 1) (trow r rr) (tcol k d)) := by
  unfold coR trow tcol
  rw [View.readAt_eq_ld, Memref.IsWhole.read_unread]
  pointwise

theorem siR_at (r : Fin 8) (k : Fin 4) (rr : Fin 64) (d : Fin 32) : siR t x5 r k (ix3 (0 : Fin 1) rr d) = x5 (ix3 (0 : Fin 1) (trow r rr) (tcol k d)) := by
  unfold siR trow tcol
  rw [View.readAt_eq_ld, Memref.IsWhole.read_unread]
  pointwise

/-- The modulated row of a token of a block. -/
def rowU (n : Fin 2048) : Fin 1024 → EReal :=
  modu (fun e => x0 (ix3 (0 : Fin 1) n e)) (fun e => x1 (ix3 (0 : Fin 1) (0 : Fin 3) e)) (fun e => x1 (ix3 (0 : Fin 1) (1 : Fin 3) e))

theorem accR_at (r : Fin 8) (q : Fin 256) (p : Fin 1792) :
    accR t x0 x1 x2 r (ix2 q p) = proj (rowU x0 x1 ⟨256 * (r : ℕ) + q, by omega⟩) (fun e => x2 (ix2 e p)) := by
  unfold accR
  rw [acc_at]
  simp only [xR_at, mR_at, wR_at]
  rfl

theorem vtR_at (r : Fin 8) (q : Fin 256) (p : Fin 384) :
    vtR t x0 x1 x3 r (ix2 p q) = proj (rowU x0 x1 ⟨256 * (r : ℕ) + q, by omega⟩) (fun e => x3 (ix2 p e)) := by
  unfold vtR
  rw [vt_at]
  simp only [xR_at, mR_at, wvR_at]
  unfold proj rowU
  exact Finset.sum_congr rfl fun e _ => mul_comm _ _

end

variable (m : (ℓ : Loc nD τ sig) → Buf (Elt Ideal) ℓ) (c : Dev nD)

theorem idx0 : ∀ t : Fin cfg0.N, win0_0.index t = ![t.val, 0, 0] :=
  (by decide +kernel : ∀ t : Fin grid0.N, win0_0.index t = ![t.val, 0, 0])
theorem idx1 : ∀ t : Fin cfg0.N, win0_1.index t = ![t.val, 0, 0] :=
  (by decide +kernel : ∀ t : Fin grid0.N, win0_1.index t = ![t.val, 0, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0] :=
  (by decide +kernel : ∀ t : Fin grid0.N, win0_3.index t = ![0, 0])
theorem idx4 : ∀ t : Fin cfg0.N, win0_4.index t = ![t.val, 0, 0] :=
  (by decide +kernel : ∀ t : Fin grid0.N, win0_4.index t = ![t.val, 0, 0])
theorem idx5 : ∀ t : Fin cfg0.N, win0_5.index t = ![t.val, 0, 0] :=
  (by decide +kernel : ∀ t : Fin grid0.N, win0_5.index t = ![t.val, 0, 0])
theorem idx6 : ∀ t : Fin cfg0.N, win0_6.index t = ![t.val, 0, 0] :=
  (by decide +kernel : ∀ t : Fin grid0.N, win0_6.index t = ![t.val, 0, 0])
theorem idx8 : ∀ t : Fin cfg0.N, win0_8.index t = ![t.val, 0, 0] :=
  (by decide +kernel : ∀ t : Fin grid0.N, win0_8.index t = ![t.val, 0, 0])
theorem idx9 : ∀ t : Fin cfg0.N, win0_9.index t = ![t.val, 0, 0] :=
  (by decide +kernel : ∀ t : Fin grid0.N, win0_9.index t = ![t.val, 0, 0])
theorem idx10 : ∀ t : Fin cfg0.N, win0_10.index t = ![t.val, 0, 0] :=
  (by decide +kernel : ∀ t : Fin grid0.N, win0_10.index t = ![t.val, 0, 0])
theorem idx11 : ∀ t : Fin cfg0.N, win0_11.index t = ![t.val, 0, 0] :=
  (by decide +kernel : ∀ t : Fin grid0.N, win0_11.index t = ![t.val, 0, 0])
theorem idx13 : ∀ t : Fin cfg0.N, win0_13.index t = ![t.val, 0, 0] :=
  (by decide +kernel : ∀ t : Fin grid0.N, win0_13.index t = ![t.val, 0, 0])
theorem idx14 : ∀ t : Fin cfg0.N, win0_14.index t = ![t.val, 0, 0] :=
  (by decide +kernel : ∀ t : Fin grid0.N, win0_14.index t = ![t.val, 0, 0])
theorem idx15 : ∀ t : Fin cfg0.N, win0_15.index t = ![t.val, 0, 0] :=
  (by decide +kernel : ∀ t : Fin grid0.N, win0_15.index t = ![t.val, 0, 0])
theorem idx16 : ∀ t : Fin cfg0.N, win0_16.index t = ![t.val, 0, 0] :=
  (by decide +kernel : ∀ t : Fin grid0.N, win0_16.index t = ![t.val, 0, 0])

variable (t : Fin cfg0.N) (b : Fin 16) (hb : b.val = t.val)

include hb in
theorem iblk0 (n : Fin 2048) (e : Fin 1024) : iblk m c 0 t (ix3 (0 : Fin 1) n e) = V m c main_arg0 (ix3 b n e) := by
  blk_simp [iblk, idx0 t]
  refine congrArg (V m c main_arg0) (funext fun a => Fin.ext ?_)
  fin_cases a <;> blk_simp [idx0 t] <;> simp [hb]

include hb in
theorem iblk1 (n : Fin 3) (e : Fin 1024) : iblk m c 1 t (ix3 (0 : Fin 1) n e) = V m c main_v50 (ix3 b n e) := by
  blk_simp [iblk, idx1 t]
  refine congrArg (V m c main_v50) (funext fun a => Fin.ext ?_)
  fin_cases a <;> blk_simp [idx1 t] <;> simp [hb]

include hb in
theorem iblk4 (n : Fin 512) (e : Fin 128) : iblk m c 4 t (ix3 (0 : Fin 1) n e) = V m c main_arg3 (ix3 b n e) := by
  blk_simp [iblk, idx4 t]
  refine congrArg (V m c main_arg3) (funext fun a => Fin.ext ?_)
  fin_cases a <;> blk_simp [idx4 t] <;> simp [hb]

include hb in
theorem iblk5 (n : Fin 512) (e : Fin 128) : iblk m c 5 t (ix3 (0 : Fin 1) n e) = V m c main_arg4 (ix3 b n e) := by
  blk_simp [iblk, idx5 t]
  refine congrArg (V m c main_arg4) (funext fun a => Fin.ext ?_)
  fin_cases a <;> blk_simp [idx5 t] <;> simp [hb]

theorem iblk2 (n : Fin 1024) (e : Fin 1792) : iblk m c 2 t (ix2 n e) = V m c main_v47 (ix2 n e) := by
  blk_simp [iblk, idx2 t]
  refine congrArg (V m c main_v47) (funext fun a => Fin.ext ?_)
  fin_cases a <;> blk_simp [idx2 t] <;> simp

theorem iblk3 (n : Fin 384) (e : Fin 1024) : iblk m c 3 t (ix2 n e) = V m c main_v49 (ix2 n e) := by
  blk_simp [iblk, idx3 t]
  refine congrArg (V m c main_v49) (funext fun a => Fin.ext ?_)
  fin_cases a <;> blk_simp [idx3 t] <;> simp

include hb in
/-- The modulated row of a token is the reference's. -/
theorem row_eq (n : Fin 2048) : rowU (iblk m c 0 t) (iblk m c 1 t) n =
    Cert.Reference5Ideal.Qkv.u (m ((c : Thread nD τ).loc main_arg0)) (m ((c : Thread nD τ).loc main_arg1)) b n := by
  unfold rowU Cert.Reference5Ideal.Qkv.u
  have h0 : (fun e => iblk m c 0 t (ix3 (0 : Fin 1) n e)) = fun e => m ((c : Thread nD τ).loc main_arg0) (ix3 b n e) :=
    funext fun e => (iblk0 m c t b hb n e).trans (x_at m c b n e)
  have h1 : (fun e => iblk m c 1 t (ix3 (0 : Fin 1) (0 : Fin 3) e)) = fun e => m ((c : Thread nD τ).loc main_arg1) (ix2 b (Cert.Reference5Ideal.Qkv.part 0 (by omega) e)) :=
    funext fun e => (iblk1 m c t b hb 0 e).trans (mod_at m c b 0 e)
  have h2 : (fun e => iblk m c 1 t (ix3 (0 : Fin 1) (1 : Fin 3) e)) = fun e => m ((c : Thread nD τ).loc main_arg1) (ix2 b (Cert.Reference5Ideal.Qkv.part 1 (by omega) e)) :=
    funext fun e => (iblk1 m c t b hb 1 e).trans (mod_at m c b 1 e)
  rw [h0, h1, h2]

end Cert.Kernel5Ideal.Qkv

end
-- ==== Proof.QkvEntry.lean ====
module

public import proofs.«01_k».proof.Proof.QkvRead
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.Kernel5Ideal.Qkv

open Cert.Kernel5Ideal Cert.Kernel5Ideal.Gen Cert.Merge Cert.Qkv

open Cert.Reference5Ideal (S16x2048x5144 S16x2048x1x32 S16x2048x128 S16x2048x512)
open Cert.Reference5Ideal.Qkv (kLay kRope kHeads qLay qRope qHeads vLay)

/-! Each number a point leaves is the reference's. -/

theorem part_mul (f : Fin 1024 → EReal) {k : EReal} (h0 : 0 ≤ k) (h1 : k ≠ ⊤) : ∑ e, f e * k = (∑ e, f e) * k := by
  have h : ∀ s : Finset (Fin 1024), ∑ e ∈ s, f e * k = (∑ e ∈ s, f e) * k := by
    intro s
    induction s using Finset.induction_on with
    | empty => simp
    | insert a s ha ih => rw [Finset.sum_insert ha, Finset.sum_insert ha, ih, EReal.right_distrib_of_nonneg_of_ne_top h0 h1]
  exact h _

theorem eighth_word : Ideal.ofBits .f32 0x3E000000#32 = ((1 / 8 : ℝ) : EReal) := by
  simp [Ideal.ofBits, Ideal.ieee]
  rw [← EReal.coe_mul]; norm_num

theorem eighth_half : Ideal.ofBits .bf16 0x3E00#16 = ((1 / 8 : ℝ) : EReal) := by
  simp [Ideal.ofBits, Ideal.ieee]
  rw [← EReal.coe_mul]; norm_num

theorem one_words : Ideal.ofBits .bf16 0x3F80#16 = Ideal.ofBits .f32 0x3F800000#32 := by
  simp [Ideal.ofBits, Ideal.ieee]
  rw [← EReal.coe_mul, ← EReal.coe_mul]; norm_num

theorem zero_half : Ideal.ofBits .bf16 0#16 = 0 := by
  simp [Ideal.ofBits, Ideal.ieee]

theorem log_two : Ideal.log (Ideal.ofBits .f32 0x40000000#32) = ((Real.log 2 : ℝ) : EReal) := by
  have h : Ideal.ofBits .f32 0x40000000#32 = ((2 : ℝ) : EReal) := by
    simp [Ideal.ofBits, Ideal.ieee]
    try rw [← EReal.coe_mul]; norm_num
  rw [h]
  change (if (2 : ℝ) ≤ 0 then (⊥ : EReal) else ((Real.log 2 : ℝ) : EReal)) = _
  rw [if_neg (by norm_num)]

theorem div_log (y : EReal) : Ideal.div y (Ideal.log (Ideal.ofBits .f32 0x40000000#32)) = y * (((Real.log 2)⁻¹ : ℝ) : EReal) := by
  have h : Real.log 2 ≠ 0 := (Real.log_pos (by norm_num)).ne'
  rw [log_two, Ideal.div_coe h, one_div]

/-- A row times a column that carries an eighth. -/
theorem proj_eighth (U w : Fin 1024 → EReal) : proj U (fun e => w e * Ideal.ofBits .bf16 0x3E00#16) = proj U w * Ideal.ofBits .f32 0x3E000000#32 := by
  rw [eighth_half, eighth_word]
  unfold proj
  rw [← part_mul _ (EReal.coe_nonneg.mpr (by norm_num)) (EReal.coe_ne_top _)]
  exact Finset.sum_congr rfl fun e _ => (mul_assoc _ _ _).symm

variable (m : (ℓ : Loc nD τ sig) → Buf (Elt Ideal) ℓ) (c : Dev nD) (t : Fin cfg0.N) (b : Fin 16) (hb : b.val = t.val)

/-- The reference's product and its angles over the arguments. -/
abbrev refM : FVec Ideal S16x2048x5144 .f32 :=
  Cert.Reference5Ideal.Read.val_main_v29 (F := Ideal) (m ((c : Thread nD τ).loc main_arg0)) (m ((c : Thread nD τ).loc main_arg1)) (m ((c : Thread nD τ).loc main_arg2))
abbrev refC : FVec Ideal S16x2048x1x32 .f32 := Cert.Reference5Ideal.Read.val_main_v32 (F := Ideal) (m ((c : Thread nD τ).loc main_arg3))
abbrev refS : FVec Ideal S16x2048x1x32 .f32 := Cert.Reference5Ideal.Read.val_main_v35 (F := Ideal) (m ((c : Thread nD τ).loc main_arg4))

theorem refM_at (n : Fin 2048) (k : Fin 5144) : refM m c (ix3 b n k) =
    proj (Cert.Reference5Ideal.Qkv.u (m ((c : Thread nD τ).loc main_arg0)) (m ((c : Thread nD τ).loc main_arg1)) b n) (fun e => m ((c : Thread nD τ).loc main_arg2) (ix2 e k)) :=
  Cert.Reference5Ideal.Qkv.v29_at _ _ _ b n k

theorem refC_at (r : Fin 8) (k : Fin 4) (rr : Fin 64) (d : Fin 32) : refC m c (ix4 b (tok r k rr) (0 : Fin 1) d) = m ((c : Thread nD τ).loc main_arg3) (ix3 b (trow r rr) (tcol k d)) :=
  Cert.Reference5Ideal.Qkv.v32_at _ b r k rr d

theorem refS_at (r : Fin 8) (k : Fin 4) (rr : Fin 64) (d : Fin 32) : refS m c (ix4 b (tok r k rr) (0 : Fin 1) d) = m ((c : Thread nD τ).loc main_arg4) (ix3 b (trow r rr) (tcol k d)) :=
  Cert.Reference5Ideal.Qkv.v35_at _ b r k rr d

/-- A number of the product at a token, from a column of the packed weight. -/
theorem prod_eq (hb : b.val = t.val) (r : Fin 8) (k : Fin 4) (rr : Fin 64) (p : Fin 1792) (w : Fin 1024 → EReal) (hw : ∀ e, V m c main_v47 (ix2 e p) = w e) :
    accR t (iblk m c 0 t) (iblk m c 1 t) (iblk m c 2 t) r (ix2 ⟨64 * (k : ℕ) + rr, by omega⟩ p) =
      proj (Cert.Reference5Ideal.Qkv.u (m ((c : Thread nD τ).loc main_arg0)) (m ((c : Thread nD τ).loc main_arg1)) b (tok r k rr)) w := by
  rw [accR_at, row_eq m c t b hb]
  refine congrArg₂ proj ?_ (funext fun e => (iblk2 m c t e p).trans (hw e))
  refine congrArg _ (Fin.ext ?_)
  simp only [tok]
  omega

include hb in
theorem key_eq (s : Fin 14) (o : ℕ) (ho : o + 128 ≤ 5144) (hs : S16x2048x5144.Slices ![0, 0, o] S16x2048x128)
    (hw : ∀ (e : Fin 1024) (h g : Fin 2) (d : Fin 32), V m c main_v47 (ix2 e ⟨128 * (s : ℕ) + kcol h g d, by omega⟩) = m ((c : Thread nD τ).loc main_arg2) (ix2 e ⟨o + (64 * (g : ℕ) + 32 * h + d), by omega⟩))
    (r : Fin 8) (k : Fin 4) (rr : Fin 64) (h g : Fin 2) (d : Fin 32) :
    kVal t (iblk m c 0 t) (iblk m c 1 t) (iblk m c 2 t) (iblk m c 4 t) (iblk m c 5 t) s r k rr (kcol h g d) =
      kLay (kRope (refC m c) (refS m c) (kHeads o (refM m c) hs)) (ix3 b (tok r k rr) (kcol h g d)) := by
  unfold kVal
  rw [kTile_at _ _ _ _ _ _ (by omega), Cert.Reference5Ideal.Qkv.kLay_at, Cert.Reference5Ideal.Qkv.kRope_at, Cert.Reference5Ideal.Qkv.kHeads_at _ _ _ ho, Cert.Reference5Ideal.Qkv.kHeads_at _ _ _ ho,
    refC_at, refS_at, coR_at, siR_at, iblk4 m c t b hb, iblk5 m c t b hb, cos_at, sin_at,
    refM_at, refM_at,
    prod_eq m c t b hb r k rr _ _ (fun e => hw e 0 g d), prod_eq m c t b hb r k rr _ _ (fun e => hw e 1 g d)]
  congr 1
  · refine congrArg (proj _) (funext fun e => congrArg (m ((c : Thread nD τ).loc main_arg2)) (congrArg (ix2 e) (Fin.ext ?_)))
    simp only []
    simp
    try omega

include hb in
theorem query_eq (s : Fin 4 → Fin 14) (o : ℕ) (ho : o + 512 ≤ 5144) (hs : S16x2048x5144.Slices ![0, 0, o] S16x2048x512) (j : Fin 4)
    (hw : ∀ (e : Fin 1024) (h g : Fin 2) (d : Fin 32), V m c main_v47 (ix2 e ⟨128 * (s j : ℕ) + kcol h g d, by omega⟩) =
      (show EReal from m ((c : Thread nD τ).loc main_arg2) (ix2 e ⟨o + (64 * (4 * (g : ℕ) + j) + 32 * h + d), by omega⟩)) * (Ideal.ofBits .bf16 0x3E00#16 : EReal))
    (r : Fin 8) (k : Fin 4) (rr : Fin 64) (h g : Fin 2) (d : Fin 32) :
    qVal t (iblk m c 0 t) (iblk m c 1 t) (iblk m c 2 t) (iblk m c 4 t) (iblk m c 5 t) s r k rr j (kcol h g d) =
      qLay (qRope (refC m c) (refS m c) (qHeads o (refM m c) hs)) (ix3 b (tok r k rr) (qcol j h g d)) := by
  unfold qVal
  rw [qTile_at _ _ _ _ _ _ (by omega), Cert.Reference5Ideal.Qkv.qLay_at, div_log, Cert.Reference5Ideal.Qkv.qRope_at, Cert.Reference5Ideal.Qkv.qHeads_at _ _ _ ho, Cert.Reference5Ideal.Qkv.qHeads_at _ _ _ ho,
    refC_at, refS_at, coR_at, siR_at, iblk4 m c t b hb, iblk5 m c t b hb, cos_at, sin_at,
    refM_at, refM_at,
    prod_eq m c t b hb r k rr _ _ (fun e => hw e 0 g d), prod_eq m c t b hb r k rr _ _ (fun e => hw e 1 g d), proj_eighth, proj_eighth]
  congr 2
  · refine congrArg (fun w => proj _ w * _) (funext fun e => congrArg (m ((c : Thread nD τ).loc main_arg2)) (congrArg (ix2 e) (Fin.ext ?_)))
    simp only []
    simp
    try omega

include hb in
theorem value_eq (s : Fin 2 → Fin 6) (o : ℕ) (ho : o + 128 ≤ 5144) (hs : S16x2048x5144.Slices ![0, 0, o] S16x2048x128)
    (hw : ∀ (e : Fin 1024) (g : Fin 2) (a : Fin 64), V m c main_v49 (ix2 ⟨64 * (s g : ℕ) + a, by omega⟩ e) = m ((c : Thread nD τ).loc main_arg2) (ix2 e ⟨o + (64 * (g : ℕ) + a), by omega⟩))
    (r : Fin 8) (g : Fin 2) (a : Fin 80) (q : Fin 256) :
    vVal t (iblk m c 0 t) (iblk m c 1 t) (iblk m c 3 t) s r g a q = vLay o (refM m c) hs (ix3 b ⟨80 * (g : ℕ) + a, by omega⟩ ⟨256 * (r : ℕ) + q, by omega⟩) := by
  unfold vVal
  split
  · next h =>
    rw [vTile_at _ _ (by omega), vtR_at, row_eq m c t b hb]
    refine Eq.trans ?_ (Cert.Reference5Ideal.Qkv.vLay_at o (refM m c) hs ho b ⟨256 * (r : ℕ) + q, by omega⟩ g ⟨a, h⟩).symm
    rw [refM_at]
    exact congrArg (proj _) (funext fun e => (iblk3 m c t _ e).trans (hw e g ⟨a, h⟩))
  · next h =>
    rw [oneTile_at, one_words]
    refine (Cert.Reference5Ideal.Qkv.vLay_one o (refM m c) hs b ⟨256 * (r : ℕ) + q, by omega⟩ g ⟨(a : ℕ) - 64, by omega⟩).symm.trans ?_
    refine congrArg _ (congrArg (fun i => ix3 b i _) (Fin.ext ?_))
    simp only []
    omega

include hb in
theorem gate_eq (r : Fin 8) (q : Fin 256) (l : Fin 128) :
    gVal t (iblk m c 0 t) (iblk m c 1 t) (iblk m c 2 t) r q l =
      Cert.Reference5Ideal.Read.val_main_v165 (F := Ideal) (m ((c : Thread nD τ).loc main_arg0)) (m ((c : Thread nD τ).loc main_arg1)) (m ((c : Thread nD τ).loc main_arg2)) (ix3 b ⟨256 * (r : ℕ) + q, by omega⟩ l) := by
  unfold gVal Cert.Reference5Ideal.Read.val_main_v165
  rw [gTile_at, accR_at, row_eq m c t b hb]
  by_cases h : (l : ℕ) < 24
  · rw [pad_apply_of_inside _ _ _ _ _ _ _ _ (ix3 b (⟨256 * (r : ℕ) + q, by omega⟩ : Fin 2048) (⟨l, h⟩ : Fin 24)) (fun a => by fin_cases a <;> simp)]
    have e : Cert.Reference5Ideal.Read.val_main_v164 (F := Ideal) (m ((c : Thread nD τ).loc main_arg0)) (m ((c : Thread nD τ).loc main_arg1)) (m ((c : Thread nD τ).loc main_arg2)) (ix3 b (⟨256 * (r : ℕ) + q, by omega⟩ : Fin 2048) (⟨l, h⟩ : Fin 24)) =
        refM m c (ix3 b ⟨256 * (r : ℕ) + q, by omega⟩ ⟨1280 + l, by omega⟩) := by
      unfold Cert.Reference5Ideal.Read.val_main_v164 refM
      generalize Cert.Reference5Ideal.Read.val_main_v29 (F := Ideal) (m ((c : Thread nD τ).loc main_arg0)) (m ((c : Thread nD τ).loc main_arg1)) (m ((c : Thread nD τ).loc main_arg2)) = M
      pointwise
    rw [e, refM_at]
    refine congrArg (proj _) (funext fun e => (iblk2 m c t e _).trans ((congrFun (v47_eq m c) _).trans ?_))
    exact (joined_gate _ _ _ _ _ _ _ _ _ e ⟨l, h⟩).trans (v39_at m c e ⟨l, h⟩)
  · rw [pad_apply_of_not_inside _ _ _ _ _ _ _ _ 2 (by simp; omega)]
    have e : (fun e => iblk m c 2 t (ix2 e ⟨1664 + l, by omega⟩)) = fun _ => (0 : EReal) := funext fun e => by
      refine (iblk2 m c t e _).trans ((congrFun (v47_eq m c) _).trans ?_)
      have h2 := (joined_zero (V m c main_v8) (V m c main_v13) (V m c main_v18) (V m c main_v23) (V m c main_v30) (V m c main_v35) (V m c main_v37) (V m c main_v39) (V m c main_v40) e ⟨l - 24, by omega⟩).trans ((v40_at m c e _).trans zero_half)
      refine Eq.trans (congrArg _ (congrArg (ix2 e) (Fin.ext ?_))) h2
      simp only []
      omega
    rw [e]
    unfold proj
    simp
    unfold Cert.Reference5Ideal.Read.val_main_call0_v0 Cert.Reference5Ideal.Read.val_main_c
    pointwise
    simp [FloatOps.sitofp]

end Cert.Kernel5Ideal.Qkv

end
-- ==== Proof.QkvFinal.lean ====
module

public import proofs.«01_k».proof.Proof.QkvEntry
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel5Ideal.Qkv

open Cert.Kernel5Ideal Cert.Kernel5Ideal.Gen Cert.Merge Cert.Qkv

open Cert.Reference5Ideal (S16x2048x5144 S16x2048x1x32 S16x2048x128 S16x2048x512 S16x160x2048)
open Cert.Reference5Ideal.Qkv (kLay kRope kHeads qLay qRope qHeads vLay)

/-! The kernel's results are the reference's. -/

variable (m : (ℓ : Loc nD τ sig) → Buf (Elt Ideal) ℓ) (c : Dev nD)

theorem queriesA (j : Fin 4) (e : Fin 1024) (h g : Fin 2) (d : Fin 32) :
    V m c main_v47 (ix2 e ⟨128 * (((![0, 1, 2, 3] : Fin 4 → Fin 14) j : Fin 14) : ℕ) + kcol h g d, by omega⟩) =
      (show EReal from m ((c : Thread nD τ).loc main_arg2) (ix2 e ⟨0 + (64 * (4 * (g : ℕ) + j) + 32 * h + d), by omega⟩)) * (Ideal.ofBits .bf16 0x3E00#16 : EReal) := by
  refine Eq.trans (congrArg _ (congrArg (ix2 e) (Fin.ext ?_))) ((congrFun (v47_eq m c) _).trans ((joined_q0 _ _ _ _ _ _ _ _ _ _ _).trans (v8_at m c e j h g d)))
  fin_cases j <;> simp [qcol, kcol] <;> omega

theorem queriesB (j : Fin 4) (e : Fin 1024) (h g : Fin 2) (d : Fin 32) :
    V m c main_v47 (ix2 e ⟨128 * (((![7, 8, 9, 10] : Fin 4 → Fin 14) j : Fin 14) : ℕ) + kcol h g d, by omega⟩) =
      (show EReal from m ((c : Thread nD τ).loc main_arg2) (ix2 e ⟨1816 + (64 * (4 * (g : ℕ) + j) + 32 * h + d), by omega⟩)) * (Ideal.ofBits .bf16 0x3E00#16 : EReal) := by
  refine Eq.trans (congrArg _ (congrArg (ix2 e) (Fin.ext ?_))) ((congrFun (v47_eq m c) _).trans ((joined_q1 _ _ _ _ _ _ _ _ _ _ _).trans (v30_at m c e j h g d)))
  fin_cases j <;> simp [qcol, kcol] <;> omega

theorem valuesA (e : Fin 1024) (g : Fin 2) (a : Fin 64) :
    V m c main_v49 (ix2 ⟨64 * (((![0, 1] : Fin 2 → Fin 6) g : Fin 6) : ℕ) + a, by omega⟩ e) = m ((c : Thread nD τ).loc main_arg2) (ix2 e ⟨896 + (64 * (g : ℕ) + a), by omega⟩) := by
  refine Eq.trans (congrArg _ (congrArg (fun i => ix2 i e) (Fin.ext ?_))) ((congrFun (v49_eq m c) _).trans ((joinedV_0 _ _ _ e ⟨64 * (g : ℕ) + a, by omega⟩).trans (v42_at m c e _)))
  rcases two g with rfl | rfl <;> simp <;> try omega

theorem valuesB (e : Fin 1024) (g : Fin 2) (a : Fin 64) :
    V m c main_v49 (ix2 ⟨64 * (((![2, 3] : Fin 2 → Fin 6) g : Fin 6) : ℕ) + a, by omega⟩ e) = m ((c : Thread nD τ).loc main_arg2) (ix2 e ⟨1152 + (64 * (g : ℕ) + a), by omega⟩) := by
  refine Eq.trans (congrArg _ (congrArg (fun i => ix2 i e) (Fin.ext ?_))) ((congrFun (v49_eq m c) _).trans ((joinedV_1 _ _ _ e ⟨64 * (g : ℕ) + a, by omega⟩).trans (v44_at m c e _)))
  rcases two g with rfl | rfl <;> simp <;> try omega

theorem valuesC (e : Fin 1024) (g : Fin 2) (a : Fin 64) :
    V m c main_v49 (ix2 ⟨64 * (((![4, 5] : Fin 2 → Fin 6) g : Fin 6) : ℕ) + a, by omega⟩ e) = m ((c : Thread nD τ).loc main_arg2) (ix2 e ⟨2456 + (64 * (g : ℕ) + a), by omega⟩) := by
  refine Eq.trans (congrArg _ (congrArg (fun i => ix2 i e) (Fin.ext ?_))) ((congrFun (v49_eq m c) _).trans ((joinedV_2 _ _ _ e ⟨64 * (g : ℕ) + a, by omega⟩).trans (v46_at m c e _)))
  rcases two g with rfl | rfl <;> simp <;> try omega

variable (t : Fin cfg0.N) (b : Fin 16) (hb : b.val = t.val)

theorem tok_of (n : ℕ) (hn : n < 2048) : tok (rOf n hn) (kOf n) (rrOf n) = ⟨n, hn⟩ := Fin.ext (by simp only [tok, rOf, kOf, rrOf]; omega)

include hb in
theorem kOut_eq (s : Fin 14) (o : ℕ) (ho : o + 128 ≤ 5144) (hs : S16x2048x5144.Slices ![0, 0, o] S16x2048x128)
    (hw : ∀ (e : Fin 1024) (h g : Fin 2) (d : Fin 32), V m c main_v47 (ix2 e ⟨128 * (s : ℕ) + kcol h g d, by omega⟩) = m ((c : Thread nD τ).loc main_arg2) (ix2 e ⟨o + (64 * (g : ℕ) + 32 * h + d), by omega⟩))
    (y : S1x2048x128.Idx) :
    kOut t (iblk m c 0 t) (iblk m c 1 t) (iblk m c 2 t) (iblk m c 4 t) (iblk m c 5 t) s y =
      kLay (kRope (refC m c) (refS m c) (kHeads o (refM m c) hs)) (ix3 b (⟨(y 1).val, (y 1).isLt⟩ : Fin 2048) (⟨(y 2).val, (y 2).isLt⟩ : Fin 128)) := by
  unfold kOut
  obtain ⟨h, g, d, hl⟩ := kcol_surj ⟨(y 2).val, (y 2).isLt⟩
  rw [hl]
  exact (key_eq m c t b hb s o ho hs hw _ _ _ h g d).trans (congrArg _ (congrArg (fun n => ix3 b n _) (tok_of _ _)))

include hb in
theorem qOut_eq (s : Fin 4 → Fin 14) (o : ℕ) (ho : o + 512 ≤ 5144) (hs : S16x2048x5144.Slices ![0, 0, o] S16x2048x512)
    (hw : ∀ (j : Fin 4) (e : Fin 1024) (h g : Fin 2) (d : Fin 32), V m c main_v47 (ix2 e ⟨128 * (s j : ℕ) + kcol h g d, by omega⟩) =
      (show EReal from m ((c : Thread nD τ).loc main_arg2) (ix2 e ⟨o + (64 * (4 * (g : ℕ) + j) + 32 * h + d), by omega⟩)) * (Ideal.ofBits .bf16 0x3E00#16 : EReal))
    (y : S1x2048x512.Idx) :
    qOut t (iblk m c 0 t) (iblk m c 1 t) (iblk m c 2 t) (iblk m c 4 t) (iblk m c 5 t) s y =
      qLay (qRope (refC m c) (refS m c) (qHeads o (refM m c) hs)) (ix3 b (⟨(y 1).val, (y 1).isLt⟩ : Fin 2048) (⟨(y 2).val, (y 2).isLt⟩ : Fin 512)) := by
  unfold qOut
  have b2 : (y 2).val < 512 := (y 2).isLt
  obtain ⟨h, g, d, hl⟩ := kcol_surj ⟨(y 2).val % 128, Nat.mod_lt _ (by decide)⟩
  have hv := congrArg Fin.val hl
  rw [hl]
  refine (query_eq m c t b hb s o ho hs _ (hw _) _ _ _ h g d).trans (congrArg _ ?_)
  refine congrArg₂ (fun n p => ix3 b n p) (tok_of _ _) (Fin.ext ?_)
  simp only [qcol, kcol] at hv ⊢
  omega

include hb in
theorem vOut_eq (s : Fin 2 → Fin 6) (o : ℕ) (ho : o + 128 ≤ 5144) (hs : S16x2048x5144.Slices ![0, 0, o] S16x2048x128)
    (hw : ∀ (e : Fin 1024) (g : Fin 2) (a : Fin 64), V m c main_v49 (ix2 ⟨64 * (s g : ℕ) + a, by omega⟩ e) = m ((c : Thread nD τ).loc main_arg2) (ix2 e ⟨o + (64 * (g : ℕ) + a), by omega⟩))
    (y : S1x160x2048.Idx) :
    vOut t (iblk m c 0 t) (iblk m c 1 t) (iblk m c 3 t) s y =
      vLay o (refM m c) hs (ix3 b (⟨(y 1).val, (y 1).isLt⟩ : Fin 160) (⟨(y 2).val, (y 2).isLt⟩ : Fin 2048)) := by
  unfold vOut
  refine (value_eq m c t b hb s o ho hs hw _ _ _ _).trans (congrArg _ ?_)
  congr 1 <;> apply Fin.ext <;> simp only [rOf] <;> omega

include hb in
theorem gOut_eq (y : S1x2048x128.Idx) :
    gOut t (iblk m c 0 t) (iblk m c 1 t) (iblk m c 2 t) y =
      Cert.Reference5Ideal.Read.val_main_v165 (F := Ideal) (m ((c : Thread nD τ).loc main_arg0)) (m ((c : Thread nD τ).loc main_arg1)) (m ((c : Thread nD τ).loc main_arg2)) (ix3 b (⟨(y 1).val, (y 1).isLt⟩ : Fin 2048) (⟨(y 2).val, (y 2).isLt⟩ : Fin 128)) := by
  unfold gOut
  refine (gate_eq m c t b hb _ _ _).trans (congrArg _ (congrArg (fun n => ix3 b n _) (Fin.ext ?_)))
  simp only [rOf]
  omega

theorem value8 : (dats m 0 c).arrAt 8 cfg0.N = Cert.Reference5Ideal.Read.val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [Cert.Reference5Ideal.Qkv.v79_eq]
  refine (dats m 0 c).arrAt_eq_of_covers 8 _ (by decide +kernel) fun t hf y => ?_
  blk_simp
  rw [after0_8, left8]
  have ht : t.val < 16 := lt_of_lt_of_eq t.isLt (by decide +kernel : cfg0.N = 16)
  have hy : (y 0).val < 1 := (y 0).isLt
  obtain ⟨b, hb⟩ : ∃ b : Fin 16, b.val = t.val := ⟨⟨t.val, ht⟩, rfl⟩
  refine (kOut_eq m c t b hb 5 768 (by decide) _ (fun e h g d => (congrFun (v47_eq m c) _).trans ((joined_ks _ _ _ _ _ _ _ _ _ _ _).trans (v18_at m c e h g d))) y).trans (congrArg _ (funext fun a => Fin.ext ?_))
  fin_cases a <;> blk_simp [idx8 t] <;> simp [hb]
  all_goals omega

theorem value9 : (dats m 0 c).arrAt 9 cfg0.N = Cert.Reference5Ideal.Read.val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [Cert.Reference5Ideal.Qkv.v98_eq]
  refine (dats m 0 c).arrAt_eq_of_covers 9 _ (by decide +kernel) fun t hf y => ?_
  blk_simp
  rw [after0_9, left9]
  have ht : t.val < 16 := lt_of_lt_of_eq t.isLt (by decide +kernel : cfg0.N = 16)
  have hy : (y 0).val < 1 := (y 0).isLt
  obtain ⟨b, hb⟩ : ∃ b : Fin 16, b.val = t.val := ⟨⟨t.val, ht⟩, rfl⟩
  refine (kOut_eq m c t b hb 6 1024 (by decide) _ (fun e h g d => (congrFun (v47_eq m c) _).trans ((joined_kw _ _ _ _ _ _ _ _ _ _ _).trans (v23_at m c e h g d))) y).trans (congrArg _ (funext fun a => Fin.ext ?_))
  fin_cases a <;> blk_simp [idx9 t] <;> simp [hb]
  all_goals omega

theorem value11 : (dats m 0 c).arrAt 11 cfg0.N = Cert.Reference5Ideal.Read.val_main_v142 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [Cert.Reference5Ideal.Qkv.v142_eq]
  refine (dats m 0 c).arrAt_eq_of_covers 11 _ (by decide +kernel) fun t hf y => ?_
  blk_simp
  rw [after0_11, left11]
  have ht : t.val < 16 := lt_of_lt_of_eq t.isLt (by decide +kernel : cfg0.N = 16)
  have hy : (y 0).val < 1 := (y 0).isLt
  obtain ⟨b, hb⟩ : ∃ b : Fin 16, b.val = t.val := ⟨⟨t.val, ht⟩, rfl⟩
  refine (kOut_eq m c t b hb 11 2328 (by decide) _ (fun e h g d => (congrFun (v47_eq m c) _).trans ((joined_kb _ _ _ _ _ _ _ _ _ _ _).trans (v35_at m c e h g d))) y).trans (congrArg _ (funext fun a => Fin.ext ?_))
  fin_cases a <;> blk_simp [idx11 t] <;> simp [hb]
  all_goals omega

theorem value6 : (dats m 0 c).arrAt 6 cfg0.N = Cert.Reference5Ideal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [Cert.Reference5Ideal.Qkv.v60_eq]
  refine (dats m 0 c).arrAt_eq_of_covers 6 _ (by decide +kernel) fun t hf y => ?_
  blk_simp
  rw [after0_6, left6]
  have ht : t.val < 16 := lt_of_lt_of_eq t.isLt (by decide +kernel : cfg0.N = 16)
  have hy : (y 0).val < 1 := (y 0).isLt
  obtain ⟨b, hb⟩ : ∃ b : Fin 16, b.val = t.val := ⟨⟨t.val, ht⟩, rfl⟩
  refine (qOut_eq m c t b hb ![0, 1, 2, 3] 0 (by decide) _ (queriesA m c) y).trans (congrArg _ (funext fun a => Fin.ext ?_))
  fin_cases a <;> blk_simp [idx6 t] <;> simp [hb]
  all_goals omega

theorem value10 : (dats m 0 c).arrAt 10 cfg0.N = Cert.Reference5Ideal.Read.val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [Cert.Reference5Ideal.Qkv.v123_eq]
  refine (dats m 0 c).arrAt_eq_of_covers 10 _ (by decide +kernel) fun t hf y => ?_
  blk_simp
  rw [after0_10, left10]
  have ht : t.val < 16 := lt_of_lt_of_eq t.isLt (by decide +kernel : cfg0.N = 16)
  have hy : (y 0).val < 1 := (y 0).isLt
  obtain ⟨b, hb⟩ : ∃ b : Fin 16, b.val = t.val := ⟨⟨t.val, ht⟩, rfl⟩
  refine (qOut_eq m c t b hb ![7, 8, 9, 10] 1816 (by decide) _ (queriesB m c) y).trans (congrArg _ (funext fun a => Fin.ext ?_))
  fin_cases a <;> blk_simp [idx10 t] <;> simp [hb]
  all_goals omega

theorem value13 : (dats m 0 c).arrAt 13 cfg0.N = Cert.Reference5Ideal.Read.val_main_v149 (F := Ideal) (m ((c : Thread nD τ).loc main_arg0)) (m ((c : Thread nD τ).loc main_arg1)) (m ((c : Thread nD τ).loc main_arg2)) := by
  rw [Cert.Reference5Ideal.Qkv.v149_eq]
  refine (dats m 0 c).arrAt_eq_of_covers 13 _ (by decide +kernel) fun t hf y => ?_
  blk_simp
  rw [after0_13, left13]
  have ht : t.val < 16 := lt_of_lt_of_eq t.isLt (by decide +kernel : cfg0.N = 16)
  have hy : (y 0).val < 1 := (y 0).isLt
  obtain ⟨b, hb⟩ : ∃ b : Fin 16, b.val = t.val := ⟨⟨t.val, ht⟩, rfl⟩
  refine (vOut_eq m c t b hb ![0, 1] 896 (by decide) _ (valuesA m c) y).trans (congrArg _ (funext fun a => Fin.ext ?_))
  fin_cases a <;> blk_simp [idx13 t] <;> simp [hb]
  all_goals omega

theorem value14 : (dats m 0 c).arrAt 14 cfg0.N = Cert.Reference5Ideal.Read.val_main_v156 (F := Ideal) (m ((c : Thread nD τ).loc main_arg0)) (m ((c : Thread nD τ).loc main_arg1)) (m ((c : Thread nD τ).loc main_arg2)) := by
  rw [Cert.Reference5Ideal.Qkv.v156_eq]
  refine (dats m 0 c).arrAt_eq_of_covers 14 _ (by decide +kernel) fun t hf y => ?_
  blk_simp
  rw [after0_14, left14]
  have ht : t.val < 16 := lt_of_lt_of_eq t.isLt (by decide +kernel : cfg0.N = 16)
  have hy : (y 0).val < 1 := (y 0).isLt
  obtain ⟨b, hb⟩ : ∃ b : Fin 16, b.val = t.val := ⟨⟨t.val, ht⟩, rfl⟩
  refine (vOut_eq m c t b hb ![2, 3] 1152 (by decide) _ (valuesB m c) y).trans (congrArg _ (funext fun a => Fin.ext ?_))
  fin_cases a <;> blk_simp [idx14 t] <;> simp [hb]
  all_goals omega

theorem value15 : (dats m 0 c).arrAt 15 cfg0.N = Cert.Reference5Ideal.Read.val_main_v163 (F := Ideal) (m ((c : Thread nD τ).loc main_arg0)) (m ((c : Thread nD τ).loc main_arg1)) (m ((c : Thread nD τ).loc main_arg2)) := by
  rw [Cert.Reference5Ideal.Qkv.v163_eq]
  refine (dats m 0 c).arrAt_eq_of_covers 15 _ (by decide +kernel) fun t hf y => ?_
  blk_simp
  rw [after0_15, left15]
  have ht : t.val < 16 := lt_of_lt_of_eq t.isLt (by decide +kernel : cfg0.N = 16)
  have hy : (y 0).val < 1 := (y 0).isLt
  obtain ⟨b, hb⟩ : ∃ b : Fin 16, b.val = t.val := ⟨⟨t.val, ht⟩, rfl⟩
  refine (vOut_eq m c t b hb ![4, 5] 2456 (by decide) _ (valuesC m c) y).trans (congrArg _ (funext fun a => Fin.ext ?_))
  fin_cases a <;> blk_simp [idx15 t] <;> simp [hb]
  all_goals omega

theorem value16 : (dats m 0 c).arrAt 16 cfg0.N = Cert.Reference5Ideal.Read.val_main_v165 (F := Ideal) (m ((c : Thread nD τ).loc main_arg0)) (m ((c : Thread nD τ).loc main_arg1)) (m ((c : Thread nD τ).loc main_arg2)) := by
  refine (dats m 0 c).arrAt_eq_of_covers 16 _ (by decide +kernel) fun t hf y => ?_
  blk_simp
  rw [after0_16, left16]
  have ht : t.val < 16 := lt_of_lt_of_eq t.isLt (by decide +kernel : cfg0.N = 16)
  have hy : (y 0).val < 1 := (y 0).isLt
  obtain ⟨b, hb⟩ : ∃ b : Fin 16, b.val = t.val := ⟨⟨t.val, ht⟩, rfl⟩
  refine (gOut_eq m c t b hb y).trans (congrArg _ (funext fun a => Fin.ext ?_))
  fin_cases a <;> blk_simp [idx16 t] <;> simp [hb]
  all_goals omega

end Cert.Kernel5Ideal.Qkv

end
-- ==== Proof.QkvClaim.lean ====
module

public import proofs.«01_k».proof.Defs
public import proofs.«01_k».proof.Proof.QkvFinal
public import proofs.«01_k».proof.Proof.Gen.Kernel5
public import proofs.«01_k».proof.Proof.Gen.Kernel5.Frame
public import proofs.«01_k».proof.Proof.Gen.Reference5Ideal
public import proofs.«01_k».proof.Proof.Gen.Reference5Ideal.Run
public import Idealize.ShloMosaic.Lib.Claim
public import Idealize.ShloMosaic.Lib.Quiescent

@[expose] public section

noncomputable section

namespace Cert.Claims

open Idealize.ShloMosaic Idealize.SL.Sem

/-! The conjuncts of the claim about the projections, one theorem each. -/

/-- Equal arguments, equal results. -/
theorem same3 {α₀ α₁ α₂ β : Type} (f : α₀ → α₁ → α₂ → β) {a₀ b₀ : α₀} {a₁ b₁ : α₁} {a₂ b₂ : α₂}
    (h₀ : a₀ = b₀) (h₁ : a₁ = b₁) (h₂ : a₂ = b₂) : f a₀ a₁ a₂ = f b₀ b₁ b₂ := by
  rw [h₀, h₁, h₂]

/-- Equal arguments, equal results. -/
theorem same5 {α₀ α₁ α₂ α₃ α₄ β : Type} (f : α₀ → α₁ → α₂ → α₃ → α₄ → β)
    {a₀ b₀ : α₀} {a₁ b₁ : α₁} {a₂ b₂ : α₂} {a₃ b₃ : α₃} {a₄ b₄ : α₄}
    (h₀ : a₀ = b₀) (h₁ : a₁ = b₁) (h₂ : a₂ = b₂) (h₃ : a₃ = b₃) (h₄ : a₄ = b₄) : f a₀ a₁ a₂ a₃ a₄ = f b₀ b₁ b₂ b₃ b₄ := by
  rw [h₀, h₁, h₂, h₃, h₄]

theorem frame_kernel5 : Cert.quiescent_Kernel5 (hKernel5 := Cert.Kernel5.Gen.facts) := fun m g _ => by
  run_from Cert.Kernel5.Gen.frame m g

theorem frame_ideal5 : Cert.quiescent_Kernel5Ideal (hKernel5Ideal := Cert.Kernel5Ideal.Gen.facts) := fun m g _ => by
  run_from Cert.Kernel5Ideal.Gen.frame m g

theorem frame_reference5 : Cert.quiescent_Reference5Ideal (hReference5Ideal := Cert.Reference5Ideal.Gen.facts) := fun m g _ => by
  exact (θ_run _ _ _).mono (fun r h => ⟨fun c => (h c).2.2.2.2.2.2.2.2.2, sem_eq_zero_of_no_sems rfl r.2⟩) (Cert.Reference5Ideal.Value.run m g)

theorem preserves5 : Cert.preserves_Kernel5_Kernel5Ideal :=
  IdealRules.named_const.statement Cert.Kernel5Ideal.κ "log2e" .f32 0x3FB8AA3B#32 (((Real.log 2)⁻¹ : ℝ) : EReal) rfl

set_option maxHeartbeats 4000000 in
/-- The kernel's run: each result is the reference's named term at the kernel's arguments, and the arguments stay. -/
theorem kernel_run5 (m : (ℓ : Loc Cert.Kernel5Ideal.nD Cert.Kernel5Ideal.τ Cert.Kernel5Ideal.sig) → Buf (Elt Ideal) ℓ) (g : Dev Cert.Kernel5Ideal.nD → PrngReg) :
    θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
      r.2.mem ((c.tc : Thread Cert.Kernel5Ideal.nD Cert.Kernel5Ideal.τ).loc Cert.Kernel5Ideal.main_v51_0) = Cert.Reference5Ideal.Read.val_main_v60 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))
      ∧ r.2.mem ((c.tc : Thread Cert.Kernel5Ideal.nD Cert.Kernel5Ideal.τ).loc Cert.Kernel5Ideal.main_v51_2) = Cert.Reference5Ideal.Read.val_main_v79 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))
      ∧ r.2.mem ((c.tc : Thread Cert.Kernel5Ideal.nD Cert.Kernel5Ideal.τ).loc Cert.Kernel5Ideal.main_v51_3) = Cert.Reference5Ideal.Read.val_main_v98 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))
      ∧ r.2.mem ((c.tc : Thread Cert.Kernel5Ideal.nD Cert.Kernel5Ideal.τ).loc Cert.Kernel5Ideal.main_v51_4) = Cert.Reference5Ideal.Read.val_main_v123 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))
      ∧ r.2.mem ((c.tc : Thread Cert.Kernel5Ideal.nD Cert.Kernel5Ideal.τ).loc Cert.Kernel5Ideal.main_v51_5) = Cert.Reference5Ideal.Read.val_main_v142 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))
      ∧ r.2.mem ((c.tc : Thread Cert.Kernel5Ideal.nD Cert.Kernel5Ideal.τ).loc Cert.Kernel5Ideal.main_v51_7) = Cert.Reference5Ideal.Read.val_main_v149 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))
      ∧ r.2.mem ((c.tc : Thread Cert.Kernel5Ideal.nD Cert.Kernel5Ideal.τ).loc Cert.Kernel5Ideal.main_v51_8) = Cert.Reference5Ideal.Read.val_main_v156 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))
      ∧ r.2.mem ((c.tc : Thread Cert.Kernel5Ideal.nD Cert.Kernel5Ideal.τ).loc Cert.Kernel5Ideal.main_v51_9) = Cert.Reference5Ideal.Read.val_main_v163 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))
      ∧ r.2.mem ((c.tc : Thread Cert.Kernel5Ideal.nD Cert.Kernel5Ideal.τ).loc Cert.Kernel5Ideal.main_v51_10) = Cert.Reference5Ideal.Read.val_main_v165 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))
      ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)) := by
  refine (θ_run _ _ _).mono (fun r h c => ?_) (θ_run_and (Cert.Kernel5Ideal.Gen.run_main (F := Ideal) m g) (Cert.Kernel5Ideal.Gen.unchanged (F := Ideal) m g))
  have hw := (h.1 c).1
  exact ⟨(hw 6).trans (Cert.Kernel5Ideal.Qkv.value6 m c),
    (hw 8).trans (Cert.Kernel5Ideal.Qkv.value8 m c),
    (hw 9).trans (Cert.Kernel5Ideal.Qkv.value9 m c),
    (hw 10).trans (Cert.Kernel5Ideal.Qkv.value10 m c),
    (hw 11).trans (Cert.Kernel5Ideal.Qkv.value11 m c),
    (hw 13).trans (Cert.Kernel5Ideal.Qkv.value13 m c),
    (hw 14).trans (Cert.Kernel5Ideal.Qkv.value14 m c),
    (hw 15).trans (Cert.Kernel5Ideal.Qkv.value15 m c),
    (hw 16).trans (Cert.Kernel5Ideal.Qkv.value16 m c),
    h.2 c⟩

open Cert.Reference5Ideal.Read in
theorem algebraic5 : Cert.algebraic_Kernel5Ideal_Reference5Ideal (hKernel5Ideal := Cert.Kernel5Ideal.Gen.facts) (hReference5Ideal := Cert.Reference5Ideal.Gen.facts) := by
  pair_intro
  · exact kernel_run5 m g
  · refine (θ_run _ _ _).mono (fun r h c => ?_) (Cert.Reference5Ideal.Value.run (F := Ideal) m' g')
    obtain ⟨h0, h1, h2, h3, h4, h5, h6, h7, h8, hargs⟩ := h c
    obtain ⟨a0, a1, a2, a3, a4⟩ := hagree c
    exact ⟨h0.trans ((val_main_v60_eq (F := Ideal) _).trans (same5 (val_main_v60 (F := Ideal)) a0 a1 a2 a3 a4)),
      h1.trans ((val_main_v79_eq (F := Ideal) _).trans (same5 (val_main_v79 (F := Ideal)) a0 a1 a2 a3 a4)),
      h2.trans ((val_main_v98_eq (F := Ideal) _).trans (same5 (val_main_v98 (F := Ideal)) a0 a1 a2 a3 a4)),
      h3.trans ((val_main_v123_eq (F := Ideal) _).trans (same5 (val_main_v123 (F := Ideal)) a0 a1 a2 a3 a4)),
      h4.trans ((val_main_v142_eq (F := Ideal) _).trans (same5 (val_main_v142 (F := Ideal)) a0 a1 a2 a3 a4)),
      h5.trans ((val_main_v149_eq (F := Ideal) _).trans (same3 (val_main_v149 (F := Ideal)) a0 a1 a2)),
      h6.trans ((val_main_v156_eq (F := Ideal) _).trans (same3 (val_main_v156 (F := Ideal)) a0 a1 a2)),
      h7.trans ((val_main_v163_eq (F := Ideal) _).trans (same3 (val_main_v163 (F := Ideal)) a0 a1 a2)),
      h8.trans ((val_main_v165_eq (F := Ideal) _).trans (same3 (val_main_v165 (F := Ideal)) a0 a1 a2)),
      hargs⟩

end Cert.Claims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite_scores
public import proofs.«01_k».proof.Proof.Gen.Pre_finite
public import proofs.«01_k».proof.Proof.Claims
public import proofs.«01_k».proof.Proof.MergeClaim
public import proofs.«01_k».proof.Proof.WinClaim
public import proofs.«01_k».proof.Proof.ModClaim
public import proofs.«01_k».proof.Proof.QkvClaim
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_finite.Gen.facts, Cert.Pre_finite_scores.Gen.facts,
    Cert.Claims.frame_kernel, Cert.Claims.frame_ideal, Cert.Claims.frame_ideal_pre, Cert.Claims.frame_reference, Cert.Claims.frame_reference_pre,
    Cert.Claims.frame_kernel2, Cert.Claims.frame_ideal2, Cert.Claims.frame_reference2,
    Cert.Claims.frame_kernel3, Cert.Claims.frame_ideal3, Cert.Claims.frame_ideal3_pre, Cert.Claims.frame_reference3, Cert.Claims.frame_reference3_pre,
    Cert.Claims.frame_kernel4, Cert.Claims.frame_ideal4, Cert.Claims.frame_reference4,
    Cert.Claims.frame_kernel5, Cert.Claims.frame_ideal5, Cert.Claims.frame_reference5,
    Cert.Claims.preserves, Cert.Claims.algebraic, Cert.Claims.preserves2, Cert.MergeClaim.algebraic,
    Cert.Claims.preserves3, Cert.Claims.algebraic3, Cert.Claims.preserves4, Cert.Claims.algebraic4,
    Cert.Claims.preserves5, Cert.Claims.algebraic5⟩

end Cert.Proof

end
